-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v71) = v0 c
          ∧ r.2.mem ((c.tc : Thread Cert.GateUpRefIdeal.nD Cert.GateUpRefIdeal.τ).loc Cert.GateUpRefIdeal.main_v72) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6))

def preserves_Down_DownIdeal : Prop :=
  True

def algebraic_DownIdeal_DownRefIdeal_on_in_range [hDownIdeal : Cert.DownIdeal.Facts] [hDownRefIdeal : Cert.DownRefIdeal.Facts] [hOn_in_range : Cert.On_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)) (v3 : (c : Dev Cert.DownIdeal.nD) → Buf (Elt Ideal) ((c.tc : Thread Cert.DownIdeal.nD Cert.DownIdeal.τ).loc Cert.DownIdeal.main_v4_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![40, 8192]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).1 i = 1#1 → r.2.mem ((c.tc : Thread Cert.DownIdeal.nD Cert.DownIdeal.τ).loc Cert.DownIdeal.main_v4_0) i = v0 c i)
          ∧ (∀ i : (⟨2, ![16, 40]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.1 i = 1#1 → r.2.mem ((c.tc : Thread Cert.DownIdeal.nD Cert.DownIdeal.τ).loc Cert.DownIdeal.main_v4_1) i = v1 c i)
          ∧ (∀ i : (⟨2, ![40, 8192]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.2.1 i = 1#1 → r.2.mem ((c.tc : Thread Cert.DownIdeal.nD Cert.DownIdeal.τ).loc Cert.DownIdeal.main_v4_2) i = v2 c i)
          ∧ (∀ i : (⟨3, ![16, 40, 4]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.2.2 i = 1#1 → r.2.mem ((c.tc : Thread Cert.DownIdeal.nD Cert.DownIdeal.τ).loc Cert.DownIdeal.main_v4_3) i = v3 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          (∀ i : (⟨2, ![40, 8192]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).1 i = 1#1 → r.2.mem ((c.tc : Thread Cert.DownRefIdeal.nD Cert.DownRefIdeal.τ).loc Cert.DownRefIdeal.main_v56) i = v0 c i)
          ∧ (∀ i : (⟨2, ![16, 40]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.1 i = 1#1 → r.2.mem ((c.tc : Thread Cert.DownRefIdeal.nD Cert.DownRefIdeal.τ).loc Cert.DownRefIdeal.main_v57) i = v1 c i)
          ∧ (∀ i : (⟨2, ![40, 8192]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.2.1 i = 1#1 → r.2.mem ((c.tc : Thread Cert.DownRefIdeal.nD Cert.DownRefIdeal.τ).loc Cert.DownRefIdeal.main_v86) i = v2 c i)
          ∧ (∀ i : (⟨3, ![16, 40, 4]⟩ : Shape).Idx, (Cert.On_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2.2.2 i = 1#1 → r.2.mem ((c.tc : Thread Cert.DownRefIdeal.nD Cert.DownRefIdeal.τ).loc Cert.DownRefIdeal.main_v84) i = v3 c i)
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOn_in_range : Cert.On_in_range.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal_on_in_range (hDownIdeal := hDownIdeal) (hDownRefIdeal := hDownRefIdeal) (hOn_in_range := hOn_in_range)
-- ==== On_in_range.lean ====
abbrev S40x22016 : Shape := ⟨2, ![40, 22016]⟩
abbrev S40 : Shape := ⟨1, ![40]⟩
abbrev S11008x8192 : Shape := ⟨2, ![11008, 8192]⟩
abbrev S172x8192 : Shape := ⟨2, ![172, 8192]⟩
abbrev S5x22016x16 : Shape := ⟨3, ![5, 22016, 16]⟩
abbrev S5x16x8192 : Shape := ⟨3, ![5, 16, 8192]⟩
abbrev S5 : Shape := ⟨1, ![5]⟩
abbrev S40x1 : Shape := ⟨2, ![40, 1]⟩
abbrev S1x5 : Shape := ⟨2, ![1, 5]⟩
abbrev S40x5 : Shape := ⟨2, ![40, 5]⟩
abbrev S_ : Shape := ⟨0, ![]⟩
abbrev S86x8192 : Shape := ⟨2, ![86, 8192]⟩
abbrev S86x128x8192 : Shape := ⟨3, ![86, 128, 8192]⟩
abbrev S86x1x8192 : Shape := ⟨3, ![86, 1, 8192]⟩
abbrev S40x11008 : Shape := ⟨2, ![40, 11008]⟩
abbrev S40x8192 : Shape := ⟨2, ![40, 8192]⟩
abbrev S40x5x16 : Shape := ⟨3, ![40, 5, 16]⟩
abbrev S40x16 : Shape := ⟨2, ![40, 16]⟩
abbrev S40x5x1 : Shape := ⟨3, ![40, 5, 1]⟩
abbrev S40x1x16 : Shape := ⟨3, ![40, 1, 16]⟩
abbrev S16x40 : Shape := ⟨2, ![16, 40]⟩
abbrev S40x64x128 : Shape := ⟨3, ![40, 64, 128]⟩
abbrev S40x64 : Shape := ⟨2, ![40, 64]⟩
abbrev S40x16x4 : Shape := ⟨3, ![40, 16, 4]⟩
abbrev S16x40x4 : Shape := ⟨3, ![16, 40, 4]⟩

class Facts : Prop where
  bcast_S40_S40x1_0 : S40.BroadcastsInDim S40x1 (![0] : Fin 1 → Fin S40x1.rank)
  bcast_S40x1_S40x5_0_1 : S40x1.BroadcastsInDim S40x5 (![0, 1] : Fin 2 → Fin S40x5.rank)
  bcast_S1x5_S40x5_0_1 : S1x5.BroadcastsInDim S40x5 (![0, 1] : Fin 2 → Fin S40x5.rank)
  bitsLt_bf16_f32 : FTy.bits .bf16 < FTy.bits .f32
  bcast_S_S40 : S_.BroadcastsInDim S40 (![] : Fin 0 → Fin S40.rank)
  natLt_8_32 : 8 < 32
  bcast_S_S11008x8192 : S_.BroadcastsInDim S11008x8192 (![] : Fin 0 → Fin S11008x8192.rank)
  slices_S172x8192_S86x8192_0_0 : S172x8192.Slices ![0, 0] S86x8192
  shapeCasts_S11008x8192_S86x128x8192 : S11008x8192.ShapeCasts S86x128x8192
  bcast_S86x8192_S86x1x8192_0_2 : S86x8192.BroadcastsInDim S86x1x8192 (![0, 2] : Fin 2 → Fin S86x1x8192.rank)
  bcast_S86x1x8192_S86x128x8192_0_1_2 : S86x1x8192.BroadcastsInDim S86x128x8192 (![0, 1, 2] : Fin 3 → Fin S86x128x8192.rank)
  shapeCasts_S86x128x8192_S11008x8192 : S86x128x8192.ShapeCasts S11008x8192
  slices_S172x8192_S86x8192_86_0 : S172x8192.Slices ![86, 0] S86x8192
  slices_S40x22016_S40x11008_0_0 : S40x22016.Slices ![0, 0] S40x11008
  slices_S40x22016_S40x11008_0_11008 : S40x22016.Slices ![0, 11008] S40x11008
  bcast_S40x1_S40x16_0_1 : S40x1.BroadcastsInDim S40x16 (![0, 1] : Fin 2 → Fin S40x16.rank)
  bcast_S40x5_S40x5x1_0_1 : S40x5.BroadcastsInDim S40x5x1 (![0, 1] : Fin 2 → Fin S40x5x1.rank)
  bcast_S40x16_S40x1x16_0_2 : S40x16.BroadcastsInDim S40x1x16 (![0, 2] : Fin 2 → Fin S40x1x16.rank)
  bcast_S40x5x1_S40x5x16_0_1_2 : S40x5x1.BroadcastsInDim S40x5x16 (![0, 1, 2] : Fin 3 → Fin S40x5x16.rank)
  bcast_S40x1x16_S40x5x16_0_1_2 : S40x1x16.BroadcastsInDim S40x5x16 (![0, 1, 2] : Fin 3 → Fin S40x5x16.rank)
  transposes_S40x16_S16x40_1_0 : S40x16.Transposes [1, 0] S16x40
  shapeCasts_S40x8192_S40x64x128 : S40x8192.ShapeCasts S40x64x128
  reducesTo_S40x64x128_S40x64_d2 : S40x64x128.ReducesTo [2] S40x64
  h_S_ : 0 < S_.numel
  bcast_S_S40x64 : S_.BroadcastsInDim S40x64 (![] : Fin 0 → Fin S40x64.rank)
  bcast_S_S40x8192 : S_.BroadcastsInDim S40x8192 (![] : Fin 0 → Fin S40x8192.rank)
  bcast_S_S16x40 : S_.BroadcastsInDim S16x40 (![] : Fin 0 → Fin S16x40.rank)
  bcast_S40x64_S40x64x128_0_1 : S40x64.BroadcastsInDim S40x64x128 (![0, 1] : Fin 2 → Fin S40x64x128.rank)
  shapeCasts_S40x64x128_S40x8192 : S40x64x128.ShapeCasts S40x8192
  shapeCasts_S40x64_S40x16x4 : S40x64.ShapeCasts S40x16x4
  transposes_S40x16x4_S16x40x4_1_0_2 : S40x16x4.Transposes [1, 0, 2] S16x40x4
  gather_S5_S40x1_S40_n_0_n_n_0_1_1_wf : GatherDims.WF S5 S40x1 S40 [] [0] [] [0] [] 1 ![1]
  dot_S40x11008_S11008x8192_S40x8192_1_0_0_1_n_n_wf : DotDims.WF S40x11008 S11008x8192 S40x8192 [1] [0] [0] [1] [] []
  dot_S40x22016_S5x22016x16_S40x5x16_1_1_0_02_n_n_wf : DotDims.WF S40x22016 S5x22016x16 S40x5x16 [1] [1] [0] [0, 2] [] []
  dot_S40x5_S40x5x16_S40x16_1_1_n_2_0_0_wf : DotDims.WF S40x5 S40x5x16 S40x16 [1] [1] [] [2] [0] [0]
  dot_S40x5x16_S5x16x8192_S40x8192_12_01_0_2_n_n_wf : DotDims.WF S40x5x16 S5x16x8192 S40x8192 [1, 2] [0, 1] [0] [2] [] []

variable [Facts]

def gather_S5_S40x1_S40_n_0_n_n_0_1_1 : GatherDims S5 S40x1 S40 where
  offsetDims := []
  collapsedSliceDims := [0]
  operandBatchingDims := []
  startIndicesBatchingDims := []
  startIndexMap := [0]
  indexVectorDim := 1
  sliceSizes := ![1]
  wf := gather_S5_S40x1_S40_n_0_n_n_0_1_1_wf
def dot_S40x11008_S11008x8192_S40x8192_1_0_0_1_n_n : DotDims S40x11008 S11008x8192 S40x8192 where
  lhsContracting := [1]
  rhsContracting := [0]
  lhsNonContracting := [0]
  rhsNonContracting := [1]
  lhsBatch := []
  rhsBatch := []
  wf := dot_S40x11008_S11008x8192_S40x8192_1_0_0_1_n_n_wf
def dot_S40x22016_S5x22016x16_S40x5x16_1_1_0_02_n_n : DotDims S40x22016 S5x22016x16 S40x5x16 where
  lhsContracting := [1]
  rhsContracting := [1]
  lhsNonContracting := [0]
  rhsNonContracting := [0, 2]
  lhsBatch := []
  rhsBatch := []
  wf := dot_S40x22016_S5x22016x16_S40x5x16_1_1_0_02_n_n_wf
def dot_S40x5_S40x5x16_S40x16_1_1_n_2_0_0 : DotDims S40x5 S40x5x16 S40x16 where
  lhsContracting := [1]
  rhsContracting := [1]
  lhsNonContracting := []
  rhsNonContracting := [2]
  lhsBatch := [0]
  rhsBatch := [0]
  wf := dot_S40x5_S40x5x16_S40x16_1_1_n_2_0_0_wf
def dot_S40x5x16_S5x16x8192_S40x8192_12_01_0_2_n_n : DotDims S40x5x16 S5x16x8192 S40x8192 where
  lhsContracting := [1, 2]
  rhsContracting := [0, 1]
  lhsNonContracting := [0]
  rhsNonContracting := [2]
  lhsBatch := []
  rhsBatch := []
  wf := dot_S40x5x16_S5x16x8192_S40x8192_12_01_0_2_n_n_wf
def fn_one_hot {F : FTy → Type} [FloatOps F] (arg0 : IVec S40 32) : FVec F S40x5 .f32 :=
  let v0 : IVec S40x1 32 := broadcastInDim S40x1 ![0] bcast_S40_S40x1_0 arg0
  let v1 : IVec S1x5 32 := iotaInDim S1x5 32 1
  let v2 : IVec S40x5 32 := broadcastInDim S40x5 ![0, 1] bcast_S40x1_S40x5_0_1 v0
  let v3 : IVec S40x5 32 := broadcastInDim S40x5 ![0, 1] bcast_S1x5_S40x5_0_1 v1
  let v4 : IVec S40x5 1 := cmpi .eq v2 v3
  let v5 : FVec F S40x5 .f32 := uitofp .f32 v4
  v5

def fn_where {F : FTy → Type} [FloatOps F] (arg0 : IVec S11008x8192 1) (arg1 : IVec S11008x8192 32) (arg2 : IVec S11008x8192 32) : IVec S11008x8192 32 :=
  let v0 : IVec S11008x8192 32 := select arg0 arg1 arg2
  v0

def fn_part3 {F : FTy → Type} [FloatOps F] (main_v61 : FVec F S40x64 .f32) (main_cst_7 : FVec F S_ .f32) : IVec S40x8192 1 × IVec S16x40 1 × IVec S40x8192 1 × IVec S16x40x4 1 :=
  let main_v62 : FVec F S40x64 .f32 := broadcastInDim S40x64 ![] bcast_S_S40x64 main_cst_7
  let main_v63 : FVec F S40x64 .f32 := mulf main_v61 main_v62
  let main_cst_8 : FVec F S_ .f32 := constant S_ .f32 0x7E800000#32
  let main_v64 : FVec F S40x64 .f32 := broadcastInDim S40x64 ![] bcast_S_S40x64 main_cst_8
  let main_v65 : IVec S40x64 1 := cmpf .olt main_v63 main_v64
  let main_cst_9 : FVec F S_ .f32 := constant S_ .f32 0x7F800000#32
  let main_v66 : FVec F S40x64 .f32 := broadcastInDim S40x64 ![] bcast_S_S40x64 main_cst_9
  let main_v67 : IVec S40x64 1 := cmpf .olt main_v61 main_v66
  let main_c_10 : IVec S_ 1 := constantI S_ 1 1#1
  let main_v68 : IVec S40x8192 1 := broadcastInDim S40x8192 ![] bcast_S_S40x8192 main_c_10
  let main_c_11 : IVec S_ 1 := constantI S_ 1 1#1
  let main_v69 : IVec S16x40 1 := broadcastInDim S16x40 ![] bcast_S_S16x40 main_c_11
  let main_v70 : IVec S40x64x128 1 := broadcastInDim S40x64x128 ![0, 1] bcast_S40x64_S40x64x128_0_1 main_v65
  let main_v71 : IVec S40x8192 1 := shapeCast S40x8192 main_v70 shapeCasts_S40x64x128_S40x8192
  let main_v72 : IVec S40x16x4 1 := shapeCast S40x16x4 main_v67 shapeCasts_S40x64_S40x16x4
  let main_v73 : IVec S16x40x4 1 := (transpose S16x40x4 [1, 0, 2] · transposes_S40x16x4_S16x40x4_1_0_2) main_v72
  (main_v68, main_v69, main_v71, main_v73)

def fn_part2 {F : FTy → Type} [FloatOps F] (main_arg0 : FVec F S40x22016 .bf16) (main_arg4 : FVec F S5x22016x16 .bf16) (main_arg5 : FVec F S5x16x8192 .bf16) (main_v0 : FVec F S40x5 .f32) (main_v1 : FVec F S40x5 .bf16) (main_v8 : FVec F S40 .f32) (main_v37 : FVec F S11008x8192 .bf16) (main_v39 : FVec F S40x8192 .f32) : IVec S40x8192 1 × IVec S16x40 1 × IVec S40x8192 1 × IVec S16x40x4 1 :=
  let main_v40 : FVec F S40x11008 .bf16 := (extractStridedSlice S40x11008 ![0, 11008] · slices_S40x22016_S40x11008_0_11008) main_arg0
  let main_v41 : FVec F S40x8192 .f32 := (fun l r => Host.dotGeneral dot_S40x11008_S11008x8192_S40x8192_1_0_0_1_n_n none l r) main_v40 main_v37
  let main_v42 : FVec F S40x8192 .f32 := addf main_v39 main_v41
  let main_v43 : FVec F S40x5x16 .f32 := (fun l r => Host.dotGeneral dot_S40x22016_S5x22016x16_S40x5x16_1_1_0_02_n_n none l r) main_arg0 main_arg4
  let main_v44 : FVec F S40x16 .f32 := (fun l r => Host.dotGeneral dot_S40x5_S40x5x16_S40x16_1_1_n_2_0_0 (some .fp32) l r) main_v0 main_v43
  let main_v45 : FVec F S40x1 .f32 := broadcastInDim S40x1 ![0] bcast_S40_S40x1_0 main_v8
  let main_v46 : FVec F S40x16 .f32 := broadcastInDim S40x16 ![0, 1] bcast_S40x1_S40x16_0_1 main_v45
  let main_v47 : FVec F S40x16 .f32 := mulf main_v44 main_v46
  let main_v48 : FVec F S40x16 .bf16 := (truncf .bf16 · bitsLt_bf16_f32) main_v47
  let main_v49 : FVec F S40x5x1 .bf16 := broadcastInDim S40x5x1 ![0, 1] bcast_S40x5_S40x5x1_0_1 main_v1
  let main_v50 : FVec F S40x1x16 .bf16 := broadcastInDim S40x1x16 ![0, 2] bcast_S40x16_S40x1x16_0_2 main_v48
  let main_v51 : FVec F S40x5x16 .bf16 := broadcastInDim S40x5x16 ![0, 1, 2] bcast_S40x5x1_S40x5x16_0_1_2 main_v49
  let main_v52 : FVec F S40x5x16 .bf16 := broadcastInDim S40x5x16 ![0, 1, 2] bcast_S40x1x16_S40x5x16_0_1_2 main_v50
  let main_v53 : FVec F S40x5x16 .bf16 := mulf main_v51 main_v52
  let main_v54 : FVec F S40x8192 .f32 := (fun l r => Host.dotGeneral dot_S40x5x16_S5x16x8192_S40x8192_12_01_0_2_n_n none l r) main_v53 main_arg5
  let main_v55 : FVec F S40x8192 .f32 := addf main_v42 main_v54
  let main_v56 : FVec F S40x8192 .bf16 := (truncf .bf16 · bitsLt_bf16_f32) main_v55
  let main_v57 : FVec F S16x40 .bf16 := (transpose S16x40 [1, 0] · transposes_S40x16_S16x40_1_0) main_v48
  let main_v58 : FVec F S40x8192 .f32 := (extf .f32 · bitsLt_bf16_f32) main_v56
  let main_v59 : FVec F S40x64x128 .f32 := shapeCast S40x64x128 main_v58 shapeCasts_S40x8192_S40x64x128
  let main_v60 : FVec F S40x64x128 .f32 := Host.absf main_v59
  let main_cst : FVec F S_ .f32 := constant S_ .f32 0xFF800000#32
  let main_v61 : FVec F S40x64 .f32 := (fun x v => Host.reduce FloatOps.maximumf x v reducesTo_S40x64x128_S40x64_d2 h_S_) main_v60 main_cst
  let main_cst_7 : FVec F S_ .f32 := constant S_ .f32 0x3B124925#32
  fn_part3 (F := F) main_v61 main_cst_7

def fn_part1 {F : FTy → Type} [FloatOps F] (main_arg0 : FVec F S40x22016 .bf16) (main_arg3 : FVec F S172x8192 .bf16) (main_arg4 : FVec F S5x22016x16 .bf16) (main_arg5 : FVec F S5x16x8192 .bf16) (main_v0 : FVec F S40x5 .f32) (main_v1 : FVec F S40x5 .bf16) (main_v8 : FVec F S40 .f32) (main_v11 : IVec S11008x8192 32) (main_v13 : IVec S11008x8192 32) (main_v15 : IVec S11008x8192 1) (main_v17 : IVec S11008x8192 32) : IVec S40x8192 1 × IVec S16x40 1 × IVec S40x8192 1 × IVec S16x40x4 1 :=
  let main_v18 : IVec S11008x8192 32 := fn_where (F := F) main_v15 main_v17 main_v11
  let main_v19 : FVec F S11008x8192 .bf16 := sitofp .bf16 main_v18
  let main_c_5 : IVec S_ 32 := constantI S_ 32 8#32
  let main_v20 : IVec S11008x8192 32 := broadcastInDim S11008x8192 ![] bcast_S_S11008x8192 main_c_5
  let main_v21 : IVec S11008x8192 1 := cmpi .sge main_v13 main_v20
  let main_c_6 : IVec S_ 32 := constantI S_ 32 16#32
  let main_v22 : IVec S11008x8192 32 := broadcastInDim S11008x8192 ![] bcast_S_S11008x8192 main_c_6
  let main_v23 : IVec S11008x8192 32 := subi main_v13 main_v22
  let main_v24 : IVec S11008x8192 32 := fn_where (F := F) main_v21 main_v23 main_v13
  let main_v25 : FVec F S11008x8192 .bf16 := sitofp .bf16 main_v24
  let main_v26 : FVec F S86x8192 .bf16 := (extractStridedSlice S86x8192 ![0, 0] · slices_S172x8192_S86x8192_0_0) main_arg3
  let main_v27 : FVec F S86x128x8192 .bf16 := shapeCast S86x128x8192 main_v19 shapeCasts_S11008x8192_S86x128x8192
  let main_v28 : FVec F S86x1x8192 .bf16 := broadcastInDim S86x1x8192 ![0, 2] bcast_S86x8192_S86x1x8192_0_2 main_v26
  let main_v29 : FVec F S86x128x8192 .bf16 := broadcastInDim S86x128x8192 ![0, 1, 2] bcast_S86x1x8192_S86x128x8192_0_1_2 main_v28
  let main_v30 : FVec F S86x128x8192 .bf16 := mulf main_v27 main_v29
  let main_v31 : FVec F S11008x8192 .bf16 := shapeCast S11008x8192 main_v30 shapeCasts_S86x128x8192_S11008x8192
  let main_v32 : FVec F S86x8192 .bf16 := (extractStridedSlice S86x8192 ![86, 0] · slices_S172x8192_S86x8192_86_0) main_arg3
  let main_v33 : FVec F S86x128x8192 .bf16 := shapeCast S86x128x8192 main_v25 shapeCasts_S11008x8192_S86x128x8192
  let main_v34 : FVec F S86x1x8192 .bf16 := broadcastInDim S86x1x8192 ![0, 2] bcast_S86x8192_S86x1x8192_0_2 main_v32
  let main_v35 : FVec F S86x128x8192 .bf16 := broadcastInDim S86x128x8192 ![0, 1, 2] bcast_S86x1x8192_S86x128x8192_0_1_2 main_v34
  let main_v36 : FVec F S86x128x8192 .bf16 := mulf main_v33 main_v35
  let main_v37 : FVec F S11008x8192 .bf16 := shapeCast S11008x8192 main_v36 shapeCasts_S86x128x8192_S11008x8192
  let main_v38 : FVec F S40x11008 .bf16 := (extractStridedSlice S40x11008 ![0, 0] · slices_S40x22016_S40x11008_0_0) main_arg0
  let main_v39 : FVec F S40x8192 .f32 := (fun l r => Host.dotGeneral dot_S40x11008_S11008x8192_S40x8192_1_0_0_1_n_n none l r) main_v38 main_v31
  fn_part2 (F := F) main_arg0 main_arg4 main_arg5 main_v0 main_v1 main_v8 main_v37 main_v39

def fn {F : FTy → Type} [FloatOps F] (main_arg0 : FVec F S40x22016 .bf16) (main_arg1 : IVec S40 32) (main_arg2 : IVec S11008x8192 8) (main_arg3 : FVec F S172x8192 .bf16) (main_arg4 : FVec F S5x22016x16 .bf16) (main_arg5 : FVec F S5x16x8192 .bf16) (main_arg6 : FVec F S5 .f32) : IVec S40x8192 1 × IVec S16x40 1 × IVec S40x8192 1 × IVec S16x40x4 1 :=
  let main_v0 : FVec F S40x5 .f32 := fn_one_hot (F := F) main_arg1
  let main_v1 : FVec F S40x5 .bf16 := (truncf .bf16 · bitsLt_bf16_f32) main_v0
  let main_c : IVec S_ 32 := constantI S_ 32 0#32
  let main_v2 : IVec S40 32 := broadcastInDim S40 ![] bcast_S_S40 main_c
  let main_v3 : IVec S40 1 := cmpi .slt main_arg1 main_v2
  let main_c_0 : IVec S_ 32 := constantI S_ 32 5#32
  let main_v4 : IVec S40 32 := broadcastInDim S40 ![] bcast_S_S40 main_c_0
  let main_v5 : IVec S40 32 := addi main_arg1 main_v4
  let main_v6 : IVec S40 32 := select main_v3 main_v5 main_arg1
  let main_v7 : IVec S40x1 32 := broadcastInDim S40x1 ![0] bcast_S40_S40x1_0 main_v6
  let main_v8 : FVec F S40 .f32 := (fun x i => Host.gather gather_S5_S40x1_S40_n_0_n_n_0_1_1 x i) main_arg6 main_v7
  let main_v9 : IVec S11008x8192 32 := (extui 32 · natLt_8_32) main_arg2
  let main_c_1 : IVec S_ 32 := constantI S_ 32 15#32
  let main_v10 : IVec S11008x8192 32 := broadcastInDim S11008x8192 ![] bcast_S_S11008x8192 main_c_1
  let main_v11 : IVec S11008x8192 32 := andi main_v9 main_v10
  let main_c_2 : IVec S_ 32 := constantI S_ 32 4#32
  let main_v12 : IVec S11008x8192 32 := broadcastInDim S11008x8192 ![] bcast_S_S11008x8192 main_c_2
  let main_v13 : IVec S11008x8192 32 := Host.shrsi main_v9 main_v12
  let main_c_3 : IVec S_ 32 := constantI S_ 32 8#32
  let main_v14 : IVec S11008x8192 32 := broadcastInDim S11008x8192 ![] bcast_S_S11008x8192 main_c_3
  let main_v15 : IVec S11008x8192 1 := cmpi .sge main_v11 main_v14
  let main_c_4 : IVec S_ 32 := constantI S_ 32 16#32
  let main_v16 : IVec S11008x8192 32 := broadcastInDim S11008x8192 ![] bcast_S_S11008x8192 main_c_4
  let main_v17 : IVec S11008x8192 32 := subi main_v11 main_v16
  fn_part1 (F := F) main_arg0 main_arg3 main_arg4 main_arg5 main_v0 main_v1 main_v8 main_v11 main_v13 main_v15 main_v17
-- ==== GateUp.lean ====
abbrev S40x1x8192 : Shape := ⟨3, ![40, 1, 8192]⟩
abbrev S40 : Shape := ⟨1, ![40]⟩
abbrev S4096x44032 : Shape := ⟨2, ![4096, 44032]⟩
abbrev S64x44032 : Shape := ⟨2, ![64, 44032]⟩
abbrev S5x8192x32 : Shape := ⟨3, ![5, 8192, 32]⟩
abbrev S5x2x16x22016 : Shape := ⟨4, ![5, 2, 16, 22016]⟩
abbrev S5 : Shape := ⟨1, ![5]⟩
abbrev S1x40 : Shape := ⟨2, ![1, 40]⟩
abbrev S5x32x8192 : Shape := ⟨3, ![5, 32, 8192]⟩
abbrev S160x8192 : Shape := ⟨2, ![160, 8192]⟩
abbrev S160x22016 : Shape := ⟨2, ![160, 22016]⟩
abbrev S40x8192 : Shape := ⟨2, ![40, 8192]⟩
abbrev S40x22016 : Shape := ⟨2, ![40, 22016]⟩
abbrev S32x40 : Shape := ⟨2, ![32, 40]⟩
abbrev S4096x256 : Shape := ⟨2, ![4096, 256]⟩
abbrev S64x256 : Shape := ⟨2, ![64, 256]⟩
abbrev S160x256 : Shape := ⟨2, ![160, 256]⟩
abbrev S40x256 : Shape := ⟨2, ![40, 256]⟩
abbrev S40x160 : Shape := ⟨2, ![40, 160]⟩
abbrev S256x256 : Shape := ⟨2, ![256, 256]⟩
abbrev S40x128 : Shape := ⟨2, ![40, 128]⟩
abbrev S1 : Shape := ⟨1, ![1]⟩
abbrev S160x40 : Shape := ⟨2, ![160, 40]⟩
abbrev S32x256 : Shape := ⟨2, ![32, 256]⟩
abbrev S32x1x256 : Shape := ⟨3, ![32, 1, 256]⟩
abbrev S32x2x256 : Shape := ⟨3, ![32, 2, 256]⟩
abbrev S128x256 : Shape := ⟨2, ![128, 256]⟩
abbrev S1x2x256 : Shape := ⟨3, ![1, 2, 256]⟩
abbrev S128x1x256 : Shape := ⟨3, ![128, 1, 256]⟩
abbrev S128x2x256 : Shape := ⟨3, ![128, 2, 256]⟩
abbrev S8x2x256 : Shape := ⟨3, ![8, 2, 256]⟩
abbrev S16x256 : Shape := ⟨2, ![16, 256]⟩
abbrev S16x16x256 : Shape := ⟨3, ![16, 16, 256]⟩
abbrev S1x16x256 : Shape := ⟨3, ![1, 16, 256]⟩

abbrev nBuf : Space → Nat
  | .hbm => 14
  | .vmem => 19
  | .smem => 1
  | _ => 0

abbrev bufTy : (tb : Table) → Fin (tcTables nBuf tb) → BufTy
  | .hbm, ⟨0, _⟩ => ⟨S40x1x8192, .bf16⟩
  | .hbm, ⟨1, _⟩ => ⟨S40, .i32⟩
  | .hbm, ⟨2, _⟩ => ⟨S4096x44032, .i8⟩
  | .hbm, ⟨3, _⟩ => ⟨S64x44032, .bf16⟩
  | .hbm, ⟨4, _⟩ => ⟨S5x8192x32, .bf16⟩
  | .hbm, ⟨5, _⟩ => ⟨S5x2x16x22016, .bf16⟩
  | .hbm, ⟨6, _⟩ => ⟨S5, .f32⟩
  | .hbm, ⟨7, _⟩ => ⟨S1x40, .i32⟩
  | .hbm, ⟨8, _⟩ => ⟨S5x32x8192, .bf16⟩
  | .hbm, ⟨9, _⟩ => ⟨S160x8192, .bf16⟩
  | .hbm, ⟨10, _⟩ => ⟨S160x22016, .bf16⟩
  | .hbm, ⟨11, _⟩ => ⟨S40x8192, .bf16⟩
  | .hbm, ⟨12, _⟩ => ⟨S40x22016, .bf16⟩
  | .hbm, ⟨13, _⟩ => ⟨S32x40, .bf16⟩
  | .local _ .vmem, ⟨0, _⟩ => ⟨S1x40, .i32⟩
  | .local _ .vmem, ⟨1, _⟩ => ⟨S40x8192, .bf16⟩
  | .local _ .vmem, ⟨2, _⟩ => ⟨S4096x256, .i8⟩
  | .local _ .vmem, ⟨3, _⟩ => ⟨S4096x256, .i8⟩
  | .local _ .vmem, ⟨4, _⟩ => ⟨S4096x256, .i8⟩
  | .local _ .vmem, ⟨5, _⟩ => ⟨S4096x256, .i8⟩
  | .local _ .vmem, ⟨6, _⟩ => ⟨S64x256, .bf16⟩
  | .local _ .vmem, ⟨7, _⟩ => ⟨S64x256, .bf16⟩
  | .local _ .vmem, ⟨8, _⟩ => ⟨S64x256, .bf16⟩
  | .local _ .vmem, ⟨9, _⟩ => ⟨S64x256, .bf16⟩
  | .local _ .vmem, ⟨10, _⟩ => ⟨S160x8192, .bf16⟩
  | .local _ .vmem, ⟨11, _⟩ => ⟨S160x256, .bf16⟩
  | .local _ .vmem, ⟨12, _⟩ => ⟨S160x256, .bf16⟩
  | .local _ .vmem, ⟨13, _⟩ => ⟨S40x256, .bf16⟩
  | .local _ .vmem, ⟨14, _⟩ => ⟨S40x256, .bf16⟩
  | .local _ .vmem, ⟨15, _⟩ => ⟨S32x40, .bf16⟩
  | .local _ .vmem, ⟨16, _⟩ => ⟨S40x8192, .bf16⟩
  | .local _ .vmem, ⟨17, _⟩ => ⟨S40x160, .bf16⟩
  | .local _ .vmem, ⟨18, _⟩ => ⟨S40x160, .bf16⟩
  | .local _ .smem, ⟨0, _⟩ => ⟨S5, .f32⟩
  | _, _ => ⟨S40x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![86], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c86_i32 : BitVec 32 := 86#32
  let v0 : BitVec 32 := Scalar.addi c86_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c86_i32 : BitVec 32 := 86#32
  let v0 : BitVec 32 := Scalar.addi c86_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x40 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S160x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S160x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S40x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x40 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateUpRefIdeal.lean ====
abbrev S40x1x8192 : Shape := ⟨3, ![40, 1, 8192]⟩
abbrev S40 : Shape := ⟨1, ![40]⟩
abbrev S4096x44032 : Shape := ⟨2, ![4096, 44032]⟩
abbrev S64x44032 : Shape := ⟨2, ![64, 44032]⟩
abbrev S5x8192x32 : Shape := ⟨3, ![5, 8192, 32]⟩
abbrev S5x2x16x22016 : Shape := ⟨4, ![5, 2, 16, 22016]⟩
abbrev S5 : Shape := ⟨1, ![5]⟩
abbrev S40x8192 : Shape := ⟨2, ![40, 8192]⟩
abbrev S40x1 : Shape := ⟨2, ![40, 1]⟩
abbrev S1x5 : Shape := ⟨2, ![1, 5]⟩
abbrev S40x5 : Shape := ⟨2, ![40, 5]⟩
abbrev S_ : Shape := ⟨0, ![]⟩
abbrev S32x44032 : Shape := ⟨2, ![32, 44032]⟩
abbrev S32x128x44032 : Shape := ⟨3, ![32, 128, 44032]⟩
abbrev S32x1x44032 : Shape := ⟨3, ![32, 1, 44032]⟩
abbrev S40x4096 : Shape := ⟨2, ![40, 4096]⟩
abbrev S40x44032 : Shape := ⟨2, ![40, 44032]⟩
abbrev S40x5x32 : Shape := ⟨3, ![40, 5, 32]⟩
abbrev S40x32 : Shape := ⟨2, ![40, 32]⟩
abbrev S40x5x1x1 : Shape := ⟨4, ![40, 5, 1, 1]⟩
abbrev S40x1x2x16 : Shape := ⟨4, ![40, 1, 2, 16]⟩
abbrev S40x5x2x16 : Shape := ⟨4, ![40, 5, 2, 16]⟩
abbrev S2x22016x40 : Shape := ⟨3, ![2, 22016, 40]⟩
abbrev S40x2x22016 : Shape := ⟨3, ![40, 2, 22016]⟩
abbrev S40x1x22016 : Shape := ⟨3, ![40, 1, 22016]⟩
abbrev S40x22016 : Shape := ⟨2, ![40, 22016]⟩
abbrev S32x40 : Shape := ⟨2, ![32, 40]⟩

abbrev nBuf : Space → Nat
  | .hbm => 95
  | .vmem => 0
  | .smem => 0
  | _ => 0

abbrev bufTy : (tb : Table) → Fin (tcTables nBuf tb) → BufTy
  | .hbm, ⟨0, _⟩ => ⟨S40x1x8192, .bf16⟩
  | .hbm, ⟨1, _⟩ => ⟨S40, .i32⟩
  | .hbm, ⟨2, _⟩ => ⟨S4096x44032, .i8⟩
  | .hbm, ⟨3, _⟩ => ⟨S64x44032, .bf16⟩
  | .hbm, ⟨4, _⟩ => ⟨S5x8192x32, .bf16⟩
  | .hbm, ⟨5, _⟩ => ⟨S5x2x16x22016, .bf16⟩
  | .hbm, ⟨6, _⟩ => ⟨S5, .f32⟩
  | .hbm, ⟨7, _⟩ => ⟨S40x8192, .bf16⟩
  | .hbm, ⟨8, _⟩ => ⟨S40x1, .i32⟩
  | .hbm, ⟨9, _⟩ => ⟨S1x5, .i32⟩
  | .hbm, ⟨10, _⟩ => ⟨S40x5, .i32⟩
  | .hbm, ⟨11, _⟩ => ⟨S40x5, .i32⟩
  | .hbm, ⟨12, _⟩ => ⟨S40x5, .i1⟩
  | .hbm, ⟨13, _⟩ => ⟨S40x5, .f32⟩
  | .hbm, ⟨14, _⟩ => ⟨S40x5, .bf16⟩
  | .hbm, ⟨15, _⟩ => ⟨S_, .i32⟩
  | .hbm, ⟨16, _⟩ => ⟨S40, .i32⟩
  | .hbm, ⟨17, _⟩ => ⟨S40, .i1⟩
  | .hbm, ⟨18, _⟩ => ⟨S_, .i32⟩
  | .hbm, ⟨19, _⟩ => ⟨S40, .i32⟩
  | .hbm, ⟨20, _⟩ => ⟨S40, .i32⟩
  | .hbm, ⟨21, _⟩ => ⟨S40, .i32⟩
  | .hbm, ⟨22, _⟩ => ⟨S40x1, .i32⟩
  | .hbm, ⟨23, _⟩ => ⟨S40, .f32⟩
  | .hbm, ⟨24, _⟩ => ⟨S4096x44032, .i32⟩
  | .hbm, ⟨25, _⟩ => ⟨S_, .i32⟩
  | .hbm, ⟨26, _⟩ => ⟨S4096x44032, .i32⟩
  | .hbm, ⟨27, _⟩ => ⟨S4096x44032, .i32⟩
  | .hbm, ⟨28, _⟩ => ⟨S_, .i32⟩
  | .hbm, ⟨29, _⟩ => ⟨S4096x44032, .i32⟩
  | .hbm, ⟨30, _⟩ => ⟨S4096x44032, .i32⟩
  | .hbm, ⟨31, _⟩ => ⟨S_, .i32⟩
  | .hbm, ⟨32, _⟩ => ⟨S4096x44032, .i32⟩
  | .hbm, ⟨33, _⟩ => ⟨S4096x44032, .i1⟩
  | .hbm, ⟨34, _⟩ => ⟨S_, .i32⟩
  | .hbm, ⟨35, _⟩ => ⟨S4096x44032, .i32⟩
  | .hbm, ⟨36, _⟩ => ⟨S4096x44032, .i32⟩
  | .hbm, ⟨37, _⟩ => ⟨S4096x44032, .i32⟩
  | .hbm, ⟨38, _⟩ => ⟨S4096x44032, .bf16⟩
  | .hbm, ⟨39, _⟩ => ⟨S_, .i32⟩
  | .hbm, ⟨40, _⟩ => ⟨S4096x44032, .i32⟩
  | .hbm, ⟨41, _⟩ => ⟨S4096x44032, .i1⟩
  | .hbm, ⟨42, _⟩ => ⟨S_, .i32⟩
  | .hbm, ⟨43, _⟩ => ⟨S4096x44032, .i32⟩
  | .hbm, ⟨44, _⟩ => ⟨S4096x44032, .i32⟩
  | .hbm, ⟨45, _⟩ => ⟨S4096x44032, .i32⟩
  | .hbm, ⟨46, _⟩ => ⟨S4096x44032, .bf16⟩
  | .hbm, ⟨47, _⟩ => ⟨S32x44032, .bf16⟩
  | .hbm, ⟨48, _⟩ => ⟨S32x128x44032, .bf16⟩
  | .hbm, ⟨49, _⟩ => ⟨S32x1x44032, .bf16⟩
  | .hbm, ⟨50, _⟩ => ⟨S32x128x44032, .bf16⟩
  | .hbm, ⟨51, _⟩ => ⟨S32x128x44032, .bf16⟩
  | .hbm, ⟨52, _⟩ => ⟨S4096x44032, .bf16⟩
  | .hbm, ⟨53, _⟩ => ⟨S32x44032, .bf16⟩
  | .hbm, ⟨54, _⟩ => ⟨S32x128x44032, .bf16⟩
  | .hbm, ⟨55, _⟩ => ⟨S32x1x44032, .bf16⟩
  | .hbm, ⟨56, _⟩ => ⟨S32x128x44032, .bf16⟩
  | .hbm, ⟨57, _⟩ => ⟨S32x128x44032, .bf16⟩
  | .hbm, ⟨58, _⟩ => ⟨S4096x44032, .bf16⟩
  | .hbm, ⟨59, _⟩ => ⟨S40x4096, .bf16⟩
  | .hbm, ⟨60, _⟩ => ⟨S40x44032, .f32⟩
  | .hbm, ⟨61, _⟩ => ⟨S40x4096, .bf16⟩
  | .hbm, ⟨62, _⟩ => ⟨S40x44032, .f32⟩
  | .hbm, ⟨63, _⟩ => ⟨S40x44032, .f32⟩
  | .hbm, ⟨64, _⟩ => ⟨S40x5x32, .f32⟩
  | .hbm, ⟨65, _⟩ => ⟨S40x32, .f32⟩
  | .hbm, ⟨66, _⟩ => ⟨S40x1, .f32⟩
  | .hbm, ⟨67, _⟩ => ⟨S40x32, .f32⟩
  | .hbm, ⟨68, _⟩ => ⟨S40x32, .f32⟩
  | .hbm, ⟨69, _⟩ => ⟨S40x32, .bf16⟩
  | .hbm, ⟨70, _⟩ => ⟨S40x5x1x1, .bf16⟩
  | .hbm, ⟨71, _⟩ => ⟨S40x1x2x16, .bf16⟩
  | .hbm, ⟨72, _⟩ => ⟨S40x5x2x16, .bf16⟩
  | .hbm, ⟨73, _⟩ => ⟨S40x5x2x16, .bf16⟩
  | .hbm, ⟨74, _⟩ => ⟨S40x5x2x16, .bf16⟩
  | .hbm, ⟨75, _⟩ => ⟨S2x22016x40, .f32⟩
  | .hbm, ⟨76, _⟩ => ⟨S40x2x22016, .f32⟩
  | .hbm, ⟨77, _⟩ => ⟨S40x2x22016, .f32⟩
  | .hbm, ⟨78, _⟩ => ⟨S40x2x22016, .f32⟩
  | .hbm, ⟨79, _⟩ => ⟨S40x1x22016, .f32⟩
  | .hbm, ⟨80, _⟩ => ⟨S40x22016, .f32⟩
  | .hbm, ⟨81, _⟩ => ⟨S40x1x22016, .f32⟩
  | .hbm, ⟨82, _⟩ => ⟨S40x22016, .f32⟩
  | .hbm, ⟨83, _⟩ => ⟨S40x22016, .f32⟩
  | .hbm, ⟨84, _⟩ => ⟨S40x22016, .f32⟩
  | .hbm, ⟨85, _⟩ => ⟨S_, .f32⟩
  | .hbm, ⟨86, _⟩ => ⟨S40x22016, .f32⟩
  | .hbm, ⟨87, _⟩ => ⟨S40x22016, .f32⟩
  | .hbm, ⟨88, _⟩ => ⟨S_, .f32⟩
  | .hbm, ⟨89, _⟩ => ⟨S40x22016, .f32⟩
  | .hbm, ⟨90, _⟩ => ⟨S40x22016, .f32⟩
  | .hbm, ⟨91, _⟩ => ⟨S40x22016, .f32⟩
  | .hbm, ⟨92, _⟩ => ⟨S40x22016, .f32⟩
  | .hbm, ⟨93, _⟩ => ⟨S40x22016, .bf16⟩
  | .hbm, ⟨94, _⟩ => ⟨S32x40, .bf16⟩
  | _, _ => ⟨S40x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Down.lean ====
abbrev S40x22016 : Shape := ⟨2, ![40, 22016]⟩
abbrev S40 : Shape := ⟨1, ![40]⟩
abbrev S11008x8192 : Shape := ⟨2, ![11008, 8192]⟩
abbrev S172x8192 : Shape := ⟨2, ![172, 8192]⟩
abbrev S5x22016x16 : Shape := ⟨3, ![5, 22016, 16]⟩
abbrev S5x16x8192 : Shape := ⟨3, ![5, 16, 8192]⟩
abbrev S5 : Shape := ⟨1, ![5]⟩
abbrev S1x40 : Shape := ⟨2, ![1, 40]⟩
abbrev S5x16x22016 : Shape := ⟨3, ![5, 16, 22016]⟩
abbrev S80x22016 : Shape := ⟨2, ![80, 22016]⟩
abbrev S80x8192 : Shape := ⟨2, ![80, 8192]⟩
abbrev S40x8192 : Shape := ⟨2, ![40, 8192]⟩
abbrev S16x40 : Shape := ⟨2, ![16, 40]⟩
abbrev S16x40x4 : Shape := ⟨3, ![16, 40, 4]⟩
abbrev S11008x512 : Shape := ⟨2, ![11008, 512]⟩
abbrev S172x512 : Shape := ⟨2, ![172, 512]⟩
abbrev S80x512 : Shape := ⟨2, ![80, 512]⟩
abbrev S40x512 : Shape := ⟨2, ![40, 512]⟩
abbrev S1x40x4 : Shape := ⟨3, ![1, 40, 4]⟩
abbrev S40x80 : Shape := ⟨2, ![40, 80]⟩
abbrev S256x256 : Shape := ⟨2, ![256, 256]⟩
abbrev S40x128 : Shape := ⟨2, ![40, 128]⟩
abbrev S40x256 : Shape := ⟨2, ![40, 256]⟩
abbrev S1 : Shape := ⟨1, ![1]⟩
abbrev S80x40 : Shape := ⟨2, ![80, 40]⟩
abbrev S86x512 : Shape := ⟨2, ![86, 512]⟩
abbrev S86x1x512 : Shape := ⟨3, ![86, 1, 512]⟩
abbrev S86x2x512 : Shape := ⟨3, ![86, 2, 512]⟩
abbrev S256x512 : Shape := ⟨2, ![256, 512]⟩
abbrev S128x512 : Shape := ⟨2, ![128, 512]⟩
abbrev S1x2x512 : Shape := ⟨3, ![1, 2, 512]⟩
abbrev S128x1x512 : Shape := ⟨3, ![128, 1, 512]⟩
abbrev S128x2x512 : Shape := ⟨3, ![128, 2, 512]⟩
abbrev S8x2x512 : Shape := ⟨3, ![8, 2, 512]⟩
abbrev S16x512 : Shape := ⟨2, ![16, 512]⟩
abbrev S16x16x512 : Shape := ⟨3, ![16, 16, 512]⟩
abbrev S1x16x512 : Shape := ⟨3, ![1, 16, 512]⟩
abbrev S40x1 : Shape := ⟨2, ![40, 1]⟩
abbrev S1x40x1 : Shape := ⟨3, ![1, 40, 1]⟩

abbrev nBuf : Space → Nat
  | .hbm => 15
  | .vmem => 18
  | .smem => 1
  | _ => 0

abbrev bufTy : (tb : Table) → Fin (tcTables nBuf tb) → BufTy
  | .hbm, ⟨0, _⟩ => ⟨S40x22016, .bf16⟩
  | .hbm, ⟨1, _⟩ => ⟨S40, .i32⟩
  | .hbm, ⟨2, _⟩ => ⟨S11008x8192, .i8⟩
  | .hbm, ⟨3, _⟩ => ⟨S172x8192, .bf16⟩
  | .hbm, ⟨4, _⟩ => ⟨S5x22016x16, .bf16⟩
  | .hbm, ⟨5, _⟩ => ⟨S5x16x8192, .bf16⟩
  | .hbm, ⟨6, _⟩ => ⟨S5, .f32⟩
  | .hbm, ⟨7, _⟩ => ⟨S1x40, .i32⟩
  | .hbm, ⟨8, _⟩ => ⟨S5x16x22016, .bf16⟩
  | .hbm, ⟨9, _⟩ => ⟨S80x22016, .bf16⟩
  | .hbm, ⟨10, _⟩ => ⟨S80x8192, .bf16⟩
  | .hbm, ⟨11, _⟩ => ⟨S40x8192, .bf16⟩
  | .hbm, ⟨12, _⟩ => ⟨S16x40, .bf16⟩
  | .hbm, ⟨13, _⟩ => ⟨S40x8192, .fp8e4m3⟩
  | .hbm, ⟨14, _⟩ => ⟨S16x40x4, .f32⟩
  | .local _ .vmem, ⟨0, _⟩ => ⟨S1x40, .i32⟩
  | .local _ .vmem, ⟨1, _⟩ => ⟨S40x22016, .bf16⟩
  | .local _ .vmem, ⟨2, _⟩ => ⟨S11008x512, .i8⟩
  | .local _ .vmem, ⟨3, _⟩ => ⟨S11008x512, .i8⟩
  | .local _ .vmem, ⟨4, _⟩ => ⟨S172x512, .bf16⟩
  | .local _ .vmem, ⟨5, _⟩ => ⟨S172x512, .bf16⟩
  | .local _ .vmem, ⟨6, _⟩ => ⟨S80x22016, .bf16⟩
  | .local _ .vmem, ⟨7, _⟩ => ⟨S80x512, .bf16⟩
  | .local _ .vmem, ⟨8, _⟩ => ⟨S80x512, .bf16⟩
  | .local _ .vmem, ⟨9, _⟩ => ⟨S40x512, .bf16⟩
  | .local _ .vmem, ⟨10, _⟩ => ⟨S40x512, .bf16⟩
  | .local _ .vmem, ⟨11, _⟩ => ⟨S16x40, .bf16⟩
  | .local _ .vmem, ⟨12, _⟩ => ⟨S40x512, .fp8e4m3⟩
  | .local _ .vmem, ⟨13, _⟩ => ⟨S40x512, .fp8e4m3⟩
  | .local _ .vmem, ⟨14, _⟩ => ⟨S1x40x4, .f32⟩
  | .local _ .vmem, ⟨15, _⟩ => ⟨S1x40x4, .f32⟩
  | .local _ .vmem, ⟨16, _⟩ => ⟨S40x22016, .bf16⟩
  | .local _ .vmem, ⟨17, _⟩ => ⟨S40x80, .bf16⟩
  | .local _ .smem, ⟨0, _⟩ => ⟨S5, .f32⟩
  | _, _ => ⟨S40x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x40 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x22016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S11008x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S172x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S80x22016 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x40 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S40x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x40x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DownRefIdeal.lean ====
abbrev S40x22016 : Shape := ⟨2, ![40, 22016]⟩
abbrev S40 : Shape := ⟨1, ![40]⟩
abbrev S11008x8192 : Shape := ⟨2, ![11008, 8192]⟩
abbrev S172x8192 : Shape := ⟨2, ![172, 8192]⟩
abbrev S5x22016x16 : Shape := ⟨3, ![5, 22016, 16]⟩
abbrev S5x16x8192 : Shape := ⟨3, ![5, 16, 8192]⟩
abbrev S5 : Shape := ⟨1, ![5]⟩
abbrev S40x1 : Shape := ⟨2, ![40, 1]⟩
abbrev S1x5 : Shape := ⟨2, ![1, 5]⟩
abbrev S40x5 : Shape := ⟨2, ![40, 5]⟩
abbrev S_ : Shape := ⟨0, ![]⟩
abbrev S86x8192 : Shape := ⟨2, ![86, 8192]⟩
abbrev S86x128x8192 : Shape := ⟨3, ![86, 128, 8192]⟩
abbrev S86x1x8192 : Shape := ⟨3, ![86, 1, 8192]⟩
abbrev S40x11008 : Shape := ⟨2, ![40, 11008]⟩
abbrev S40x8192 : Shape := ⟨2, ![40, 8192]⟩
abbrev S40x5x16 : Shape := ⟨3, ![40, 5, 16]⟩
abbrev S40x16 : Shape := ⟨2, ![40, 16]⟩
abbrev S40x5x1 : Shape := ⟨3, ![40, 5, 1]⟩
abbrev S40x1x16 : Shape := ⟨3, ![40, 1, 16]⟩
abbrev S16x40 : Shape := ⟨2, ![16, 40]⟩
abbrev S40x64x128 : Shape := ⟨3, ![40, 64, 128]⟩
abbrev S40x64 : Shape := ⟨2, ![40, 64]⟩
abbrev S254 : Shape := ⟨1, ![254]⟩
abbrev S40x64x1 : Shape := ⟨3, ![40, 64, 1]⟩
abbrev S1x1x254 : Shape := ⟨3, ![1, 1, 254]⟩
abbrev S40x64x254 : Shape := ⟨3, ![40, 64, 254]⟩
abbrev S40x16x4 : Shape := ⟨3, ![40, 16, 4]⟩
abbrev S16x40x4 : Shape := ⟨3, ![16, 40, 4]⟩

abbrev nBuf : Space → Nat
  | .hbm => 127
  | .vmem => 2
  | .smem => 0
  | _ => 0

abbrev bufTy : (tb : Table) → Fin (tcTables nBuf tb) → BufTy
  | .hbm, ⟨0, _⟩ => ⟨S40x22016, .bf16⟩
  | .hbm, ⟨1, _⟩ => ⟨S40, .i32⟩
  | .hbm, ⟨2, _⟩ => ⟨S11008x8192, .i8⟩
  | .hbm, ⟨3, _⟩ => ⟨S172x8192, .bf16⟩
  | .hbm, ⟨4, _⟩ => ⟨S5x22016x16, .bf16⟩
  | .hbm, ⟨5, _⟩ => ⟨S5x16x8192, .bf16⟩
  | .hbm, ⟨6, _⟩ => ⟨S5, .f32⟩
  | .hbm, ⟨7, _⟩ => ⟨S40x1, .i32⟩
  | .hbm, ⟨8, _⟩ => ⟨S1x5, .i32⟩
  | .hbm, ⟨9, _⟩ => ⟨S40x5, .i32⟩
  | .hbm, ⟨10, _⟩ => ⟨S40x5, .i32⟩
  | .hbm, ⟨11, _⟩ => ⟨S40x5, .i1⟩
  | .hbm, ⟨12, _⟩ => ⟨S40x5, .f32⟩
  | .hbm, ⟨13, _⟩ => ⟨S40x5, .bf16⟩
  | .hbm, ⟨14, _⟩ => ⟨S_, .i32⟩
  | .hbm, ⟨15, _⟩ => ⟨S40, .i32⟩
  | .hbm, ⟨16, _⟩ => ⟨S40, .i1⟩
  | .hbm, ⟨17, _⟩ => ⟨S_, .i32⟩
  | .hbm, ⟨18, _⟩ => ⟨S40, .i32⟩
  | .hbm, ⟨19, _⟩ => ⟨S40, .i32⟩
  | .hbm, ⟨20, _⟩ => ⟨S40, .i32⟩
  | .hbm, ⟨21, _⟩ => ⟨S40x1, .i32⟩
  | .hbm, ⟨22, _⟩ => ⟨S40, .f32⟩
  | .hbm, ⟨23, _⟩ => ⟨S11008x8192, .i32⟩
  | .hbm, ⟨24, _⟩ => ⟨S_, .i32⟩
  | .hbm, ⟨25, _⟩ => ⟨S11008x8192, .i32⟩
  | .hbm, ⟨26, _⟩ => ⟨S11008x8192, .i32⟩
  | .hbm, ⟨27, _⟩ => ⟨S_, .i32⟩
  | .hbm, ⟨28, _⟩ => ⟨S11008x8192, .i32⟩
  | .hbm, ⟨29, _⟩ => ⟨S11008x8192, .i32⟩
  | .hbm, ⟨30, _⟩ => ⟨S_, .i32⟩
  | .hbm, ⟨31, _⟩ => ⟨S11008x8192, .i32⟩
  | .hbm, ⟨32, _⟩ => ⟨S11008x8192, .i1⟩
  | .hbm, ⟨33, _⟩ => ⟨S_, .i32⟩
  | .hbm, ⟨34, _⟩ => ⟨S11008x8192, .i32⟩
  | .hbm, ⟨35, _⟩ => ⟨S11008x8192, .i32⟩
  | .hbm, ⟨36, _⟩ => ⟨S11008x8192, .i32⟩
  | .hbm, ⟨37, _⟩ => ⟨S11008x8192, .bf16⟩
  | .hbm, ⟨38, _⟩ => ⟨S_, .i32⟩
  | .hbm, ⟨39, _⟩ => ⟨S11008x8192, .i32⟩
  | .hbm, ⟨40, _⟩ => ⟨S11008x8192, .i1⟩
  | .hbm, ⟨41, _⟩ => ⟨S_, .i32⟩
  | .hbm, ⟨42, _⟩ => ⟨S11008x8192, .i32⟩
  | .hbm, ⟨43, _⟩ => ⟨S11008x8192, .i32⟩
  | .hbm, ⟨44, _⟩ => ⟨S11008x8192, .i32⟩
  | .hbm, ⟨45, _⟩ => ⟨S11008x8192, .bf16⟩
  | .hbm, ⟨46, _⟩ => ⟨S86x8192, .bf16⟩
  | .hbm, ⟨47, _⟩ => ⟨S86x128x8192, .bf16⟩
  | .hbm, ⟨48, _⟩ => ⟨S86x1x8192, .bf16⟩
  | .hbm, ⟨49, _⟩ => ⟨S86x128x8192, .bf16⟩
  | .hbm, ⟨50, _⟩ => ⟨S86x128x8192, .bf16⟩
  | .hbm, ⟨51, _⟩ => ⟨S11008x8192, .bf16⟩
  | .hbm, ⟨52, _⟩ => ⟨S86x8192, .bf16⟩
  | .hbm, ⟨53, _⟩ => ⟨S86x128x8192, .bf16⟩
  | .hbm, ⟨54, _⟩ => ⟨S86x1x8192, .bf16⟩
  | .hbm, ⟨55, _⟩ => ⟨S86x128x8192, .bf16⟩
  | .hbm, ⟨56, _⟩ => ⟨S86x128x8192, .bf16⟩
  | .hbm, ⟨57, _⟩ => ⟨S11008x8192, .bf16⟩
  | .hbm, ⟨58, _⟩ => ⟨S40x11008, .bf16⟩
  | .hbm, ⟨59, _⟩ => ⟨S40x8192, .f32⟩
  | .hbm, ⟨60, _⟩ => ⟨S40x11008, .bf16⟩
  | .hbm, ⟨61, _⟩ => ⟨S40x8192, .f32⟩
  | .hbm, ⟨62, _⟩ => ⟨S40x8192, .f32⟩
  | .hbm, ⟨63, _⟩ => ⟨S40x5x16, .f32⟩
  | .hbm, ⟨64, _⟩ => ⟨S40x16, .f32⟩
  | .hbm, ⟨65, _⟩ => ⟨S40x1, .f32⟩
  | .hbm, ⟨66, _⟩ => ⟨S40x16, .f32⟩
  | .hbm, ⟨67, _⟩ => ⟨S40x16, .f32⟩
  | .hbm, ⟨68, _⟩ => ⟨S40x16, .bf16⟩
  | .hbm, ⟨69, _⟩ => ⟨S40x5x1, .bf16⟩
  | .hbm, ⟨70, _⟩ => ⟨S40x1x16, .bf16⟩
  | .hbm, ⟨71, _⟩ => ⟨S40x5x16, .bf16⟩
  | .hbm, ⟨72, _⟩ => ⟨S40x5x16, .bf16⟩
  | .hbm, ⟨73, _⟩ => ⟨S40x5x16, .bf16⟩
  | .hbm, ⟨74, _⟩ => ⟨S40x8192, .f32⟩
  | .hbm, ⟨75, _⟩ => ⟨S40x8192, .f32⟩
  | .hbm, ⟨76, _⟩ => ⟨S40x8192, .bf16⟩
  | .hbm, ⟨77, _⟩ => ⟨S16x40, .bf16⟩
  | .hbm, ⟨78, _⟩ => ⟨S40x8192, .f32⟩
  | .hbm, ⟨79, _⟩ => ⟨S40x64x128, .f32⟩
  | .hbm, ⟨80, _⟩ => ⟨S40x64x128, .f32⟩
  | .hbm, ⟨81, _⟩ => ⟨S_, .f32⟩
  | .hbm, ⟨82, _⟩ => ⟨S40x64, .f32⟩
  | .hbm, ⟨83, _⟩ => ⟨S254, .f32⟩
  | .hbm, ⟨84, _⟩ => ⟨S_, .f32⟩
  | .hbm, ⟨85, _⟩ => ⟨S254, .f32⟩
  | .hbm, ⟨86, _⟩ => ⟨S254, .f32⟩
  | .hbm, ⟨87, _⟩ => ⟨S_, .f32⟩
  | .hbm, ⟨88, _⟩ => ⟨S254, .f32⟩
  | .hbm, ⟨89, _⟩ => ⟨S254, .f32⟩
  | .hbm, ⟨90, _⟩ => ⟨S_, .f32⟩
  | .hbm, ⟨91, _⟩ => ⟨S40x64, .f32⟩
  | .hbm, ⟨92, _⟩ => ⟨S40x64, .f32⟩
  | .hbm, ⟨93, _⟩ => ⟨S40x64x1, .f32⟩
  | .hbm, ⟨94, _⟩ => ⟨S1x1x254, .f32⟩
  | .hbm, ⟨95, _⟩ => ⟨S40x64x254, .f32⟩
  | .hbm, ⟨96, _⟩ => ⟨S40x64x254, .f32⟩
  | .hbm, ⟨97, _⟩ => ⟨S40x64x254, .i1⟩
  | .hbm, ⟨98, _⟩ => ⟨S_, .f32⟩
  | .hbm, ⟨99, _⟩ => ⟨S_, .f32⟩
  | .hbm, ⟨100, _⟩ => ⟨S40x64x254, .f32⟩
  | .hbm, ⟨101, _⟩ => ⟨S40x64x254, .f32⟩
  | .hbm, ⟨102, _⟩ => ⟨S40x64x254, .f32⟩
  | .hbm, ⟨103, _⟩ => ⟨S_, .f32⟩
  | .hbm, ⟨104, _⟩ => ⟨S40x64, .f32⟩
  | .hbm, ⟨105, _⟩ => ⟨S40x64, .i1⟩
  | .hbm, ⟨106, _⟩ => ⟨S_, .f32⟩
  | .hbm, ⟨107, _⟩ => ⟨S40x64, .f32⟩
  | .hbm, ⟨108, _⟩ => ⟨S_, .f32⟩
  | .hbm, ⟨109, _⟩ => ⟨S_, .f32⟩
  | .hbm, ⟨110, _⟩ => ⟨S40x64, .f32⟩
  | .hbm, ⟨111, _⟩ => ⟨S40x64, .f32⟩
  | .hbm, ⟨112, _⟩ => ⟨S40x64x1, .f32⟩
  | .hbm, ⟨113, _⟩ => ⟨S40x64x128, .f32⟩
  | .hbm, ⟨114, _⟩ => ⟨S40x64x128, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S40x64x128, .f32⟩
  | .hbm, ⟨119, _⟩ => ⟨S40x64x128, .f32⟩
  | .hbm, ⟨120, _⟩ => ⟨S_, .f32⟩
  | .hbm, ⟨121, _⟩ => ⟨S40x64x128, .f32⟩
  | .hbm, ⟨122, _⟩ => ⟨S40x64x128, .f32⟩
  | .hbm, ⟨123, _⟩ => ⟨S40x16x4, .f32⟩
  | .hbm, ⟨124, _⟩ => ⟨S16x40x4, .f32⟩
  | .hbm, ⟨125, _⟩ => ⟨S40x8192, .f32⟩
  | .hbm, ⟨126, _⟩ => ⟨S40x8192, .fp8e4m3⟩
  | .local _ .vmem, ⟨0, _⟩ => ⟨S40x8192, .f32⟩
  | .local _ .vmem, ⟨1, _⟩ => ⟨S40x8192, .fp8e4m3⟩
  | _, _ => ⟨S40x22016, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_cst_13 : Ref sig .tc := ⟨.hbm, 108, rfl⟩
abbrev main_call4_v0 : Ref sig .tc := ⟨.hbm, 109, rfl⟩
abbrev main_call4_v1 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_cst_15 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S40x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.GateUpBody.lean ====
module

public import proofs.«01_k».proof.Proof.Gen.GateUp.Frame

@[expose] public section

set_option maxRecDepth 16384

noncomputable section

/-!
# The gate/up call's body, with its unrolled loops written as loops

The printed body of the gate/up call unrolls two loops of 32 trips. Here the same program is written with the loops as
recursions on the trip number, over named array functions; `body_eq` says that it is the printed body.
-/

namespace Cert.GateUp.Own

open Idealize.ShloMosaic Idealize.ShloMosaic.TcCoe Idealize.ShloMosaic.Tactic
open Idealize.SL Idealize.SL.Sem
open Cert.GateUp Facts₀ Facts

variable {F : FTy → Type} [FloatOps F]

/-! ## The tiles' rectangles -/

theorem inb128 (k : ℕ) (h : k < 32) : ∀ a, (![0, 128 * k] : Fin 2 → ℕ) a + S40x128.size a ≤ S40x8192.size a
  | 0 => by show 0 + 40 ≤ 40; omega
  | 1 => by show 128 * k + 128 ≤ 8192; omega
theorem inb128' (k : ℕ) (h : k < 32) : ∀ a, (![0, 4096 + 128 * k] : Fin 2 → ℕ) a + S40x128.size a ≤ S40x8192.size a
  | 0 => by show 0 + 40 ≤ 40; omega
  | 1 => by show 4096 + 128 * k + 128 ≤ 8192; omega
theorem inb256 (k : ℕ) (h : k < 32) : ∀ a, (![0, 256 * k] : Fin 2 → ℕ) a + S40x256.size a ≤ S40x8192.size a
  | 0 => by show 0 + 40 ≤ 40; omega
  | 1 => by show 256 * k + 256 ≤ 8192; omega
theorem inbRow (k : ℕ) (h : k < 32) : ∀ a, (![128 * k, 0] : Fin 2 → ℕ) a + S128x256.size a ≤ S4096x256.size a
  | 0 => by show 128 * k + 128 ≤ 4096; omega
  | 1 => by show 0 + 256 ≤ 256; omega
theorem packed256 (k : ℕ) (h : k < 32) :
    (Rect.unit (s := S40x8192) ![0, 256 * k] S40x256.size (inb256 k h)).PackedRows (EltTy.packing .bf16) :=
  Or.inr ⟨by decide, rfl, Or.inl ⟨Dvd.intro 0 rfl, ⟨20, rfl⟩⟩⟩
theorem slicesPair (k : ℕ) (h : k < 32) : S32x2x256.Slices ![k, 0, 0] S1x2x256 := by
  refine ⟨rfl, ?_⟩
  intro a; match a with
  | 0 => show k + 1 ≤ 32; omega
  | 1 => show 0 + 2 ≤ 2; omega
  | 2 => show 0 + 256 ≤ 256; omega

/-- The first half's columns `128 k …` of the activations. -/
abbrev rLo (k : ℕ) (h : k < 32) : Rect S40x8192 := Rect.unit (s := S40x8192) ![0, 128 * k] S40x128.size (inb128 k h)
/-- The second half's columns `4096 + 128 k …`. -/
abbrev rHi (k : ℕ) (h : k < 32) : Rect S40x8192 := Rect.unit (s := S40x8192) ![0, 4096 + 128 * k] S40x128.size (inb128' k h)
/-- Tile `k` of the interleaved activations. -/
abbrev rXp (k : ℕ) (h : k < 32) : Rect S40x8192 := Rect.unit (s := S40x8192) ![0, 256 * k] S40x256.size (inb256 k h)
/-- Tile `k` of the packed codes. -/
abbrev rCode (k : ℕ) (h : k < 32) : Rect S4096x256 := Rect.unit (s := S4096x256) ![128 * k, 0] S128x256.size (inbRow k h)

/-! ## What the pieces compute -/

/-- The 0/1 matrix which interleaves two halves of 128 columns. -/
def perm : FVec F S256x256 .bf16 :=
  truncf .bf16 (sitofp .f32 (extui 32 (cmpi .eq (iota .tc S256x256 32 [0] iota_S256x256_d0_w32)
    (addi (shrsi (iota .tc S256x256 32 [1] iota_S256x256_d1_w32) (broadcast S256x256 1#32))
      (muli (andi (iota .tc S256x256 32 [1] iota_S256x256_d1_w32) (broadcast S256x256 1#32)) (broadcast S256x256 128#32)))) natLt_1_32)) bitsLt_bf16_f32

/-- A tile of the interleaved activations, from its two halves. -/
def xpTile (lo hi : Vec F S40x128 .bf16) : FVec F S40x256 .bf16 :=
  shapeCast S40x256 (truncf .bf16 (matmul dot_S40x256_S256x256_S40x256_1_0_0_1_n_n none
    (concatenate S40x256 1 [⟨S40x128, shapeCast S40x128 lo shapeCasts_S40x128_S40x128⟩, ⟨S40x128, shapeCast S40x128 hi shapeCasts_S40x128_S40x128⟩] concatenates_S40x128_S40x128_S40x256_d1)
    perm (constant S40x256 .f32 0x00000000#32)) bitsLt_bf16_f32) shapeCasts_S40x256_S40x256

theorem inbScale (n : ℕ) (h : n < 5) : ∀ a, (![n] : Fin 1 → ℕ) a + S1.size a ≤ S5.size a
  | 0 => by show n + 1 ≤ 5; omega
/-- One adapter's LoRA scale. -/
abbrev rScale (n : ℕ) (h : n < 5) : Rect S5 := Rect.unit (s := S5) ![n] S1.size (inbScale n h)
/-- The one index of a vector of one element. -/
abbrev one : S1.Idx := Shape.Idx.first (numel1_S1.symm ▸ Nat.one_pos)

/-- Where a row's adapter is number `n`. -/
def isN (idx : IVec S1x40 32) (n : BitVec 32) : IVec S1x40 1 := cmpi .eq idx (broadcast S1x40 n)
/-- The same for each of 32 LoRA rows. -/
def isN32 (idx : IVec S1x40 32) (n : BitVec 32) : IVec S32x40 1 :=
  broadcastTo S32x40 (shapeCast S1x40 (isN idx n) shapeCasts_S1x40_S1x40) broadcasts_S1x40_S32x40

/-- Each row's LoRA scale, from the five adapters' scales. -/
def scaleOf (idx : IVec S1x40 32) (a0 a1 a2 a3 a4 : Elt F .f32) : FVec F S1x40 .f32 :=
  select (isN idx 4#32) (broadcast S1x40 a4) (select (isN idx 3#32) (broadcast S1x40 a3) (select (isN idx 2#32) (broadcast S1x40 a2)
    (select (isN idx 1#32) (broadcast S1x40 a1) (select (isN idx 0#32) (broadcast S1x40 a0) (broadcast S1x40 (Scalar.ofBits .f32 0x00000000#32))))))

/-- Every adapter's first LoRA product. -/
def loraA (a : Vec F S160x8192 .bf16) (x : Vec F S40x8192 .bf16) : FVec F S160x40 .f32 :=
  matmul dot_S160x8192_S40x8192_S160x40_1_1_0_0_n_n none (shapeCast S160x8192 a shapeCasts_S160x8192_S160x8192)
    (shapeCast S40x8192 x shapeCasts_S40x8192_S40x8192) (constant S160x40 .f32 0x00000000#32)

/-- Each row's own adapter's product. -/
def pick (idx : IVec S1x40 32) (z : FVec F S160x40 .f32) : FVec F S32x40 .f32 :=
  select (isN32 idx 4#32) (extractStridedSlice S32x40 ![128, 0] z slices_S160x40_o128_0_S32x40)
  (select (isN32 idx 3#32) (extractStridedSlice S32x40 ![96, 0] z slices_S160x40_o96_0_S32x40)
  (select (isN32 idx 2#32) (extractStridedSlice S32x40 ![64, 0] z slices_S160x40_o64_0_S32x40)
  (select (isN32 idx 1#32) (extractStridedSlice S32x40 ![32, 0] z slices_S160x40_o32_0_S32x40)
  (select (isN32 idx 0#32) (extractStridedSlice S32x40 ![0, 0] z slices_S160x40_o0_0_S32x40)
    (broadcast S32x40 (Scalar.ofBits .f32 0x00000000#32))))))

/-- The scaled first LoRA product: what the call returns transposed. -/
def stRow (idx : IVec S1x40 32) (sc : FVec F S1x40 .f32) (z : FVec F S160x40 .f32) : FVec F S32x40 .bf16 :=
  truncf .bf16 (mulf (pick idx z) (broadcastTo S32x40 sc broadcasts_S1x40_S32x40)) bitsLt_bf16_f32

/-- The same from the arrays the body loads. -/
def stOf (ix : Vec F S1x40 .i32) (a0 a1 a2 a3 a4 : Elt F .f32) (a : Vec F S160x8192 .bf16) (x : Vec F S40x8192 .bf16) : FVec F S32x40 .bf16 :=
  stRow (shapeCast S1x40 ix shapeCasts_S1x40_S1x40) (scaleOf (shapeCast S1x40 ix shapeCasts_S1x40_S1x40) a0 a1 a2 a3 a4) (loraA a x)

/-- Adapter `n`'s rows of the routed product: the row's own where its adapter is `n`, zero elsewhere. -/
def routeN (idx : IVec S1x40 32) (st : FVec F S32x40 .bf16) (n : BitVec 32) : FVec F S32x40 .f32 :=
  select (isN32 idx n) (extf .f32 st bitsLt_bf16_f32) (broadcast S32x40 (Scalar.ofBits .f32 0x00000000#32))

/-- The routed product, every adapter's rows, a batch row per row. -/
def route (idx : IVec S1x40 32) (st : FVec F S32x40 .bf16) : FVec F S40x160 .bf16 :=
  truncf .bf16 (transpose S40x160 [1, 0] (concatenate S160x40 0 [⟨S32x40, routeN idx st 0#32⟩, ⟨S32x40, routeN idx st 1#32⟩, ⟨S32x40, routeN idx st 2#32⟩, ⟨S32x40, routeN idx st 3#32⟩, ⟨S32x40, routeN idx st 4#32⟩]
    concatenates_S32x40_S32x40_S32x40_S32x40_S32x40_S160x40_d0) transposes_S160x40_p1_0_S40x160) bitsLt_bf16_f32

/-- The remainder a LoRA row's number leaves by 32. -/
def rem32 : IVec S40x160 32 :=
  remsi (iota .tc S40x160 32 [1] iota_S40x160_d1_w32) (broadcast S40x160 (Scalar.select (Scalar.cmpi .eq 32#32 0#32) 1#32 32#32))

/-- Which LoRA rows are the gate's. -/
def isGate : IVec S40x160 1 :=
  cmpi .slt (select (andi (xori (cmpi .slt rem32 (broadcast S40x160 0#32))
      (broadcastTo S40x160 (broadcast S40x160 (Scalar.cmpi .slt (Scalar.select (Scalar.cmpi .eq 32#32 0#32) 1#32 32#32) 0#32)) broadcasts_S40x160_S40x160))
      (cmpi .ne rem32 (broadcast S40x160 0#32)))
    (addi rem32 (broadcast S40x160 (Scalar.select (Scalar.cmpi .eq 32#32 0#32) 1#32 32#32))) rem32) (broadcast S40x160 16#32)

/-- The gate's rows of the routed product. -/
def gateRows (r : FVec F S40x160 .bf16) : FVec F S40x160 .bf16 :=
  truncf .bf16 (select isGate (extf .f32 r bitsLt_bf16_f32) (broadcast S40x160 (Scalar.ofBits .f32 0x00000000#32))) bitsLt_bf16_f32
/-- The up projection's rows of the routed product. -/
def upRows (r : FVec F S40x160 .bf16) : FVec F S40x160 .bf16 :=
  truncf .bf16 (select isGate (broadcast S40x160 (Scalar.ofBits .f32 0x00000000#32)) (extf .f32 r bitsLt_bf16_f32)) bitsLt_bf16_f32

/-- The scales of a block of columns, paired: group `k` beside group `32 + k`. -/
def pairs (s : Vec F S64x256 .bf16) : FVec F S32x2x256 .bf16 :=
  concatenate S32x2x256 1 [⟨S32x1x256, shapeCast S32x1x256 (extractStridedSlice S32x256 ![0, 0] s slices_S64x256_o0_0_S32x256) shapeCasts_S32x256_S32x1x256⟩,
    ⟨S32x1x256, shapeCast S32x1x256 (extractStridedSlice S32x256 ![32, 0] s slices_S64x256_o32_0_S32x256) shapeCasts_S32x256_S32x1x256⟩] concatenates_S32x1x256_S32x1x256_S32x2x256_d1

/-- How far a row's code is lifted before it is brought down with its sign. -/
def lift : IVec S256x256 32 :=
  subi (broadcast S256x256 28#32) (muli (broadcast S256x256 4#32) (andi (iota .tc S256x256 32 [0] iota_S256x256_d0_w32) (broadcast S256x256 1#32)))

/-- A tile of the dequantised weights: the packed codes, each byte's two nibbles in two rows, times the scales. -/
def wTile (p : FVec F S32x2x256 .bf16) (k : ℕ) (h : k < 32) (b : Vec F S128x256 .i8) : FVec F S256x256 .bf16 :=
  shapeCast S256x256 (mulf
    (shapeCast S16x16x256 (sitofp .bf16 (shrsi (shli (shapeCast S256x256 (broadcastTo S128x2x256
      (shapeCast S128x1x256 (shapeCast S128x1x256 (extui 32 b natLt_8_32) shapeCasts_S128x256_S128x1x256) shapeCasts_S128x1x256_S128x1x256)
      broadcasts_S128x1x256_S128x2x256) shapeCasts_S128x2x256_S256x256) lift) (broadcast S256x256 28#32)) : FVec F S256x256 .bf16) shapeCasts_S256x256_S16x16x256)
    (broadcastTo S16x16x256 (shapeCast S1x16x256 (shapeCast S16x256 (broadcastTo S8x2x256
      (shapeCast S1x2x256 (extractStridedSlice S1x2x256 ![k, 0, 0] p (slicesPair k h)) shapeCasts_S1x2x256_S1x2x256)
      broadcasts_S1x2x256_S8x2x256) shapeCasts_S8x2x256_S16x256) shapeCasts_S16x256_S1x16x256) broadcasts_S1x16x256_S16x16x256))
    shapeCasts_S16x16x256_S256x256

/-- A tile's product added to the running sum. -/
def addTile (acc : FVec F S40x256 .f32) (xt : Vec F S40x256 .bf16) (w : FVec F S256x256 .bf16) : FVec F S40x256 .f32 :=
  addf acc (matmul dot_S40x256_S256x256_S40x256_1_0_0_1_n_n none xt w (constant S40x256 .f32 0x00000000#32))

/-- The second LoRA product: what a sum starts from. -/
def loraB (r : Vec F S40x160 .bf16) (b : Vec F S160x256 .bf16) : FVec F S40x256 .f32 :=
  matmul dot_S40x160_S160x256_S40x256_1_0_0_1_n_n none r (shapeCast S160x256 b shapeCasts_S160x256_S160x256) (constant S40x256 .f32 0x00000000#32)

/-- The gated product. -/
def hAct (g u : FVec F S40x256 .f32) : FVec F S40x256 .bf16 := truncf .bf16 (mulf (mulf g (logistic g)) u) bitsLt_bf16_f32

/-! ## The program -/

/-- The program's type. -/
abbrev P (F : FTy → Type) [FloatOps F] (α : Type) : Type 1 := Prog (TpuEff nD τ sig (Elt F) Λ₀ .tc) α

/-- One trip of the interleaving, and then `fin`. -/
def xpStep (arg3 : Memref sig .tc .vmem S40x8192 .bf16) (arg12 : Memref sig .tc .vmem S40x8192 .bf16) (harg12 : arg12.IsWhole) (k : ℕ) (h : k < 32)
    (fin : P F PUnit) : P F PUnit :=
  .op (.load arg3 (rLo k h).toLoadRect (View.loadsAt_vmem h_S40x128)) fun (lo : Vec F S40x128 .bf16) =>
  .op (.load arg3 (rHi k h).toLoadRect (View.loadsAt_vmem h_S40x128)) fun (hi : Vec F S40x128 .bf16) =>
  .op (.load arg12 (rXp k h).toLoadRect (View.loadsAt_vmem h_S40x256)) fun (_o : Vec F S40x256 .bf16) =>
  .op (.store arg12 (rXp k h) (xpTile lo hi) Finset.univ (View.stores_vmem h_S40x256 (harg12.storeExact_slice rfl _ (packed256 k h)) (fun _ => rfl)) (.inl rfl)) fun _ => fin

/-- Trips `k, …, k + n - 1` of the interleaving, and then `fin`. -/
def xpLoop (arg3 : Memref sig .tc .vmem S40x8192 .bf16) (arg12 : Memref sig .tc .vmem S40x8192 .bf16) (harg12 : arg12.IsWhole) (fin : P F PUnit) :
    (n k : ℕ) → k + n ≤ 32 → P F PUnit
  | 0, _, _ => fin
  | n + 1, k, h => xpStep arg3 arg12 harg12 k (by omega) (xpLoop arg3 arg12 harg12 fin n (k + 1) (by omega))

/-- What the first grid point does besides: the LoRA part, and then `fin`. -/
def loraPart (arg1 : Memref sig .tc .smem S5 .f32) (arg2 : Memref sig .tc .vmem S1x40 .i32) (arg3 : Memref sig .tc .vmem S40x8192 .bf16)
    (arg8 : Memref sig .tc .vmem S160x8192 .bf16) (arg11 : Memref sig .tc .vmem S32x40 .bf16) (harg11 : arg11.IsWhole)
    (arg13 : Memref sig .tc .vmem S40x160 .bf16) (harg13 : arg13.IsWhole) (arg14 : Memref sig .tc .vmem S40x160 .bf16) (harg14 : arg14.IsWhole)
    (fin : P F PUnit) : P F PUnit :=
  .op (.load arg2 (Rect.unit (s := S1x40) ![0, 0] S1x40.size inb_S1x40_S1x40_0_0).toLoadRect (View.loadsAt_vmem h_S1x40)) fun (ix : Vec F S1x40 .i32) =>
  .op (.load arg1 (rScale 0 (by omega)).toLoadRect (View.loadsAt_rect (View.loads_smem_one rfl numel1_S1))) fun (f0 : Vec F S1 .f32) =>
  .op (.load arg1 (rScale 1 (by omega)).toLoadRect (View.loadsAt_rect (View.loads_smem_one rfl numel1_S1))) fun (f1 : Vec F S1 .f32) =>
  .op (.load arg1 (rScale 2 (by omega)).toLoadRect (View.loadsAt_rect (View.loads_smem_one rfl numel1_S1))) fun (f2 : Vec F S1 .f32) =>
  .op (.load arg1 (rScale 3 (by omega)).toLoadRect (View.loadsAt_rect (View.loads_smem_one rfl numel1_S1))) fun (f3 : Vec F S1 .f32) =>
  .op (.load arg1 (rScale 4 (by omega)).toLoadRect (View.loadsAt_rect (View.loads_smem_one rfl numel1_S1))) fun (f4 : Vec F S1 .f32) =>
  .op (.load arg8 (Rect.unit (s := S160x8192) ![0, 0] S160x8192.size inb_S160x8192_S160x8192_0_0).toLoadRect (View.loadsAt_vmem h_S160x8192)) fun (a : Vec F S160x8192 .bf16) =>
  .op (.load arg3 (Rect.unit (s := S40x8192) ![0, 0] S40x8192.size inb_S40x8192_S40x8192_0_0).toLoadRect (View.loadsAt_vmem h_S40x8192)) fun (x : Vec F S40x8192 .bf16) =>
  .op (.load arg11 (Rect.unit (s := S32x40) ![0, 0] S32x40.size inb_S32x40_S32x40_0_0).toLoadRect (View.loadsAt_vmem h_S32x40)) fun (_o : Vec F S32x40 .bf16) =>
  .op (.store arg11 (Rect.unit (s := S32x40) ![0, 0] S32x40.size inb_S32x40_S32x40_0_0) (stOf ix (f0 one) (f1 one) (f2 one) (f3 one) (f4 one) a x) Finset.univ (View.stores_vmem h_S32x40 (harg11.storeExact_slice rfl _ packedbf16_S32x40_S32x40_0_0) (fun _ => rfl)) (.inl rfl)) fun _ =>
  .op (.load arg13 (Rect.unit (s := S40x160) ![0, 0] S40x160.size inb_S40x160_S40x160_0_0).toLoadRect (View.loadsAt_vmem h_S40x160)) fun (_o : Vec F S40x160 .bf16) =>
  .op (.store arg13 (Rect.unit (s := S40x160) ![0, 0] S40x160.size inb_S40x160_S40x160_0_0) (shapeCast S40x160 (gateRows (route (shapeCast S1x40 ix shapeCasts_S1x40_S1x40) (stOf ix (f0 one) (f1 one) (f2 one) (f3 one) (f4 one) a x))) shapeCasts_S40x160_S40x160) Finset.univ (View.stores_vmem h_S40x160 (harg13.storeExact_slice rfl _ packedbf16_S40x160_S40x160_0_0) (fun _ => rfl)) (.inl rfl)) fun _ =>
  .op (.load arg14 (Rect.unit (s := S40x160) ![0, 0] S40x160.size inb_S40x160_S40x160_0_0).toLoadRect (View.loadsAt_vmem h_S40x160)) fun (_o : Vec F S40x160 .bf16) =>
  .op (.store arg14 (Rect.unit (s := S40x160) ![0, 0] S40x160.size inb_S40x160_S40x160_0_0) (shapeCast S40x160 (upRows (route (shapeCast S1x40 ix shapeCasts_S1x40_S1x40) (stOf ix (f0 one) (f1 one) (f2 one) (f3 one) (f4 one) a x))) shapeCasts_S40x160_S40x160) Finset.univ (View.stores_vmem h_S40x160 (harg14.storeExact_slice rfl _ packedbf16_S40x160_S40x160_0_0) (fun _ => rfl)) (.inl rfl)) fun _ =>
  fin

/-- Trips `k, …, k + n - 1` of the main loop, from running sums, handing the last sums on. -/
def mainLoop (arg4 : Memref sig .tc .vmem S4096x256 .i8) (arg5 : Memref sig .tc .vmem S4096x256 .i8) (arg12 : Memref sig .tc .vmem S40x8192 .bf16)
    (pg pu : FVec F S32x2x256 .bf16) (fin : FVec F S40x256 .f32 → FVec F S40x256 .f32 → P F PUnit) :
    (n k : ℕ) → k + n ≤ 32 → FVec F S40x256 .f32 → FVec F S40x256 .f32 → P F PUnit
  | 0, _, _, g, u => fin g u
  | n + 1, k, h, g, u =>
    .op (.load arg12 (rXp k (by omega)).toLoadRect (View.loadsAt_vmem h_S40x256)) fun (xt : Vec F S40x256 .bf16) =>
    .op (.load arg4 (rCode k (by omega)).toLoadRect (View.loadsAt_vmem h_S128x256)) fun (bg : Vec F S128x256 .i8) =>
    .op (.load arg5 (rCode k (by omega)).toLoadRect (View.loadsAt_vmem h_S128x256)) fun (bu : Vec F S128x256 .i8) =>
    mainLoop arg4 arg5 arg12 pg pu fin n (k + 1) (by omega) (addTile g xt (wTile pg k (by omega) bg)) (addTile u xt (wTile pu k (by omega) bu))

/-- What every grid point does: one block of columns of the gated product. -/
def mainPart (arg4 : Memref sig .tc .vmem S4096x256 .i8) (arg5 : Memref sig .tc .vmem S4096x256 .i8)
    (arg6 : Memref sig .tc .vmem S64x256 .bf16) (arg7 : Memref sig .tc .vmem S64x256 .bf16) (arg9 : Memref sig .tc .vmem S160x256 .bf16)
    (arg10 : Memref sig .tc .vmem S40x256 .bf16) (harg10 : arg10.IsWhole) (arg12 : Memref sig .tc .vmem S40x8192 .bf16)
    (arg13 : Memref sig .tc .vmem S40x160 .bf16) (arg14 : Memref sig .tc .vmem S40x160 .bf16) : P F PUnit :=
  .op (.load arg6 (Rect.unit (s := S64x256) ![0, 0] S64x256.size inb_S64x256_S64x256_0_0).toLoadRect (View.loadsAt_vmem h_S64x256)) fun (sg : Vec F S64x256 .bf16) =>
  .op (.load arg7 (Rect.unit (s := S64x256) ![0, 0] S64x256.size inb_S64x256_S64x256_0_0).toLoadRect (View.loadsAt_vmem h_S64x256)) fun (su : Vec F S64x256 .bf16) =>
  .op (.load arg13 (Rect.unit (s := S40x160) ![0, 0] S40x160.size inb_S40x160_S40x160_0_0).toLoadRect (View.loadsAt_vmem h_S40x160)) fun (mg : Vec F S40x160 .bf16) =>
  .op (.load arg9 (Rect.unit (s := S160x256) ![0, 0] S160x256.size inb_S160x256_S160x256_0_0).toLoadRect (View.loadsAt_vmem h_S160x256)) fun (b1 : Vec F S160x256 .bf16) =>
  .op (.load arg14 (Rect.unit (s := S40x160) ![0, 0] S40x160.size inb_S40x160_S40x160_0_0).toLoadRect (View.loadsAt_vmem h_S40x160)) fun (mu : Vec F S40x160 .bf16) =>
  .op (.load arg9 (Rect.unit (s := S160x256) ![0, 0] S160x256.size inb_S160x256_S160x256_0_0).toLoadRect (View.loadsAt_vmem h_S160x256)) fun (b2 : Vec F S160x256 .bf16) =>
  mainLoop arg4 arg5 arg12 (pairs sg) (pairs su) (fun g u =>
    .op (.load arg10 (Rect.unit (s := S40x256) ![0, 0] S40x256.size inb_S40x256_S40x256_0_0).toLoadRect (View.loadsAt_vmem h_S40x256)) fun (_o : Vec F S40x256 .bf16) =>
    .op (.store arg10 (Rect.unit (s := S40x256) ![0, 0] S40x256.size inb_S40x256_S40x256_0_0) (hAct g u) Finset.univ (View.stores_vmem h_S40x256 (harg10.storeExact_slice rfl _ packedbf16_S40x256_S40x256_0_0) (fun _ => rfl)) (.inl rfl)) .ret)
    32 0 (by omega) (loraB mg b1) (loraB mu b2)

/-- The whole body. -/
def body (i : grid0.Coords) (arg1 : Memref sig .tc .smem S5 .f32) (arg2 : Memref sig .tc .vmem S1x40 .i32) (arg3 : Memref sig .tc .vmem S40x8192 .bf16)
    (arg4 : Memref sig .tc .vmem S4096x256 .i8) (arg5 : Memref sig .tc .vmem S4096x256 .i8)
    (arg6 : Memref sig .tc .vmem S64x256 .bf16) (arg7 : Memref sig .tc .vmem S64x256 .bf16) (arg8 : Memref sig .tc .vmem S160x8192 .bf16)
    (arg9 : Memref sig .tc .vmem S160x256 .bf16) (arg10 : Memref sig .tc .vmem S40x256 .bf16) (harg10 : arg10.IsWhole)
    (arg11 : Memref sig .tc .vmem S32x40 .bf16) (harg11 : arg11.IsWhole) (arg12 : Memref sig .tc .vmem S40x8192 .bf16) (harg12 : arg12.IsWhole)
    (arg13 : Memref sig .tc .vmem S40x160 .bf16) (harg13 : arg13.IsWhole) (arg14 : Memref sig .tc .vmem S40x160 .bf16) (harg14 : arg14.IsWhole) : P F PUnit :=
  if h : k0_cond1 i = 1#1 then
    xpLoop arg3 arg12 harg12
      (loraPart arg1 arg2 arg3 arg8 arg11 harg11 arg13 harg13 arg14 harg14
        (mainPart arg4 arg5 arg6 arg7 arg9 arg10 harg10 arg12 arg13 arg14)) 32 0 (by omega)
  else mainPart arg4 arg5 arg6 arg7 arg9 arg10 harg10 arg12 arg13 arg14

/-- The printed body is this program. -/
theorem body_eq (i : grid0.Coords) (arg1 : Memref sig .tc .smem S5 .f32) (harg1 : arg1.IsWhole) (arg2 : Memref sig .tc .vmem S1x40 .i32) (harg2 : arg2.IsWhole)
    (arg3 : Memref sig .tc .vmem S40x8192 .bf16) (harg3 : arg3.IsWhole)
    (arg4 : Memref sig .tc .vmem S4096x256 .i8) (harg4 : arg4.IsWhole) (arg5 : Memref sig .tc .vmem S4096x256 .i8) (harg5 : arg5.IsWhole)
    (arg6 : Memref sig .tc .vmem S64x256 .bf16) (harg6 : arg6.IsWhole) (arg7 : Memref sig .tc .vmem S64x256 .bf16) (harg7 : arg7.IsWhole)
    (arg8 : Memref sig .tc .vmem S160x8192 .bf16) (harg8 : arg8.IsWhole)
    (arg9 : Memref sig .tc .vmem S160x256 .bf16) (harg9 : arg9.IsWhole) (arg10 : Memref sig .tc .vmem S40x256 .bf16) (harg10 : arg10.IsWhole)
    (arg11 : Memref sig .tc .vmem S32x40 .bf16) (harg11 : arg11.IsWhole) (arg12 : Memref sig .tc .vmem S40x8192 .bf16) (harg12 : arg12.IsWhole)
    (arg13 : Memref sig .tc .vmem S40x160 .bf16) (harg13 : arg13.IsWhole) (arg14 : Memref sig .tc .vmem S40x160 .bf16) (harg14 : arg14.IsWhole) :
    cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14
      = body i arg1 arg2 arg3 arg4 arg5 arg6 arg7 arg8 arg9 arg10 harg10 arg11 harg11 arg12 harg12 arg13 harg13 arg14 harg14 := by
  unfold body
  by_cases h : k0_cond1 i = 1#1
  · rw [dif_pos h]
    unfold cc0_gate_up k0_part14
    rw [dif_pos h]
    sl_kernel_rfl
  · rw [dif_neg h]
    unfold cc0_gate_up k0_part14
    rw [dif_neg h]
    sl_kernel_rfl

end Cert.GateUp.Own

end
-- ==== Proof.OwnsRules.lean ====
module

public import Idealize.ShloMosaic.Lib.Pipeline.FrameBody
public import Idealize.ShloMosaic.Lib.Ring
public import Idealize.ShloMosaic.Lib.Tactic

@[expose] public section

noncomputable section

/-!
# Loads and stores through an owned memref

A load through a memref owned at `X` reads `X` at the rectangle's indices; a store of `w` leaves the memref owned at `X`
overlaid by `w`.
-/

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {s : Shape} {e : EltTy} {α : Type}

/-- A load reads the owned contents at the rectangle's indices. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} {Q : α → sProp 𝕄} :
    (owns c m q X : sProp 𝕄) ⊢ iprop((owns c m q X -∗ wp frame (wpE defs 𝒱 c bd) E (k (fun i => X (r.idx i))) Q)
      -∗ wp frame (wpE defs 𝒱 c bd) E (.op (.load m r hl) k) Q) := by
  unfold owns
  iintro ⟨%f, %hf, H⟩ Hk
  iapply (wp_load 𝒱 c bd E (m := m) (r := r) (k := k) (S := m.view.set) (q := q) (f := f) (View.setOn_subset_set _ _)) $$ H
  iintro H
  have e : (m.view.readAt Val r f) = fun i => X (r.idx i) := by
    funext i; rw [View.readAt_apply, hf]
  rw [e]
  iapply Hk
  iexists f
  isplitr; · ipureintro; exact hf
  iexact H

/-- A store through a memref owned whole leaves it owned at the contents overlaid with what was stored. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} {Q : α → sProp 𝕄} :
    (owns c m fullShare X : sProp 𝕄) ⊢ iprop((owns c m fullShare (r.overlay X w) -∗ wp frame (wpE defs 𝒱 c bd) E (k ⟨⟩) Q)
      -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (hx := hx) (hm := hm) (k := k) (S := m.view.set) (f := f)
    (by rw [View.setOn_univ]; exact m.view.set_slice_subset r)) $$ H
  iintro H
  iapply Hk
  iexists ((m.access r).write Val f w Finset.univ)
  isplitr
  · ipureintro
    funext y
    by_cases h : y ∈ r.set
    · rw [← Rect.map_emb_univ] at h
      obtain ⟨x, -, rfl⟩ := Finset.mem_map.mp h
      rw [Rect.overlay_emb]
      exact View.read_slice_write_emb r f w (Finset.mem_univ x)
    · rw [Rect.overlay_of_not_mem r X w h]
      have h' : y ∉ (Finset.univ : Finset r.shape.Idx).map r.emb := by rwa [Rect.map_emb_univ]
      exact (View.read_slice_write_of_not_mem r f w Finset.univ h').trans (congrFun hf y)
  iexact H

/-- A load of all of a memref reads the owned contents. -/
theorem wp_load_all {cs : CoreSpace} {m : Memref sig c.2.kind cs s e} {off : Fin s.rank → ℕ} {hb : ∀ a, off a + s.size a ≤ s.size a}
    {hl : m.view.LoadsAt (Rect.unit off s.size hb).toLoadRect}
    {k : (s.Idx → Val e) → Prog (TpuEff nD τ sig Val Λ c.2) α} {q : PosShare TreeShare} {X : s.Idx → Val e} {Q : α → sProp 𝕄} :
    (owns c m q X : sProp 𝕄) ⊢ iprop((owns c m q X -∗ wp frame (wpE defs 𝒱 c bd) E (k X) Q)
      -∗ wp frame (wpE defs 𝒱 c bd) E (.op (.load m (Rect.unit off s.size hb).toLoadRect hl) k) Q) := by
  have e : (fun i => X ((Rect.unit off s.size hb).toLoadRect.idx i)) = X := by
    funext i; congr 1; funext a; apply Fin.ext
    show off a + 1 * (i a : ℕ) = i a
    have := hb a; omega
  rw [show k X = k (fun i => X ((Rect.unit off s.size hb).toLoadRect.idx i)) from congrArg k e.symm]
  exact wp_load_owns 𝒱 c bd E (m := m) (r := (Rect.unit off s.size hb).toLoadRect)

/-- A store to all of a memref leaves it owned at what was stored. -/
theorem wp_store_all {cs : CoreSpace} {m : Memref sig c.2.kind cs s e} {off : Fin s.rank → ℕ} {hb : ∀ a, off a + s.size a ≤ s.size a}
    {w : s.Idx → Val e} {hx : (m.access (Rect.unit off s.size hb)).Stores Finset.univ}
    {hm : (Finset.univ : Finset (Rect.unit off s.size hb).shape.Idx) = Finset.univ ∨ ∀ a, (Rect.unit off s.size hb).stride a = 1}
    {k : PUnit → Prog (TpuEff nD τ sig Val Λ c.2) α} {X : s.Idx → Val e} {Q : α → sProp 𝕄} :
    (owns c m fullShare X : sProp 𝕄) ⊢ iprop((owns c m fullShare w -∗ wp frame (wpE defs 𝒱 c bd) E (k ⟨⟩) Q)
      -∗ wp frame (wpE defs 𝒱 c bd) E (.op (.store m (Rect.unit off s.size hb) w Finset.univ hx hm) k) Q) := by
  have e : (Rect.unit off s.size hb).overlay X w = w := by
    funext i
    have hi : (Rect.unit off s.size hb).emb i = i := by
      funext a; apply Fin.ext
      show off a + 1 * (i a : ℕ) = i a
      have := hb a; omega
    have h2 : (Rect.unit off s.size hb).overlay X w ((Rect.unit off s.size hb).emb i) = w i :=
      Rect.overlay_emb (α := Val e) (Rect.unit off s.size hb) X w i
    exact (congrArg ((Rect.unit off s.size hb).overlay X w) hi.symm).trans h2
  rw [show (owns c m fullShare w : sProp 𝕄) = owns c m fullShare ((Rect.unit off s.size hb).overlay X w) from congrArg _ e.symm]
  exact wp_store_owns 𝒱 c bd E (m := m) (r := (Rect.unit off s.size hb)) (w := w)

end Cert.Own

end
-- ==== Proof.GateUpTriple.lean ====
module

public import proofs.«01_k».proof.Proof.GateUpBody
public import proofs.«01_k».proof.Proof.OwnsRules

@[expose] public section

set_option maxRecDepth 16384

noncomputable section

/-!
# What the body of the gate/up call leaves, at one grid point

Pure functions of the blocks a grid point reads (`xpAll`, `stAll`, `gateAll`, `upAll`, `hAll`), and the triples saying that the
body leaves them: at the first point (`body_first`) and at a later one (`body_later`).
-/

namespace Cert.GateUp.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GateUp Facts₀ Facts Cert.Own

variable {F : FTy → Type} [FloatOps F]

local notation "𝕄" => MT nD τ sig Unit (Elt F) ℕ (UR sig nD τ) ℕ

/-! ## The pure functions -/

/-- Tile `k` of the interleaved activations, from all of the activations. -/
def xpT (x : Vec F S40x8192 .bf16) (k : ℕ) (h : k < 32) : FVec F S40x256 .bf16 :=
  xpTile (fun i => x ((rLo k h).idx i)) (fun i => x ((rHi k h).idx i))

/-- The interleaved activations. -/
def xpAll (x : Vec F S40x8192 .bf16) : Vec F S40x8192 .bf16 := fun i =>
  xpT x ((i 1).val / 256) (by have := (i 1).isLt; have : (i 1).val < 8192 := this; omega)
    (fun a => match a with | 0 => ⟨(i 0).val, (i 0).isLt⟩ | 1 => ⟨(i 1).val % 256, Nat.mod_lt _ (by decide)⟩)

/-- The first `k` tiles interleaved, the rest as they were. -/
def xpUpto (x X : Vec F S40x8192 .bf16) (k : ℕ) : Vec F S40x8192 .bf16 := fun i => if (i 1).val < 256 * k then xpAll x i else X i

/-- One more tile interleaved. -/
theorem xpUpto_succ (x X : Vec F S40x8192 .bf16) (k : ℕ) (h : k < 32) :
    (rXp k h).overlay (xpUpto x X k) (xpT x k h) = xpUpto x X (k + 1) := by
  funext i
  by_cases hi : i ∈ (rXp k h).set
  · have hi' := hi
    rw [← Rect.map_emb_univ] at hi
    obtain ⟨j, -, rfl⟩ := Finset.mem_map.mp hi
    have h2 : (rXp k h).overlay (xpUpto x X k) (xpT x k h) ((rXp k h).emb j) = xpT x k h j :=
      Rect.overlay_emb (α := Elt F .bf16) (rXp k h) (xpUpto x X k) (xpT x k h) j
    rw [h2]
    have e1 : (((rXp k h).emb j) 1).val = 256 * k + (j 1).val := by
      show 256 * k + 1 * (j 1).val = _; omega
    have hj : (j 1).val < 256 := (j 1).isLt
    unfold xpUpto
    rw [if_pos (by rw [e1]; omega)]
    unfold xpAll
    have ek : (((rXp k h).emb j) 1).val / 256 = k := by rw [e1]; omega
    have key : ∀ k' (h' : k' < 32) (j' : S40x256.Idx), k' = k → j' = j → xpT x k h j = xpT x k' h' j' := by
      intro k' h' j' e e'; subst e; subst e'; rfl
    refine key _ _ _ ek ?_
    funext a
    apply Fin.ext
    match a with
    | 0 => show 0 + 1 * (j 0).val = (j 0).val; omega
    | 1 => show (((rXp k h).emb j) 1).val % 256 = (j 1).val; rw [e1]; omega
  · have h2 : (rXp k h).overlay (xpUpto x X k) (xpT x k h) i = xpUpto x X k i :=
      Rect.overlay_of_not_mem (α := Elt F .bf16) (rXp k h) (xpUpto x X k) (xpT x k h) hi
    rw [h2]
    have hn : ¬ (256 * k ≤ (i 1).val ∧ (i 1).val < 256 * k + 256) := by
      intro hh
      apply hi
      rw [← Rect.map_emb_univ]
      refine Finset.mem_map.mpr ⟨fun a => match a with | 0 => ⟨(i 0).val, (i 0).isLt⟩ | 1 => ⟨(i 1).val - 256 * k, by show _ < 256; omega⟩, Finset.mem_univ _, ?_⟩
      funext a; apply Fin.ext
      match a with
      | 0 => show 0 + 1 * (i 0).val = (i 0).val; omega
      | 1 => show 256 * k + 1 * ((i 1).val - 256 * k) = (i 1).val; omega
    unfold xpUpto
    by_cases h3 : (i 1).val < 256 * k
    · rw [if_pos h3, if_pos (by omega)]
    · rw [if_neg h3, if_neg (by omega)]

theorem xpUpto_zero (x X : Vec F S40x8192 .bf16) : xpUpto x X 0 = X := by
  funext i; unfold xpUpto; rw [if_neg (by omega)]

theorem xpUpto_all (x X : Vec F S40x8192 .bf16) : xpUpto x X 32 = xpAll x := by
  funext i; unfold xpUpto; rw [if_pos (by have : (i 1).val < 8192 := (i 1).isLt; omega)]

/-- The scaled first LoRA product, from the arrays as the call is given them. -/
def stAll (a1 : Vec F S5 .f32) (ix : Vec F S1x40 .i32) (x : Vec F S40x8192 .bf16) (a : Vec F S160x8192 .bf16) : FVec F S32x40 .bf16 :=
  stOf ix (a1 ((rScale 0 (by omega)).idx one)) (a1 ((rScale 1 (by omega)).idx one)) (a1 ((rScale 2 (by omega)).idx one))
    (a1 ((rScale 3 (by omega)).idx one)) (a1 ((rScale 4 (by omega)).idx one)) a x

/-- The gate's routed LoRA rows. -/
def gateAll (a1 : Vec F S5 .f32) (ix : Vec F S1x40 .i32) (x : Vec F S40x8192 .bf16) (a : Vec F S160x8192 .bf16) : FVec F S40x160 .bf16 :=
  shapeCast S40x160 (gateRows (route (shapeCast S1x40 ix shapeCasts_S1x40_S1x40) (stAll a1 ix x a))) shapeCasts_S40x160_S40x160
/-- The up projection's routed LoRA rows. -/
def upAll (a1 : Vec F S5 .f32) (ix : Vec F S1x40 .i32) (x : Vec F S40x8192 .bf16) (a : Vec F S160x8192 .bf16) : FVec F S40x160 .bf16 :=
  shapeCast S40x160 (upRows (route (shapeCast S1x40 ix shapeCasts_S1x40_S1x40) (stAll a1 ix x a))) shapeCasts_S40x160_S40x160

/-- The running sum after `k` tiles. -/
def accAll (X : Vec F S40x8192 .bf16) (p : FVec F S32x2x256 .bf16) (B : Vec F S4096x256 .i8) (g0 : FVec F S40x256 .f32) : ℕ → FVec F S40x256 .f32
  | 0 => g0
  | k + 1 => if h : k < 32 then addTile (accAll X p B g0 k) (fun i => X ((rXp k h).idx i)) (wTile p k h (fun i => B ((rCode k h).idx i)))
    else accAll X p B g0 k

/-- One block of columns of the gated product. -/
def hAll (X : Vec F S40x8192 .bf16) (mg mu : Vec F S40x160 .bf16) (cg cu : Vec F S4096x256 .i8) (sg su : Vec F S64x256 .bf16) (b : Vec F S160x256 .bf16) :
    FVec F S40x256 .bf16 :=
  hAct (accAll X (pairs sg) cg (loraB mg b) 32) (accAll X (pairs su) cu (loraB mu b) 32)

/-! ## The triples -/

/-- The interleaving loop. -/
theorem xpLoop_wp (c : Dev nD) (Q : PUnit → sProp 𝕄) (arg3 : Memref sig .tc .vmem S40x8192 .bf16) (arg12 : Memref sig .tc .vmem S40x8192 .bf16) (harg12 : arg12.IsWhole)
    (fin : P F PUnit) (x X : Vec F S40x8192 .bf16) (n : ℕ) : ∀ (k : ℕ) (h : k + n ≤ 32),
    iprop(owns (c : Thread nD τ) arg3 fullShare x ∗ owns (c : Thread nD τ) arg12 fullShare (xpUpto x X k)
      ∗ (owns (c : Thread nD τ) arg3 fullShare x -∗ owns (c : Thread nD τ) arg12 fullShare (xpUpto x X (k + n))
          -∗ wp frame (wpE (defs₀ (F := F)) Variants.none (c : Thread nD τ) none) Set.univ fin Q))
      ⊢ wp frame (wpE (defs₀ (F := F)) Variants.none (c : Thread nD τ) none) Set.univ (xpLoop arg3 arg12 harg12 fin n k h) Q := by
  induction n with
  | zero =>
    intro k h
    iintro ⟨H3, H12, Hk⟩
    iapply Hk $$ H3
    iexact H12
  | succ n ih =>
    intro k h
    unfold xpLoop xpStep
    iintro ⟨H3, H12, Hk⟩
    iapply (wp_load_owns Variants.none (c : Thread nD τ) none Set.univ) $$ H3
    iintro H3
    iapply (wp_load_owns Variants.none (c : Thread nD τ) none Set.univ) $$ H3
    iintro H3
    iapply (wp_load_owns Variants.none (c : Thread nD τ) none Set.univ) $$ H12
    iintro H12
    iapply (wp_store_owns Variants.none (c : Thread nD τ) none Set.univ) $$ H12
    iintro H12
    have ih' := ih (k + 1) (by omega)
    iapply ih'
    isplitl [H3]; · iexact H3
    isplitl [H12]
    · rw [← xpUpto_succ x X k (by omega)]
      iexact H12
    · rw [show k + 1 + n = k + (n + 1) from by omega]
      iexact Hk

/-- The LoRA part. -/
theorem loraPart_wp (c : Dev nD) (Q : PUnit → sProp 𝕄) (arg1 : Memref sig .tc .smem S5 .f32) (arg2 : Memref sig .tc .vmem S1x40 .i32) (arg3 : Memref sig .tc .vmem S40x8192 .bf16) (arg8 : Memref sig .tc .vmem S160x8192 .bf16) (arg11 : Memref sig .tc .vmem S32x40 .bf16) (harg11 : arg11.IsWhole) (arg13 : Memref sig .tc .vmem S40x160 .bf16) (harg13 : arg13.IsWhole) (arg14 : Memref sig .tc .vmem S40x160 .bf16) (harg14 : arg14.IsWhole)
    (fin : P F PUnit) (a1 : Vec F S5 .f32) (ix : Vec F S1x40 .i32) (x : Vec F S40x8192 .bf16) (a : Vec F S160x8192 .bf16)
    (d11 : Vec F S32x40 .bf16) (d13 d14 : Vec F S40x160 .bf16) :
    iprop(owns (c : Thread nD τ) arg1 fullShare a1 ∗ owns (c : Thread nD τ) arg2 fullShare ix ∗ owns (c : Thread nD τ) arg3 fullShare x ∗ owns (c : Thread nD τ) arg8 fullShare a
      ∗ owns (c : Thread nD τ) arg11 fullShare d11 ∗ owns (c : Thread nD τ) arg13 fullShare d13 ∗ owns (c : Thread nD τ) arg14 fullShare d14
      ∗ (owns (c : Thread nD τ) arg1 fullShare a1 -∗ owns (c : Thread nD τ) arg2 fullShare ix -∗ owns (c : Thread nD τ) arg3 fullShare x -∗ owns (c : Thread nD τ) arg8 fullShare a
        -∗ owns (c : Thread nD τ) arg11 fullShare (stAll a1 ix x a) -∗ owns (c : Thread nD τ) arg13 fullShare (gateAll a1 ix x a) -∗ owns (c : Thread nD τ) arg14 fullShare (upAll a1 ix x a)
          -∗ wp frame (wpE (defs₀ (F := F)) Variants.none (c : Thread nD τ) none) Set.univ fin Q))
      ⊢ wp frame (wpE (defs₀ (F := F)) Variants.none (c : Thread nD τ) none) Set.univ (loraPart arg1 arg2 arg3 arg8 arg11 harg11 arg13 harg13 arg14 harg14 fin) Q := by
  unfold loraPart
  iintro ⟨H1, H2, H3, H8, H11, H13, H14, Hk⟩
  iapply (wp_load_all Variants.none (c : Thread nD τ) none Set.univ) $$ H2
  iintro H2
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_all Variants.none (c : Thread nD τ) none Set.univ) $$ H8
  iintro H8
  iapply (wp_load_all Variants.none (c : Thread nD τ) none Set.univ) $$ H3
  iintro H3
  iapply (wp_load_all Variants.none (c : Thread nD τ) none Set.univ) $$ H11
  iintro H11
  iapply (wp_store_all Variants.none (c : Thread nD τ) none Set.univ) $$ H11
  iintro H11
  iapply (wp_load_all Variants.none (c : Thread nD τ) none Set.univ) $$ H13
  iintro H13
  iapply (wp_store_all Variants.none (c : Thread nD τ) none Set.univ) $$ H13
  iintro H13
  iapply (wp_load_all Variants.none (c : Thread nD τ) none Set.univ) $$ H14
  iintro H14
  iapply (wp_store_all Variants.none (c : Thread nD τ) none Set.univ) $$ H14
  iintro H14
  iapply Hk $$ H1 H2 H3 H8 [H11] [H13]
  · iexact H11
  · iexact H13
  iexact H14

/-- The main loop. -/
theorem mainLoop_wp (c : Dev nD) (Q : PUnit → sProp 𝕄) (arg4 : Memref sig .tc .vmem S4096x256 .i8) (arg5 : Memref sig .tc .vmem S4096x256 .i8) (arg12 : Memref sig .tc .vmem S40x8192 .bf16) (pg pu : FVec F S32x2x256 .bf16)
    (fin : FVec F S40x256 .f32 → FVec F S40x256 .f32 → P F PUnit) (cg cu : Vec F S4096x256 .i8) (X : Vec F S40x8192 .bf16) (g0 u0 : FVec F S40x256 .f32)
    (n : ℕ) : ∀ (k : ℕ) (h : k + n ≤ 32),
    iprop(owns (c : Thread nD τ) arg4 fullShare cg ∗ owns (c : Thread nD τ) arg5 fullShare cu ∗ owns (c : Thread nD τ) arg12 fullShare X
      ∗ (owns (c : Thread nD τ) arg4 fullShare cg -∗ owns (c : Thread nD τ) arg5 fullShare cu -∗ owns (c : Thread nD τ) arg12 fullShare X
          -∗ wp frame (wpE (defs₀ (F := F)) Variants.none (c : Thread nD τ) none) Set.univ (fin (accAll X pg cg g0 (k + n)) (accAll X pu cu u0 (k + n))) Q))
      ⊢ wp frame (wpE (defs₀ (F := F)) Variants.none (c : Thread nD τ) none) Set.univ (mainLoop arg4 arg5 arg12 pg pu fin n k h (accAll X pg cg g0 k) (accAll X pu cu u0 k)) Q := by
  induction n with
  | zero =>
    intro k h
    iintro ⟨H4, H5, H12, Hk⟩
    iapply Hk $$ H4 H5
    iexact H12
  | succ n ih =>
    intro k h
    unfold mainLoop
    iintro ⟨H4, H5, H12, Hk⟩
    iapply (wp_load_owns Variants.none (c : Thread nD τ) none Set.univ) $$ H12
    iintro H12
    iapply (wp_load_owns Variants.none (c : Thread nD τ) none Set.univ) $$ H4
    iintro H4
    iapply (wp_load_owns Variants.none (c : Thread nD τ) none Set.univ) $$ H5
    iintro H5
    have eg := accAll.eq_2 X pg cg g0 k
    have eu := accAll.eq_2 X pu cu u0 k
    rw [dif_pos (show k < 32 by omega)] at eg eu
    have ih' := ih (k + 1) (by omega)
    rw [show accAll X pg cg g0 (k + 1) = _ from eg, show accAll X pu cu u0 (k + 1) = _ from eu] at ih'
    iapply ih'
    isplitl [H4]; · iexact H4
    isplitl [H5]; · iexact H5
    isplitl [H12]; · iexact H12
    rw [show k + 1 + n = k + (n + 1) from by omega]
    iexact Hk

/-- The main part. -/
theorem mainPart_wp (c : Dev nD) (Q : PUnit → sProp 𝕄) (arg4 : Memref sig .tc .vmem S4096x256 .i8) (arg5 : Memref sig .tc .vmem S4096x256 .i8) (arg6 : Memref sig .tc .vmem S64x256 .bf16) (arg7 : Memref sig .tc .vmem S64x256 .bf16) (arg9 : Memref sig .tc .vmem S160x256 .bf16) (arg10 : Memref sig .tc .vmem S40x256 .bf16) (harg10 : arg10.IsWhole) (arg12 : Memref sig .tc .vmem S40x8192 .bf16) (arg13 : Memref sig .tc .vmem S40x160 .bf16) (arg14 : Memref sig .tc .vmem S40x160 .bf16)
    (cg cu : Vec F S4096x256 .i8) (sg su : Vec F S64x256 .bf16) (b : Vec F S160x256 .bf16) (d10 : Vec F S40x256 .bf16)
    (X : Vec F S40x8192 .bf16) (mg mu : Vec F S40x160 .bf16) :
    iprop(owns (c : Thread nD τ) arg4 fullShare cg ∗ owns (c : Thread nD τ) arg5 fullShare cu ∗ owns (c : Thread nD τ) arg6 fullShare sg ∗ owns (c : Thread nD τ) arg7 fullShare su ∗ owns (c : Thread nD τ) arg9 fullShare b ∗ owns (c : Thread nD τ) arg10 fullShare d10
      ∗ owns (c : Thread nD τ) arg12 fullShare X ∗ owns (c : Thread nD τ) arg13 fullShare mg ∗ owns (c : Thread nD τ) arg14 fullShare mu
      ∗ (owns (c : Thread nD τ) arg4 fullShare cg -∗ owns (c : Thread nD τ) arg5 fullShare cu -∗ owns (c : Thread nD τ) arg6 fullShare sg -∗ owns (c : Thread nD τ) arg7 fullShare su -∗ owns (c : Thread nD τ) arg9 fullShare b
        -∗ owns (c : Thread nD τ) arg10 fullShare (hAll X mg mu cg cu sg su b) -∗ owns (c : Thread nD τ) arg12 fullShare X -∗ owns (c : Thread nD τ) arg13 fullShare mg -∗ owns (c : Thread nD τ) arg14 fullShare mu -∗ Q ⟨⟩))
      ⊢ wp frame (wpE (defs₀ (F := F)) Variants.none (c : Thread nD τ) none) Set.univ (mainPart arg4 arg5 arg6 arg7 arg9 arg10 harg10 arg12 arg13 arg14) Q := by
  unfold mainPart
  iintro ⟨H4, H5, H6, H7, H9, H10, H12, H13, H14, Hk⟩
  iapply (wp_load_all Variants.none (c : Thread nD τ) none Set.univ) $$ H6
  iintro H6
  iapply (wp_load_all Variants.none (c : Thread nD τ) none Set.univ) $$ H7
  iintro H7
  iapply (wp_load_all Variants.none (c : Thread nD τ) none Set.univ) $$ H13
  iintro H13
  iapply (wp_load_all Variants.none (c : Thread nD τ) none Set.univ) $$ H9
  iintro H9
  iapply (wp_load_all Variants.none (c : Thread nD τ) none Set.univ) $$ H14
  iintro H14
  iapply (wp_load_all Variants.none (c : Thread nD τ) none Set.univ) $$ H9
  iintro H9
  iapply (mainLoop_wp c Q arg4 arg5 arg12 (pairs sg) (pairs su) _ cg cu X (loraB mg b) (loraB mu b) 32 0 (by omega))
  isplitl [H4]; · iexact H4
  isplitl [H5]; · iexact H5
  isplitl [H12]; · iexact H12
  iintro H4 H5 H12
  iapply (wp_load_all Variants.none (c : Thread nD τ) none Set.univ) $$ H10
  iintro H10
  iapply (wp_store_all Variants.none (c : Thread nD τ) none Set.univ) $$ H10
  iintro H10
  iapply le_wp_ret
  iapply Hk $$ H4 H5 H6 H7 H9 [H10] H12 H13
  · iexact H10
  iexact H14

end Cert.GateUp.Own

end
-- ==== Proof.GateUpRun.lean ====
module

public import proofs.«01_k».proof.Proof.GateUpTriple
public import proofs.«01_k».proof.Proof.Gen.GateUp.Frame
public import Idealize.ShloMosaic.Lib.Pipeline.TableIdle
public import Idealize.ShloMosaic.Lib.Pipeline.FrameBody
public import Idealize.ShloMosaic.Lib.WordCmp
public import Idealize.ShloMosaic.Lib.Claim

@[expose] public section

set_option maxRecDepth 16384

noncomputable section

/-!
# The gate/up call: the run

What the pipeline's buffers hold at every grid point (`dats`), that the body keeps it so (`sound_body`), and the run of the whole
call (`run_main_quiescent`) with the frame (`frame`).
-/

namespace Cert.GateUp.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 86 = 0 :=
  (fun t => by
    have ht : t.val < 86 := Nat.lt_of_lt_of_eq t.isLt N_0
    have e0 : (grid0.coords t 0).val = t.val / 1 % 86 := Pipeline.Grid.coords_val t 0 (by decide) rfl
    simp only [cond0_0, k0_cond1, e0]
    word_cmp
   : ∀ t : Fin grid0.N, cond0_0 (grid0.coords t) ↔ t.val % 86 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S160x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S160x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S40x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x40 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S40x8192 .bf16 := Memref.whole cc0_scratch0
abbrev scM0_1 : Memref sig .tc .vmem S40x160 .bf16 := Memref.whole cc0_scratch1
abbrev scM0_2 : Memref sig .tc .vmem S40x160 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Window 9 is never idle. -/
theorem liveAt0_9 : ∀ t : Fin cfg0.N, cfg0.idle 9 (grid0.coords t) = false := fun _ => rfl
/-- Window 10 is idle at every point but the first. -/
theorem idle0_10 (t : Fin cfg0.N) : cfg0.idle 10 (grid0.coords t) = true ↔ ¬ t.val % 86 = 0 := by
  rw [← not_congr (hcond0_0 t)]
  show (!decide (k0_cond1 (grid0.coords t) = 1#1)) = true ↔ _
  simp

/-! ## The proof data -/

/-- The first grid point. -/
def t0 : Fin cfg0.N := ⟨0, by have : cfg0.N = 86 := N_0; omega⟩

/-- What the scratch holds after the first point: the interleaved activations, -/
def X0 (c : Dev nD) : Vec F S40x8192 .bf16 := xpAll (iblk m c 2 t0)
/-- the gate's routed rows, -/
def G0 (c : Dev nD) : Vec F S40x160 .bf16 := gateAll (iblk m c 0 t0) (iblk m c 1 t0) (iblk m c 2 t0) (iblk m c 7 t0)
/-- the up projection's routed rows; -/
def U0 (c : Dev nD) : Vec F S40x160 .bf16 := upAll (iblk m c 0 t0) (iblk m c 1 t0) (iblk m c 2 t0) (iblk m c 7 t0)
/-- and what the first point leaves of the scaled first product. -/
def st0 (c : Dev nD) : Vec F S32x40 .bf16 := stAll (iblk m c 0 t0) (iblk m c 1 t0) (iblk m c 2 t0) (iblk m c 7 t0)

/-- What point `t` leaves of the gated product. -/
def h0 (c : Dev nD) (t : Fin cfg0.N) : Vec F S40x256 .bf16 :=
  hAll (X0 m c) (G0 m c) (U0 m c) (iblk m c 3 t) (iblk m c 4 t) (iblk m c 5 t) (iblk m c 6 t) (iblk m c 8 t)

/-- The scratch as every point but the first finds it. -/
def PhiC (c : Dev nD) : sProp 𝕄 :=
  iprop(iprop(owns (c : Thread nD τ) scM0_0 fullShare (X0 m c) ∗ owns (c : Thread nD τ) scM0_1 fullShare (G0 m c) ∗ owns (c : Thread nD τ) scM0_2 fullShare (U0 m c)) ∗ (∃ r, prngReg c r))

/-- The region invariant: any scratch before the first point, afterwards what the first point left. -/
def PhiS (c : Dev nD) : ℕ → sProp 𝕄
  | 0 => Pipeline.ΦA spec0 c
  | _ + 1 => PhiC m c

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => h0 m c t
    | ⟨10, _⟩ => st0 m c
  Φ t := PhiS m c t.val
  q w := Pipeline.shareOf spec0 w
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = h0 m c t := by dsimp only [dats]
theorem after0_10 (c : Dev nD) (t : Fin cfg0.N) : (dats m 0 c).after 10 t = st0 m c := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Window 10's buffer is not fresh after the first point. -/
theorem fresh0_10 : ∀ n : ℕ, n ≠ 0 → n < cfg0.N → cfg0.fresh 10 n = false
  | 0, h, _ => absurd rfl h
  | n + 1, _, hn => by
    have hN : cfg0.N = 86 := N_0
    have hn' : n < cfg0.N := Nat.lt_of_succ_lt hn
    rw [Cfg.fresh_succ cfg0 10 n hn']
    have hf : (cfg0.win 10).flush ⟨n, hn'⟩ = false := by
      rw [Bool.eq_false_iff]; intro h; have h2 := (flush0_10 _).mp h; have h3 : n % 86 = 85 := h2; omega
    rw [hf, Bool.false_or]
    by_cases h0 : n = 0
    · subst h0
      have : cfg0.idle 10 (cfg0.grid.coords ⟨0, hn'⟩) = false := by
        rw [Bool.eq_false_iff]; intro h; exact (idle0_10 _).mp h (Nat.zero_mod _)
      rw [this, Bool.false_and]
    · rw [fresh0_10 n h0 hn', Bool.and_false]

/-- Every point but the first finds in window 10's buffer what the first left. -/
theorem before0_10 (c : Dev nD) (t : Fin cfg0.N) (ht : t.val ≠ 0) (d) : (dats m 0 c).before 10 t d = st0 m c := by
  rw [(dats m 0 c).before_out_traj 10 rfl (fun _ _ => rfl) (fun t _ _ _ => by rw [after0_10, after0_10]) t.val t rfl d,
    if_neg (by rw [fresh0_10 t.val ht t.isLt]; exact Bool.false_ne_true), after0_10]

/-- What the body leaves in window 10 is what the first point left. -/
theorem leaves0_10 (c : Dev nD) (t : Fin cfg0.N) :
    owns (c : Thread nD τ) (ms0_10 t) fullShare (st0 m c) ⊢ ((dats m 0 c).leavesExact 10 t : sProp 𝕄) := by
  by_cases hz : t.val % 86 = 0
  · have hi : cfg0.idle 10 (grid0.coords t) = false := by
      rw [Bool.eq_false_iff]; intro h; exact (idle0_10 _).mp h hz
    rw [show (dats m 0 c).leavesExact 10 t = owns (c : Thread nD τ) (ms0_10 t) fullShare ((dats m 0 c).after 10 t) from by
      unfold Dat.leavesExact; rw [hi], after0_10]
  · have hi : cfg0.idle 10 (grid0.coords t) = true := (idle0_10 t).mpr hz
    cases hf : (cfg0.win 10).flush t
    · rw [(dats m 0 c).leavesExact_idle 10 t hi hf]
      iintro H
      iexists (st0 m c)
      rw [before0_10 m c t (by intro h; rw [h] at hz; exact hz (Nat.zero_mod _))]
      iexact H
    · rw [show (dats m 0 c).leavesExact 10 t = owns (c : Thread nD τ) (ms0_10 t) fullShare ((dats m 0 c).after 10 t) from by
        unfold Dat.leavesExact; rw [hi, hf], after0_10]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0_0 (c : Dev nD) (t : Fin cfg0.N) : ((dats m 0 c).leavesExact 0 t : sProp 𝕄) = owns (c : Thread nD τ) (ms0_0 t) fullShare (iblk m c 0 t) := by
  rw [show (dats m 0 c).leavesExact 0 t = owns (c : Thread nD τ) (ms0_0 t) fullShare ((dats m 0 c).after 0 t) from by
      unfold Dat.leavesExact; rw [liveAt0_0 t], after0_0]
theorem leaves0_1 (c : Dev nD) (t : Fin cfg0.N) : ((dats m 0 c).leavesExact 1 t : sProp 𝕄) = owns (c : Thread nD τ) (ms0_1 t) fullShare (iblk m c 1 t) := by
  rw [show (dats m 0 c).leavesExact 1 t = owns (c : Thread nD τ) (ms0_1 t) fullShare ((dats m 0 c).after 1 t) from by
      unfold Dat.leavesExact; rw [liveAt0_1 t], after0_1]
theorem leaves0_2 (c : Dev nD) (t : Fin cfg0.N) : ((dats m 0 c).leavesExact 2 t : sProp 𝕄) = owns (c : Thread nD τ) (ms0_2 t) fullShare (iblk m c 2 t) := by
  rw [show (dats m 0 c).leavesExact 2 t = owns (c : Thread nD τ) (ms0_2 t) fullShare ((dats m 0 c).after 2 t) from by
      unfold Dat.leavesExact; rw [liveAt0_2 t], after0_2]
theorem leaves0_3 (c : Dev nD) (t : Fin cfg0.N) : ((dats m 0 c).leavesExact 3 t : sProp 𝕄) = owns (c : Thread nD τ) (ms0_3 t) fullShare (iblk m c 3 t) := by
  rw [show (dats m 0 c).leavesExact 3 t = owns (c : Thread nD τ) (ms0_3 t) fullShare ((dats m 0 c).after 3 t) from by
      unfold Dat.leavesExact; rw [liveAt0_3 t], after0_3]
theorem leaves0_4 (c : Dev nD) (t : Fin cfg0.N) : ((dats m 0 c).leavesExact 4 t : sProp 𝕄) = owns (c : Thread nD τ) (ms0_4 t) fullShare (iblk m c 4 t) := by
  rw [show (dats m 0 c).leavesExact 4 t = owns (c : Thread nD τ) (ms0_4 t) fullShare ((dats m 0 c).after 4 t) from by
      unfold Dat.leavesExact; rw [liveAt0_4 t], after0_4]
theorem leaves0_5 (c : Dev nD) (t : Fin cfg0.N) : ((dats m 0 c).leavesExact 5 t : sProp 𝕄) = owns (c : Thread nD τ) (ms0_5 t) fullShare (iblk m c 5 t) := by
  rw [show (dats m 0 c).leavesExact 5 t = owns (c : Thread nD τ) (ms0_5 t) fullShare ((dats m 0 c).after 5 t) from by
      unfold Dat.leavesExact; rw [liveAt0_5 t], after0_5]
theorem leaves0_6 (c : Dev nD) (t : Fin cfg0.N) : ((dats m 0 c).leavesExact 6 t : sProp 𝕄) = owns (c : Thread nD τ) (ms0_6 t) fullShare (iblk m c 6 t) := by
  rw [show (dats m 0 c).leavesExact 6 t = owns (c : Thread nD τ) (ms0_6 t) fullShare ((dats m 0 c).after 6 t) from by
      unfold Dat.leavesExact; rw [liveAt0_6 t], after0_6]
theorem leaves0_7 (c : Dev nD) (t : Fin cfg0.N) : ((dats m 0 c).leavesExact 7 t : sProp 𝕄) = owns (c : Thread nD τ) (ms0_7 t) fullShare (iblk m c 7 t) := by
  rw [show (dats m 0 c).leavesExact 7 t = owns (c : Thread nD τ) (ms0_7 t) fullShare ((dats m 0 c).after 7 t) from by
      unfold Dat.leavesExact; rw [liveAt0_7 t], after0_7]
theorem leaves0_8 (c : Dev nD) (t : Fin cfg0.N) : ((dats m 0 c).leavesExact 8 t : sProp 𝕄) = owns (c : Thread nD τ) (ms0_8 t) fullShare (iblk m c 8 t) := by
  rw [show (dats m 0 c).leavesExact 8 t = owns (c : Thread nD τ) (ms0_8 t) fullShare ((dats m 0 c).after 8 t) from by
      unfold Dat.leavesExact; rw [liveAt0_8 t], after0_8]
theorem leaves0_9 (c : Dev nD) (t : Fin cfg0.N) : ((dats m 0 c).leavesExact 9 t : sProp 𝕄) = owns (c : Thread nD τ) (ms0_9 t) fullShare (h0 m c t) := by
  rw [show (dats m 0 c).leavesExact 9 t = owns (c : Thread nD τ) (ms0_9 t) fullShare ((dats m 0 c).after 9 t) from by
      unfold Dat.leavesExact; rw [liveAt0_9 t], after0_9]

set_option maxHeartbeats 2400000 in
/-- The body at the first point: it fills the scratch and stores the scaled first product. -/
theorem sound_first (c : Dev nD) (t : Fin cfg0.N) (hz : t.val % 86 = 0) :
    bodyPre m c t ⊢ wp frame (wpE (defs₀ (F := F)) Variants.none c none) Set.univ (bodyAt0 t) (fun _ => bodyPost m c t) := by
  have hN : t.val < 86 := lt_of_lt_of_eq t.isLt (show cfg0.N = 86 from N_0)
  have ht : t = t0 := Fin.ext (by show t.val = 0; omega)
  unfold bodyPre bodyPost bodyAt0
  rw [body_eq]
  unfold body
  rw [dif_pos ((hcond0_0 t).mpr hz)]
  simp only [before0_0, before0_1, before0_2, before0_3, before0_4, before0_5, before0_6, before0_7, before0_8]
  simp only [leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.castSucc = Pipeline.ΦA spec0 c from by subst ht; rfl, PhiA0_eq]
  · iintro ⟨⟨⟨⟨%x0, HS0⟩, ⟨%x1, HS1⟩, ⟨%x2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (xpLoop_wp c _ _ _ _ _ (iblk m c 2 t) x0 32 0 _)
    isplitl [H2]; · iexact H2
    isplitl [HS0]
    · rw [xpUpto_zero]; iexact HS0
    rw [show 0 + 32 = 32 from rfl, xpUpto_all]
    iintro H2 HS0
    iapply (loraPart_wp c _ _ _ _ _ _ _ _ _ _ _ _ (iblk m c 0 t) (iblk m c 1 t) (iblk m c 2 t) (iblk m c 7 t) _ x1 x2)
    isplitl [H0]; · iexact H0
    isplitl [H1]; · iexact H1
    isplitl [H2]; · iexact H2
    isplitl [H7]; · iexact H7
    isplitl [H10]; · iexact H10
    isplitl [HS1]; · iexact HS1
    isplitl [HS2]; · iexact HS2
    iintro H0 H1 H2 H7 H10 HS1 HS2
    rw [show xpAll (iblk m c 2 t) = X0 m c from by subst ht; rfl,
      show stAll (iblk m c 0 t) (iblk m c 1 t) (iblk m c 2 t) (iblk m c 7 t) = st0 m c from by subst ht; rfl,
      show gateAll (iblk m c 0 t) (iblk m c 1 t) (iblk m c 2 t) (iblk m c 7 t) = G0 m c from by subst ht; rfl,
      show upAll (iblk m c 0 t) (iblk m c 1 t) (iblk m c 2 t) (iblk m c 7 t) = U0 m c from by subst ht; rfl]
    iapply (mainPart_wp c _ _ _ _ _ _ _ _ _ _ _ (iblk m c 3 t) (iblk m c 4 t) (iblk m c 5 t) (iblk m c 6 t) (iblk m c 8 t) _ (X0 m c) (G0 m c) (U0 m c))
    isplitl [H3]; · iexact H3
    isplitl [H4]; · iexact H4
    isplitl [H5]; · iexact H5
    isplitl [H6]; · iexact H6
    isplitl [H8]; · iexact H8
    isplitl [H9]; · iexact H9
    isplitl [HS0]; · iexact HS0
    isplitl [HS1]; · iexact HS1
    isplitl [HS2]; · iexact HS2
    iintro H3 H4 H5 H6 H8 H9 HS0 HS1 HS2
    isplitl [HS0 HS1 HS2 Hg]
    · rw [show (dats m 0 c).Φ t.succ = PhiC m c from rfl]
      unfold PhiC
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves0_10 m c t) $$ H10

set_option maxHeartbeats 2400000 in
/-- The body at a later point: the scratch is as the first point left it. -/
theorem sound_later (c : Dev nD) (t : Fin cfg0.N) (hz : ¬ t.val % 86 = 0) :
    bodyPre m c t ⊢ wp frame (wpE (defs₀ (F := F)) Variants.none c none) Set.univ (bodyAt0 t) (fun _ => bodyPost m c t) := by
  have ht : t.val ≠ 0 := by intro h; rw [h] at hz; exact hz (Nat.zero_mod _)
  unfold bodyPre bodyPost bodyAt0
  rw [body_eq]
  unfold body
  rw [dif_neg (fun h => hz ((hcond0_0 t).mp h))]
  simp only [before0_0, before0_1, before0_2, before0_3, before0_4, before0_5, before0_6, before0_7, before0_8, before0_10 m c t ht]
  simp only [leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.castSucc = PhiC m c from by
    obtain ⟨n, hn⟩ := t
    cases n with
    | zero => exact absurd rfl ht
    | succ n => rfl]
  rw [show (PhiC m c : sProp 𝕄) = iprop(iprop(owns (c : Thread nD τ) scM0_0 fullShare (X0 m c) ∗ owns (c : Thread nD τ) scM0_1 fullShare (G0 m c) ∗ owns (c : Thread nD τ) scM0_2 fullShare (U0 m c)) ∗ (∃ r, prngReg c r)) from rfl]
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (mainPart_wp c _ _ _ _ _ _ _ _ _ _ _ (iblk m c 3 t) (iblk m c 4 t) (iblk m c 5 t) (iblk m c 6 t) (iblk m c 8 t) _ (X0 m c) (G0 m c) (U0 m c))
    isplitl [H3]; · iexact H3
    isplitl [H4]; · iexact H4
    isplitl [H5]; · iexact H5
    isplitl [H6]; · iexact H6
    isplitl [H8]; · iexact H8
    isplitl [H9]; · iexact H9
    isplitl [HS0]; · iexact HS0
    isplitl [HS1]; · iexact HS1
    isplitl [HS2]; · iexact HS2
    iintro H3 H4 H5 H6 H8 H9 HS0 HS1 HS2
    isplitl [HS0 HS1 HS2 Hg]
    · rw [show (dats m 0 c).Φ t.succ = PhiC m c from rfl]
      unfold PhiC
      isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves0_10 m c t) $$ H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val % 86 = 0
  · exact sound_first m c t hz
  · exact sound_later m c t hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ ((dats m 0 c).Φ 0 : sProp 𝕄) := Idealize.SL.BI.Entails.refl _

/-- After the last point the invariant gives the scratch back. -/
theorem hout (c : Dev nD) : (dats m 0 c).Φ (Fin.last cfg0.N) ⊢ (Pipeline.ΦA spec0 c : sProp 𝕄) := by
  rw [show (dats m 0 c).Φ (Fin.last cfg0.N) = PhiC m c from by
    show PhiS m c (Fin.last cfg0.N).val = _
    rw [Fin.val_last, show cfg0.N = 86 from N_0]; rfl, PhiA0_eq]
  unfold PhiC
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- The run: every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.GateUp.Own

end
-- ==== Proof.GateUpFrames.lean ====
module

public import proofs.«01_k».proof.Defs
public import proofs.«01_k».proof.Proof.GateUpRun
public import proofs.«01_k».proof.Proof.Gen.GateUpIdeal.Frame
public import proofs.«01_k».proof.Proof.Gen.GateUpRefIdeal.Run

@[expose] public section

set_option maxRecDepth 65536

noncomputable section

/-!
# The gate/up call: the frames

The kernel's own frame, the same at the ideal instance, taken over to the program printed for the ideal reading (the two printed
programs are one, definition by definition), and the reference's.
-/

namespace Cert.Proof

open Idealize.ShloMosaic Idealize.SL.Sem

instance factsGateUp : Cert.GateUp.Facts := Cert.GateUp.Gen.facts

/-- The frame of `GateUp` read at the ideal instance: it runs, its arguments end unchanged, the machine is quiescent. -/
def frameGateUp : Prop :=
  ∀ (m : (ℓ : Loc Cert.GateUp.nD Cert.GateUp.τ Cert.GateUp.sig) → Buf (Elt Ideal) ℓ) (g : Dev Cert.GateUp.nD → PrngReg), True →
    θ_run (Cert.GateUp.defs (F := Ideal)) (onTc (τ := Cert.GateUp.τ) (Cert.GateUp.main (F := Ideal))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

theorem frameGateUp_holds : frameGateUp := fun m g _ => Cert.GateUp.Own.frame (F := Ideal) m g

/-- The program printed for the ideal reading is, definition by definition, the program printed for the bits. -/
theorem frameGateUp_eq : frameGateUp = quiescent_GateUpIdeal (hGateUpIdeal := Cert.GateUpIdeal.Gen.facts) := by sl_kernel_rfl

/-- `GateUpIdeal` runs, its arguments end unchanged, the machine is quiescent. -/
theorem quiescentGateUpIdeal : quiescent_GateUpIdeal (hGateUpIdeal := Cert.GateUpIdeal.Gen.facts) := frameGateUp_eq ▸ frameGateUp_holds

/-- `GateUpRefIdeal` runs, its arguments end unchanged; it has no semaphore. -/
theorem quiescentGateUpRefIdeal : quiescent_GateUpRefIdeal (hGateUpRefIdeal := Cert.GateUpRefIdeal.Gen.facts) := fun m g _ =>
  (θ_run _ _ _).mono (fun r h => ⟨fun c => (h c).2.2, Idealize.ShloMosaic.sem_eq_zero_of_no_sems (by decide) r.2⟩) (Cert.GateUpRefIdeal.Value.run m g)

/-- `GateUp` runs, its arguments end unchanged, the machine is quiescent. -/
theorem quiescentGateUp : quiescent_GateUp (hGateUp := Cert.GateUp.Gen.facts) := fun m g _ => Cert.GateUp.Own.frame (F := Bits) m g

end Cert.Proof

end
-- ==== Proof.At.lean ====
module

public import Idealize.ShloMosaic.Lib.Pipeline.Value
public import Idealize.ShloMosaic.Lib.ValueIdx
public import Idealize.ShloMosaic.Lib.MatmulPlain
public import Idealize.ShloMosaic.Lib.IdealHost
public import Idealize.ShloMosaic.PureOps.Ideal.Laws

@[expose] public section

noncomputable section

/-!
# Arrays read at natural numbers, the nibbles of a byte, and the sums' re-indexing

Shared by the two calls: an array's element at coordinates which are numbers (`at1` … `at4`), a product read there, a byte's two
signed nibbles (`nib`), and the sum over tiles of interleaved columns as a sum over rows.
-/

namespace Cert.Own

open Idealize.ShloMosaic Idealize.ShloMosaic.TcCoe Idealize.ShloMosaic.ValueIdx
open scoped BigOperators

/-! ## Elements at numbers -/

/-- An array's element at a number (reduced into range). -/
def at1 {α : Type} {a : ℕ} [NeZero a] (X : (⟨1, ![a]⟩ : Shape).Idx → α) (i : ℕ) : α := X (ix1 (Fin.ofNat a i))
/-- A matrix's element at two numbers. -/
def at2 {α : Type} {a b : ℕ} [NeZero a] [NeZero b] (X : (⟨2, ![a, b]⟩ : Shape).Idx → α) (i j : ℕ) : α :=
  X (ix2 (Fin.ofNat a i) (Fin.ofNat b j))
/-- A rank-3 array's element at three numbers. -/
def at3 {α : Type} {a b c : ℕ} [NeZero a] [NeZero b] [NeZero c] (X : (⟨3, ![a, b, c]⟩ : Shape).Idx → α) (i j k : ℕ) : α :=
  X (ix3 (Fin.ofNat a i) (Fin.ofNat b j) (Fin.ofNat c k))
/-- A rank-4 array's element at four numbers. -/
def at4 {α : Type} {a b c d : ℕ} [NeZero a] [NeZero b] [NeZero c] [NeZero d] (X : (⟨4, ![a, b, c, d]⟩ : Shape).Idx → α) (i j k l : ℕ) : α :=
  X (ix4 (Fin.ofNat a i) (Fin.ofNat b j) (Fin.ofNat c k) (Fin.ofNat d l))

theorem ofNat_eq {a : ℕ} [NeZero a] (k : Fin a) (i : ℕ) (h : k.val = i) : k = Fin.ofNat a i := by
  apply Fin.ext; subst h; exact (Nat.mod_eq_of_lt k.isLt).symm

/-- An element at an index whose coordinates are these numbers. -/
theorem at1_of {α : Type} {a : ℕ} [NeZero a] (X : (⟨1, ![a]⟩ : Shape).Idx → α) (k : (⟨1, ![a]⟩ : Shape).Idx) (i : ℕ)
    (h0 : (k 0).val = i) : X k = at1 X i :=
  congrArg X (funext fun d => match d with
    | ⟨0, _⟩ => ofNat_eq (a := a) (k 0) i h0)
theorem at2_of {α : Type} {a b : ℕ} [NeZero a] [NeZero b] (X : (⟨2, ![a, b]⟩ : Shape).Idx → α) (k : (⟨2, ![a, b]⟩ : Shape).Idx) (i j : ℕ)
    (h0 : (k 0).val = i) (h1 : (k 1).val = j) : X k = at2 X i j :=
  congrArg X (funext fun d => match d with
    | ⟨0, _⟩ => ofNat_eq (a := a) (k 0) i h0
    | ⟨1, _⟩ => ofNat_eq (a := b) (k 1) j h1)
theorem at3_of {α : Type} {a b c : ℕ} [NeZero a] [NeZero b] [NeZero c] (X : (⟨3, ![a, b, c]⟩ : Shape).Idx → α) (k : (⟨3, ![a, b, c]⟩ : Shape).Idx) (i j l : ℕ)
    (h0 : (k 0).val = i) (h1 : (k 1).val = j) (h2 : (k 2).val = l) : X k = at3 X i j l :=
  congrArg X (funext fun q => match q with
    | ⟨0, _⟩ => ofNat_eq (a := a) (k 0) i h0
    | ⟨1, _⟩ => ofNat_eq (a := b) (k 1) j h1
    | ⟨2, _⟩ => ofNat_eq (a := c) (k 2) l h2)
theorem at4_of {α : Type} {a b c d : ℕ} [NeZero a] [NeZero b] [NeZero c] [NeZero d] (X : (⟨4, ![a, b, c, d]⟩ : Shape).Idx → α)
    (k : (⟨4, ![a, b, c, d]⟩ : Shape).Idx) (i j l n : ℕ)
    (h0 : (k 0).val = i) (h1 : (k 1).val = j) (h2 : (k 2).val = l) (h3 : (k 3).val = n) : X k = at4 X i j l n :=
  congrArg X (funext fun q => match q with
    | ⟨0, _⟩ => ofNat_eq (a := a) (k 0) i h0
    | ⟨1, _⟩ => ofNat_eq (a := b) (k 1) j h1
    | ⟨2, _⟩ => ofNat_eq (a := c) (k 2) l h2
    | ⟨3, _⟩ => ofNat_eq (a := d) (k 3) n h3)

/-- A matrix at numbers in range is the matrix at the index they make. -/
theorem at2_fin {α : Type} {a b : ℕ} [NeZero a] [NeZero b] (X : (⟨2, ![a, b]⟩ : Shape).Idx → α) (i j : ℕ) (hi : i < a) (hj : j < b) :
    at2 X i j = X (ix2 ⟨i, hi⟩ ⟨j, hj⟩) := (at2_of X _ i j rfl rfl).symm
/-- The same at rank 1. -/
theorem at1_fin {α : Type} {a : ℕ} [NeZero a] (X : (⟨1, ![a]⟩ : Shape).Idx → α) (i : ℕ) (hi : i < a) :
    at1 X i = X (ix1 ⟨i, hi⟩) := (at1_of X _ i rfl).symm
/-- The same at rank 3. -/
theorem at3_fin {α : Type} {a b c : ℕ} [NeZero a] [NeZero b] [NeZero c] (X : (⟨3, ![a, b, c]⟩ : Shape).Idx → α) (i j k : ℕ) (hi : i < a) (hj : j < b) (hk : k < c) :
    at3 X i j k = X (ix3 ⟨i, hi⟩ ⟨j, hj⟩ ⟨k, hk⟩) := (at3_of X _ i j k rfl rfl rfl).symm

/-- An equality test, as a case distinction. -/
theorem cmpi_eq_ite {w : ℕ} (x y : BitVec w) : IntOp.cmpi .eq x y = if x = y then 1#1 else 0#1 := by
  by_cases h : x = y
  · simp [IntOp.cmpi, h]
  · rw [if_neg h]
    show BitVec.ofBool (x == y) = 0#1
    rw [beq_eq_false_iff_ne.mpr h]; rfl
/-- A choice on an equality test. -/
theorem select_eq_ite {w : ℕ} {α : Type} (x y : BitVec w) (a b : α) : Scalar.select (IntOp.cmpi .eq x y) a b = if x = y then a else b := by
  rw [cmpi_eq_ite]
  by_cases h : x = y
  · rw [if_pos h, if_pos h]; exact select_one ..
  · rw [if_neg h, if_neg h]; exact select_zero ..

/-! ## Products -/

/-- A product of two matrices, read at an index. -/
theorem matmul_at {M K N : ℕ} [NeZero M] [NeZero K] [NeZero N] {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (F := Ideal) (DotDims.plain M K N) prec l r (constant ⟨2, ![M, N]⟩ .f32 0x00000000#32) i
      = ∑ k ∈ Finset.range K, at2 l (i 0).val k * at2 r k (i 1).val := by
  have key : ∀ (b : Fin M) (c : Fin N),
      FloatOps.matmul (F := Ideal) (DotDims.plain M K N) prec l r (constant ⟨2, ![M, N]⟩ .f32 0x00000000#32) (ix2 b c)
        = ∑ k ∈ Finset.range K, at2 l b.val k * at2 r k c.val := by
    intro b c
    rw [Ideal.matmul_plain_apply, constant_apply, Ideal.ofBits_zero_f32, zero_add,
      ← Fin.sum_univ_eq_sum_range (fun k => at2 l b.val k * at2 r k c.val) K]
    refine Finset.sum_congr rfl fun k _ => ?_
    rw [at2_of l (ix2 b k) b.val k.val rfl rfl, at2_of r (ix2 k c) k.val c.val rfl rfl]
  exact (congrArg _ (eq_ix2 i)).trans (key (i 0) (i 1))

/-- A product with the second matrix transposed, read at an index. -/
theorem matmulT_at {M K N : ℕ} [NeZero M] [NeZero K] [NeZero N] {φ₁ φ₂ : FTy} (prec : Option ContractPrecision)
    (l : FVec Ideal ⟨2, ![M, K]⟩ φ₁) (r : FVec Ideal ⟨2, ![N, K]⟩ φ₂) (i : (⟨2, ![M, N]⟩ : Shape).Idx) :
    FloatOps.matmul (F := Ideal) (DotDims.transposedRhs M K N) prec l r (constant ⟨2, ![M, N]⟩ .f32 0x00000000#32) i
      = ∑ k ∈ Finset.range K, at2 l (i 0).val k * at2 r (i 1).val k := by
  have key : ∀ (b : Fin M) (c : Fin N),
      FloatOps.matmul (F := Ideal) (DotDims.transposedRhs M K N) prec l r (constant ⟨2, ![M, N]⟩ .f32 0x00000000#32) (ix2 b c)
        = ∑ k ∈ Finset.range K, at2 l b.val k * at2 r c.val k := by
    intro b c
    rw [Ideal.matmul_transposedRhs_apply, constant_apply, Ideal.ofBits_zero_f32, zero_add,
      ← Fin.sum_univ_eq_sum_range (fun k => at2 l b.val k * at2 r c.val k) K]
    refine Finset.sum_congr rfl fun k _ => ?_
    rw [at2_of l (ix2 b k) b.val k.val rfl rfl, at2_of r (ix2 c k) c.val k.val rfl rfl]
  exact (congrArg _ (eq_ix2 i)).trans (key (i 0) (i 1))

/-! ## Nibbles -/

/-- A byte's low (`p = 0`) or high (`p = 1`) nibble, read as a signed four-bit number. -/
def nib (b : BitVec 8) (p : ℕ) : ℤ :=
  let n := (b.toNat / 16 ^ p) % 16
  if 8 ≤ n then (n : ℤ) - 16 else n

set_option maxRecDepth 100000 in
/-- The low nibble, as the kernel brings it down with its sign. -/
theorem lift_lo : ∀ b : BitVec 8, (IntOp.shrsi .vector (IntOp.shli .vector (b.setWidth 32) (28#32)) 28#32).toInt = nib b 0 := by decide +kernel
/-- The high nibble, as the kernel brings it down with its sign. -/
theorem lift_hi : ∀ b : BitVec 8, (IntOp.shrsi .vector (IntOp.shli .vector (b.setWidth 32) (24#32)) 28#32).toInt = nib b 1 := by decide +kernel
/-- The low nibble, as the mathematics has it. -/
theorem plain_lo : ∀ b : BitVec 8, (Scalar.select (IntOp.cmpi .sge (IntOp.andi (b.setWidth 32) 15#32) 8#32)
    (IntOp.subi (IntOp.andi (b.setWidth 32) 15#32) 16#32) (IntOp.andi (b.setWidth 32) 15#32)).toInt = nib b 0 := by decide +kernel
/-- The high nibble, as the mathematics has it. -/
theorem plain_hi : ∀ b : BitVec 8, (Scalar.select (IntOp.cmpi .sge (IntOp.shrsi .host (b.setWidth 32) 4#32) 8#32)
    (IntOp.subi (IntOp.shrsi .host (b.setWidth 32) 4#32) 16#32) (IntOp.shrsi .host (b.setWidth 32) 4#32)).toInt = nib b 1 := by decide +kernel

/-! ## Sums -/

/-- A sum over pairs of neighbouring columns. -/
theorem sum_pairs {M : Type*} [AddCommMonoid M] (G : ℕ → ℕ → M) (n : ℕ) :
    ∑ c ∈ Finset.range (2 * n), G (c % 2) (c / 2) = ∑ j ∈ Finset.range n, (G 0 j + G 1 j) := by
  induction n with
  | zero => simp
  | succ n ih =>
    rw [show 2 * (n + 1) = 2 * n + 1 + 1 from by omega, Finset.sum_range_succ, Finset.sum_range_succ, ih, Finset.sum_range_succ,
      show 2 * n % 2 = 0 from by omega, show 2 * n / 2 = n from by omega, show (2 * n + 1) % 2 = 1 from by omega,
      show (2 * n + 1) / 2 = n from by omega, add_assoc]

/-- The sum over `T` tiles of 256 interleaved columns is the sum over the rows of both halves. -/
theorem sum_tiles {M : Type*} [AddCommMonoid M] (G : ℕ → ℕ → M) (T : ℕ) :
    ∑ k ∈ Finset.range T, ∑ c ∈ Finset.range 256, G (c % 2) (128 * k + c / 2)
      = ∑ i ∈ Finset.range (128 * T), G 0 i + ∑ i ∈ Finset.range (128 * T), G 1 i := by
  rw [← Finset.sum_add_distrib]
  induction T with
  | zero => simp
  | succ T ih =>
    rw [Finset.sum_range_succ, ih, show 128 * (T + 1) = 128 * T + 128 from by omega, Finset.sum_range_add,
      show (256 : ℕ) = 2 * 128 from rfl, sum_pairs (fun p j => G p (128 * T + j)) 128]

/-- The sum over a row of blocks, block by block. -/
theorem sum_blocks {M : Type*} [AddCommMonoid M] (f : ℕ → M) (n w : ℕ) :
    ∑ j ∈ Finset.range (n * w), f j = ∑ a ∈ Finset.range n, ∑ r ∈ Finset.range w, f (a * w + r) := by
  induction n with
  | zero => simp
  | succ n ih => rw [Finset.sum_range_succ, ← ih, show (n + 1) * w = n * w + w from by ring, Finset.sum_range_add]

end Cert.Own

end
-- ==== Proof.GateUpBlocks.lean ====
module

public import proofs.«01_k».proof.Proof.GateUpRun
public import proofs.«01_k».proof.Proof.At
public import Idealize.ShloMosaic.Lib.StableHlo.Run
public import Idealize.ShloMosaic.Lib.Pipeline.ValueKit.Geometry

@[expose] public section

set_option maxRecDepth 16384

noncomputable section

/-!
# The gate/up call: what each block holds of the arguments

The arrays the host part prepares, and each window's block at a grid point, read at numbers off the arguments.
-/

namespace Cert.GateUp.Own

open Idealize.ShloMosaic Idealize.ShloMosaic.TcCoe Idealize.ShloMosaic.ValueIdx
open Idealize.ShloMosaic.StableHlo
open Cert.GateUp Cert.GateUp.Gen Cert.Own

variable {F : FTy → Type} [FloatOps F]
variable (m : (ℓ : Loc nD τ sig) → Buf (Elt F) ℓ) (c : Dev nD)

/-! ## The arguments, as arrays -/

/-- The activations. -/
abbrev A0 : (⟨3, ![40, 1, 8192]⟩ : Shape).Idx → Elt F .bf16 := m ((c : Thread nD τ).loc main_arg0)
/-- The adapters' numbers. -/
abbrev A1 : (⟨1, ![40]⟩ : Shape).Idx → Elt F .i32 := m ((c : Thread nD τ).loc main_arg1)
/-- The codes, two to a byte. -/
abbrev A2 : (⟨2, ![4096, 44032]⟩ : Shape).Idx → Elt F .i8 := m ((c : Thread nD τ).loc main_arg2)
/-- The weights' scales. -/
abbrev A3 : (⟨2, ![64, 44032]⟩ : Shape).Idx → Elt F .bf16 := m ((c : Thread nD τ).loc main_arg3)
/-- The first LoRA factors. -/
abbrev A4 : (⟨3, ![5, 8192, 32]⟩ : Shape).Idx → Elt F .bf16 := m ((c : Thread nD τ).loc main_arg4)
/-- The second LoRA factors. -/
abbrev A5 : (⟨4, ![5, 2, 16, 22016]⟩ : Shape).Idx → Elt F .bf16 := m ((c : Thread nD τ).loc main_arg5)
/-- The adapters' scales. -/
abbrev A6 : (⟨1, ![5]⟩ : Shape).Idx → Elt F .f32 := m ((c : Thread nD τ).loc main_arg6)

/-! ## What the host part prepares -/

theorem V_v0 : V m c main_v0 = shapeCast S1x40 (A1 m c) shapeCasts_S40_S1x40 := by
  show StableHlo.after hostOps0 _ (Proc.devRef .tc main_v0) = _
  after_results_simp <;> rfl
theorem V_v4 : V m c main_v4 = shapeCast S40x8192 (A0 m c) shapeCasts_S40x1x8192_S40x8192 := by
  show StableHlo.after hostOps0 _ (Proc.devRef .tc main_v4) = _
  after_results_simp <;> rfl
theorem V_v3 : V m c main_v3 = shapeCast S160x22016 (A5 m c) shapeCasts_S5x2x16x22016_S160x22016 := by
  show StableHlo.after hostOps0 _ (Proc.devRef .tc main_v3) = _
  after_results_simp <;> rfl
theorem V_v2 : V m c main_v2 = shapeCast S160x8192 (transpose S5x32x8192 [0, 2, 1] (A4 m c) transposes_S5x8192x32_S5x32x8192_0_2_1) shapeCasts_S5x32x8192_S160x8192 := by
  show StableHlo.after hostOps0 _ (Proc.devRef .tc main_v2) = _
  after_results_simp <;> rfl

/-! ## The reshaped arguments, read at numbers -/

theorem v0_at (b : ℕ) (hb : b < 40) :
    at2 (shapeCast S1x40 (A1 m c) shapeCasts_S40_S1x40) 0 b = at1 (A1 m c) b := by
  rw [at2_fin _ 0 b (by omega) hb]
  refine (shapeCast_apply (A1 m c) shapeCasts_S40_S1x40 _ (ix1 ⟨b, hb⟩) ?_).trans (at1_of (A1 m c) _ b rfl)
  refine (Shape.rowMajor_val_one _).trans (Eq.trans ?_ (Shape.rowMajor_val_two _).symm)
  show b = 0 * 40 + b; omega
theorem v4_at (b d : ℕ) (hb : b < 40) (hd : d < 8192) :
    at2 (shapeCast S40x8192 (A0 m c) shapeCasts_S40x1x8192_S40x8192) b d = at3 (A0 m c) b 0 d := by
  rw [at2_fin _ b d hb hd]
  refine (shapeCast_apply (A0 m c) shapeCasts_S40x1x8192_S40x8192 _ (ix3 ⟨b, hb⟩ ⟨0, by omega⟩ ⟨d, hd⟩) ?_).trans (at3_of (A0 m c) _ b 0 d rfl rfl rfl)
  refine (Shape.rowMajor_val_three _).trans (Eq.trans ?_ (Shape.rowMajor_val_two _).symm)
  show (b * 1 + 0) * 8192 + d = b * 8192 + d; omega
theorem v3_at (n p r f : ℕ) (hn : n < 5) (hp : p < 2) (hr : r < 16) (hf : f < 22016) :
    at2 (shapeCast S160x22016 (A5 m c) shapeCasts_S5x2x16x22016_S160x22016) (32 * n + (16 * p + r)) f = at4 (A5 m c) n p r f := by
  rw [at2_fin _ (32 * n + (16 * p + r)) f (by omega) hf]
  refine (shapeCast_apply (A5 m c) shapeCasts_S5x2x16x22016_S160x22016 _ (ix4 ⟨n, hn⟩ ⟨p, hp⟩ ⟨r, hr⟩ ⟨f, hf⟩) ?_).trans
    (at4_of (A5 m c) _ n p r f rfl rfl rfl rfl)
  refine (Shape.rowMajor_val_four _).trans (Eq.trans ?_ (Shape.rowMajor_val_two _).symm)
  show ((n * 2 + p) * 16 + r) * 22016 + f = (32 * n + (16 * p + r)) * 22016 + f
  omega
theorem v2_at (n r d : ℕ) (hn : n < 5) (hr : r < 32) (hd : d < 8192) :
    at2 (shapeCast S160x8192 (transpose S5x32x8192 [0, 2, 1] (A4 m c) transposes_S5x8192x32_S5x32x8192_0_2_1) shapeCasts_S5x32x8192_S160x8192) (32 * n + r) d
      = at3 (A4 m c) n d r := by
  rw [at2_fin _ (32 * n + r) d (by omega) hd]
  refine (shapeCast_apply _ shapeCasts_S5x32x8192_S160x8192 _ (ix3 ⟨n, hn⟩ ⟨r, hr⟩ ⟨d, hd⟩) ?_).trans ?_
  · refine (Shape.rowMajor_val_three _).trans (Eq.trans ?_ (Shape.rowMajor_val_two _).symm)
    show (n * 32 + r) * 8192 + d = (32 * n + r) * 8192 + d; omega
  · exact (transpose_apply [0, 2, 1] (A4 m c) transposes_S5x8192x32_S5x32x8192_0_2_1 _ (ix3 ⟨n, hn⟩ ⟨d, hd⟩ ⟨r, hr⟩)
      (fun b => match b with | ⟨0, _⟩ => rfl | ⟨1, _⟩ => rfl | ⟨2, _⟩ => rfl)).trans (at3_of (A4 m c) _ n d r rfl rfl rfl)

/-! ## The blocks' places -/

theorem index0 : ∀ t : Fin cfg0.N, win0_0.index t = ![0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, 86 + t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, 86 + t.val] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, t.val] := (by decide +kernel : ∀ t : Fin grid0.N, _)
theorem index9 : ∀ t : Fin cfg0.N, win0_9.index t = ![0, t.val] := (by decide +kernel : ∀ t : Fin grid0.N, _)

/-! ## The blocks, read at numbers -/

variable (t : Fin cfg0.N)

/-- The adapters' scales. -/
theorem blk0_at (n : ℕ) (hn : n < 5) : at1 (iblk m c 0 t : Vec F S5 .f32) n = at1 (A6 m c) n := by
  rw [at1_fin _ n hn]
  show V m c main_arg6 (((cfg0.win 0).blk t).view.emb (ix1 ⟨n, hn⟩)) = _
  rw [V_main_arg6]
  refine at1_of (A6 m c) _ n ?_
  show win0_0.index t (0 : Fin 1) * 5 + 1 * n = n
  rw [index0]; show 0 * 5 + 1 * n = n; omega

/-- The adapters' numbers. -/
theorem blk1_at (b : ℕ) (hb : b < 40) : at2 (iblk m c 1 t : Vec F S1x40 .i32) 0 b = at1 (A1 m c) b := by
  rw [at2_fin _ 0 b (by omega) hb]
  show V m c main_v0 (((cfg0.win 1).blk t).view.emb (ix2 ⟨0, by omega⟩ ⟨b, hb⟩)) = _
  rw [V_v0]
  refine (at2_of (shapeCast S1x40 (A1 m c) shapeCasts_S40_S1x40) _ (0) (b) ?_ ?_).trans (v0_at m c b hb)
  · show win0_1.index t (0 : Fin 2) * 1 + 1 * (0) = 0
    rw [index1]; show 0 * 1 + 1 * (0) = 0; omega
  · show win0_1.index t (1 : Fin 2) * 40 + 1 * (b) = b
    rw [index1]; show 0 * 40 + 1 * (b) = b; omega

/-- The activations. -/
theorem blk2_at (b d : ℕ) (hb : b < 40) (hd : d < 8192) : at2 (iblk m c 2 t : Vec F S40x8192 .bf16) b d = at3 (A0 m c) b 0 d := by
  rw [at2_fin _ b d hb hd]
  show V m c main_v4 (((cfg0.win 2).blk t).view.emb (ix2 ⟨b, hb⟩ ⟨d, hd⟩)) = _
  rw [V_v4]
  refine (at2_of (shapeCast S40x8192 (A0 m c) shapeCasts_S40x1x8192_S40x8192) _ (b) (d) ?_ ?_).trans (v4_at m c b d hb hd)
  · show win0_2.index t (0 : Fin 2) * 40 + 1 * (b) = b
    rw [index2]; show 0 * 40 + 1 * (b) = b; omega
  · show win0_2.index t (1 : Fin 2) * 8192 + 1 * (d) = d
    rw [index2]; show 0 * 8192 + 1 * (d) = d; omega

/-- The gate's codes. -/
theorem blk3_at (i j : ℕ) (hi : i < 4096) (hj : j < 256) : at2 (iblk m c 3 t : Vec F S4096x256 .i8) i j = at2 (A2 m c) i (256 * t.val + j) := by
  rw [at2_fin _ i j hi hj]
  show V m c main_arg2 (((cfg0.win 3).blk t).view.emb (ix2 ⟨i, hi⟩ ⟨j, hj⟩)) = _
  rw [V_main_arg2]
  refine at2_of (A2 m c) _ i (256 * t.val + j) ?_ ?_
  · show win0_3.index t (0 : Fin 2) * 4096 + 1 * i = i
    rw [index3]; show 0 * 4096 + 1 * i = i; omega
  · show win0_3.index t (1 : Fin 2) * 256 + 1 * j = 256 * t.val + j
    rw [index3]; show t.val * 256 + 1 * j = 256 * t.val + j; omega

/-- The up projection's codes. -/
theorem blk4_at (i j : ℕ) (hi : i < 4096) (hj : j < 256) : at2 (iblk m c 4 t : Vec F S4096x256 .i8) i j = at2 (A2 m c) i (22016 + (256 * t.val + j)) := by
  rw [at2_fin _ i j hi hj]
  show V m c main_arg2 (((cfg0.win 4).blk t).view.emb (ix2 ⟨i, hi⟩ ⟨j, hj⟩)) = _
  rw [V_main_arg2]
  refine at2_of (A2 m c) _ i (22016 + (256 * t.val + j)) ?_ ?_
  · show win0_4.index t (0 : Fin 2) * 4096 + 1 * i = i
    rw [index4]; show 0 * 4096 + 1 * i = i; omega
  · show win0_4.index t (1 : Fin 2) * 256 + 1 * j = 22016 + (256 * t.val + j)
    rw [index4]; show (86 + t.val) * 256 + 1 * j = 22016 + (256 * t.val + j); omega

/-- The gate's scales. -/
theorem blk5_at (i j : ℕ) (hi : i < 64) (hj : j < 256) : at2 (iblk m c 5 t : Vec F S64x256 .bf16) i j = at2 (A3 m c) i (256 * t.val + j) := by
  rw [at2_fin _ i j hi hj]
  show V m c main_arg3 (((cfg0.win 5).blk t).view.emb (ix2 ⟨i, hi⟩ ⟨j, hj⟩)) = _
  rw [V_main_arg3]
  refine at2_of (A3 m c) _ i (256 * t.val + j) ?_ ?_
  · show win0_5.index t (0 : Fin 2) * 64 + 1 * i = i
    rw [index5]; show 0 * 64 + 1 * i = i; omega
  · show win0_5.index t (1 : Fin 2) * 256 + 1 * j = 256 * t.val + j
    rw [index5]; show t.val * 256 + 1 * j = 256 * t.val + j; omega

/-- The up projection's scales. -/
theorem blk6_at (i j : ℕ) (hi : i < 64) (hj : j < 256) : at2 (iblk m c 6 t : Vec F S64x256 .bf16) i j = at2 (A3 m c) i (22016 + (256 * t.val + j)) := by
  rw [at2_fin _ i j hi hj]
  show V m c main_arg3 (((cfg0.win 6).blk t).view.emb (ix2 ⟨i, hi⟩ ⟨j, hj⟩)) = _
  rw [V_main_arg3]
  refine at2_of (A3 m c) _ i (22016 + (256 * t.val + j)) ?_ ?_
  · show win0_6.index t (0 : Fin 2) * 64 + 1 * i = i
    rw [index6]; show 0 * 64 + 1 * i = i; omega
  · show win0_6.index t (1 : Fin 2) * 256 + 1 * j = 22016 + (256 * t.val + j)
    rw [index6]; show (86 + t.val) * 256 + 1 * j = 22016 + (256 * t.val + j); omega

/-- The first LoRA factors, each adapter's 32 rows together. -/
theorem blk7_at (n r d : ℕ) (hn : n < 5) (hr : r < 32) (hd : d < 8192) :
    at2 (iblk m c 7 t : Vec F S160x8192 .bf16) (32 * n + r) d = at3 (A4 m c) n d r := by
  rw [at2_fin _ (32 * n + r) d (by omega) hd]
  show V m c main_v2 (((cfg0.win 7).blk t).view.emb (ix2 ⟨32 * n + r, by omega⟩ ⟨d, hd⟩)) = _
  rw [V_v2]
  refine (at2_of (shapeCast S160x8192 (transpose S5x32x8192 [0, 2, 1] (A4 m c) transposes_S5x8192x32_S5x32x8192_0_2_1) shapeCasts_S5x32x8192_S160x8192) _ (32 * n + r) (d) ?_ ?_).trans (v2_at m c n r d hn hr hd)
  · show win0_7.index t (0 : Fin 2) * 160 + 1 * (32 * n + r) = 32 * n + r
    rw [index7]; show 0 * 160 + 1 * (32 * n + r) = 32 * n + r; omega
  · show win0_7.index t (1 : Fin 2) * 8192 + 1 * (d) = d
    rw [index7]; show 0 * 8192 + 1 * (d) = d; omega

/-- The second LoRA factors, each adapter's 32 rows together. -/
theorem blk8_at (n p r j : ℕ) (hn : n < 5) (hp : p < 2) (hr : r < 16) (hj : j < 256) :
    at2 (iblk m c 8 t : Vec F S160x256 .bf16) (32 * n + (16 * p + r)) j = at4 (A5 m c) n p r (256 * t.val + j) := by
  have ht : t.val < 86 := Nat.lt_of_lt_of_eq t.isLt N_0
  rw [at2_fin _ (32 * n + (16 * p + r)) j (by omega) hj]
  show V m c main_v3 (((cfg0.win 8).blk t).view.emb (ix2 ⟨32 * n + (16 * p + r), by omega⟩ ⟨j, hj⟩)) = _
  rw [V_v3]
  refine (at2_of (shapeCast S160x22016 (A5 m c) shapeCasts_S5x2x16x22016_S160x22016) _ (32 * n + (16 * p + r)) (256 * t.val + j) ?_ ?_).trans (v3_at m c n p r (256 * t.val + j) hn hp hr (by omega))
  · show win0_8.index t (0 : Fin 2) * 160 + 1 * (32 * n + (16 * p + r)) = 32 * n + (16 * p + r)
    rw [index8]; show 0 * 160 + 1 * (32 * n + (16 * p + r)) = 32 * n + (16 * p + r); omega
  · show win0_8.index t (1 : Fin 2) * 256 + 1 * (j) = 256 * t.val + j
    rw [index8]; show t.val * 256 + 1 * (j) = 256 * t.val + j; omega

end Cert.GateUp.Own

end
-- ==== Proof.GateUpTile.lean ====
module

public import proofs.«01_k».proof.Proof.GateUpTriple
public import proofs.«01_k».proof.Proof.At

@[expose] public section

set_option maxRecDepth 16384

noncomputable section

/-!
# The gate/up call's tiles over the reals

What the interleaving, the weight tiles and the running sum compute, element by element, with floats read as extended reals.
-/

namespace Cert.GateUp.Own

open Idealize.ShloMosaic Idealize.ShloMosaic.TcCoe Idealize.ShloMosaic.ValueIdx
open Cert.GateUp Facts₀ Facts Cert.Own
open scoped BigOperators

variable [Facts]

/-- Column `c` of a tile comes from this row of the stacked halves. -/
theorem src_word : ∀ b : Fin 256, IntOp.addi (IntOp.shrsi .vector (BitVec.ofNat 32 b.val) 1#32)
    (IntOp.muli (IntOp.andi (BitVec.ofNat 32 b.val) 1#32) 128#32) = BitVec.ofNat 32 (b.val / 2 + 128 * (b.val % 2)) := by decide +kernel

/-- The interleaving matrix: one where the row is the column's source, zero elsewhere. -/
theorem perm_at (i : S256x256.Idx) :
    perm (F := Ideal) i = if (i 0).val = (i 1).val / 2 + 128 * ((i 1).val % 2) then (1 : EReal) else 0 := by
  have h0 : (i 0).val < 256 := (i 0).isLt
  have h1 : (i 1).val < 256 := (i 1).isLt
  have e : perm (F := Ideal) i = (((((IntOp.cmpi .eq (BitVec.ofNat 32 (i 0).val)
      (IntOp.addi (IntOp.shrsi .vector (BitVec.ofNat 32 (i 1).val) 1#32)
        (IntOp.muli (IntOp.andi (BitVec.ofNat 32 (i 1).val) 1#32) 128#32))).setWidth 32).toInt : ℝ)) : EReal) := by
    unfold perm
    simp only [truncf_apply, sitofp_apply, extui_apply, cmpi, addi, shrsi, muli, andi, broadcast_apply]
    rw [iota_single_apply .tc S256x256 32 0, iota_single_apply .tc S256x256 32 1]
    rfl
  rw [e, src_word ⟨(i 1).val, h1⟩, cmpi_eq_ite]
  by_cases h : (i 0).val = (i 1).val / 2 + 128 * ((i 1).val % 2)
  · rw [if_pos h, h, if_pos rfl]; norm_num
  · rw [if_neg h]
    have hne : ¬ BitVec.ofNat 32 (i 0).val = BitVec.ofNat 32 ((i 1).val / 2 + 128 * ((i 1).val % 2)) := by
      intro hh; have := congrArg BitVec.toNat hh; simp only [BitVec.toNat_ofNat] at this; omega
    rw [if_neg hne]; norm_num

/-- A tile's column of the interleaved activations. -/
theorem xpTile_at (lo hi : Vec Ideal S40x128 .bf16) (i : S40x256.Idx) :
    xpTile (F := Ideal) lo hi i = if (i 1).val % 2 = 0 then at2 lo (i 0).val ((i 1).val / 2) else at2 hi (i 0).val ((i 1).val / 2) := by
  have h1 : (i 1).val < 256 := (i 1).isLt
  unfold xpTile
  rw [shapeCast_self, truncf_apply]
  refine (matmul_at (M := 40) (K := 256) (N := 256) none _ (perm (F := Ideal)) i).trans ?_
  rw [Finset.sum_eq_single ((i 1).val / 2 + 128 * ((i 1).val % 2))]
  · rw [at2_fin (perm (F := Ideal)) _ _ (by omega) h1, perm_at, if_pos (by rfl), mul_one]
    rw [at2_fin (a := 40) (b := 256) _ _ _ (i 0).isLt (by omega)]
    by_cases hp : (i 1).val % 2 = 0
    · rw [if_pos hp]
      refine (concatenate_pair_apply_left (s₁ := S40x128) (s₂ := S40x128) (t := S40x256) 1 _ _ _
        (ix2 (⟨(i 0).val, (i 0).isLt⟩ : Fin 40) (⟨(i 1).val / 2 + 128 * ((i 1).val % 2), by omega⟩ : Fin 256)) rfl
        (ix2 (⟨(i 0).val, (i 0).isLt⟩ : Fin 40) (⟨(i 1).val / 2, by omega⟩ : Fin 128))
        (fun b => match b with | ⟨0, _⟩ => rfl | ⟨1, _⟩ => by show (i 1).val / 2 = (i 1).val / 2 + 128 * ((i 1).val % 2); omega)).trans ?_
      rw [shapeCast_self]; exact at2_of lo _ _ _ rfl rfl
    · rw [if_neg hp]
      refine (concatenate_pair_apply_right (s₁ := S40x128) (s₂ := S40x128) (t := S40x256) 1 _ _ _
        (ix2 (⟨(i 0).val, (i 0).isLt⟩ : Fin 40) (⟨(i 1).val / 2 + 128 * ((i 1).val % 2), by omega⟩ : Fin 256)) rfl rfl
        (ix2 (⟨(i 0).val, (i 0).isLt⟩ : Fin 40) (⟨(i 1).val / 2, by omega⟩ : Fin 128))
        (fun b => match b with | ⟨0, _⟩ => fun _ => rfl | ⟨1, _⟩ => fun h => absurd rfl h)
        (by show (i 1).val / 2 + 128 = (i 1).val / 2 + 128 * ((i 1).val % 2); omega)).trans ?_
      rw [shapeCast_self]; exact at2_of hi _ _ _ rfl rfl
  · intro r hr hne
    have hr' : r < 256 := Finset.mem_range.mp hr
    rw [at2_fin (perm (F := Ideal)) _ _ hr' h1, perm_at, if_neg (by exact hne), mul_zero]
  · intro h; exact absurd (Finset.mem_range.mpr (by omega)) h

/-- The interleaved activations: column `256 k + 2 i + p` is column `4096 p + 128 k + i` of the activations. -/
theorem xpAll_at (x : Vec Ideal S40x8192 .bf16) (b c : ℕ) (hb : b < 40) (hc : c < 8192) :
    at2 (xpAll (F := Ideal) x) b c = at2 x b (4096 * (c % 2) + 128 * (c / 256) + c % 256 / 2) := by
  rw [at2_fin _ _ _ hb hc]
  unfold xpAll xpT
  rw [xpTile_at]
  show (if c % 256 % 2 = 0 then _ else _) = _
  by_cases hp : c % 2 = 0
  · rw [if_pos (by omega), at2_fin _ _ _ hb (by show c % 256 / 2 < 128; omega)]
    refine at2_of x _ _ _ ?_ ?_
    · show 0 + 1 * b = b; omega
    · show 128 * (c / 256) + 1 * (c % 256 / 2) = _; omega
  · rw [if_neg (by omega), at2_fin _ _ _ hb (by show c % 256 / 2 < 128; omega)]
    refine at2_of x _ _ _ ?_ ?_
    · show 0 + 1 * b = b; omega
    · show 4096 + 128 * (c / 256) + 1 * (c % 256 / 2) = _; omega

/-- The paired scales. -/
theorem pairs_at (s : Vec Ideal S64x256 .bf16) (k p j : ℕ) (hk : k < 32) (hp : p < 2) (hj : j < 256) :
    at3 (pairs (F := Ideal) s) k p j = at2 s (32 * p + k) j := by
  rw [at3_fin _ _ _ _ hk hp hj]
  unfold pairs
  obtain rfl | rfl : p = 0 ∨ p = 1 := by omega
  · refine (concatenate_pair_apply_left (s₁ := S32x1x256) (s₂ := S32x1x256) (t := S32x2x256) 1 _ _ _ _ rfl
      (ix3 (⟨k, hk⟩ : Fin 32) (⟨0, by omega⟩ : Fin 1) (⟨j, hj⟩ : Fin 256))
      (fun b => match b with | ⟨0, _⟩ => rfl | ⟨1, _⟩ => rfl | ⟨2, _⟩ => rfl)).trans ?_
    rw [shapeCast_apply _ _ _ (ix2 ⟨k, hk⟩ ⟨j, hj⟩) (by
        rw [Shape.rowMajor_val_three, Shape.rowMajor_val_two]; show k * 256 + j = (k * 1 + 0) * 256 + j; omega),
      extractStridedSlice_apply _ _ _ _ (ix2 ⟨k, by omega⟩ ⟨j, hj⟩) (fun a => match a with | ⟨0, _⟩ => by show k = 0 + k; omega | ⟨1, _⟩ => by show j = 0 + j; omega)]
    exact at2_of s _ _ _ (by show k = _; omega) rfl
  · refine (concatenate_pair_apply_right (s₁ := S32x1x256) (s₂ := S32x1x256) (t := S32x2x256) 1 _ _ _ _ rfl rfl
      (ix3 (⟨k, hk⟩ : Fin 32) (⟨0, by omega⟩ : Fin 1) (⟨j, hj⟩ : Fin 256))
      (fun b => match b with | ⟨0, _⟩ => fun _ => rfl | ⟨1, _⟩ => fun h => absurd rfl h | ⟨2, _⟩ => fun _ => rfl) rfl).trans ?_
    rw [shapeCast_apply _ _ _ (ix2 ⟨k, hk⟩ ⟨j, hj⟩) (by
        rw [Shape.rowMajor_val_three, Shape.rowMajor_val_two]; show k * 256 + j = (k * 1 + 0) * 256 + j; omega),
      extractStridedSlice_apply _ _ _ _ (ix2 ⟨32 + k, by omega⟩ ⟨j, hj⟩) (fun a => match a with | ⟨0, _⟩ => rfl | ⟨1, _⟩ => by show j = 0 + j; omega)]
    exact at2_of s _ _ _ (by show 32 + k = _; omega) rfl

/-- The lift of a row's code. -/
theorem lift_word : ∀ r : Fin 256, IntOp.subi 28#32 (IntOp.muli 4#32 (IntOp.andi (BitVec.ofNat 32 r.val) 1#32)) = if r.val % 2 = 0 then 28#32 else 24#32 := by
  decide +kernel

/-- A weight tile: row `r` is nibble `r % 2` of packed row `r / 2`, times its scale. -/
theorem wTile_at (p : FVec Ideal S32x2x256 .bf16) (k : ℕ) (h : k < 32) (b : Vec Ideal S128x256 .i8) (r j : ℕ) (hr : r < 256) (hj : j < 256) :
    at2 (wTile (F := Ideal) p k h b) r j = ((nib (at2 b (r / 2) j) (r % 2) : ℝ) : EReal) * at3 p k (r % 2) j := by
  rw [at2_fin _ _ _ hr hj]
  unfold wTile
  have hq : r / 16 < 16 := by omega
  have hm : r % 16 < 16 := by omega
  rw [shapeCast_apply _ _ _ (ix3 ⟨r / 16, hq⟩ ⟨r % 16, hm⟩ ⟨j, hj⟩) (by
    rw [Shape.rowMajor_val_three, Shape.rowMajor_val_two]; show (r / 16 * 16 + r % 16) * 256 + j = r * 256 + j; omega), mulf_apply]
  congr 1
  · rw [shapeCast_apply _ _ _ (ix2 ⟨r, hr⟩ ⟨j, hj⟩) (by
      rw [Shape.rowMajor_val_three, Shape.rowMajor_val_two]; show r * 256 + j = (r / 16 * 16 + r % 16) * 256 + j; omega), sitofp_apply]
    have e1 : shapeCast S256x256 (broadcastTo S128x2x256 (shapeCast S128x1x256 (shapeCast S128x1x256 (extui 32 b natLt_8_32) shapeCasts_S128x256_S128x1x256) shapeCasts_S128x1x256_S128x1x256)
        broadcasts_S128x1x256_S128x2x256) shapeCasts_S128x2x256_S256x256 (ix2 ⟨r, hr⟩ ⟨j, hj⟩) = (at2 b (r / 2) j).setWidth 32 := by
      rw [shapeCast_apply _ _ _ (ix3 ⟨r / 2, by omega⟩ ⟨r % 2, by omega⟩ ⟨j, hj⟩) (by
          rw [Shape.rowMajor_val_three, Shape.rowMajor_val_two]; show (r / 2 * 2 + r % 2) * 256 + j = r * 256 + j; omega),
        broadcastTo_apply _ _ _ (ix3 ⟨r / 2, by omega⟩ ⟨0, by omega⟩ ⟨j, hj⟩) (fun a => match a with | ⟨0, _⟩ => rfl | ⟨1, _⟩ => rfl | ⟨2, _⟩ => rfl),
        shapeCast_self, shapeCast_apply _ _ _ (ix2 ⟨r / 2, by omega⟩ ⟨j, hj⟩) (by
          rw [Shape.rowMajor_val_three, Shape.rowMajor_val_two]; show r / 2 * 256 + j = (r / 2 * 1 + 0) * 256 + j; omega), extui_apply,
        at2_of b _ (r / 2) j rfl rfl]
    have e2 : lift (ix2 ⟨r, hr⟩ ⟨j, hj⟩) = if r % 2 = 0 then 28#32 else 24#32 := by
      rw [← lift_word ⟨r, hr⟩]
      unfold lift
      simp only [subi, muli, andi, broadcast_apply]
      rw [iota_single_apply .tc S256x256 32 0]
    have e3 : shrsi (shli (shapeCast S256x256 (broadcastTo S128x2x256 (shapeCast S128x1x256 (shapeCast S128x1x256 (extui 32 b natLt_8_32) shapeCasts_S128x256_S128x1x256) shapeCasts_S128x1x256_S128x1x256)
        broadcasts_S128x1x256_S128x2x256) shapeCasts_S128x2x256_S256x256) lift) (broadcast S256x256 28#32) (ix2 ⟨r, hr⟩ ⟨j, hj⟩)
        = IntOp.shrsi .vector (IntOp.shli .vector ((at2 b (r / 2) j).setWidth 32) (if r % 2 = 0 then 28#32 else 24#32)) 28#32 := by
      rw [← e1, ← e2]; rfl
    rw [e3]
    show ((BitVec.toInt _ : ℝ) : EReal) = _
    by_cases hp : r % 2 = 0
    · rw [if_pos hp, lift_lo, hp]
    · rw [if_neg hp, lift_hi, show r % 2 = 1 from by omega]
  · rw [broadcastTo_apply _ _ _ (ix3 ⟨0, by omega⟩ ⟨r % 16, hm⟩ ⟨j, hj⟩) (fun a => match a with | ⟨0, _⟩ => rfl | ⟨1, _⟩ => rfl | ⟨2, _⟩ => rfl),
      shapeCast_apply _ _ _ (ix2 ⟨r % 16, hm⟩ ⟨j, hj⟩) (by
        rw [Shape.rowMajor_val_three, Shape.rowMajor_val_two]; show r % 16 * 256 + j = (0 * 16 + r % 16) * 256 + j; omega),
      shapeCast_apply _ _ _ (ix3 ⟨r % 16 / 2, by omega⟩ ⟨r % 2, by omega⟩ ⟨j, hj⟩) (by
        rw [Shape.rowMajor_val_three, Shape.rowMajor_val_two]; show (r % 16 / 2 * 2 + r % 2) * 256 + j = r % 16 * 256 + j; omega),
      broadcastTo_apply _ _ _ (ix3 ⟨0, by omega⟩ ⟨r % 2, by omega⟩ ⟨j, hj⟩) (fun a => match a with | ⟨0, _⟩ => rfl | ⟨1, _⟩ => rfl | ⟨2, _⟩ => rfl),
      shapeCast_self,
      extractStridedSlice_apply _ _ _ _ (ix3 ⟨k, h⟩ ⟨r % 2, by omega⟩ ⟨j, hj⟩) (fun a => match a with | ⟨0, _⟩ => rfl | ⟨1, _⟩ => by show r % 2 = 0 + r % 2; omega | ⟨2, _⟩ => by show j = 0 + j; omega)]
    exact at3_of p _ _ _ _ rfl rfl rfl

end Cert.GateUp.Own

end
-- ==== Proof.GateUpLin.lean ====
module

public import proofs.«01_k».proof.Proof.GateUpTile

@[expose] public section

set_option maxRecDepth 16384

noncomputable section

/-!
# The gate/up call's running sum over the reals

The sum over the interleaved tiles is the sum over the low nibbles' rows plus the sum over the high nibbles' rows.
-/

namespace Cert.GateUp.Own

open Idealize.ShloMosaic Idealize.ShloMosaic.TcCoe Idealize.ShloMosaic.ValueIdx
open Cert.GateUp Facts₀ Facts Cert.Own
open scoped BigOperators

variable [Facts]

/-- The running sum after `n` tiles. -/
theorem accAll_at (X : Vec Ideal S40x8192 .bf16) (p : FVec Ideal S32x2x256 .bf16) (B : Vec Ideal S4096x256 .i8) (g0 : FVec Ideal S40x256 .f32)
    (b j : ℕ) (hb : b < 40) (hj : j < 256) (n : ℕ) (hn : n ≤ 32) :
    at2 (accAll (F := Ideal) X p B g0 n) b j = at2 g0 b j
      + ∑ k ∈ Finset.range n, ∑ c ∈ Finset.range 256, at2 X b (256 * k + c) * (((nib (at2 B (128 * k + c / 2) j) (c % 2) : ℝ) : EReal) * at3 p k (c % 2) j) := by
  induction n with
  | zero => simp [accAll]
  | succ n ih =>
    have h : n < 32 := hn
    rw [Finset.sum_range_succ, ← add_assoc, ← ih (by omega)]
    rw [at2_fin _ _ _ hb hj, at2_fin _ _ _ hb hj]
    show accAll (F := Ideal) X p B g0 (n + 1) _ = _
    rw [accAll, dif_pos h]
    unfold addTile
    rw [addf_apply]
    congr 1
    refine (matmul_at (M := 40) (K := 256) (N := 256) none _ _ _).trans ?_
    refine Finset.sum_congr rfl fun c hc => ?_
    have hc' : c < 256 := Finset.mem_range.mp hc
    show at2 (fun i => X ((rXp n h).idx i)) b c * at2 (wTile (F := Ideal) p n h (fun i => B ((rCode n h).idx i))) c j = _
    rw [wTile_at _ _ _ _ _ _ hc' hj, at2_fin _ _ _ hb hc', at2_fin _ _ _ (by omega : c / 2 < 128) hj]
    congr 1
    · exact at2_of X _ _ _ (by show 0 + 1 * b = b; omega) (by show 256 * n + 1 * c = _; omega)
    · congr 4
      exact at2_of B _ _ _ (by show 128 * n + 1 * (c / 2) = _; omega) (by show 0 + 1 * j = j; omega)

/-- One element of the dequantised product: the low nibbles with the first half of the activations, the high nibbles with the second. -/
def linOf (x : Vec Ideal S40x8192 .bf16) (B : Vec Ideal S4096x256 .i8) (s : Vec Ideal S64x256 .bf16) (b j : ℕ) : EReal :=
  ∑ i ∈ Finset.range 4096, at2 x b i * (((nib (at2 B i j) 0 : ℝ) : EReal) * at2 s (i / 128) j)
    + ∑ i ∈ Finset.range 4096, at2 x b (4096 + i) * (((nib (at2 B i j) 1 : ℝ) : EReal) * at2 s (32 + i / 128) j)

/-- The whole running sum. -/
theorem acc_lin (x : Vec Ideal S40x8192 .bf16) (s : Vec Ideal S64x256 .bf16) (B : Vec Ideal S4096x256 .i8) (g0 : FVec Ideal S40x256 .f32)
    (b j : ℕ) (hb : b < 40) (hj : j < 256) :
    at2 (accAll (F := Ideal) (xpAll (F := Ideal) x) (pairs (F := Ideal) s) B g0 32) b j = at2 g0 b j + linOf x B s b j := by
  rw [accAll_at _ _ _ _ b j hb hj 32 le_rfl]
  congr 1
  have e : ∀ k ∈ Finset.range 32, ∀ c ∈ Finset.range 256,
      at2 (xpAll (F := Ideal) x) b (256 * k + c) * (((nib (at2 B (128 * k + c / 2) j) (c % 2) : ℝ) : EReal) * at3 (pairs (F := Ideal) s) k (c % 2) j)
      = (fun p i => at2 x b (4096 * p + i) * (((nib (at2 B i j) p : ℝ) : EReal) * at2 s (32 * p + i / 128) j)) (c % 2) (128 * k + c / 2) := by
    intro k hk c hc
    have hk' : k < 32 := Finset.mem_range.mp hk
    have hc' : c < 256 := Finset.mem_range.mp hc
    rw [xpAll_at x b _ hb (by omega), pairs_at s k _ j hk' (by omega) hj]
    show _ = at2 x b (4096 * (c % 2) + (128 * k + c / 2)) * (_ * at2 s (32 * (c % 2) + (128 * k + c / 2) / 128) j)
    rw [show 4096 * ((256 * k + c) % 2) + 128 * ((256 * k + c) / 256) + (256 * k + c) % 256 / 2 = 4096 * (c % 2) + (128 * k + c / 2) from by omega,
      show 32 * (c % 2) + (128 * k + c / 2) / 128 = 32 * (c % 2) + k from by omega]
  refine ((Finset.sum_congr rfl fun k hk => Finset.sum_congr rfl fun c hc => e k hk c hc).trans
    (sum_tiles (fun p i => at2 x b (4096 * p + i) * (((nib (at2 B i j) p : ℝ) : EReal) * at2 s (32 * p + i / 128) j)) 32)).trans ?_
  unfold linOf
  simp only [Nat.mul_zero, Nat.zero_add, Nat.mul_one]

end Cert.GateUp.Own

end
-- ==== Proof.GateUpLora.lean ====
module

public import proofs.«01_k».proof.Proof.GateUpTriple
public import proofs.«01_k».proof.Proof.At

@[expose] public section

set_option maxRecDepth 16384

noncomputable section

/-!
# The gate/up call's LoRA part over the reals

Each row's own adapter is picked, its product scaled, and the second product sums that adapter's rows alone.
-/

namespace Cert.GateUp.Own

open Idealize.ShloMosaic Idealize.ShloMosaic.TcCoe Idealize.ShloMosaic.ValueIdx
open Cert.GateUp Facts₀ Facts Cert.Own
open scoped BigOperators

variable [Facts]

/-- Five nested tests pick by number. -/
theorem pick5 {α : Type} (v : BitVec 32) (f : ℕ → α) (z : α) :
    (if v = 4#32 then f 4 else if v = 3#32 then f 3 else if v = 2#32 then f 2 else if v = 1#32 then f 1 else if v = 0#32 then f 0 else z)
      = if v.toNat < 5 then f v.toNat else z := by
  by_cases h4 : v = 4#32
  · subst h4; rfl
  by_cases h3 : v = 3#32
  · subst h3; rfl
  by_cases h2 : v = 2#32
  · subst h2; rfl
  by_cases h1 : v = 1#32
  · subst h1; rfl
  by_cases h0 : v = 0#32
  · subst h0; rfl
  rw [if_neg h4, if_neg h3, if_neg h2, if_neg h1, if_neg h0, if_neg]
  intro h
  have k : ∀ n : ℕ, n < 5 → v ≠ BitVec.ofNat 32 n → v.toNat ≠ n := by
    intro n hn hv e
    exact hv (BitVec.eq_of_toNat_eq (by rw [BitVec.toNat_ofNat, e, Nat.mod_eq_of_lt (by omega)]))
  have := k 4 (by omega) h4; have := k 3 (by omega) h3; have := k 2 (by omega) h2; have := k 1 (by omega) h1; have := k 0 (by omega) h0
  omega

/-- The test on every LoRA row is the batch row's. -/
theorem isN32_at (idx : IVec S1x40 32) (n : BitVec 32) (i : S32x40.Idx) :
    isN32 idx n i = IntOp.cmpi .eq (at2 idx 0 (i 1).val) n := by
  unfold isN32
  rw [broadcastTo_apply _ _ _ (ix2 (0 : Fin 1) (⟨(i 1).val, (i 1).isLt⟩ : Fin 40)) (fun a => match a with | ⟨0, _⟩ => rfl | ⟨1, _⟩ => rfl), shapeCast_self]
  show IntOp.cmpi .eq (idx _) n = _
  rw [at2_of idx _ 0 (i 1).val rfl rfl]

theorem zero_f32 : (Scalar.ofBits (F := Ideal) .f32 0x00000000#32 : EReal) = 0 := Ideal.ofBits_zero_f32

/-- A row's LoRA scale: its adapter's, zero where there is none. -/
theorem scaleOf_at (idx : IVec S1x40 32) (f : ℕ → EReal) (b : ℕ) (hb : b < 40) :
    scaleOf (F := Ideal) idx (f 0) (f 1) (f 2) (f 3) (f 4) (ix2 (0 : Fin 1) (⟨b, hb⟩ : Fin 40))
      = if (at2 idx 0 b).toNat < 5 then f (at2 idx 0 b).toNat else 0 := by
  rw [← pick5]
  unfold scaleOf isN
  simp only [select_apply, broadcast_apply, cmpi]
  rw [select_eq_ite, select_eq_ite, select_eq_ite, select_eq_ite, select_eq_ite, at2_of idx _ 0 b rfl rfl, zero_f32]

/-- The first product. -/
theorem loraA_at (a : Vec Ideal S160x8192 .bf16) (x : Vec Ideal S40x8192 .bf16) (q b : ℕ) (hq : q < 160) (hb : b < 40) :
    loraA (F := Ideal) a x (ix2 ⟨q, hq⟩ ⟨b, hb⟩) = ∑ d ∈ Finset.range 8192, at2 a q d * at2 x b d := by
  unfold loraA
  rw [shapeCast_self, shapeCast_self]
  exact matmulT_at (φ₁ := .bf16) (φ₂ := .bf16) (M := 160) (K := 8192) (N := 40) none _ _ _

/-- A row's own adapter's rows. -/
theorem pick_at (idx : IVec S1x40 32) (z : FVec Ideal S160x40 .f32) (r b : ℕ) (hr : r < 32) (hb : b < 40) :
    pick (F := Ideal) idx z (ix2 ⟨r, hr⟩ ⟨b, hb⟩) = if (at2 idx 0 b).toNat < 5 then at2 z (32 * (at2 idx 0 b).toNat + r) b else 0 := by
  refine Eq.trans ?_ (pick5 (at2 idx 0 b) (fun n => at2 z (32 * n + r) b) 0)
  unfold pick
  simp only [select_apply, broadcast_apply, isN32_at]
  rw [select_eq_ite, select_eq_ite, select_eq_ite, select_eq_ite, select_eq_ite, zero_f32]
  have e : ∀ (n : ℕ) (hn : n < 5) (h : S160x40.Slices ![32 * n, 0] S32x40),
      extractStridedSlice S32x40 ![32 * n, 0] z h (ix2 ⟨r, hr⟩ ⟨b, hb⟩) = at2 z (32 * n + r) b := by
    intro n hn h
    rw [extractStridedSlice_apply _ _ _ _ (ix2 (⟨32 * n + r, by omega⟩ : Fin 160) (⟨b, hb⟩ : Fin 40)) (fun a => match a with | ⟨0, _⟩ => rfl | ⟨1, _⟩ => by show b = 0 + b; omega)]
    exact at2_of z _ _ _ rfl rfl
  rw [e 4 (by omega) slices_S160x40_o128_0_S32x40, e 3 (by omega) slices_S160x40_o96_0_S32x40, e 2 (by omega) slices_S160x40_o64_0_S32x40,
    e 1 (by omega) slices_S160x40_o32_0_S32x40, e 0 (by omega) slices_S160x40_o0_0_S32x40]

/-- The scaled first product of batch row `b`, LoRA row `r`. -/
def sOf (a1 : Vec Ideal S5 .f32) (ix : Vec Ideal S1x40 .i32) (x : Vec Ideal S40x8192 .bf16) (a : Vec Ideal S160x8192 .bf16) (b r : ℕ) : EReal :=
  if (at2 ix 0 b).toNat < 5 then
    (∑ d ∈ Finset.range 8192, at2 a (32 * (at2 ix 0 b).toNat + r) d * at2 x b d) * at1 a1 (at2 ix 0 b).toNat
  else 0

/-- What the call returns transposed. -/
theorem stAll_at (a1 : Vec Ideal S5 .f32) (ix : Vec Ideal S1x40 .i32) (x : Vec Ideal S40x8192 .bf16) (a : Vec Ideal S160x8192 .bf16)
    (r b : ℕ) (hr : r < 32) (hb : b < 40) : at2 (stAll (F := Ideal) a1 ix x a) r b = sOf a1 ix x a b r := by
  rw [at2_fin _ _ _ hr hb]
  unfold stAll stOf stRow
  rw [truncf_apply, mulf_apply, shapeCast_self, pick_at,
    broadcastTo_apply _ _ _ (ix2 (0 : Fin 1) (⟨b, hb⟩ : Fin 40)) (fun a => match a with | ⟨0, _⟩ => rfl | ⟨1, _⟩ => rfl)]
  have es : ∀ n (h : n < 5), a1 ((rScale n h).idx one) = at1 a1 n := fun n h => at1_of a1 _ _ (by show n + 1 * 0 = n; omega)
  rw [es 0, es 1, es 2, es 3, es 4, scaleOf_at ix (fun n => at1 a1 n)]
  unfold sOf
  by_cases h : (at2 ix 0 b).toNat < 5
  · rw [if_pos h, if_pos h, if_pos h, at2_fin _ _ _ (by omega) hb, loraA_at]
  · rw [if_neg h, if_neg h, if_neg h, mul_zero]

/-- Adapter `n`'s rows of the routed product. -/
theorem routeN_at (idx : IVec S1x40 32) (st : FVec Ideal S32x40 .bf16) (n : BitVec 32) (r b : ℕ) (hr : r < 32) (hb : b < 40) :
    routeN (F := Ideal) idx st n (ix2 ⟨r, hr⟩ ⟨b, hb⟩) = if at2 idx 0 b = n then at2 st r b else 0 := by
  unfold routeN
  rw [select_apply, isN32_at, select_eq_ite, broadcast_apply, zero_f32, extf_apply, at2_of st _ r b rfl rfl]

/-- The five adapters' rows. -/
def pieces (idx : IVec S1x40 32) (st : FVec Ideal S32x40 .bf16) : List ((s : Shape) × (s.Idx → EReal)) :=
  [⟨S32x40, routeN (F := Ideal) idx st 0#32⟩, ⟨S32x40, routeN (F := Ideal) idx st 1#32⟩, ⟨S32x40, routeN (F := Ideal) idx st 2#32⟩, ⟨S32x40, routeN (F := Ideal) idx st 3#32⟩, ⟨S32x40, routeN (F := Ideal) idx st 4#32⟩]

/-- The routed product: the row's own where its adapter's rows are, zero elsewhere. -/
theorem route_at (idx : IVec S1x40 32) (st : FVec Ideal S32x40 .bf16) (b q : ℕ) (hb : b < 40) (hq : q < 160) :
    at2 (route (F := Ideal) idx st) b q = if (at2 idx 0 b).toNat = q / 32 then at2 st (q % 32) b else 0 := by
  rw [at2_fin _ _ _ hb hq]
  unfold route
  rw [truncf_apply, transpose_apply _ _ _ _ (ix2 (⟨q, hq⟩ : Fin 160) (⟨b, hb⟩ : Fin 40)) (fun a => match a with | ⟨0, _⟩ => rfl | ⟨1, _⟩ => rfl)]
  have key : ∀ (n : ℕ), n < 5 → (if at2 idx 0 b = BitVec.ofNat 32 n then at2 st (q % 32) b else 0)
      = if (at2 idx 0 b).toNat = n then at2 st (q % 32) b else (0 : EReal) := by
    intro n hn
    have : (at2 idx 0 b = BitVec.ofNat 32 n) ↔ (at2 idx 0 b).toNat = n := by
      constructor
      · intro h; rw [h, BitVec.toNat_ofNat, Nat.mod_eq_of_lt (by omega)]
      · intro h; exact BitVec.eq_of_toNat_eq (by rw [BitVec.toNat_ofNat, h, Nat.mod_eq_of_lt (by omega)])
    simp only [this]
  have hm : q % 32 < 32 := Nat.mod_lt _ (by decide)
  have piece : ∀ (n : ℕ) (hn : n < 5) (e : q / 32 = n) (hk : n < (pieces idx st).length)
      (hxk : (pieces idx st)[n]
        = ⟨S32x40, routeN (F := Ideal) idx st (BitVec.ofNat 32 n)⟩)
      (hpre : ((((pieces idx st).take n).map (·.1)).map fun s => if h : s.rank = S160x40.rank then s.size ((0 : Fin 2).cast h.symm) else 0).sum = 32 * n),
      concatenate S160x40 0 (pieces idx st)
        concatenates_S32x40_S32x40_S32x40_S32x40_S32x40_S160x40_d0 (ix2 (⟨q, hq⟩ : Fin 160) (⟨b, hb⟩ : Fin 40)) = if (at2 idx 0 b).toNat = n then at2 st (q % 32) b else (0 : EReal) := by
    intro n hn e hk hxk hpre
    rw [← key n hn, ← routeN_at idx st _ (q % 32) b hm hb]
    exact concatenate_apply_piece (t := S160x40) 0 (pieces idx st) _ _ n hk S32x40 _ hxk rfl (32 * n) hpre (ix2 (⟨q % 32, hm⟩ : Fin 32) (⟨b, hb⟩ : Fin 40))
      (fun a => match a with | ⟨0, _⟩ => fun h => absurd rfl h | ⟨1, _⟩ => fun _ => rfl) (by show 32 * n + q % 32 = q; omega)
  obtain e | e | e | e | e : q / 32 = 0 ∨ q / 32 = 1 ∨ q / 32 = 2 ∨ q / 32 = 3 ∨ q / 32 = 4 := by omega
  all_goals rw [e]; exact piece _ (by decide) e (by simp [pieces]) rfl rfl

/-- Which LoRA rows are the gate's: the first half of each adapter's. -/
theorem isGate_word : ∀ q : Fin 160, IntOp.cmpi .slt (Scalar.select (IntOp.andi (IntOp.xori (IntOp.cmpi .slt (IntOp.remsi .vector (BitVec.ofNat 32 q.val) 32#32) 0#32) 0#1)
      (IntOp.cmpi .ne (IntOp.remsi .vector (BitVec.ofNat 32 q.val) 32#32) 0#32)) (IntOp.addi (IntOp.remsi .vector (BitVec.ofNat 32 q.val) 32#32) 32#32) (IntOp.remsi .vector (BitVec.ofNat 32 q.val) 32#32)) 16#32
    = if q.val % 32 < 16 then 1#1 else 0#1 := by decide +kernel

theorem isGate_at (b q : ℕ) (hb : b < 40) (hq : q < 160) : isGate (ix2 ⟨b, hb⟩ ⟨q, hq⟩) = if q % 32 < 16 then 1#1 else 0#1 := by
  rw [← isGate_word ⟨q, hq⟩]
  have er : rem32 (ix2 ⟨b, hb⟩ ⟨q, hq⟩) = IntOp.remsi .vector (BitVec.ofNat 32 q) 32#32 := by
    unfold rem32
    simp only [remsi, broadcast_apply]
    rw [iota_single_apply .tc S40x160 32 1]
    rfl
  unfold isGate
  simp only [cmpi, select_apply, andi, xori, addi, broadcast_apply, er]
  rfl

/-- The gate's rows. -/
theorem gateRows_at (r : FVec Ideal S40x160 .bf16) (b q : ℕ) (hb : b < 40) (hq : q < 160) :
    at2 (gateRows (F := Ideal) r) b q = if q % 32 / 16 = 0 then at2 r b q else 0 := by
  rw [at2_fin _ _ _ hb hq, at2_fin _ _ _ hb hq]
  unfold gateRows
  rw [truncf_apply, select_apply, isGate_at, extf_apply, broadcast_apply, zero_f32]
  by_cases h : q % 32 < 16
  · rw [if_pos h, if_pos (by omega)]; exact select_one ..
  · rw [if_neg h, if_neg (by omega)]; exact select_zero ..
/-- The up projection's rows. -/
theorem upRows_at (r : FVec Ideal S40x160 .bf16) (b q : ℕ) (hb : b < 40) (hq : q < 160) :
    at2 (upRows (F := Ideal) r) b q = if q % 32 / 16 = 1 then at2 r b q else 0 := by
  rw [at2_fin _ _ _ hb hq, at2_fin _ _ _ hb hq]
  unfold upRows
  rw [truncf_apply, select_apply, isGate_at, extf_apply, broadcast_apply, zero_f32]
  by_cases h : q % 32 < 16
  · rw [if_pos h, if_neg (by omega)]; exact select_one ..
  · rw [if_neg h, if_pos (by omega)]; exact select_zero ..

/-- A sum over all adapters' rows which one adapter's half alone enters. -/
theorem sum_route (n t : ℕ) (ht : t < 2) (f B : ℕ → EReal) :
    ∑ q ∈ Finset.range 160, (if q % 32 / 16 = t then (if n = q / 32 then f (q % 32) else 0) else 0) * B q
      = if n < 5 then ∑ r ∈ Finset.range 16, f (16 * t + r) * B (32 * n + (16 * t + r)) else 0 := by
  rw [show 160 = 5 * 32 from rfl, sum_blocks _ 5 32]
  have inner : ∀ a ∈ Finset.range 5, ∑ r ∈ Finset.range 32,
      (if (a * 32 + r) % 32 / 16 = t then (if n = (a * 32 + r) / 32 then f ((a * 32 + r) % 32) else 0) else 0) * B (a * 32 + r)
      = if a = n then ∑ r ∈ Finset.range 16, f (16 * t + r) * B (32 * n + (16 * t + r)) else 0 := by
    intro a ha
    by_cases e : a = n
    · subst e
      rw [if_pos rfl, show 32 = 2 * 16 from rfl, sum_blocks _ 2 16, Finset.sum_eq_single t]
      · refine Finset.sum_congr rfl fun r hr => ?_
        have hr' : r < 16 := Finset.mem_range.mp hr
        rw [show a * (2 * 16) + (t * 16 + r) = 32 * a + (16 * t + r) from by ring]
        rw [if_pos (by omega), if_pos (by omega), show (32 * a + (16 * t + r)) % (2 * 16) = 16 * t + r from by omega]
      · intro u hu hne
        refine Finset.sum_eq_zero fun r hr => ?_
        have hr' : r < 16 := Finset.mem_range.mp hr
        have hu' : u < 2 := Finset.mem_range.mp hu
        rw [if_neg (by omega), zero_mul]
      · intro h; exact absurd (Finset.mem_range.mpr ht) h
    · rw [if_neg e]
      refine Finset.sum_eq_zero fun r hr => ?_
      have hr' : r < 32 := Finset.mem_range.mp hr
      rw [if_neg (by omega : ¬ n = (a * 32 + r) / 32)]
      simp
  rw [Finset.sum_congr rfl inner]
  by_cases h : n < 5
  · rw [if_pos h, Finset.sum_eq_single n]
    · rw [if_pos rfl]
    · intro a _ hne; rw [if_neg hne]
    · intro hh; exact absurd (Finset.mem_range.mpr h) hh
  · rw [if_neg h]
    refine Finset.sum_eq_zero fun a ha => ?_
    rw [if_neg]; intro e; subst e; exact h (Finset.mem_range.mp ha)

/-- The second product of batch row `b` for the gate (`t = 0`) or the up projection (`t = 1`), at a column of a block of `B`. -/
def deltaOf (ix : Vec Ideal S1x40 .i32) (s : ℕ → EReal) (B : Vec Ideal S160x256 .bf16) (t b j : ℕ) : EReal :=
  if (at2 ix 0 b).toNat < 5 then ∑ r ∈ Finset.range 16, s (16 * t + r) * at2 B (32 * (at2 ix 0 b).toNat + (16 * t + r)) j else 0

/-- What the gate's sum starts from. -/
theorem gate_at (a1 : Vec Ideal S5 .f32) (ix : Vec Ideal S1x40 .i32) (x : Vec Ideal S40x8192 .bf16) (a : Vec Ideal S160x8192 .bf16) (B : Vec Ideal S160x256 .bf16)
    (b j : ℕ) (hb : b < 40) (hj : j < 256) :
    at2 (loraB (F := Ideal) (gateAll (F := Ideal) a1 ix x a) B) b j = deltaOf ix (sOf a1 ix x a b) B 0 b j := by
  rw [at2_fin _ _ _ hb hj]
  unfold loraB gateAll
  rw [shapeCast_self, shapeCast_self, shapeCast_self]
  refine (matmul_at (φ₁ := .bf16) (φ₂ := .bf16) (M := 40) (K := 160) (N := 256) none _ _ _).trans (Eq.trans ?_ (sum_route (at2 ix 0 b).toNat 0 (by decide) (sOf a1 ix x a b) (fun q => at2 B q j)))
  refine Finset.sum_congr rfl fun q hq => ?_
  have hq' : q < 160 := Finset.mem_range.mp hq
  show at2 (gateRows (F := Ideal) _) b q * at2 B q j = _
  rw [gateRows_at _ _ _ hb hq', route_at _ _ _ _ hb hq', stAll_at _ _ _ _ _ _ (by omega) hb]

/-- What the up projection's sum starts from. -/
theorem up_at (a1 : Vec Ideal S5 .f32) (ix : Vec Ideal S1x40 .i32) (x : Vec Ideal S40x8192 .bf16) (a : Vec Ideal S160x8192 .bf16) (B : Vec Ideal S160x256 .bf16)
    (b j : ℕ) (hb : b < 40) (hj : j < 256) :
    at2 (loraB (F := Ideal) (upAll (F := Ideal) a1 ix x a) B) b j = deltaOf ix (sOf a1 ix x a b) B 1 b j := by
  rw [at2_fin _ _ _ hb hj]
  unfold loraB upAll
  rw [shapeCast_self, shapeCast_self, shapeCast_self]
  refine (matmul_at (φ₁ := .bf16) (φ₂ := .bf16) (M := 40) (K := 160) (N := 256) none _ _ _).trans (Eq.trans ?_ (sum_route (at2 ix 0 b).toNat 1 (by decide) (sOf a1 ix x a b) (fun q => at2 B q j)))
  refine Finset.sum_congr rfl fun q hq => ?_
  have hq' : q < 160 := Finset.mem_range.mp hq
  show at2 (upRows (F := Ideal) _) b q * at2 B q j = _
  rw [upRows_at _ _ _ hb hq', route_at _ _ _ _ hb hq', stAll_at _ _ _ _ _ _ (by omega) hb]

end Cert.GateUp.Own

end
-- ==== Proof.GateUpSpec.lean ====
module

public import proofs.«01_k».proof.Proof.At

@[expose] public section

noncomputable section

/-!
# What the gate/up call computes, over the reals

The mathematics both programs are brought to: an int4 linear layer with a scale per 128 rows, a routed LoRA correction, and
the gated product.
-/

namespace Cert.GateUpSpec

open Idealize.ShloMosaic Cert.Own
open scoped BigOperators

variable (x0 : (⟨3, ![40, 1, 8192]⟩ : Shape).Idx → EReal) (x1 : (⟨1, ![40]⟩ : Shape).Idx → BitVec 32)
  (x2 : (⟨2, ![4096, 44032]⟩ : Shape).Idx → BitVec 8) (x3 : (⟨2, ![64, 44032]⟩ : Shape).Idx → EReal)
  (x4 : (⟨3, ![5, 8192, 32]⟩ : Shape).Idx → EReal) (x5 : (⟨4, ![5, 2, 16, 22016]⟩ : Shape).Idx → EReal)
  (x6 : (⟨1, ![5]⟩ : Shape).Idx → EReal)

/-- The linear layer: the low nibbles with the first half of the activations, the high nibbles with the second half. -/
def lin (b j : ℕ) : EReal :=
  ∑ i ∈ Finset.range 4096, at3 x0 b 0 i * (((nib (at2 x2 i j) 0 : ℝ) : EReal) * at2 x3 (i / 128) j)
    + ∑ i ∈ Finset.range 4096, at3 x0 b 0 (4096 + i) * (((nib (at2 x2 i j) 1 : ℝ) : EReal) * at2 x3 (32 + i / 128) j)

/-- The first LoRA product of row `b` with its own adapter, scaled; zero where the adapter's number is out of range. -/
def s (b r : ℕ) : EReal :=
  if (at1 x1 b).toNat < 5 then
    (∑ d ∈ Finset.range 8192, at3 x4 (at1 x1 b).toNat d r * at3 x0 b 0 d) * at1 x6 (at1 x1 b).toNat
  else 0

/-- The second LoRA product, for the gate (`t = 0`) and the up projection (`t = 1`). -/
def delta (t b f : ℕ) : EReal :=
  if (at1 x1 b).toNat < 5 then
    ∑ r ∈ Finset.range 16, s x0 x1 x4 x6 b (16 * t + r) * at4 x5 (at1 x1 b).toNat t r f
  else 0

/-- The gate (`t = 0`) and the up projection (`t = 1`). -/
def pre (t b f : ℕ) : EReal := lin x0 x2 x3 b (22016 * t + f) + delta x0 x1 x4 x5 x6 t b f

/-- The gated product. -/
def h (b f : ℕ) : EReal :=
  pre x0 x1 x2 x3 x4 x5 x6 0 b f * Ideal.logistic (pre x0 x1 x2 x3 x4 x5 x6 0 b f) * pre x0 x1 x2 x3 x4 x5 x6 1 b f

end Cert.GateUpSpec

end
-- ==== Proof.GateUpValue.lean ====
module

public import proofs.«01_k».proof.Proof.GateUpBlocks
public import proofs.«01_k».proof.Proof.GateUpLin
public import proofs.«01_k».proof.Proof.GateUpLora
public import proofs.«01_k».proof.Proof.GateUpSpec

@[expose] public section

set_option maxRecDepth 16384

noncomputable section

/-!
# The gate/up call: its two arrays are the specification

What a grid point leaves of each result, in terms of the arguments, then the arrays after the run, then the run itself.
-/

namespace Cert.GateUp.Own

open Idealize.ShloMosaic Idealize.ShloMosaic.TcCoe Idealize.ShloMosaic.ValueIdx
open Idealize.SL.Sem
open Idealize.ShloMosaic.Pipeline (Dat)
open Cert.GateUp Cert.GateUp.Gen Cert.Own
open scoped BigOperators

variable (m : (ℓ : Loc nD τ sig) → Buf (Elt Ideal) ℓ) (ρ : Dev nD → PrngReg) (c : Dev nD)

/-! ## One block -/

/-- A block of the gated product from the block's own operands. -/
theorem hAll_at (a1 : Vec Ideal S5 .f32) (ix : Vec Ideal S1x40 .i32) (x : Vec Ideal S40x8192 .bf16) (a : Vec Ideal S160x8192 .bf16)
    (cg cu : Vec Ideal S4096x256 .i8) (sg su : Vec Ideal S64x256 .bf16) (B : Vec Ideal S160x256 .bf16) (b j : ℕ) (hb : b < 40) (hj : j < 256) :
    at2 (hAll (F := Ideal) (xpAll (F := Ideal) x) (gateAll (F := Ideal) a1 ix x a) (upAll (F := Ideal) a1 ix x a) cg cu sg su B) b j
      = (linOf x cg sg b j + deltaOf ix (sOf a1 ix x a b) B 0 b j)
          * Ideal.logistic (linOf x cg sg b j + deltaOf ix (sOf a1 ix x a b) B 0 b j)
        * (linOf x cu su b j + deltaOf ix (sOf a1 ix x a b) B 1 b j) := by
  have eg : at2 (accAll (F := Ideal) (xpAll (F := Ideal) x) (pairs (F := Ideal) sg) cg (loraB (F := Ideal) (gateAll (F := Ideal) a1 ix x a) B) 32) b j
      = linOf x cg sg b j + deltaOf ix (sOf a1 ix x a b) B 0 b j := by
    rw [acc_lin _ _ _ _ b j hb hj, gate_at _ _ _ _ _ b j hb hj, add_comm]
  have eu : at2 (accAll (F := Ideal) (xpAll (F := Ideal) x) (pairs (F := Ideal) su) cu (loraB (F := Ideal) (upAll (F := Ideal) a1 ix x a) B) 32) b j
      = linOf x cu su b j + deltaOf ix (sOf a1 ix x a b) B 1 b j := by
    rw [acc_lin _ _ _ _ b j hb hj, up_at _ _ _ _ _ b j hb hj, add_comm]
  rw [← eg, ← eu]
  rfl

variable (t : Fin cfg0.N)

/-- The linear layer from the gate's blocks. -/
theorem lin_gate (b j : ℕ) (hb : b < 40) (hj : j < 256) :
    linOf (iblk m c 2 t0) (iblk m c 3 t) (iblk m c 5 t) b j = GateUpSpec.lin (A0 m c) (A2 m c) (A3 m c) b (256 * t.val + j) := by
  unfold linOf GateUpSpec.lin
  refine congrArg₂ (fun p q : EReal => p + q) (Finset.sum_congr rfl fun i hi => ?_) (Finset.sum_congr rfl fun i hi => ?_)
  · have hi := Finset.mem_range.mp hi
    rw [blk2_at m c t0 b i hb (by omega), blk3_at m c t i j hi hj, blk5_at m c t (i / 128) j (by omega) hj]
  · have hi := Finset.mem_range.mp hi
    rw [blk2_at m c t0 b (4096 + i) hb (by omega), blk3_at m c t i j hi hj, blk5_at m c t (32 + i / 128) j (by omega) hj]

/-- The linear layer from the up projection's blocks. -/
theorem lin_up (b j : ℕ) (hb : b < 40) (hj : j < 256) :
    linOf (iblk m c 2 t0) (iblk m c 4 t) (iblk m c 6 t) b j = GateUpSpec.lin (A0 m c) (A2 m c) (A3 m c) b (22016 + (256 * t.val + j)) := by
  unfold linOf GateUpSpec.lin
  refine congrArg₂ (fun p q : EReal => p + q) (Finset.sum_congr rfl fun i hi => ?_) (Finset.sum_congr rfl fun i hi => ?_)
  · have hi := Finset.mem_range.mp hi
    rw [blk2_at m c t0 b i hb (by omega), blk4_at m c t i j hi hj, blk6_at m c t (i / 128) j (by omega) hj]
  · have hi := Finset.mem_range.mp hi
    rw [blk2_at m c t0 b (4096 + i) hb (by omega), blk4_at m c t i j hi hj, blk6_at m c t (32 + i / 128) j (by omega) hj]

/-- The scaled first product from the blocks. -/
theorem s_blk (b r : ℕ) (hb : b < 40) (hr : r < 32) :
    sOf (iblk m c 0 t0) (iblk m c 1 t0) (iblk m c 2 t0) (iblk m c 7 t0) b r = GateUpSpec.s (A0 m c) (A1 m c) (A4 m c) (A6 m c) b r := by
  unfold sOf GateUpSpec.s
  rw [blk1_at m c t0 b hb]
  by_cases h : (at1 (A1 m c) b).toNat < 5
  · rw [if_pos h, if_pos h, blk0_at m c t0 _ h]
    refine congrArg (fun p : EReal => p * _) (Finset.sum_congr rfl fun d hd => ?_)
    have hd := Finset.mem_range.mp hd
    rw [blk7_at m c t0 _ r d h hr hd, blk2_at m c t0 b d hb hd]
  · rw [if_neg h, if_neg h]

/-- The second product from the blocks. -/
theorem delta_blk (p b j : ℕ) (hp : p < 2) (hb : b < 40) (hj : j < 256) :
    deltaOf (iblk m c 1 t0) (sOf (iblk m c 0 t0) (iblk m c 1 t0) (iblk m c 2 t0) (iblk m c 7 t0) b) (iblk m c 8 t) p b j
      = GateUpSpec.delta (A0 m c) (A1 m c) (A4 m c) (A5 m c) (A6 m c) p b (256 * t.val + j) := by
  unfold deltaOf GateUpSpec.delta
  rw [blk1_at m c t0 b hb]
  by_cases h : (at1 (A1 m c) b).toNat < 5
  · rw [if_pos h, if_pos h]
    refine Finset.sum_congr rfl fun r hr => ?_
    have hr := Finset.mem_range.mp hr
    rw [s_blk m c b (16 * p + r) hb (by omega), blk8_at m c t _ p r j h hp hr hj]
  · rw [if_neg h, if_neg h]

/-- What point `t` leaves of the gated product. -/
theorem h0_at (b j : ℕ) (hb : b < 40) (hj : j < 256) :
    at2 (h0 m c t) b j = GateUpSpec.h (A0 m c) (A1 m c) (A2 m c) (A3 m c) (A4 m c) (A5 m c) (A6 m c) b (256 * t.val + j) := by
  unfold h0 X0 G0 U0
  rw [hAll_at _ _ _ _ _ _ _ _ _ b j hb hj, lin_gate m c t b j hb hj, lin_up m c t b j hb hj, delta_blk m c t 0 b j (by omega) hb hj,
    delta_blk m c t 1 b j (by omega) hb hj]
  unfold GateUpSpec.h GateUpSpec.pre
  rw [show 22016 * 0 + (256 * t.val + j) = 256 * t.val + j from by omega, show 22016 * 1 + (256 * t.val + j) = 22016 + (256 * t.val + j) from by omega]

/-- What the first point leaves of the scaled first product. -/
theorem st0_at (r b : ℕ) (hr : r < 32) (hb : b < 40) :
    at2 (st0 m c) r b = GateUpSpec.s (A0 m c) (A1 m c) (A4 m c) (A6 m c) b r := by
  unfold st0
  rw [stAll_at _ _ _ _ r b hr hb, s_blk m c b r hb hr]

/-! ## The arrays after the run -/

/-- The gated product. -/
def H : S40x22016.Idx → EReal := fun i =>
  GateUpSpec.h (A0 m c) (A1 m c) (A2 m c) (A3 m c) (A4 m c) (A5 m c) (A6 m c) (i 0).val (i 1).val
/-- The scaled first product, transposed. -/
def S : S32x40.Idx → EReal := fun i => GateUpSpec.s (A0 m c) (A1 m c) (A4 m c) (A6 m c) (i 1).val (i 0).val

/-- The first array ends holding the gated product. -/
theorem final9 : (dats m 0 c).arrAt 9 cfg0.N = H m c := by
  refine (dats m 0 c).arrAt_eq_of_covers 9 _ (by decide +kernel) fun t hf y => ?_
  have hy0 : (y 0).val < 40 := (y 0).isLt
  have hy1 : (y 1).val < 256 := (y 1).isLt
  show (dats m 0 c).after 9 t y = H m c (((cfg0.win 9).blk t).view.emb y)
  rw [after0_9]
  refine (at2_of (h0 m c t) y (y 0).val (y 1).val rfl rfl).trans ((h0_at m c t _ _ hy0 hy1).trans ?_)
  have e0 : ((((cfg0.win 9).blk t).view.emb y) 0).val = (y 0).val := by
    show win0_9.index t (0 : Fin 2) * 40 + 1 * (y 0).val = _
    rw [index9]; show 0 * 40 + 1 * (y 0).val = _; omega
  have e1 : ((((cfg0.win 9).blk t).view.emb y) 1).val = 256 * t.val + (y 1).val := by
    show win0_9.index t (1 : Fin 2) * 256 + 1 * (y 1).val = _
    rw [index9]; show t.val * 256 + 1 * (y 1).val = _; omega
  unfold H
  rw [e0, e1]

/-- The second array ends holding the scaled first product, transposed. -/
theorem final10 : (dats m 0 c).arrAt 10 cfg0.N = S m c := by
  refine (dats m 0 c).arrAt_eq_of_after_last 10 ⟨85, by have : cfg0.N = 86 := N_0; omega⟩ (by decide +kernel) _ fun j => ?_
  have hj0 : (j 0).val < 32 := (j 0).isLt
  have hj1 : (j 1).val < 40 := (j 1).isLt
  show (dats m 0 c).after 10 _ j = S m c j
  rw [after0_10]
  exact (at2_of (st0 m c) j (j 0).val (j 1).val rfl rfl).trans (st0_at m c _ _ hj0 hj1)

/-! ## The run -/

/-- The run: each result is what the specification says of the arguments, the arguments unchanged. -/
theorem run : θ_run defs (onTc (τ := τ) (main (F := Ideal))) ⟨m, fun _ => 0, ρ⟩ fun r => ∀ c : Dev nD,
      r.2.mem ((c : Thread nD τ).loc main_v5_0) = H m c
      ∧ r.2.mem ((c : Thread nD τ).loc main_v5_1) = S m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 9).trans (final9 m c), ((h.2 c).1 10).trans (final10 m c), h.1.1 c⟩)
    (θ_run_and (frame m ρ) (run_main m ρ))

end Cert.GateUp.Own

end
-- ==== Proof.GateUpRead.lean ====
/-
  The gate/up reference read one operation at a time: `val_<buffer>` is what an operation writes, as a function of the arguments
  it depends on, and `val_<buffer>_apply` reads it at an index from its operands at an index. The text is the reading of a
  reference program which is printed for a proof that has no modules of its own. The gather and the product over two axes are
  read in GateUpRef.lean.
-/
module

public import proofs.«01_k».proof.Proof.Gen.GateUpRefIdeal.Run
public import Idealize.ShloMosaic.Lib.Pipeline.Value
public import Idealize.ShloMosaic.Lib.ValueIdx
public import Idealize.ShloMosaic.PureOps.Ideal.Laws

@[expose] public section

noncomputable section

namespace Cert.GateUpRefIdeal.Read

open Cert.GateUpRefIdeal Cert.GateUpRefIdeal.Gen Idealize.ShloMosaic Idealize.ShloMosaic.TcCoe Idealize.SL.Sem Idealize.ShloMosaic.StableHlo

variable {F : FTy → Type} [FloatOps F]

-- %0 = stablehlo.reshape %arg0 : (tensor<40x1x8192xbf16>) -> tensor<40x8192xbf16>
def val_main_v0 (x0 : (⟨S40x1x8192, .bf16⟩ : BufTy).Contents (Elt F)) : (⟨S40x8192, .bf16⟩ : BufTy).Contents (Elt F) :=
  shapeCast _ (x0) shapeCasts_S40x1x8192_S40x8192
set_option backward.proofsInPublic true in
abbrev idx_main_v0 (i : S40x8192.Idx) : S40x1x8192.Idx := fun a => match a with
  | ⟨0, _⟩ => ⟨((i 0).val * 8192 + (i 1).val) / 8192, by have h0 : (i 0).val < 40 := (i 0).isLt; have h1 : (i 1).val < 8192 := (i 1).isLt; show ((i 0).val * 8192 + (i 1).val) / 8192 < 40; omega⟩
  | ⟨1, _⟩ => ⟨0, Nat.one_pos⟩
  | ⟨2, _⟩ => ⟨((i 0).val * 8192 + (i 1).val) % 8192, by have h0 : (i 0).val < 40 := (i 0).isLt; have h1 : (i 1).val < 8192 := (i 1).isLt; show ((i 0).val * 8192 + (i 1).val) % 8192 < 8192; omega⟩
theorem val_main_v0_apply (x0 : (⟨S40x1x8192, .bf16⟩ : BufTy).Contents (Elt F)) (i : S40x8192.Idx) :
    val_main_v0 (F := F) x0 i = x0 (idx_main_v0 i) := by
  unfold val_main_v0
  exact shapeCast_apply x0 shapeCasts_S40x1x8192_S40x8192 i (idx_main_v0 i)
    (by rewrite [Shape.rowMajor_val_three, Shape.rowMajor_val_two]; have h0 : (i 0).val < 40 := (i 0).isLt; have h1 : (i 1).val < 8192 := (i 1).isLt; show (((i 0).val * 8192 + (i 1).val) / 8192 * 1 + 0) * 8192 + ((i 0).val * 8192 + (i 1).val) % 8192 = (i 0).val * 8192 + (i 1).val; omega)

-- @_one_hot's %0 = stablehlo.broadcast_in_dim %arg0, dims = [0] : (tensor<40xi32>) -> tensor<40x1xi32>, in %1 = func.call @_one_hot(…) (record main_call0)
def val_main_call0_v0 (x1 : (⟨S40, .i32⟩ : BufTy).Contents (Elt F)) : (⟨S40x1, .i32⟩ : BufTy).Contents (Elt F) :=
  broadcastInDim S40x1 ![0] bcast_S40_S40x1_0 (x1)
abbrev idx_main_call0_v0 (i : S40x1.Idx) : S40.Idx := fun a => match a with
  | ⟨0, _⟩ => ⟨(i 0).val, (i 0).isLt⟩
theorem val_main_call0_v0_apply (x1 : (⟨S40, .i32⟩ : BufTy).Contents (Elt F)) (i : S40x1.Idx) :
    val_main_call0_v0 (F := F) x1 i = x1 (idx_main_call0_v0 i) := by
  unfold val_main_call0_v0
  exact broadcastInDim_apply _ bcast_S40_S40x1_0 x1 i (idx_main_call0_v0 i) (fun a => match a with
    | ⟨0, _⟩ => by show (i 0).val = if (40 : Nat) = 1 then 0 else (i 0).val; rw [if_neg (by decide)])

-- @_one_hot's %1 = stablehlo.iota dim = 1 : tensor<1x5xi32>, in %1 = func.call @_one_hot(…) (record main_call0)
def val_main_call0_v1 : (⟨S1x5, .i32⟩ : BufTy).Contents (Elt F) :=
  iotaInDim S1x5 32 1
theorem val_main_call0_v1_apply (i : S1x5.Idx) :
    val_main_call0_v1 (F := F) i = BitVec.ofNat 32 (i 1).val := rfl

-- @_one_hot's %2 = stablehlo.broadcast_in_dim %0, dims = [0, 1] : (tensor<40x1xi32>) -> tensor<40x5xi32>, in %1 = func.call @_one_hot(…) (record main_call0)
def val_main_call0_v2 (x1 : (⟨S40, .i32⟩ : BufTy).Contents (Elt F)) : (⟨S40x5, .i32⟩ : BufTy).Contents (Elt F) :=
  broadcastInDim S40x5 ![0, 1] bcast_S40x1_S40x5_0_1 (val_main_call0_v0 (F := F) x1)
abbrev idx_main_call0_v2 (i : S40x5.Idx) : S40x1.Idx := fun a => match a with
  | ⟨0, _⟩ => ⟨(i 0).val, (i 0).isLt⟩
  | ⟨1, _⟩ => ⟨0, Nat.one_pos⟩
theorem val_main_call0_v2_apply (x1 : (⟨S40, .i32⟩ : BufTy).Contents (Elt F)) (i : S40x5.Idx) :
    val_main_call0_v2 (F := F) x1 i = val_main_call0_v0 (F := F) x1 (idx_main_call0_v2 i) := by
  unfold val_main_call0_v2
  generalize val_main_call0_v0 (F := F) x1 = y
  exact broadcastInDim_apply _ bcast_S40x1_S40x5_0_1 y i (idx_main_call0_v2 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x5xi32>) -> tensor<40x5xi32>, in %1 = func.call @_one_hot(…) (record main_call0)
def val_main_call0_v3 : (⟨S40x5, .i32⟩ : BufTy).Contents (Elt F) :=
  broadcastInDim S40x5 ![0, 1] bcast_S1x5_S40x5_0_1 (val_main_call0_v1 (F := F))
abbrev idx_main_call0_v3 (i : S40x5.Idx) : S1x5.Idx := fun a => match a with
  | ⟨0, _⟩ => ⟨0, Nat.one_pos⟩
  | ⟨1, _⟩ => ⟨(i 1).val, (i 1).isLt⟩
theorem val_main_call0_v3_apply (i : S40x5.Idx) :
    val_main_call0_v3 (F := F) i = val_main_call0_v1 (F := F) (idx_main_call0_v3 i) := by
  unfold val_main_call0_v3
  generalize val_main_call0_v1 (F := F) = y
  exact broadcastInDim_apply _ bcast_S1x5_S40x5_0_1 y i (idx_main_call0_v3 i) (fun a => match a with
    | ⟨0, _⟩ => by show 0 = if (1 : Nat) = 1 then 0 else (i 0).val; rw [if_pos rfl]
    | ⟨1, _⟩ => by show (i 1).val = if (5 : Nat) = 1 then 0 else (i 1).val; rw [if_neg (by decide)])

-- @_one_hot's %4 = stablehlo.compare EQ, %2, %3, SIGNED : (tensor<40x5xi32>, tensor<40x5xi32>) -> tensor<40x5xi1>, in %1 = func.call @_one_hot(…) (record main_call0)
def val_main_call0_v4 (x1 : (⟨S40, .i32⟩ : BufTy).Contents (Elt F)) : (⟨S40x5, .i1⟩ : BufTy).Contents (Elt F) :=
  cmpi .eq (val_main_call0_v2 (F := F) x1) (val_main_call0_v3 (F := F))
theorem val_main_call0_v4_apply (x1 : (⟨S40, .i32⟩ : BufTy).Contents (Elt F)) (i : S40x5.Idx) :
    val_main_call0_v4 (F := F) x1 i = IntOp.cmpi .eq (val_main_call0_v2 (F := F) x1 i) (val_main_call0_v3 (F := F) i) := rfl

-- %1 = func.call @_one_hot(…) (record main_call0) result 0: @_one_hot's %5 = stablehlo.convert %4 : (tensor<40x5xi1>) -> tensor<40x5xf32>
def val_main_v1 (x1 : (⟨S40, .i32⟩ : BufTy).Contents (Elt F)) : (⟨S40x5, .f32⟩ : BufTy).Contents (Elt F) :=
  uitofp .f32 (val_main_call0_v4 (F := F) x1)
theorem val_main_v1_apply (x1 : (⟨S40, .i32⟩ : BufTy).Contents (Elt F)) (i : S40x5.Idx) :
    val_main_v1 (F := F) x1 i = FloatOps.uitofp .f32 (val_main_call0_v4 (F := F) x1 i) := rfl

-- %2 = stablehlo.convert %1 : (tensor<40x5xf32>) -> tensor<40x5xbf16>
def val_main_v2 (x1 : (⟨S40, .i32⟩ : BufTy).Contents (Elt F)) : (⟨S40x5, .bf16⟩ : BufTy).Contents (Elt F) :=
  truncf .bf16 (val_main_v1 (F := F) x1) bitsLt_bf16_f32
theorem val_main_v2_apply (x1 : (⟨S40, .i32⟩ : BufTy).Contents (Elt F)) (i : S40x5.Idx) :
    val_main_v2 (F := F) x1 i = FloatOps.truncf .bf16 bitsLt_bf16_f32 (val_main_v1 (F := F) x1 i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %3 = stablehlo.broadcast_in_dim %c, dims = [] : (tensor<i32>) -> tensor<40xi32>
def val_main_v3 : (⟨S40, .i32⟩ : BufTy).Contents (Elt F) :=
  broadcastInDim S40 ![] bcast_S_S40 (val_main_c (F := F))
abbrev idx_main_v3 (i : S40.Idx) : S_.Idx := fun a => a.elim0
theorem val_main_v3_apply (i : S40.Idx) :
    val_main_v3 (F := F) i = val_main_c (F := F) (idx_main_v3 i) := by
  unfold val_main_v3
  generalize val_main_c (F := F) = y
  exact broadcastInDim_apply _ bcast_S_S40 y i (idx_main_v3 i) (fun a => a.elim0)

-- %4 = stablehlo.compare LT, %arg1, %3, SIGNED : (tensor<40xi32>, tensor<40xi32>) -> tensor<40xi1>
def val_main_v4 (x1 : (⟨S40, .i32⟩ : BufTy).Contents (Elt F)) : (⟨S40, .i1⟩ : BufTy).Contents (Elt F) :=
  cmpi .slt (x1) (val_main_v3 (F := F))
theorem val_main_v4_apply (x1 : (⟨S40, .i32⟩ : BufTy).Contents (Elt F)) (i : S40.Idx) :
    val_main_v4 (F := F) x1 i = IntOp.cmpi .slt (x1 i) (val_main_v3 (F := F) i) := rfl

-- %c_0 = stablehlo.constant dense<5> : tensor<i32>
def val_main_c_0 : (⟨S_, .i32⟩ : BufTy).Contents (Elt F) :=
  constantI S_ 32 5#32
theorem val_main_c_0_apply (i : S_.Idx) :
    val_main_c_0 (F := F) i = 5#32 := rfl

-- %5 = stablehlo.broadcast_in_dim %c_0, dims = [] : (tensor<i32>) -> tensor<40xi32>
def val_main_v5 : (⟨S40, .i32⟩ : BufTy).Contents (Elt F) :=
  broadcastInDim S40 ![] bcast_S_S40 (val_main_c_0 (F := F))
abbrev idx_main_v5 (i : S40.Idx) : S_.Idx := fun a => a.elim0
theorem val_main_v5_apply (i : S40.Idx) :
    val_main_v5 (F := F) i = val_main_c_0 (F := F) (idx_main_v5 i) := by
  unfold val_main_v5
  generalize val_main_c_0 (F := F) = y
  exact broadcastInDim_apply _ bcast_S_S40 y i (idx_main_v5 i) (fun a => a.elim0)

-- %6 = stablehlo.add %arg1, %5 : tensor<40xi32>
def val_main_v6 (x1 : (⟨S40, .i32⟩ : BufTy).Contents (Elt F)) : (⟨S40, .i32⟩ : BufTy).Contents (Elt F) :=
  addi (x1) (val_main_v5 (F := F))
theorem val_main_v6_apply (x1 : (⟨S40, .i32⟩ : BufTy).Contents (Elt F)) (i : S40.Idx) :
    val_main_v6 (F := F) x1 i = IntOp.addi (x1 i) (val_main_v5 (F := F) i) := rfl

-- %7 = stablehlo.select %4, %6, %arg1 : tensor<40xi1>, tensor<40xi32>
def val_main_v7 (x1 : (⟨S40, .i32⟩ : BufTy).Contents (Elt F)) : (⟨S40, .i32⟩ : BufTy).Contents (Elt F) :=
  select (val_main_v4 (F := F) x1) (val_main_v6 (F := F) x1) (x1)
theorem val_main_v7_apply (x1 : (⟨S40, .i32⟩ : BufTy).Contents (Elt F)) (i : S40.Idx) :
    val_main_v7 (F := F) x1 i = Scalar.select (val_main_v4 (F := F) x1 i) (val_main_v6 (F := F) x1 i) (x1 i) := rfl

-- %8 = stablehlo.broadcast_in_dim %7, dims = [0] : (tensor<40xi32>) -> tensor<40x1xi32>
def val_main_v8 (x1 : (⟨S40, .i32⟩ : BufTy).Contents (Elt F)) : (⟨S40x1, .i32⟩ : BufTy).Contents (Elt F) :=
  broadcastInDim S40x1 ![0] bcast_S40_S40x1_0 (val_main_v7 (F := F) x1)
abbrev idx_main_v8 (i : S40x1.Idx) : S40.Idx := fun a => match a with
  | ⟨0, _⟩ => ⟨(i 0).val, (i 0).isLt⟩
theorem val_main_v8_apply (x1 : (⟨S40, .i32⟩ : BufTy).Contents (Elt F)) (i : S40x1.Idx) :
    val_main_v8 (F := F) x1 i = val_main_v7 (F := F) x1 (idx_main_v8 i) := by
  unfold val_main_v8
  generalize val_main_v7 (F := F) x1 = y
  exact broadcastInDim_apply _ bcast_S40_S40x1_0 y i (idx_main_v8 i) (fun a => match a with
    | ⟨0, _⟩ => by show (i 0).val = if (40 : Nat) = 1 then 0 else (i 0).val; rw [if_neg (by decide)])

-- %9 = "stablehlo.gather"(%arg6, %8) <{dimension_numbers = #stablehlo.gather<collapsed_slice_dims = [0], start_index_map = [0], index_vector_dim = 1>, indices_are_sorted = false, slice_sizes = array<i64: 1>}> : (tensor<5xf32>, tensor<40x1xi32>) -> tensor<40xf32>
def val_main_v9 (x1 : (⟨S40, .i32⟩ : BufTy).Contents (Elt F)) (x6 : (⟨S5, .f32⟩ : BufTy).Contents (Elt F)) : (⟨S40, .f32⟩ : BufTy).Contents (Elt F) :=
  Host.gather gather_S5_S40x1_S40_n_0_n_n_0_1_1 (x6) (val_main_v8 (F := F) x1)

-- %10 = stablehlo.convert %arg2 : (tensor<4096x44032xui8>) -> tensor<4096x44032xi32>
def val_main_v10 (x2 : (⟨S4096x44032, .i8⟩ : BufTy).Contents (Elt F)) : (⟨S4096x44032, .i32⟩ : BufTy).Contents (Elt F) :=
  extui 32 (x2) natLt_8_32
theorem val_main_v10_apply (x2 : (⟨S4096x44032, .i8⟩ : BufTy).Contents (Elt F)) (i : S4096x44032.Idx) :
    val_main_v10 (F := F) x2 i = (x2 i).setWidth 32 := rfl

-- %c_1 = stablehlo.constant dense<15> : tensor<i32>
def val_main_c_1 : (⟨S_, .i32⟩ : BufTy).Contents (Elt F) :=
  constantI S_ 32 15#32
theorem val_main_c_1_apply (i : S_.Idx) :
    val_main_c_1 (F := F) i = 15#32 := rfl

-- %11 = stablehlo.broadcast_in_dim %c_1, dims = [] : (tensor<i32>) -> tensor<4096x44032xi32>
def val_main_v11 : (⟨S4096x44032, .i32⟩ : BufTy).Contents (Elt F) :=
  broadcastInDim S4096x44032 ![] bcast_S_S4096x44032 (val_main_c_1 (F := F))
abbrev idx_main_v11 (i : S4096x44032.Idx) : S_.Idx := fun a => a.elim0
theorem val_main_v11_apply (i : S4096x44032.Idx) :
    val_main_v11 (F := F) i = val_main_c_1 (F := F) (idx_main_v11 i) := by
  unfold val_main_v11
  generalize val_main_c_1 (F := F) = y
  exact broadcastInDim_apply _ bcast_S_S4096x44032 y i (idx_main_v11 i) (fun a => a.elim0)

-- %12 = stablehlo.and %10, %11 : tensor<4096x44032xi32>
def val_main_v12 (x2 : (⟨S4096x44032, .i8⟩ : BufTy).Contents (Elt F)) : (⟨S4096x44032, .i32⟩ : BufTy).Contents (Elt F) :=
  andi (val_main_v10 (F := F) x2) (val_main_v11 (F := F))
theorem val_main_v12_apply (x2 : (⟨S4096x44032, .i8⟩ : BufTy).Contents (Elt F)) (i : S4096x44032.Idx) :
    val_main_v12 (F := F) x2 i = IntOp.andi (val_main_v10 (F := F) x2 i) (val_main_v11 (F := F) i) := rfl

-- %c_2 = stablehlo.constant dense<4> : tensor<i32>
def val_main_c_2 : (⟨S_, .i32⟩ : BufTy).Contents (Elt F) :=
  constantI S_ 32 4#32
theorem val_main_c_2_apply (i : S_.Idx) :
    val_main_c_2 (F := F) i = 4#32 := rfl

-- %13 = stablehlo.broadcast_in_dim %c_2, dims = [] : (tensor<i32>) -> tensor<4096x44032xi32>
def val_main_v13 : (⟨S4096x44032, .i32⟩ : BufTy).Contents (Elt F) :=
  broadcastInDim S4096x44032 ![] bcast_S_S4096x44032 (val_main_c_2 (F := F))
abbrev idx_main_v13 (i : S4096x44032.Idx) : S_.Idx := fun a => a.elim0
theorem val_main_v13_apply (i : S4096x44032.Idx) :
    val_main_v13 (F := F) i = val_main_c_2 (F := F) (idx_main_v13 i) := by
  unfold val_main_v13
  generalize val_main_c_2 (F := F) = y
  exact broadcastInDim_apply _ bcast_S_S4096x44032 y i (idx_main_v13 i) (fun a => a.elim0)

-- %14 = stablehlo.shift_right_arithmetic %10, %13 : tensor<4096x44032xi32>
def val_main_v14 (x2 : (⟨S4096x44032, .i8⟩ : BufTy).Contents (Elt F)) : (⟨S4096x44032, .i32⟩ : BufTy).Contents (Elt F) :=
  Host.shrsi (val_main_v10 (F := F) x2) (val_main_v13 (F := F))
theorem val_main_v14_apply (x2 : (⟨S4096x44032, .i8⟩ : BufTy).Contents (Elt F)) (i : S4096x44032.Idx) :
    val_main_v14 (F := F) x2 i = IntOp.shrsi .host (val_main_v10 (F := F) x2 i) (val_main_v13 (F := F) i) := rfl

-- %c_3 = stablehlo.constant dense<8> : tensor<i32>
def val_main_c_3 : (⟨S_, .i32⟩ : BufTy).Contents (Elt F) :=
  constantI S_ 32 8#32
theorem val_main_c_3_apply (i : S_.Idx) :
    val_main_c_3 (F := F) i = 8#32 := rfl

-- %15 = stablehlo.broadcast_in_dim %c_3, dims = [] : (tensor<i32>) -> tensor<4096x44032xi32>
def val_main_v15 : (⟨S4096x44032, .i32⟩ : BufTy).Contents (Elt F) :=
  broadcastInDim S4096x44032 ![] bcast_S_S4096x44032 (val_main_c_3 (F := F))
abbrev idx_main_v15 (i : S4096x44032.Idx) : S_.Idx := fun a => a.elim0
theorem val_main_v15_apply (i : S4096x44032.Idx) :
    val_main_v15 (F := F) i = val_main_c_3 (F := F) (idx_main_v15 i) := by
  unfold val_main_v15
  generalize val_main_c_3 (F := F) = y
  exact broadcastInDim_apply _ bcast_S_S4096x44032 y i (idx_main_v15 i) (fun a => a.elim0)

-- %16 = stablehlo.compare GE, %12, %15, SIGNED : (tensor<4096x44032xi32>, tensor<4096x44032xi32>) -> tensor<4096x44032xi1>
def val_main_v16 (x2 : (⟨S4096x44032, .i8⟩ : BufTy).Contents (Elt F)) : (⟨S4096x44032, .i1⟩ : BufTy).Contents (Elt F) :=
  cmpi .sge (val_main_v12 (F := F) x2) (val_main_v15 (F := F))
theorem val_main_v16_apply (x2 : (⟨S4096x44032, .i8⟩ : BufTy).Contents (Elt F)) (i : S4096x44032.Idx) :
    val_main_v16 (F := F) x2 i = IntOp.cmpi .sge (val_main_v12 (F := F) x2 i) (val_main_v15 (F := F) i) := rfl

-- %c_4 = stablehlo.constant dense<16> : tensor<i32>
def val_main_c_4 : (⟨S_, .i32⟩ : BufTy).Contents (Elt F) :=
  constantI S_ 32 16#32
theorem val_main_c_4_apply (i : S_.Idx) :
    val_main_c_4 (F := F) i = 16#32 := rfl

-- %17 = stablehlo.broadcast_in_dim %c_4, dims = [] : (tensor<i32>) -> tensor<4096x44032xi32>
def val_main_v17 : (⟨S4096x44032, .i32⟩ : BufTy).Contents (Elt F) :=
  broadcastInDim S4096x44032 ![] bcast_S_S4096x44032 (val_main_c_4 (F := F))
abbrev idx_main_v17 (i : S4096x44032.Idx) : S_.Idx := fun a => a.elim0
theorem val_main_v17_apply (i : S4096x44032.Idx) :
    val_main_v17 (F := F) i = val_main_c_4 (F := F) (idx_main_v17 i) := by
  unfold val_main_v17
  generalize val_main_c_4 (F := F) = y
  exact broadcastInDim_apply _ bcast_S_S4096x44032 y i (idx_main_v17 i) (fun a => a.elim0)

-- %18 = stablehlo.subtract %12, %17 : tensor<4096x44032xi32>
def val_main_v18 (x2 : (⟨S4096x44032, .i8⟩ : BufTy).Contents (Elt F)) : (⟨S4096x44032, .i32⟩ : BufTy).Contents (Elt F) :=
  subi (val_main_v12 (F := F) x2) (val_main_v17 (F := F))
theorem val_main_v18_apply (x2 : (⟨S4096x44032, .i8⟩ : BufTy).Contents (Elt F)) (i : S4096x44032.Idx) :
    val_main_v18 (F := F) x2 i = IntOp.subi (val_main_v12 (F := F) x2 i) (val_main_v17 (F := F) i) := rfl

-- %19 = func.call @_where(…) (record main_call1) result 0: @_where's %0 = stablehlo.select %arg0, %arg1, %arg2 : tensor<4096x44032xi1>, tensor<4096x44032xi32>
def val_main_v19 (x2 : (⟨S4096x44032, .i8⟩ : BufTy).Contents (Elt F)) : (⟨S4096x44032, .i32⟩ : BufTy).Contents (Elt F) :=
  select (val_main_v16 (F := F) x2) (val_main_v18 (F := F) x2) (val_main_v12 (F := F) x2)
theorem val_main_v19_apply (x2 : (⟨S4096x44032, .i8⟩ : BufTy).Contents (Elt F)) (i : S4096x44032.Idx) :
    val_main_v19 (F := F) x2 i = Scalar.select (val_main_v16 (F := F) x2 i) (val_main_v18 (F := F) x2 i) (val_main_v12 (F := F) x2 i) := rfl

-- %20 = stablehlo.convert %19 : (tensor<4096x44032xi32>) -> tensor<4096x44032xbf16>
def val_main_v20 (x2 : (⟨S4096x44032, .i8⟩ : BufTy).Contents (Elt F)) : (⟨S4096x44032, .bf16⟩ : BufTy).Contents (Elt F) :=
  sitofp .bf16 (val_main_v19 (F := F) x2)
theorem val_main_v20_apply (x2 : (⟨S4096x44032, .i8⟩ : BufTy).Contents (Elt F)) (i : S4096x44032.Idx) :
    val_main_v20 (F := F) x2 i = FloatOps.sitofp .bf16 (val_main_v19 (F := F) x2 i) := rfl

-- %c_5 = stablehlo.constant dense<8> : tensor<i32>
def val_main_c_5 : (⟨S_, .i32⟩ : BufTy).Contents (Elt F) :=
  constantI S_ 32 8#32
theorem val_main_c_5_apply (i : S_.Idx) :
    val_main_c_5 (F := F) i = 8#32 := rfl

-- %21 = stablehlo.broadcast_in_dim %c_5, dims = [] : (tensor<i32>) -> tensor<4096x44032xi32>
def val_main_v21 : (⟨S4096x44032, .i32⟩ : BufTy).Contents (Elt F) :=
  broadcastInDim S4096x44032 ![] bcast_S_S4096x44032 (val_main_c_5 (F := F))
abbrev idx_main_v21 (i : S4096x44032.Idx) : S_.Idx := fun a => a.elim0
theorem val_main_v21_apply (i : S4096x44032.Idx) :
    val_main_v21 (F := F) i = val_main_c_5 (F := F) (idx_main_v21 i) := by
  unfold val_main_v21
  generalize val_main_c_5 (F := F) = y
  exact broadcastInDim_apply _ bcast_S_S4096x44032 y i (idx_main_v21 i) (fun a => a.elim0)

-- %22 = stablehlo.compare GE, %14, %21, SIGNED : (tensor<4096x44032xi32>, tensor<4096x44032xi32>) -> tensor<4096x44032xi1>
def val_main_v22 (x2 : (⟨S4096x44032, .i8⟩ : BufTy).Contents (Elt F)) : (⟨S4096x44032, .i1⟩ : BufTy).Contents (Elt F) :=
  cmpi .sge (val_main_v14 (F := F) x2) (val_main_v21 (F := F))
theorem val_main_v22_apply (x2 : (⟨S4096x44032, .i8⟩ : BufTy).Contents (Elt F)) (i : S4096x44032.Idx) :
    val_main_v22 (F := F) x2 i = IntOp.cmpi .sge (val_main_v14 (F := F) x2 i) (val_main_v21 (F := F) i) := rfl

-- %c_6 = stablehlo.constant dense<16> : tensor<i32>
def val_main_c_6 : (⟨S_, .i32⟩ : BufTy).Contents (Elt F) :=
  constantI S_ 32 16#32
theorem val_main_c_6_apply (i : S_.Idx) :
    val_main_c_6 (F := F) i = 16#32 := rfl

-- %23 = stablehlo.broadcast_in_dim %c_6, dims = [] : (tensor<i32>) -> tensor<4096x44032xi32>
def val_main_v23 : (⟨S4096x44032, .i32⟩ : BufTy).Contents (Elt F) :=
  broadcastInDim S4096x44032 ![] bcast_S_S4096x44032 (val_main_c_6 (F := F))
abbrev idx_main_v23 (i : S4096x44032.Idx) : S_.Idx := fun a => a.elim0
theorem val_main_v23_apply (i : S4096x44032.Idx) :
    val_main_v23 (F := F) i = val_main_c_6 (F := F) (idx_main_v23 i) := by
  unfold val_main_v23
  generalize val_main_c_6 (F := F) = y
  exact broadcastInDim_apply _ bcast_S_S4096x44032 y i (idx_main_v23 i) (fun a => a.elim0)

-- %24 = stablehlo.subtract %14, %23 : tensor<4096x44032xi32>
def val_main_v24 (x2 : (⟨S4096x44032, .i8⟩ : BufTy).Contents (Elt F)) : (⟨S4096x44032, .i32⟩ : BufTy).Contents (Elt F) :=
  subi (val_main_v14 (F := F) x2) (val_main_v23 (F := F))
theorem val_main_v24_apply (x2 : (⟨S4096x44032, .i8⟩ : BufTy).Contents (Elt F)) (i : S4096x44032.Idx) :
    val_main_v24 (F := F) x2 i = IntOp.subi (val_main_v14 (F := F) x2 i) (val_main_v23 (F := F) i) := rfl

-- %25 = func.call @_where(…) (record main_call2) result 0: @_where's %0 = stablehlo.select %arg0, %arg1, %arg2 : tensor<4096x44032xi1>, tensor<4096x44032xi32>
def val_main_v25 (x2 : (⟨S4096x44032, .i8⟩ : BufTy).Contents (Elt F)) : (⟨S4096x44032, .i32⟩ : BufTy).Contents (Elt F) :=
  select (val_main_v22 (F := F) x2) (val_main_v24 (F := F) x2) (val_main_v14 (F := F) x2)
theorem val_main_v25_apply (x2 : (⟨S4096x44032, .i8⟩ : BufTy).Contents (Elt F)) (i : S4096x44032.Idx) :
    val_main_v25 (F := F) x2 i = Scalar.select (val_main_v22 (F := F) x2 i) (val_main_v24 (F := F) x2 i) (val_main_v14 (F := F) x2 i) := rfl

-- %26 = stablehlo.convert %25 : (tensor<4096x44032xi32>) -> tensor<4096x44032xbf16>
def val_main_v26 (x2 : (⟨S4096x44032, .i8⟩ : BufTy).Contents (Elt F)) : (⟨S4096x44032, .bf16⟩ : BufTy).Contents (Elt F) :=
  sitofp .bf16 (val_main_v25 (F := F) x2)
theorem val_main_v26_apply (x2 : (⟨S4096x44032, .i8⟩ : BufTy).Contents (Elt F)) (i : S4096x44032.Idx) :
    val_main_v26 (F := F) x2 i = FloatOps.sitofp .bf16 (val_main_v25 (F := F) x2 i) := rfl

-- %27 = stablehlo.slice %arg3 [0:32, 0:44032] : (tensor<64x44032xbf16>) -> tensor<32x44032xbf16>
def val_main_v27 (x3 : (⟨S64x44032, .bf16⟩ : BufTy).Contents (Elt F)) : (⟨S32x44032, .bf16⟩ : BufTy).Contents (Elt F) :=
  extractStridedSlice S32x44032 ![0, 0] (x3) slices_S64x44032_S32x44032_0_0
set_option backward.proofsInPublic true in
abbrev idx_main_v27 (i : S32x44032.Idx) : S64x44032.Idx := fun a => match a with
  | ⟨0, _⟩ => ⟨(i 0).val, by have h0 : (i 0).val < 32 := (i 0).isLt; show (i 0).val < 64; omega⟩
  | ⟨1, _⟩ => ⟨(i 1).val, (i 1).isLt⟩
theorem val_main_v27_apply (x3 : (⟨S64x44032, .bf16⟩ : BufTy).Contents (Elt F)) (i : S32x44032.Idx) :
    val_main_v27 (F := F) x3 i = x3 (idx_main_v27 i) := by
  unfold val_main_v27
  exact extractStridedSlice_apply ![0, 0] x3 slices_S64x44032_S32x44032_0_0 i (idx_main_v27 i) (fun a => match a with
    | ⟨0, _⟩ => by show (i 0).val = 0 + (i 0).val; omega
    | ⟨1, _⟩ => by show (i 1).val = 0 + (i 1).val; omega)

-- %28 = stablehlo.reshape %20 : (tensor<4096x44032xbf16>) -> tensor<32x128x44032xbf16>
def val_main_v28 (x2 : (⟨S4096x44032, .i8⟩ : BufTy).Contents (Elt F)) : (⟨S32x128x44032, .bf16⟩ : BufTy).Contents (Elt F) :=
  shapeCast _ (val_main_v20 (F := F) x2) shapeCasts_S4096x44032_S32x128x44032
set_option backward.proofsInPublic true in
abbrev idx_main_v28 (i : S32x128x44032.Idx) : S4096x44032.Idx := fun a => match a with
  | ⟨0, _⟩ => ⟨(((i 0).val * 128 + (i 1).val) * 44032 + (i 2).val) / 44032, by have h0 : (i 0).val < 32 := (i 0).isLt; have h1 : (i 1).val < 128 := (i 1).isLt; have h2 : (i 2).val < 44032 := (i 2).isLt; show (((i 0).val * 128 + (i 1).val) * 44032 + (i 2).val) / 44032 < 4096; omega⟩
  | ⟨1, _⟩ => ⟨(((i 0).val * 128 + (i 1).val) * 44032 + (i 2).val) % 44032, by have h0 : (i 0).val < 32 := (i 0).isLt; have h1 : (i 1).val < 128 := (i 1).isLt; have h2 : (i 2).val < 44032 := (i 2).isLt; show (((i 0).val * 128 + (i 1).val) * 44032 + (i 2).val) % 44032 < 44032; omega⟩
theorem val_main_v28_apply (x2 : (⟨S4096x44032, .i8⟩ : BufTy).Contents (Elt F)) (i : S32x128x44032.Idx) :
    val_main_v28 (F := F) x2 i = val_main_v20 (F := F) x2 (idx_main_v28 i) := by
  unfold val_main_v28
  generalize val_main_v20 (F := F) x2 = y
  exact shapeCast_apply y shapeCasts_S4096x44032_S32x128x44032 i (idx_main_v28 i)
    (by rewrite [Shape.rowMajor_val_two, Shape.rowMajor_val_three]; have h0 : (i 0).val < 32 := (i 0).isLt; have h1 : (i 1).val < 128 := (i 1).isLt; have h2 : (i 2).val < 44032 := (i 2).isLt; show (((i 0).val * 128 + (i 1).val) * 44032 + (i 2).val) / 44032 * 44032 + (((i 0).val * 128 + (i 1).val) * 44032 + (i 2).val) % 44032 = ((i 0).val * 128 + (i 1).val) * 44032 + (i 2).val; omega)

-- %29 = stablehlo.broadcast_in_dim %27, dims = [0, 2] : (tensor<32x44032xbf16>) -> tensor<32x1x44032xbf16>
def val_main_v29 (x3 : (⟨S64x44032, .bf16⟩ : BufTy).Contents (Elt F)) : (⟨S32x1x44032, .bf16⟩ : BufTy).Contents (Elt F) :=
  broadcastInDim S32x1x44032 ![0, 2] bcast_S32x44032_S32x1x44032_0_2 (val_main_v27 (F := F) x3)
abbrev idx_main_v29 (i : S32x1x44032.Idx) : S32x44032.Idx := fun a => match a with
  | ⟨0, _⟩ => ⟨(i 0).val, (i 0).isLt⟩
  | ⟨1, _⟩ => ⟨(i 2).val, (i 2).isLt⟩
theorem val_main_v29_apply (x3 : (⟨S64x44032, .bf16⟩ : BufTy).Contents (Elt F)) (i : S32x1x44032.Idx) :
    val_main_v29 (F := F) x3 i = val_main_v27 (F := F) x3 (idx_main_v29 i) := by
  unfold val_main_v29
  generalize val_main_v27 (F := F) x3 = y
  exact broadcastInDim_apply _ bcast_S32x44032_S32x1x44032_0_2 y i (idx_main_v29 i) (fun a => match a with
    | ⟨0, _⟩ => by show (i 0).val = if (32 : Nat) = 1 then 0 else (i 0).val; rw [if_neg (by decide)]
    | ⟨1, _⟩ => by show (i 2).val = if (44032 : Nat) = 1 then 0 else (i 2).val; rw [if_neg (by decide)])

-- %30 = stablehlo.broadcast_in_dim %29, dims = [0, 1, 2] : (tensor<32x1x44032xbf16>) -> tensor<32x128x44032xbf16>
def val_main_v30 (x3 : (⟨S64x44032, .bf16⟩ : BufTy).Contents (Elt F)) : (⟨S32x128x44032, .bf16⟩ : BufTy).Contents (Elt F) :=
  broadcastInDim S32x128x44032 ![0, 1, 2] bcast_S32x1x44032_S32x128x44032_0_1_2 (val_main_v29 (F := F) x3)
abbrev idx_main_v30 (i : S32x128x44032.Idx) : S32x1x44032.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v30_apply (x3 : (⟨S64x44032, .bf16⟩ : BufTy).Contents (Elt F)) (i : S32x128x44032.Idx) :
    val_main_v30 (F := F) x3 i = val_main_v29 (F := F) x3 (idx_main_v30 i) := by
  unfold val_main_v30
  generalize val_main_v29 (F := F) x3 = y
  exact broadcastInDim_apply _ bcast_S32x1x44032_S32x128x44032_0_1_2 y i (idx_main_v30 i) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (44032 : Nat) = 1 then 0 else (i 2).val; rw [if_neg (by decide)])

-- %31 = stablehlo.multiply %28, %30 : tensor<32x128x44032xbf16>
def val_main_v31 (x2 : (⟨S4096x44032, .i8⟩ : BufTy).Contents (Elt F)) (x3 : (⟨S64x44032, .bf16⟩ : BufTy).Contents (Elt F)) : (⟨S32x128x44032, .bf16⟩ : BufTy).Contents (Elt F) :=
  mulf (val_main_v28 (F := F) x2) (val_main_v30 (F := F) x3)
theorem val_main_v31_apply (x2 : (⟨S4096x44032, .i8⟩ : BufTy).Contents (Elt F)) (x3 : (⟨S64x44032, .bf16⟩ : BufTy).Contents (Elt F)) (i : S32x128x44032.Idx) :
    val_main_v31 (F := F) x2 x3 i = FloatOps.mulf (val_main_v28 (F := F) x2 i) (val_main_v30 (F := F) x3 i) := rfl

-- %32 = stablehlo.reshape %31 : (tensor<32x128x44032xbf16>) -> tensor<4096x44032xbf16>
def val_main_v32 (x2 : (⟨S4096x44032, .i8⟩ : BufTy).Contents (Elt F)) (x3 : (⟨S64x44032, .bf16⟩ : BufTy).Contents (Elt F)) : (⟨S4096x44032, .bf16⟩ : BufTy).Contents (Elt F) :=
  shapeCast _ (val_main_v31 (F := F) x2 x3) shapeCasts_S32x128x44032_S4096x44032
set_option backward.proofsInPublic true in
abbrev idx_main_v32 (i : S4096x44032.Idx) : S32x128x44032.Idx := fun a => match a with
  | ⟨0, _⟩ => ⟨((i 0).val * 44032 + (i 1).val) / 5636096, by have h0 : (i 0).val < 4096 := (i 0).isLt; have h1 : (i 1).val < 44032 := (i 1).isLt; show ((i 0).val * 44032 + (i 1).val) / 5636096 < 32; omega⟩
  | ⟨1, _⟩ => ⟨((i 0).val * 44032 + (i 1).val) / 44032 % 128, by have h0 : (i 0).val < 4096 := (i 0).isLt; have h1 : (i 1).val < 44032 := (i 1).isLt; show ((i 0).val * 44032 + (i 1).val) / 44032 % 128 < 128; omega⟩
  | ⟨2, _⟩ => ⟨((i 0).val * 44032 + (i 1).val) % 44032, by have h0 : (i 0).val < 4096 := (i 0).isLt; have h1 : (i 1).val < 44032 := (i 1).isLt; show ((i 0).val * 44032 + (i 1).val) % 44032 < 44032; omega⟩
theorem val_main_v32_apply (x2 : (⟨S4096x44032, .i8⟩ : BufTy).Contents (Elt F)) (x3 : (⟨S64x44032, .bf16⟩ : BufTy).Contents (Elt F)) (i : S4096x44032.Idx) :
    val_main_v32 (F := F) x2 x3 i = val_main_v31 (F := F) x2 x3 (idx_main_v32 i) := by
  unfold val_main_v32
  generalize val_main_v31 (F := F) x2 x3 = y
  exact shapeCast_apply y shapeCasts_S32x128x44032_S4096x44032 i (idx_main_v32 i)
    (by rewrite [Shape.rowMajor_val_three, Shape.rowMajor_val_two]; have h0 : (i 0).val < 4096 := (i 0).isLt; have h1 : (i 1).val < 44032 := (i 1).isLt; show (((i 0).val * 44032 + (i 1).val) / 5636096 * 128 + ((i 0).val * 44032 + (i 1).val) / 44032 % 128) * 44032 + ((i 0).val * 44032 + (i 1).val) % 44032 = (i 0).val * 44032 + (i 1).val; omega)

-- %33 = stablehlo.slice %arg3 [32:64, 0:44032] : (tensor<64x44032xbf16>) -> tensor<32x44032xbf16>
def val_main_v33 (x3 : (⟨S64x44032, .bf16⟩ : BufTy).Contents (Elt F)) : (⟨S32x44032, .bf16⟩ : BufTy).Contents (Elt F) :=
  extractStridedSlice S32x44032 ![32, 0] (x3) slices_S64x44032_S32x44032_32_0
set_option backward.proofsInPublic true in
abbrev idx_main_v33 (i : S32x44032.Idx) : S64x44032.Idx := fun a => match a with
  | ⟨0, _⟩ => ⟨32 + (i 0).val, by have h0 : (i 0).val < 32 := (i 0).isLt; show 32 + (i 0).val < 64; omega⟩
  | ⟨1, _⟩ => ⟨(i 1).val, (i 1).isLt⟩
theorem val_main_v33_apply (x3 : (⟨S64x44032, .bf16⟩ : BufTy).Contents (Elt F)) (i : S32x44032.Idx) :
    val_main_v33 (F := F) x3 i = x3 (idx_main_v33 i) := by
  unfold val_main_v33
  exact extractStridedSlice_apply ![32, 0] x3 slices_S64x44032_S32x44032_32_0 i (idx_main_v33 i) (fun a => match a with
    | ⟨0, _⟩ => by show 32 + (i 0).val = 32 + (i 0).val; omega
    | ⟨1, _⟩ => by show (i 1).val = 0 + (i 1).val; omega)

-- %34 = stablehlo.reshape %26 : (tensor<4096x44032xbf16>) -> tensor<32x128x44032xbf16>
def val_main_v34 (x2 : (⟨S4096x44032, .i8⟩ : BufTy).Contents (Elt F)) : (⟨S32x128x44032, .bf16⟩ : BufTy).Contents (Elt F) :=
  shapeCast _ (val_main_v26 (F := F) x2) shapeCasts_S4096x44032_S32x128x44032
set_option backward.proofsInPublic true in
abbrev idx_main_v34 (i : S32x128x44032.Idx) : S4096x44032.Idx := fun a => match a with
  | ⟨0, _⟩ => ⟨(((i 0).val * 128 + (i 1).val) * 44032 + (i 2).val) / 44032, by have h0 : (i 0).val < 32 := (i 0).isLt; have h1 : (i 1).val < 128 := (i 1).isLt; have h2 : (i 2).val < 44032 := (i 2).isLt; show (((i 0).val * 128 + (i 1).val) * 44032 + (i 2).val) / 44032 < 4096; omega⟩
  | ⟨1, _⟩ => ⟨(((i 0).val * 128 + (i 1).val) * 44032 + (i 2).val) % 44032, by have h0 : (i 0).val < 32 := (i 0).isLt; have h1 : (i 1).val < 128 := (i 1).isLt; have h2 : (i 2).val < 44032 := (i 2).isLt; show (((i 0).val * 128 + (i 1).val) * 44032 + (i 2).val) % 44032 < 44032; omega⟩
theorem val_main_v34_apply (x2 : (⟨S4096x44032, .i8⟩ : BufTy).Contents (Elt F)) (i : S32x128x44032.Idx) :
    val_main_v34 (F := F) x2 i = val_main_v26 (F := F) x2 (idx_main_v34 i) := by
  unfold val_main_v34
  generalize val_main_v26 (F := F) x2 = y
  exact shapeCast_apply y shapeCasts_S4096x44032_S32x128x44032 i (idx_main_v34 i)
    (by rewrite [Shape.rowMajor_val_two, Shape.rowMajor_val_three]; have h0 : (i 0).val < 32 := (i 0).isLt; have h1 : (i 1).val < 128 := (i 1).isLt; have h2 : (i 2).val < 44032 := (i 2).isLt; show (((i 0).val * 128 + (i 1).val) * 44032 + (i 2).val) / 44032 * 44032 + (((i 0).val * 128 + (i 1).val) * 44032 + (i 2).val) % 44032 = ((i 0).val * 128 + (i 1).val) * 44032 + (i 2).val; omega)

-- %35 = stablehlo.broadcast_in_dim %33, dims = [0, 2] : (tensor<32x44032xbf16>) -> tensor<32x1x44032xbf16>
def val_main_v35 (x3 : (⟨S64x44032, .bf16⟩ : BufTy).Contents (Elt F)) : (⟨S32x1x44032, .bf16⟩ : BufTy).Contents (Elt F) :=
  broadcastInDim S32x1x44032 ![0, 2] bcast_S32x44032_S32x1x44032_0_2 (val_main_v33 (F := F) x3)
abbrev idx_main_v35 (i : S32x1x44032.Idx) : S32x44032.Idx := fun a => match a with
  | ⟨0, _⟩ => ⟨(i 0).val, (i 0).isLt⟩
  | ⟨1, _⟩ => ⟨(i 2).val, (i 2).isLt⟩
theorem val_main_v35_apply (x3 : (⟨S64x44032, .bf16⟩ : BufTy).Contents (Elt F)) (i : S32x1x44032.Idx) :
    val_main_v35 (F := F) x3 i = val_main_v33 (F := F) x3 (idx_main_v35 i) := by
  unfold val_main_v35
  generalize val_main_v33 (F := F) x3 = y
  exact broadcastInDim_apply _ bcast_S32x44032_S32x1x44032_0_2 y i (idx_main_v35 i) (fun a => match a with
    | ⟨0, _⟩ => by show (i 0).val = if (32 : Nat) = 1 then 0 else (i 0).val; rw [if_neg (by decide)]
    | ⟨1, _⟩ => by show (i 2).val = if (44032 : Nat) = 1 then 0 else (i 2).val; rw [if_neg (by decide)])

-- %36 = stablehlo.broadcast_in_dim %35, dims = [0, 1, 2] : (tensor<32x1x44032xbf16>) -> tensor<32x128x44032xbf16>
def val_main_v36 (x3 : (⟨S64x44032, .bf16⟩ : BufTy).Contents (Elt F)) : (⟨S32x128x44032, .bf16⟩ : BufTy).Contents (Elt F) :=
  broadcastInDim S32x128x44032 ![0, 1, 2] bcast_S32x1x44032_S32x128x44032_0_1_2 (val_main_v35 (F := F) x3)
abbrev idx_main_v36 (i : S32x128x44032.Idx) : S32x1x44032.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v36_apply (x3 : (⟨S64x44032, .bf16⟩ : BufTy).Contents (Elt F)) (i : S32x128x44032.Idx) :
    val_main_v36 (F := F) x3 i = val_main_v35 (F := F) x3 (idx_main_v36 i) := by
  unfold val_main_v36
  generalize val_main_v35 (F := F) x3 = y
  exact broadcastInDim_apply _ bcast_S32x1x44032_S32x128x44032_0_1_2 y i (idx_main_v36 i) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (44032 : Nat) = 1 then 0 else (i 2).val; rw [if_neg (by decide)])

-- %37 = stablehlo.multiply %34, %36 : tensor<32x128x44032xbf16>
def val_main_v37 (x2 : (⟨S4096x44032, .i8⟩ : BufTy).Contents (Elt F)) (x3 : (⟨S64x44032, .bf16⟩ : BufTy).Contents (Elt F)) : (⟨S32x128x44032, .bf16⟩ : BufTy).Contents (Elt F) :=
  mulf (val_main_v34 (F := F) x2) (val_main_v36 (F := F) x3)
theorem val_main_v37_apply (x2 : (⟨S4096x44032, .i8⟩ : BufTy).Contents (Elt F)) (x3 : (⟨S64x44032, .bf16⟩ : BufTy).Contents (Elt F)) (i : S32x128x44032.Idx) :
    val_main_v37 (F := F) x2 x3 i = FloatOps.mulf (val_main_v34 (F := F) x2 i) (val_main_v36 (F := F) x3 i) := rfl

-- %38 = stablehlo.reshape %37 : (tensor<32x128x44032xbf16>) -> tensor<4096x44032xbf16>
def val_main_v38 (x2 : (⟨S4096x44032, .i8⟩ : BufTy).Contents (Elt F)) (x3 : (⟨S64x44032, .bf16⟩ : BufTy).Contents (Elt F)) : (⟨S4096x44032, .bf16⟩ : BufTy).Contents (Elt F) :=
  shapeCast _ (val_main_v37 (F := F) x2 x3) shapeCasts_S32x128x44032_S4096x44032
set_option backward.proofsInPublic true in
abbrev idx_main_v38 (i : S4096x44032.Idx) : S32x128x44032.Idx := fun a => match a with
  | ⟨0, _⟩ => ⟨((i 0).val * 44032 + (i 1).val) / 5636096, by have h0 : (i 0).val < 4096 := (i 0).isLt; have h1 : (i 1).val < 44032 := (i 1).isLt; show ((i 0).val * 44032 + (i 1).val) / 5636096 < 32; omega⟩
  | ⟨1, _⟩ => ⟨((i 0).val * 44032 + (i 1).val) / 44032 % 128, by have h0 : (i 0).val < 4096 := (i 0).isLt; have h1 : (i 1).val < 44032 := (i 1).isLt; show ((i 0).val * 44032 + (i 1).val) / 44032 % 128 < 128; omega⟩
  | ⟨2, _⟩ => ⟨((i 0).val * 44032 + (i 1).val) % 44032, by have h0 : (i 0).val < 4096 := (i 0).isLt; have h1 : (i 1).val < 44032 := (i 1).isLt; show ((i 0).val * 44032 + (i 1).val) % 44032 < 44032; omega⟩
theorem val_main_v38_apply (x2 : (⟨S4096x44032, .i8⟩ : BufTy).Contents (Elt F)) (x3 : (⟨S64x44032, .bf16⟩ : BufTy).Contents (Elt F)) (i : S4096x44032.Idx) :
    val_main_v38 (F := F) x2 x3 i = val_main_v37 (F := F) x2 x3 (idx_main_v38 i) := by
  unfold val_main_v38
  generalize val_main_v37 (F := F) x2 x3 = y
  exact shapeCast_apply y shapeCasts_S32x128x44032_S4096x44032 i (idx_main_v38 i)
    (by rewrite [Shape.rowMajor_val_three, Shape.rowMajor_val_two]; have h0 : (i 0).val < 4096 := (i 0).isLt; have h1 : (i 1).val < 44032 := (i 1).isLt; show (((i 0).val * 44032 + (i 1).val) / 5636096 * 128 + ((i 0).val * 44032 + (i 1).val) / 44032 % 128) * 44032 + ((i 0).val * 44032 + (i 1).val) % 44032 = (i 0).val * 44032 + (i 1).val; omega)

-- %39 = stablehlo.slice %0 [0:40, 0:4096] : (tensor<40x8192xbf16>) -> tensor<40x4096xbf16>
def val_main_v39 (x0 : (⟨S40x1x8192, .bf16⟩ : BufTy).Contents (Elt F)) : (⟨S40x4096, .bf16⟩ : BufTy).Contents (Elt F) :=
  extractStridedSlice S40x4096 ![0, 0] (val_main_v0 (F := F) x0) slices_S40x8192_S40x4096_0_0
set_option backward.proofsInPublic true in
abbrev idx_main_v39 (i : S40x4096.Idx) : S40x8192.Idx := fun a => match a with
  | ⟨0, _⟩ => ⟨(i 0).val, (i 0).isLt⟩
  | ⟨1, _⟩ => ⟨(i 1).val, by have h1 : (i 1).val < 4096 := (i 1).isLt; show (i 1).val < 8192; omega⟩
theorem val_main_v39_apply (x0 : (⟨S40x1x8192, .bf16⟩ : BufTy).Contents (Elt F)) (i : S40x4096.Idx) :
    val_main_v39 (F := F) x0 i = val_main_v0 (F := F) x0 (idx_main_v39 i) := by
  unfold val_main_v39
  generalize val_main_v0 (F := F) x0 = y
  exact extractStridedSlice_apply ![0, 0] y slices_S40x8192_S40x4096_0_0 i (idx_main_v39 i) (fun a => match a with
    | ⟨0, _⟩ => by show (i 0).val = 0 + (i 0).val; omega
    | ⟨1, _⟩ => by show (i 1).val = 0 + (i 1).val; omega)

-- %40 = stablehlo.dot_general %39, %32, contracting_dims = [1] x [0], precision = [DEFAULT, DEFAULT] : (tensor<40x4096xbf16>, tensor<4096x44032xbf16>) -> tensor<40x44032xf32>
def val_main_v40 (x0 : (⟨S40x1x8192, .bf16⟩ : BufTy).Contents (Elt F)) (x2 : (⟨S4096x44032, .i8⟩ : BufTy).Contents (Elt F)) (x3 : (⟨S64x44032, .bf16⟩ : BufTy).Contents (Elt F)) : (⟨S40x44032, .f32⟩ : BufTy).Contents (Elt F) :=
  Host.dotGeneral dot_S40x4096_S4096x44032_S40x44032_1_0_0_1_n_n none (val_main_v39 (F := F) x0) (val_main_v32 (F := F) x2 x3)
theorem lhs_main_v40_0 (i : S40x44032.Idx) (q : dot_S40x4096_S4096x44032_S40x44032_1_0_0_1_n_n.contr.Idx) :
    (dot_S40x4096_S4096x44032_S40x44032_1_0_0_1_n_n.lhsIdx i q 0).val = (i 0).val := by
  unfold DotDims.lhsIdx
  rw [dif_neg (show ¬(0 : Fin S40x4096.rank) ∈ dot_S40x4096_S4096x44032_S40x44032_1_0_0_1_n_n.lhsBatch by decide), dif_pos (show (0 : Fin S40x4096.rank) ∈ dot_S40x4096_S4096x44032_S40x44032_1_0_0_1_n_n.lhsNonContracting by decide)]
  rfl
theorem lhs_main_v40_1 (i : S40x44032.Idx) (q : dot_S40x4096_S4096x44032_S40x44032_1_0_0_1_n_n.contr.Idx) :
    (dot_S40x4096_S4096x44032_S40x44032_1_0_0_1_n_n.lhsIdx i q 1).val = (q ⟨0, by decide⟩).val :=
  dot_S40x4096_S4096x44032_S40x44032_1_0_0_1_n_n.lhsIdx_val_of_single rfl i q
theorem rhs_main_v40_0 (i : S40x44032.Idx) (q : dot_S40x4096_S4096x44032_S40x44032_1_0_0_1_n_n.contr.Idx) :
    (dot_S40x4096_S4096x44032_S40x44032_1_0_0_1_n_n.rhsIdx i q 0).val = (q ⟨0, by decide⟩).val :=
  dot_S40x4096_S4096x44032_S40x44032_1_0_0_1_n_n.rhsIdx_val_of_single rfl i q
theorem rhs_main_v40_1 (i : S40x44032.Idx) (q : dot_S40x4096_S4096x44032_S40x44032_1_0_0_1_n_n.contr.Idx) :
    (dot_S40x4096_S4096x44032_S40x44032_1_0_0_1_n_n.rhsIdx i q 1).val = (i 1).val := by
  unfold DotDims.rhsIdx
  rw [dif_neg (show ¬(1 : Fin S4096x44032.rank) ∈ dot_S40x4096_S4096x44032_S40x44032_1_0_0_1_n_n.rhsBatch by decide), dif_pos (show (1 : Fin S4096x44032.rank) ∈ dot_S40x4096_S4096x44032_S40x44032_1_0_0_1_n_n.rhsNonContracting by decide)]
  rfl
abbrev lidx_main_v40 (i : S40x44032.Idx) (k : Fin 4096) : S40x4096.Idx := fun a => match a with
  | ⟨0, _⟩ => ⟨(i 0).val, (i 0).isLt⟩
  | ⟨1, _⟩ => ⟨k.val, k.isLt⟩
abbrev ridx_main_v40 (i : S40x44032.Idx) (k : Fin 4096) : S4096x44032.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v40_apply (x0 : (⟨S40x1x8192, .bf16⟩ : BufTy).Contents (Elt Ideal)) (x2 : (⟨S4096x44032, .i8⟩ : BufTy).Contents (Elt Ideal)) (x3 : (⟨S64x44032, .bf16⟩ : BufTy).Contents (Elt Ideal)) (i : S40x44032.Idx) :
    val_main_v40 (F := Ideal) x0 x2 x3 i = ∑ k : Fin 4096, (val_main_v39 (F := Ideal) x0) (lidx_main_v40 i k) * (val_main_v32 (F := Ideal) x2 x3) (ridx_main_v40 i k) := by
  unfold val_main_v40
  generalize val_main_v39 (F := Ideal) x0 = y0
  generalize val_main_v32 (F := Ideal) x2 x3 = y1
  simp only [Host.dotGeneral]
  rw [Ideal.dotGeneral_apply, ← Equiv.sum_comp (ValueIdx.contrEquiv1 dot_S40x4096_S4096x44032_S40x44032_1_0_0_1_n_n 4096 rfl rfl).symm]
  refine Finset.sum_congr rfl fun k _ => ?_
  have hk := ValueIdx.contrEquiv1_symm_val dot_S40x4096_S4096x44032_S40x44032_1_0_0_1_n_n 4096 rfl rfl k
  have el : dot_S40x4096_S4096x44032_S40x44032_1_0_0_1_n_n.lhsIdx i ((ValueIdx.contrEquiv1 dot_S40x4096_S4096x44032_S40x44032_1_0_0_1_n_n 4096 rfl rfl).symm k) = lidx_main_v40 i k := funext fun a => Fin.ext (by
    match a with
    | ⟨0, _⟩ => exact lhs_main_v40_0 _ _
    | ⟨1, _⟩ => exact (lhs_main_v40_1 _ _).trans hk)
  have er : dot_S40x4096_S4096x44032_S40x44032_1_0_0_1_n_n.rhsIdx i ((ValueIdx.contrEquiv1 dot_S40x4096_S4096x44032_S40x44032_1_0_0_1_n_n 4096 rfl rfl).symm k) = ridx_main_v40 i k := funext fun a => Fin.ext (by
    match a with
    | ⟨0, _⟩ => exact (rhs_main_v40_0 _ _).trans hk
    | ⟨1, _⟩ => exact rhs_main_v40_1 _ _)
  rw [el, er]

-- %41 = stablehlo.slice %0 [0:40, 4096:8192] : (tensor<40x8192xbf16>) -> tensor<40x4096xbf16>
def val_main_v41 (x0 : (⟨S40x1x8192, .bf16⟩ : BufTy).Contents (Elt F)) : (⟨S40x4096, .bf16⟩ : BufTy).Contents (Elt F) :=
  extractStridedSlice S40x4096 ![0, 4096] (val_main_v0 (F := F) x0) slices_S40x8192_S40x4096_0_4096
set_option backward.proofsInPublic true in
abbrev idx_main_v41 (i : S40x4096.Idx) : S40x8192.Idx := fun a => match a with
  | ⟨0, _⟩ => ⟨(i 0).val, (i 0).isLt⟩
  | ⟨1, _⟩ => ⟨4096 + (i 1).val, by have h1 : (i 1).val < 4096 := (i 1).isLt; show 4096 + (i 1).val < 8192; omega⟩
theorem val_main_v41_apply (x0 : (⟨S40x1x8192, .bf16⟩ : BufTy).Contents (Elt F)) (i : S40x4096.Idx) :
    val_main_v41 (F := F) x0 i = val_main_v0 (F := F) x0 (idx_main_v41 i) := by
  unfold val_main_v41
  generalize val_main_v0 (F := F) x0 = y
  exact extractStridedSlice_apply ![0, 4096] y slices_S40x8192_S40x4096_0_4096 i (idx_main_v41 i) (fun a => match a with
    | ⟨0, _⟩ => by show (i 0).val = 0 + (i 0).val; omega
    | ⟨1, _⟩ => by show 4096 + (i 1).val = 4096 + (i 1).val; omega)

-- %42 = stablehlo.dot_general %41, %38, contracting_dims = [1] x [0], precision = [DEFAULT, DEFAULT] : (tensor<40x4096xbf16>, tensor<4096x44032xbf16>) -> tensor<40x44032xf32>
def val_main_v42 (x0 : (⟨S40x1x8192, .bf16⟩ : BufTy).Contents (Elt F)) (x2 : (⟨S4096x44032, .i8⟩ : BufTy).Contents (Elt F)) (x3 : (⟨S64x44032, .bf16⟩ : BufTy).Contents (Elt F)) : (⟨S40x44032, .f32⟩ : BufTy).Contents (Elt F) :=
  Host.dotGeneral dot_S40x4096_S4096x44032_S40x44032_1_0_0_1_n_n none (val_main_v41 (F := F) x0) (val_main_v38 (F := F) x2 x3)
theorem lhs_main_v42_0 (i : S40x44032.Idx) (q : dot_S40x4096_S4096x44032_S40x44032_1_0_0_1_n_n.contr.Idx) :
    (dot_S40x4096_S4096x44032_S40x44032_1_0_0_1_n_n.lhsIdx i q 0).val = (i 0).val := by
  unfold DotDims.lhsIdx
  rw [dif_neg (show ¬(0 : Fin S40x4096.rank) ∈ dot_S40x4096_S4096x44032_S40x44032_1_0_0_1_n_n.lhsBatch by decide), dif_pos (show (0 : Fin S40x4096.rank) ∈ dot_S40x4096_S4096x44032_S40x44032_1_0_0_1_n_n.lhsNonContracting by decide)]
  rfl
theorem lhs_main_v42_1 (i : S40x44032.Idx) (q : dot_S40x4096_S4096x44032_S40x44032_1_0_0_1_n_n.contr.Idx) :
    (dot_S40x4096_S4096x44032_S40x44032_1_0_0_1_n_n.lhsIdx i q 1).val = (q ⟨0, by decide⟩).val :=
  dot_S40x4096_S4096x44032_S40x44032_1_0_0_1_n_n.lhsIdx_val_of_single rfl i q
theorem rhs_main_v42_0 (i : S40x44032.Idx) (q : dot_S40x4096_S4096x44032_S40x44032_1_0_0_1_n_n.contr.Idx) :
    (dot_S40x4096_S4096x44032_S40x44032_1_0_0_1_n_n.rhsIdx i q 0).val = (q ⟨0, by decide⟩).val :=
  dot_S40x4096_S4096x44032_S40x44032_1_0_0_1_n_n.rhsIdx_val_of_single rfl i q
theorem rhs_main_v42_1 (i : S40x44032.Idx) (q : dot_S40x4096_S4096x44032_S40x44032_1_0_0_1_n_n.contr.Idx) :
    (dot_S40x4096_S4096x44032_S40x44032_1_0_0_1_n_n.rhsIdx i q 1).val = (i 1).val := by
  unfold DotDims.rhsIdx
  rw [dif_neg (show ¬(1 : Fin S4096x44032.rank) ∈ dot_S40x4096_S4096x44032_S40x44032_1_0_0_1_n_n.rhsBatch by decide), dif_pos (show (1 : Fin S4096x44032.rank) ∈ dot_S40x4096_S4096x44032_S40x44032_1_0_0_1_n_n.rhsNonContracting by decide)]
  rfl
abbrev lidx_main_v42 (i : S40x44032.Idx) (k : Fin 4096) : S40x4096.Idx := fun a => match a with
  | ⟨0, _⟩ => ⟨(i 0).val, (i 0).isLt⟩
  | ⟨1, _⟩ => ⟨k.val, k.isLt⟩
abbrev ridx_main_v42 (i : S40x44032.Idx) (k : Fin 4096) : S4096x44032.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v42_apply (x0 : (⟨S40x1x8192, .bf16⟩ : BufTy).Contents (Elt Ideal)) (x2 : (⟨S4096x44032, .i8⟩ : BufTy).Contents (Elt Ideal)) (x3 : (⟨S64x44032, .bf16⟩ : BufTy).Contents (Elt Ideal)) (i : S40x44032.Idx) :
    val_main_v42 (F := Ideal) x0 x2 x3 i = ∑ k : Fin 4096, (val_main_v41 (F := Ideal) x0) (lidx_main_v42 i k) * (val_main_v38 (F := Ideal) x2 x3) (ridx_main_v42 i k) := by
  unfold val_main_v42
  generalize val_main_v41 (F := Ideal) x0 = y0
  generalize val_main_v38 (F := Ideal) x2 x3 = y1
  simp only [Host.dotGeneral]
  rw [Ideal.dotGeneral_apply, ← Equiv.sum_comp (ValueIdx.contrEquiv1 dot_S40x4096_S4096x44032_S40x44032_1_0_0_1_n_n 4096 rfl rfl).symm]
  refine Finset.sum_congr rfl fun k _ => ?_
  have hk := ValueIdx.contrEquiv1_symm_val dot_S40x4096_S4096x44032_S40x44032_1_0_0_1_n_n 4096 rfl rfl k
  have el : dot_S40x4096_S4096x44032_S40x44032_1_0_0_1_n_n.lhsIdx i ((ValueIdx.contrEquiv1 dot_S40x4096_S4096x44032_S40x44032_1_0_0_1_n_n 4096 rfl rfl).symm k) = lidx_main_v42 i k := funext fun a => Fin.ext (by
    match a with
    | ⟨0, _⟩ => exact lhs_main_v42_0 _ _
    | ⟨1, _⟩ => exact (lhs_main_v42_1 _ _).trans hk)
  have er : dot_S40x4096_S4096x44032_S40x44032_1_0_0_1_n_n.rhsIdx i ((ValueIdx.contrEquiv1 dot_S40x4096_S4096x44032_S40x44032_1_0_0_1_n_n 4096 rfl rfl).symm k) = ridx_main_v42 i k := funext fun a => Fin.ext (by
    match a with
    | ⟨0, _⟩ => exact (rhs_main_v42_0 _ _).trans hk
    | ⟨1, _⟩ => exact rhs_main_v42_1 _ _)
  rw [el, er]

-- %43 = stablehlo.add %40, %42 : tensor<40x44032xf32>
def val_main_v43 (x0 : (⟨S40x1x8192, .bf16⟩ : BufTy).Contents (Elt F)) (x2 : (⟨S4096x44032, .i8⟩ : BufTy).Contents (Elt F)) (x3 : (⟨S64x44032, .bf16⟩ : BufTy).Contents (Elt F)) : (⟨S40x44032, .f32⟩ : BufTy).Contents (Elt F) :=
  addf (val_main_v40 (F := F) x0 x2 x3) (val_main_v42 (F := F) x0 x2 x3)
theorem val_main_v43_apply (x0 : (⟨S40x1x8192, .bf16⟩ : BufTy).Contents (Elt F)) (x2 : (⟨S4096x44032, .i8⟩ : BufTy).Contents (Elt F)) (x3 : (⟨S64x44032, .bf16⟩ : BufTy).Contents (Elt F)) (i : S40x44032.Idx) :
    val_main_v43 (F := F) x0 x2 x3 i = FloatOps.addf (val_main_v40 (F := F) x0 x2 x3 i) (val_main_v42 (F := F) x0 x2 x3 i) := rfl

-- %44 = stablehlo.dot_general %0, %arg4, contracting_dims = [1] x [1], precision = [DEFAULT, DEFAULT] : (tensor<40x8192xbf16>, tensor<5x8192x32xbf16>) -> tensor<40x5x32xf32>
def val_main_v44 (x0 : (⟨S40x1x8192, .bf16⟩ : BufTy).Contents (Elt F)) (x4 : (⟨S5x8192x32, .bf16⟩ : BufTy).Contents (Elt F)) : (⟨S40x5x32, .f32⟩ : BufTy).Contents (Elt F) :=
  Host.dotGeneral dot_S40x8192_S5x8192x32_S40x5x32_1_1_0_02_n_n none (val_main_v0 (F := F) x0) (x4)
theorem lhs_main_v44_0 (i : S40x5x32.Idx) (q : dot_S40x8192_S5x8192x32_S40x5x32_1_1_0_02_n_n.contr.Idx) :
    (dot_S40x8192_S5x8192x32_S40x5x32_1_1_0_02_n_n.lhsIdx i q 0).val = (i 0).val := by
  unfold DotDims.lhsIdx
  rw [dif_neg (show ¬(0 : Fin S40x8192.rank) ∈ dot_S40x8192_S5x8192x32_S40x5x32_1_1_0_02_n_n.lhsBatch by decide), dif_pos (show (0 : Fin S40x8192.rank) ∈ dot_S40x8192_S5x8192x32_S40x5x32_1_1_0_02_n_n.lhsNonContracting by decide)]
  rfl
theorem lhs_main_v44_1 (i : S40x5x32.Idx) (q : dot_S40x8192_S5x8192x32_S40x5x32_1_1_0_02_n_n.contr.Idx) :
    (dot_S40x8192_S5x8192x32_S40x5x32_1_1_0_02_n_n.lhsIdx i q 1).val = (q ⟨0, by decide⟩).val :=
  dot_S40x8192_S5x8192x32_S40x5x32_1_1_0_02_n_n.lhsIdx_val_of_single rfl i q
theorem rhs_main_v44_0 (i : S40x5x32.Idx) (q : dot_S40x8192_S5x8192x32_S40x5x32_1_1_0_02_n_n.contr.Idx) :
    (dot_S40x8192_S5x8192x32_S40x5x32_1_1_0_02_n_n.rhsIdx i q 0).val = (i 1).val := by
  unfold DotDims.rhsIdx
  rw [dif_neg (show ¬(0 : Fin S5x8192x32.rank) ∈ dot_S40x8192_S5x8192x32_S40x5x32_1_1_0_02_n_n.rhsBatch by decide), dif_pos (show (0 : Fin S5x8192x32.rank) ∈ dot_S40x8192_S5x8192x32_S40x5x32_1_1_0_02_n_n.rhsNonContracting by decide)]
  rfl
theorem rhs_main_v44_1 (i : S40x5x32.Idx) (q : dot_S40x8192_S5x8192x32_S40x5x32_1_1_0_02_n_n.contr.Idx) :
    (dot_S40x8192_S5x8192x32_S40x5x32_1_1_0_02_n_n.rhsIdx i q 1).val = (q ⟨0, by decide⟩).val :=
  dot_S40x8192_S5x8192x32_S40x5x32_1_1_0_02_n_n.rhsIdx_val_of_single rfl i q
theorem rhs_main_v44_2 (i : S40x5x32.Idx) (q : dot_S40x8192_S5x8192x32_S40x5x32_1_1_0_02_n_n.contr.Idx) :
    (dot_S40x8192_S5x8192x32_S40x5x32_1_1_0_02_n_n.rhsIdx i q 2).val = (i 2).val := by
  unfold DotDims.rhsIdx
  rw [dif_neg (show ¬(2 : Fin S5x8192x32.rank) ∈ dot_S40x8192_S5x8192x32_S40x5x32_1_1_0_02_n_n.rhsBatch by decide), dif_pos (show (2 : Fin S5x8192x32.rank) ∈ dot_S40x8192_S5x8192x32_S40x5x32_1_1_0_02_n_n.rhsNonContracting by decide)]
  rfl
abbrev lidx_main_v44 (i : S40x5x32.Idx) (k : Fin 8192) : S40x8192.Idx := fun a => match a with
  | ⟨0, _⟩ => ⟨(i 0).val, (i 0).isLt⟩
  | ⟨1, _⟩ => ⟨k.val, k.isLt⟩
abbrev ridx_main_v44 (i : S40x5x32.Idx) (k : Fin 8192) : S5x8192x32.Idx := fun a => match a with
  | ⟨0, _⟩ => ⟨(i 1).val, (i 1).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v44_apply (x0 : (⟨S40x1x8192, .bf16⟩ : BufTy).Contents (Elt Ideal)) (x4 : (⟨S5x8192x32, .bf16⟩ : BufTy).Contents (Elt Ideal)) (i : S40x5x32.Idx) :
    val_main_v44 (F := Ideal) x0 x4 i = ∑ k : Fin 8192, (val_main_v0 (F := Ideal) x0) (lidx_main_v44 i k) * x4 (ridx_main_v44 i k) := by
  unfold val_main_v44
  generalize val_main_v0 (F := Ideal) x0 = y0
  simp only [Host.dotGeneral]
  rw [Ideal.dotGeneral_apply, ← Equiv.sum_comp (ValueIdx.contrEquiv1 dot_S40x8192_S5x8192x32_S40x5x32_1_1_0_02_n_n 8192 rfl rfl).symm]
  refine Finset.sum_congr rfl fun k _ => ?_
  have hk := ValueIdx.contrEquiv1_symm_val dot_S40x8192_S5x8192x32_S40x5x32_1_1_0_02_n_n 8192 rfl rfl k
  have el : dot_S40x8192_S5x8192x32_S40x5x32_1_1_0_02_n_n.lhsIdx i ((ValueIdx.contrEquiv1 dot_S40x8192_S5x8192x32_S40x5x32_1_1_0_02_n_n 8192 rfl rfl).symm k) = lidx_main_v44 i k := funext fun a => Fin.ext (by
    match a with
    | ⟨0, _⟩ => exact lhs_main_v44_0 _ _
    | ⟨1, _⟩ => exact (lhs_main_v44_1 _ _).trans hk)
  have er : dot_S40x8192_S5x8192x32_S40x5x32_1_1_0_02_n_n.rhsIdx i ((ValueIdx.contrEquiv1 dot_S40x8192_S5x8192x32_S40x5x32_1_1_0_02_n_n 8192 rfl rfl).symm k) = ridx_main_v44 i k := funext fun a => Fin.ext (by
    match a with
    | ⟨0, _⟩ => exact rhs_main_v44_0 _ _
    | ⟨1, _⟩ => exact (rhs_main_v44_1 _ _).trans hk
    | ⟨2, _⟩ => exact rhs_main_v44_2 _ _)
  rw [el, er]

-- %45 = stablehlo.dot_general %1, %44, batching_dims = [0] x [0], contracting_dims = [1] x [1], precision = [HIGHEST, HIGHEST] : (tensor<40x5xf32>, tensor<40x5x32xf32>) -> tensor<40x32xf32>
def val_main_v45 (x0 : (⟨S40x1x8192, .bf16⟩ : BufTy).Contents (Elt F)) (x1 : (⟨S40, .i32⟩ : BufTy).Contents (Elt F)) (x4 : (⟨S5x8192x32, .bf16⟩ : BufTy).Contents (Elt F)) : (⟨S40x32, .f32⟩ : BufTy).Contents (Elt F) :=
  Host.dotGeneral dot_S40x5_S40x5x32_S40x32_1_1_n_2_0_0 (some .fp32) (val_main_v1 (F := F) x1) (val_main_v44 (F := F) x0 x4)
theorem lhs_main_v45_0 (i : S40x32.Idx) (q : dot_S40x5_S40x5x32_S40x32_1_1_n_2_0_0.contr.Idx) :
    (dot_S40x5_S40x5x32_S40x32_1_1_n_2_0_0.lhsIdx i q 0).val = (i 0).val := by
  unfold DotDims.lhsIdx
  rw [dif_pos (show (0 : Fin S40x5.rank) ∈ dot_S40x5_S40x5x32_S40x32_1_1_n_2_0_0.lhsBatch by decide)]
  rfl
theorem lhs_main_v45_1 (i : S40x32.Idx) (q : dot_S40x5_S40x5x32_S40x32_1_1_n_2_0_0.contr.Idx) :
    (dot_S40x5_S40x5x32_S40x32_1_1_n_2_0_0.lhsIdx i q 1).val = (q ⟨0, by decide⟩).val :=
  dot_S40x5_S40x5x32_S40x32_1_1_n_2_0_0.lhsIdx_val_of_single rfl i q
theorem rhs_main_v45_0 (i : S40x32.Idx) (q : dot_S40x5_S40x5x32_S40x32_1_1_n_2_0_0.contr.Idx) :
    (dot_S40x5_S40x5x32_S40x32_1_1_n_2_0_0.rhsIdx i q 0).val = (i 0).val := by
  unfold DotDims.rhsIdx
  rw [dif_pos (show (0 : Fin S40x5x32.rank) ∈ dot_S40x5_S40x5x32_S40x32_1_1_n_2_0_0.rhsBatch by decide)]
  rfl
theorem rhs_main_v45_1 (i : S40x32.Idx) (q : dot_S40x5_S40x5x32_S40x32_1_1_n_2_0_0.contr.Idx) :
    (dot_S40x5_S40x5x32_S40x32_1_1_n_2_0_0.rhsIdx i q 1).val = (q ⟨0, by decide⟩).val :=
  dot_S40x5_S40x5x32_S40x32_1_1_n_2_0_0.rhsIdx_val_of_single rfl i q
theorem rhs_main_v45_2 (i : S40x32.Idx) (q : dot_S40x5_S40x5x32_S40x32_1_1_n_2_0_0.contr.Idx) :
    (dot_S40x5_S40x5x32_S40x32_1_1_n_2_0_0.rhsIdx i q 2).val = (i 1).val := by
  unfold DotDims.rhsIdx
  rw [dif_neg (show ¬(2 : Fin S40x5x32.rank) ∈ dot_S40x5_S40x5x32_S40x32_1_1_n_2_0_0.rhsBatch by decide), dif_pos (show (2 : Fin S40x5x32.rank) ∈ dot_S40x5_S40x5x32_S40x32_1_1_n_2_0_0.rhsNonContracting by decide)]
  rfl
abbrev lidx_main_v45 (i : S40x32.Idx) (k : Fin 5) : S40x5.Idx := fun a => match a with
  | ⟨0, _⟩ => ⟨(i 0).val, (i 0).isLt⟩
  | ⟨1, _⟩ => ⟨k.val, k.isLt⟩
abbrev ridx_main_v45 (i : S40x32.Idx) (k : Fin 5) : S40x5x32.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's `dot_general` is this sum; at a bit-exact instance it is an opaque function of its operands. -/
theorem val_main_v45_apply (x0 : (⟨S40x1x8192, .bf16⟩ : BufTy).Contents (Elt Ideal)) (x1 : (⟨S40, .i32⟩ : BufTy).Contents (Elt Ideal)) (x4 : (⟨S5x8192x32, .bf16⟩ : BufTy).Contents (Elt Ideal)) (i : S40x32.Idx) :
    val_main_v45 (F := Ideal) x0 x1 x4 i = ∑ k : Fin 5, (val_main_v1 (F := Ideal) x1) (lidx_main_v45 i k) * (val_main_v44 (F := Ideal) x0 x4) (ridx_main_v45 i k) := by
  unfold val_main_v45
  generalize val_main_v1 (F := Ideal) x1 = y0
  generalize val_main_v44 (F := Ideal) x0 x4 = y1
  simp only [Host.dotGeneral]
  rw [Ideal.dotGeneral_apply, ← Equiv.sum_comp (ValueIdx.contrEquiv1 dot_S40x5_S40x5x32_S40x32_1_1_n_2_0_0 5 rfl rfl).symm]
  refine Finset.sum_congr rfl fun k _ => ?_
  have hk := ValueIdx.contrEquiv1_symm_val dot_S40x5_S40x5x32_S40x32_1_1_n_2_0_0 5 rfl rfl k
  have el : dot_S40x5_S40x5x32_S40x32_1_1_n_2_0_0.lhsIdx i ((ValueIdx.contrEquiv1 dot_S40x5_S40x5x32_S40x32_1_1_n_2_0_0 5 rfl rfl).symm k) = lidx_main_v45 i k := funext fun a => Fin.ext (by
    match a with
    | ⟨0, _⟩ => exact lhs_main_v45_0 _ _
    | ⟨1, _⟩ => exact (lhs_main_v45_1 _ _).trans hk)
  have er : dot_S40x5_S40x5x32_S40x32_1_1_n_2_0_0.rhsIdx i ((ValueIdx.contrEquiv1 dot_S40x5_S40x5x32_S40x32_1_1_n_2_0_0 5 rfl rfl).symm k) = ridx_main_v45 i k := funext fun a => Fin.ext (by
    match a with
    | ⟨0, _⟩ => exact rhs_main_v45_0 _ _
    | ⟨1, _⟩ => exact (rhs_main_v45_1 _ _).trans hk
    | ⟨2, _⟩ => exact rhs_main_v45_2 _ _)
  rw [el, er]

-- %46 = stablehlo.broadcast_in_dim %9, dims = [0] : (tensor<40xf32>) -> tensor<40x1xf32>
def val_main_v46 (x1 : (⟨S40, .i32⟩ : BufTy).Contents (Elt F)) (x6 : (⟨S5, .f32⟩ : BufTy).Contents (Elt F)) : (⟨S40x1, .f32⟩ : BufTy).Contents (Elt F) :=
  broadcastInDim S40x1 ![0] bcast_S40_S40x1_0 (val_main_v9 (F := F) x1 x6)
abbrev idx_main_v46 (i : S40x1.Idx) : S40.Idx := fun a => match a with
  | ⟨0, _⟩ => ⟨(i 0).val, (i 0).isLt⟩
theorem val_main_v46_apply (x1 : (⟨S40, .i32⟩ : BufTy).Contents (Elt F)) (x6 : (⟨S5, .f32⟩ : BufTy).Contents (Elt F)) (i : S40x1.Idx) :
    val_main_v46 (F := F) x1 x6 i = val_main_v9 (F := F) x1 x6 (idx_main_v46 i) := by
  unfold val_main_v46
  generalize val_main_v9 (F := F) x1 x6 = y
  exact broadcastInDim_apply _ bcast_S40_S40x1_0 y i (idx_main_v46 i) (fun a => match a with
    | ⟨0, _⟩ => by show (i 0).val = if (40 : Nat) = 1 then 0 else (i 0).val; rw [if_neg (by decide)])

-- %47 = stablehlo.broadcast_in_dim %46, dims = [0, 1] : (tensor<40x1xf32>) -> tensor<40x32xf32>
def val_main_v47 (x1 : (⟨S40, .i32⟩ : BufTy).Contents (Elt F)) (x6 : (⟨S5, .f32⟩ : BufTy).Contents (Elt F)) : (⟨S40x32, .f32⟩ : BufTy).Contents (Elt F) :=
  broadcastInDim S40x32 ![0, 1] bcast_S40x1_S40x32_0_1 (val_main_v46 (F := F) x1 x6)
abbrev idx_main_v47 (i : S40x32.Idx) : S40x1.Idx := fun a => match a with
  | ⟨0, _⟩ => ⟨(i 0).val, (i 0).isLt⟩
  | ⟨1, _⟩ => ⟨0, Nat.one_pos⟩
theorem val_main_v47_apply (x1 : (⟨S40, .i32⟩ : BufTy).Contents (Elt F)) (x6 : (⟨S5, .f32⟩ : BufTy).Contents (Elt F)) (i : S40x32.Idx) :
    val_main_v47 (F := F) x1 x6 i = val_main_v46 (F := F) x1 x6 (idx_main_v47 i) := by
  unfold val_main_v47
  generalize val_main_v46 (F := F) x1 x6 = y
  exact broadcastInDim_apply _ bcast_S40x1_S40x32_0_1 y i (idx_main_v47 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl])

-- %48 = stablehlo.multiply %45, %47 : tensor<40x32xf32>
def val_main_v48 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S40x32, .f32⟩ : BufTy).Contents (Elt F) :=
  mulf (val_main_v45 (F := F) x0 x1 x4) (val_main_v47 (F := F) x1 x6)
theorem val_main_v48_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S40x32.Idx) :
    val_main_v48 (F := F) x0 x1 x4 x6 i = FloatOps.mulf (val_main_v45 (F := F) x0 x1 x4 i) (val_main_v47 (F := F) x1 x6 i) := rfl

-- %49 = stablehlo.convert %48 : (tensor<40x32xf32>) -> tensor<40x32xbf16>
def val_main_v49 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S40x32, .bf16⟩ : BufTy).Contents (Elt F) :=
  truncf .bf16 (val_main_v48 (F := F) x0 x1 x4 x6) bitsLt_bf16_f32
theorem val_main_v49_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S40x32.Idx) :
    val_main_v49 (F := F) x0 x1 x4 x6 i = FloatOps.truncf .bf16 bitsLt_bf16_f32 (val_main_v48 (F := F) x0 x1 x4 x6 i) := rfl

-- %50 = stablehlo.broadcast_in_dim %2, dims = [0, 1] : (tensor<40x5xbf16>) -> tensor<40x5x1x1xbf16>
def val_main_v50 (x1 : (⟨S40, .i32⟩ : BufTy).Contents (Elt F)) : (⟨S40x5x1x1, .bf16⟩ : BufTy).Contents (Elt F) :=
  broadcastInDim S40x5x1x1 ![0, 1] bcast_S40x5_S40x5x1x1_0_1 (val_main_v2 (F := F) x1)
abbrev idx_main_v50 (i : S40x5x1x1.Idx) : S40x5.Idx := fun a => match a with
  | ⟨0, _⟩ => ⟨(i 0).val, (i 0).isLt⟩
  | ⟨1, _⟩ => ⟨(i 1).val, (i 1).isLt⟩
theorem val_main_v50_apply (x1 : (⟨S40, .i32⟩ : BufTy).Contents (Elt F)) (i : S40x5x1x1.Idx) :
    val_main_v50 (F := F) x1 i = val_main_v2 (F := F) x1 (idx_main_v50 i) := by
  unfold val_main_v50
  generalize val_main_v2 (F := F) x1 = y
  exact broadcastInDim_apply _ bcast_S40x5_S40x5x1x1_0_1 y i (idx_main_v50 i) (fun a => match a with
    | ⟨0, _⟩ => by show (i 0).val = if (40 : Nat) = 1 then 0 else (i 0).val; rw [if_neg (by decide)]
    | ⟨1, _⟩ => by show (i 1).val = if (5 : Nat) = 1 then 0 else (i 1).val; rw [if_neg (by decide)])

-- %51 = stablehlo.reshape %49 : (tensor<40x32xbf16>) -> tensor<40x1x2x16xbf16>
def val_main_v51 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S40x1x2x16, .bf16⟩ : BufTy).Contents (Elt F) :=
  shapeCast _ (val_main_v49 (F := F) x0 x1 x4 x6) shapeCasts_S40x32_S40x1x2x16
set_option backward.proofsInPublic true in
abbrev idx_main_v51 (i : S40x1x2x16.Idx) : S40x32.Idx := fun a => match a with
  | ⟨0, _⟩ => ⟨((((i 0).val * 1 + (i 1).val) * 2 + (i 2).val) * 16 + (i 3).val) / 32, by have h0 : (i 0).val < 40 := (i 0).isLt; have h1 : (i 1).val < 1 := (i 1).isLt; have h2 : (i 2).val < 2 := (i 2).isLt; have h3 : (i 3).val < 16 := (i 3).isLt; show ((((i 0).val * 1 + (i 1).val) * 2 + (i 2).val) * 16 + (i 3).val) / 32 < 40; omega⟩
  | ⟨1, _⟩ => ⟨((((i 0).val * 1 + (i 1).val) * 2 + (i 2).val) * 16 + (i 3).val) % 32, by have h0 : (i 0).val < 40 := (i 0).isLt; have h1 : (i 1).val < 1 := (i 1).isLt; have h2 : (i 2).val < 2 := (i 2).isLt; have h3 : (i 3).val < 16 := (i 3).isLt; show ((((i 0).val * 1 + (i 1).val) * 2 + (i 2).val) * 16 + (i 3).val) % 32 < 32; omega⟩
theorem val_main_v51_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S40x1x2x16.Idx) :
    val_main_v51 (F := F) x0 x1 x4 x6 i = val_main_v49 (F := F) x0 x1 x4 x6 (idx_main_v51 i) := by
  unfold val_main_v51
  generalize val_main_v49 (F := F) x0 x1 x4 x6 = y
  exact shapeCast_apply y shapeCasts_S40x32_S40x1x2x16 i (idx_main_v51 i)
    (by rewrite [Shape.rowMajor_val_two, Shape.rowMajor_val_four]; have h0 : (i 0).val < 40 := (i 0).isLt; have h1 : (i 1).val < 1 := (i 1).isLt; have h2 : (i 2).val < 2 := (i 2).isLt; have h3 : (i 3).val < 16 := (i 3).isLt; show ((((i 0).val * 1 + (i 1).val) * 2 + (i 2).val) * 16 + (i 3).val) / 32 * 32 + ((((i 0).val * 1 + (i 1).val) * 2 + (i 2).val) * 16 + (i 3).val) % 32 = (((i 0).val * 1 + (i 1).val) * 2 + (i 2).val) * 16 + (i 3).val; omega)

-- %52 = stablehlo.broadcast_in_dim %50, dims = [0, 1, 2, 3] : (tensor<40x5x1x1xbf16>) -> tensor<40x5x2x16xbf16>
def val_main_v52 (x1 : (⟨S40, .i32⟩ : BufTy).Contents (Elt F)) : (⟨S40x5x2x16, .bf16⟩ : BufTy).Contents (Elt F) :=
  broadcastInDim S40x5x2x16 ![0, 1, 2, 3] bcast_S40x5x1x1_S40x5x2x16_0_1_2_3 (val_main_v50 (F := F) x1)
abbrev idx_main_v52 (i : S40x5x2x16.Idx) : S40x5x1x1.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
theorem val_main_v52_apply (x1 : (⟨S40, .i32⟩ : BufTy).Contents (Elt F)) (i : S40x5x2x16.Idx) :
    val_main_v52 (F := F) x1 i = val_main_v50 (F := F) x1 (idx_main_v52 i) := by
  unfold val_main_v52
  generalize val_main_v50 (F := F) x1 = y
  exact broadcastInDim_apply _ bcast_S40x5x1x1_S40x5x2x16_0_1_2_3 y i (idx_main_v52 i) (fun a => match a with
    | ⟨0, _⟩ => by show (i 0).val = if (40 : Nat) = 1 then 0 else (i 0).val; rw [if_neg (by decide)]
    | ⟨1, _⟩ => by show (i 1).val = if (5 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

-- %53 = stablehlo.broadcast_in_dim %51, dims = [0, 1, 2, 3] : (tensor<40x1x2x16xbf16>) -> tensor<40x5x2x16xbf16>
def val_main_v53 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S40x5x2x16, .bf16⟩ : BufTy).Contents (Elt F) :=
  broadcastInDim S40x5x2x16 ![0, 1, 2, 3] bcast_S40x1x2x16_S40x5x2x16_0_1_2_3 (val_main_v51 (F := F) x0 x1 x4 x6)
abbrev idx_main_v53 (i : S40x5x2x16.Idx) : S40x1x2x16.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v53_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S40x5x2x16.Idx) :
    val_main_v53 (F := F) x0 x1 x4 x6 i = val_main_v51 (F := F) x0 x1 x4 x6 (idx_main_v53 i) := by
  unfold val_main_v53
  generalize val_main_v51 (F := F) x0 x1 x4 x6 = y
  exact broadcastInDim_apply _ bcast_S40x1x2x16_S40x5x2x16_0_1_2_3 y i (idx_main_v53 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl]
    | ⟨2, _⟩ => by show (i 2).val = if (2 : Nat) = 1 then 0 else (i 2).val; rw [if_neg (by decide)]
    | ⟨3, _⟩ => by show (i 3).val = if (16 : Nat) = 1 then 0 else (i 3).val; rw [if_neg (by decide)])

-- %54 = stablehlo.multiply %52, %53 : tensor<40x5x2x16xbf16>
def val_main_v54 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S40x5x2x16, .bf16⟩ : BufTy).Contents (Elt F) :=
  mulf (val_main_v52 (F := F) x1) (val_main_v53 (F := F) x0 x1 x4 x6)
theorem val_main_v54_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S40x5x2x16.Idx) :
    val_main_v54 (F := F) x0 x1 x4 x6 i = FloatOps.mulf (val_main_v52 (F := F) x1 i) (val_main_v53 (F := F) x0 x1 x4 x6 i) := rfl

-- %55 = stablehlo.dot_general %arg5, %54, batching_dims = [1] x [2], contracting_dims = [0, 2] x [1, 3], precision = [DEFAULT, DEFAULT] : (tensor<5x2x16x22016xbf16>, tensor<40x5x2x16xbf16>) -> tensor<2x22016x40xf32>
def val_main_v55 (x0 : (⟨S40x1x8192, .bf16⟩ : BufTy).Contents (Elt F)) (x1 : (⟨S40, .i32⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S2x22016x40, .f32⟩ : BufTy).Contents (Elt F) :=
  Host.dotGeneral dot_S5x2x16x22016_S40x5x2x16_S2x22016x40_02_13_3_0_1_2 none (x5) (val_main_v54 (F := F) x0 x1 x4 x6)

-- %56 = stablehlo.transpose %55, dims = [2, 0, 1] : (tensor<2x22016x40xf32>) -> tensor<40x2x22016xf32>
def val_main_v56 (x0 : (⟨S40x1x8192, .bf16⟩ : BufTy).Contents (Elt F)) (x1 : (⟨S40, .i32⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x2x22016, .f32⟩ : BufTy).Contents (Elt F) :=
  transpose S40x2x22016 [2, 0, 1] (val_main_v55 (F := F) x0 x1 x4 x5 x6) transposes_S2x22016x40_S40x2x22016_2_0_1
abbrev idx_main_v56 (i : S40x2x22016.Idx) : S2x22016x40.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v56_apply (x0 : (⟨S40x1x8192, .bf16⟩ : BufTy).Contents (Elt F)) (x1 : (⟨S40, .i32⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x2x22016.Idx) :
    val_main_v56 (F := F) x0 x1 x4 x5 x6 i = val_main_v55 (F := F) x0 x1 x4 x5 x6 (idx_main_v56 i) := by
  unfold val_main_v56
  generalize val_main_v55 (F := F) x0 x1 x4 x5 x6 = y
  exact transpose_apply [2, 0, 1] y transposes_S2x22016x40_S40x2x22016_2_0_1 i (idx_main_v56 i) (fun b => match b with
    | ⟨0, _⟩ => rfl
    | ⟨1, _⟩ => rfl
    | ⟨2, _⟩ => rfl)

-- %57 = stablehlo.reshape %43 : (tensor<40x44032xf32>) -> tensor<40x2x22016xf32>
def val_main_v57 (x0 : (⟨S40x1x8192, .bf16⟩ : BufTy).Contents (Elt F)) (x2 : (⟨S4096x44032, .i8⟩ : BufTy).Contents (Elt F)) (x3 : (⟨S64x44032, .bf16⟩ : BufTy).Contents (Elt F)) : (⟨S40x2x22016, .f32⟩ : BufTy).Contents (Elt F) :=
  shapeCast _ (val_main_v43 (F := F) x0 x2 x3) shapeCasts_S40x44032_S40x2x22016
set_option backward.proofsInPublic true in
abbrev idx_main_v57 (i : S40x2x22016.Idx) : S40x44032.Idx := fun a => match a with
  | ⟨0, _⟩ => ⟨(((i 0).val * 2 + (i 1).val) * 22016 + (i 2).val) / 44032, by have h0 : (i 0).val < 40 := (i 0).isLt; have h1 : (i 1).val < 2 := (i 1).isLt; have h2 : (i 2).val < 22016 := (i 2).isLt; show (((i 0).val * 2 + (i 1).val) * 22016 + (i 2).val) / 44032 < 40; omega⟩
  | ⟨1, _⟩ => ⟨(((i 0).val * 2 + (i 1).val) * 22016 + (i 2).val) % 44032, by have h0 : (i 0).val < 40 := (i 0).isLt; have h1 : (i 1).val < 2 := (i 1).isLt; have h2 : (i 2).val < 22016 := (i 2).isLt; show (((i 0).val * 2 + (i 1).val) * 22016 + (i 2).val) % 44032 < 44032; omega⟩
theorem val_main_v57_apply (x0 : (⟨S40x1x8192, .bf16⟩ : BufTy).Contents (Elt F)) (x2 : (⟨S4096x44032, .i8⟩ : BufTy).Contents (Elt F)) (x3 : (⟨S64x44032, .bf16⟩ : BufTy).Contents (Elt F)) (i : S40x2x22016.Idx) :
    val_main_v57 (F := F) x0 x2 x3 i = val_main_v43 (F := F) x0 x2 x3 (idx_main_v57 i) := by
  unfold val_main_v57
  generalize val_main_v43 (F := F) x0 x2 x3 = y
  exact shapeCast_apply y shapeCasts_S40x44032_S40x2x22016 i (idx_main_v57 i)
    (by rewrite [Shape.rowMajor_val_two, Shape.rowMajor_val_three]; have h0 : (i 0).val < 40 := (i 0).isLt; have h1 : (i 1).val < 2 := (i 1).isLt; have h2 : (i 2).val < 22016 := (i 2).isLt; show (((i 0).val * 2 + (i 1).val) * 22016 + (i 2).val) / 44032 * 44032 + (((i 0).val * 2 + (i 1).val) * 22016 + (i 2).val) % 44032 = ((i 0).val * 2 + (i 1).val) * 22016 + (i 2).val; omega)

-- %58 = stablehlo.add %57, %56 : tensor<40x2x22016xf32>
def val_main_v58 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x2x22016, .f32⟩ : BufTy).Contents (Elt F) :=
  addf (val_main_v57 (F := F) x0 x2 x3) (val_main_v56 (F := F) x0 x1 x4 x5 x6)
theorem val_main_v58_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x2x22016.Idx) :
    val_main_v58 (F := F) x0 x1 x2 x3 x4 x5 x6 i = FloatOps.addf (val_main_v57 (F := F) x0 x2 x3 i) (val_main_v56 (F := F) x0 x1 x4 x5 x6 i) := rfl

-- %59 = stablehlo.slice %58 [0:40, 0:1, 0:22016] : (tensor<40x2x22016xf32>) -> tensor<40x1x22016xf32>
def val_main_v59 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x1x22016, .f32⟩ : BufTy).Contents (Elt F) :=
  extractStridedSlice S40x1x22016 ![0, 0, 0] (val_main_v58 (F := F) x0 x1 x2 x3 x4 x5 x6) slices_S40x2x22016_S40x1x22016_0_0_0
set_option backward.proofsInPublic true in
abbrev idx_main_v59 (i : S40x1x22016.Idx) : S40x2x22016.Idx := fun a => match a with
  | ⟨0, _⟩ => ⟨(i 0).val, (i 0).isLt⟩
  | ⟨1, _⟩ => ⟨(i 1).val, by have h1 : (i 1).val < 1 := (i 1).isLt; show (i 1).val < 2; omega⟩
  | ⟨2, _⟩ => ⟨(i 2).val, (i 2).isLt⟩
theorem val_main_v59_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x1x22016.Idx) :
    val_main_v59 (F := F) x0 x1 x2 x3 x4 x5 x6 i = val_main_v58 (F := F) x0 x1 x2 x3 x4 x5 x6 (idx_main_v59 i) := by
  unfold val_main_v59
  generalize val_main_v58 (F := F) x0 x1 x2 x3 x4 x5 x6 = y
  exact extractStridedSlice_apply ![0, 0, 0] y slices_S40x2x22016_S40x1x22016_0_0_0 i (idx_main_v59 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %60 = stablehlo.reshape %59 : (tensor<40x1x22016xf32>) -> tensor<40x22016xf32>
def val_main_v60 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  shapeCast _ (val_main_v59 (F := F) x0 x1 x2 x3 x4 x5 x6) shapeCasts_S40x1x22016_S40x22016
set_option backward.proofsInPublic true in
abbrev idx_main_v60 (i : S40x22016.Idx) : S40x1x22016.Idx := fun a => match a with
  | ⟨0, _⟩ => ⟨((i 0).val * 22016 + (i 1).val) / 22016, by have h0 : (i 0).val < 40 := (i 0).isLt; have h1 : (i 1).val < 22016 := (i 1).isLt; show ((i 0).val * 22016 + (i 1).val) / 22016 < 40; omega⟩
  | ⟨1, _⟩ => ⟨0, Nat.one_pos⟩
  | ⟨2, _⟩ => ⟨((i 0).val * 22016 + (i 1).val) % 22016, by have h0 : (i 0).val < 40 := (i 0).isLt; have h1 : (i 1).val < 22016 := (i 1).isLt; show ((i 0).val * 22016 + (i 1).val) % 22016 < 22016; omega⟩
theorem val_main_v60_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v60 (F := F) x0 x1 x2 x3 x4 x5 x6 i = val_main_v59 (F := F) x0 x1 x2 x3 x4 x5 x6 (idx_main_v60 i) := by
  unfold val_main_v60
  generalize val_main_v59 (F := F) x0 x1 x2 x3 x4 x5 x6 = y
  exact shapeCast_apply y shapeCasts_S40x1x22016_S40x22016 i (idx_main_v60 i)
    (by rewrite [Shape.rowMajor_val_three, Shape.rowMajor_val_two]; have h0 : (i 0).val < 40 := (i 0).isLt; have h1 : (i 1).val < 22016 := (i 1).isLt; show (((i 0).val * 22016 + (i 1).val) / 22016 * 1 + 0) * 22016 + ((i 0).val * 22016 + (i 1).val) % 22016 = (i 0).val * 22016 + (i 1).val; omega)

-- %61 = stablehlo.slice %58 [0:40, 1:2, 0:22016] : (tensor<40x2x22016xf32>) -> tensor<40x1x22016xf32>
def val_main_v61 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x1x22016, .f32⟩ : BufTy).Contents (Elt F) :=
  extractStridedSlice S40x1x22016 ![0, 1, 0] (val_main_v58 (F := F) x0 x1 x2 x3 x4 x5 x6) slices_S40x2x22016_S40x1x22016_0_1_0
set_option backward.proofsInPublic true in
abbrev idx_main_v61 (i : S40x1x22016.Idx) : S40x2x22016.Idx := fun a => match a with
  | ⟨0, _⟩ => ⟨(i 0).val, (i 0).isLt⟩
  | ⟨1, _⟩ => ⟨1 + (i 1).val, by have h1 : (i 1).val < 1 := (i 1).isLt; show 1 + (i 1).val < 2; omega⟩
  | ⟨2, _⟩ => ⟨(i 2).val, (i 2).isLt⟩
theorem val_main_v61_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x1x22016.Idx) :
    val_main_v61 (F := F) x0 x1 x2 x3 x4 x5 x6 i = val_main_v58 (F := F) x0 x1 x2 x3 x4 x5 x6 (idx_main_v61 i) := by
  unfold val_main_v61
  generalize val_main_v58 (F := F) x0 x1 x2 x3 x4 x5 x6 = y
  exact extractStridedSlice_apply ![0, 1, 0] y slices_S40x2x22016_S40x1x22016_0_1_0 i (idx_main_v61 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

-- %62 = stablehlo.reshape %61 : (tensor<40x1x22016xf32>) -> tensor<40x22016xf32>
def val_main_v62 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  shapeCast _ (val_main_v61 (F := F) x0 x1 x2 x3 x4 x5 x6) shapeCasts_S40x1x22016_S40x22016
set_option backward.proofsInPublic true in
abbrev idx_main_v62 (i : S40x22016.Idx) : S40x1x22016.Idx := fun a => match a with
  | ⟨0, _⟩ => ⟨((i 0).val * 22016 + (i 1).val) / 22016, by have h0 : (i 0).val < 40 := (i 0).isLt; have h1 : (i 1).val < 22016 := (i 1).isLt; show ((i 0).val * 22016 + (i 1).val) / 22016 < 40; omega⟩
  | ⟨1, _⟩ => ⟨0, Nat.one_pos⟩
  | ⟨2, _⟩ => ⟨((i 0).val * 22016 + (i 1).val) % 22016, by have h0 : (i 0).val < 40 := (i 0).isLt; have h1 : (i 1).val < 22016 := (i 1).isLt; show ((i 0).val * 22016 + (i 1).val) % 22016 < 22016; omega⟩
theorem val_main_v62_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v62 (F := F) x0 x1 x2 x3 x4 x5 x6 i = val_main_v61 (F := F) x0 x1 x2 x3 x4 x5 x6 (idx_main_v62 i) := by
  unfold val_main_v62
  generalize val_main_v61 (F := F) x0 x1 x2 x3 x4 x5 x6 = y
  exact shapeCast_apply y shapeCasts_S40x1x22016_S40x22016 i (idx_main_v62 i)
    (by rewrite [Shape.rowMajor_val_three, Shape.rowMajor_val_two]; have h0 : (i 0).val < 40 := (i 0).isLt; have h1 : (i 1).val < 22016 := (i 1).isLt; show (((i 0).val * 22016 + (i 1).val) / 22016 * 1 + 0) * 22016 + ((i 0).val * 22016 + (i 1).val) % 22016 = (i 0).val * 22016 + (i 1).val; omega)

-- %63 = stablehlo.negate %60 : tensor<40x22016xf32>
def val_main_v63 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  Host.negf (val_main_v60 (F := F) x0 x1 x2 x3 x4 x5 x6)
theorem val_main_v63_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v63 (F := F) x0 x1 x2 x3 x4 x5 x6 i = FloatOps.hostNegf (val_main_v60 (F := F) x0 x1 x2 x3 x4 x5 x6 i) := rfl

-- %64 = stablehlo.exponential %63 : tensor<40x22016xf32>
def val_main_v64 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  Host.exp (val_main_v63 (F := F) x0 x1 x2 x3 x4 x5 x6)
theorem val_main_v64_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v64 (F := F) x0 x1 x2 x3 x4 x5 x6 i = FloatOps.hostUnary .exp (val_main_v63 (F := F) x0 x1 x2 x3 x4 x5 x6 i) := rfl

-- %cst = stablehlo.constant dense<1.000000e+00> : tensor<f32>
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

-- %65 = stablehlo.broadcast_in_dim %cst, dims = [] : (tensor<f32>) -> tensor<40x22016xf32>
def val_main_v65 : (⟨S40x22016, .f32⟩ : BufTy).Contents (Elt F) :=
  broadcastInDim S40x22016 ![] bcast_S_S40x22016 (val_main_cst (F := F))
abbrev idx_main_v65 (i : S40x22016.Idx) : S_.Idx := fun a => a.elim0
theorem val_main_v65_apply (i : S40x22016.Idx) :
    val_main_v65 (F := F) i = val_main_cst (F := F) (idx_main_v65 i) := by
  unfold val_main_v65
  generalize val_main_cst (F := F) = y
  exact broadcastInDim_apply _ bcast_S_S40x22016 y i (idx_main_v65 i) (fun a => a.elim0)

-- %66 = stablehlo.add %65, %64 : tensor<40x22016xf32>
def val_main_v66 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  addf (val_main_v65 (F := F)) (val_main_v64 (F := F) x0 x1 x2 x3 x4 x5 x6)
theorem val_main_v66_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v66 (F := F) x0 x1 x2 x3 x4 x5 x6 i = FloatOps.addf (val_main_v65 (F := F) i) (val_main_v64 (F := F) x0 x1 x2 x3 x4 x5 x6 i) := rfl

-- %cst_7 = stablehlo.constant dense<1.000000e+00> : tensor<f32>
def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

-- %67 = stablehlo.broadcast_in_dim %cst_7, dims = [] : (tensor<f32>) -> tensor<40x22016xf32>
def val_main_v67 : (⟨S40x22016, .f32⟩ : BufTy).Contents (Elt F) :=
  broadcastInDim S40x22016 ![] bcast_S_S40x22016 (val_main_cst_7 (F := F))
abbrev idx_main_v67 (i : S40x22016.Idx) : S_.Idx := fun a => a.elim0
theorem val_main_v67_apply (i : S40x22016.Idx) :
    val_main_v67 (F := F) i = val_main_cst_7 (F := F) (idx_main_v67 i) := by
  unfold val_main_v67
  generalize val_main_cst_7 (F := F) = y
  exact broadcastInDim_apply _ bcast_S_S40x22016 y i (idx_main_v67 i) (fun a => a.elim0)

-- %68 = stablehlo.divide %67, %66 : tensor<40x22016xf32>
def val_main_v68 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  Host.divf (val_main_v67 (F := F)) (val_main_v66 (F := F) x0 x1 x2 x3 x4 x5 x6)
theorem val_main_v68_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v68 (F := F) x0 x1 x2 x3 x4 x5 x6 i = FloatOps.hostDivf (val_main_v67 (F := F) i) (val_main_v66 (F := F) x0 x1 x2 x3 x4 x5 x6 i) := rfl

-- %69 = stablehlo.multiply %60, %68 : tensor<40x22016xf32>
def val_main_v69 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  mulf (val_main_v60 (F := F) x0 x1 x2 x3 x4 x5 x6) (val_main_v68 (F := F) x0 x1 x2 x3 x4 x5 x6)
theorem val_main_v69_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v69 (F := F) x0 x1 x2 x3 x4 x5 x6 i = FloatOps.mulf (val_main_v60 (F := F) x0 x1 x2 x3 x4 x5 x6 i) (val_main_v68 (F := F) x0 x1 x2 x3 x4 x5 x6 i) := rfl

-- %70 = stablehlo.multiply %69, %62 : tensor<40x22016xf32>
def val_main_v70 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .f32⟩ : BufTy).Contents (Elt F) :=
  mulf (val_main_v69 (F := F) x0 x1 x2 x3 x4 x5 x6) (val_main_v62 (F := F) x0 x1 x2 x3 x4 x5 x6)
theorem val_main_v70_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v70 (F := F) x0 x1 x2 x3 x4 x5 x6 i = FloatOps.mulf (val_main_v69 (F := F) x0 x1 x2 x3 x4 x5 x6 i) (val_main_v62 (F := F) x0 x1 x2 x3 x4 x5 x6 i) := rfl

-- %71 = stablehlo.convert %70 : (tensor<40x22016xf32>) -> tensor<40x22016xbf16>
def val_main_v71 (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) : (⟨S40x22016, .bf16⟩ : BufTy).Contents (Elt F) :=
  truncf .bf16 (val_main_v70 (F := F) x0 x1 x2 x3 x4 x5 x6) bitsLt_bf16_f32
theorem val_main_v71_apply (x0 : (⟨S40x1x8192, .bf16⟩ : BufTy).Contents (Elt F)) (x1 : (⟨S40, .i32⟩ : BufTy).Contents (Elt F)) (x2 : (⟨S4096x44032, .i8⟩ : BufTy).Contents (Elt F)) (x3 : (⟨S64x44032, .bf16⟩ : BufTy).Contents (Elt F)) (x4 : (⟨S5x8192x32, .bf16⟩ : BufTy).Contents (Elt F)) (x5 : (⟨S5x2x16x22016, .bf16⟩ : BufTy).Contents (Elt F)) (x6 : (⟨S5, .f32⟩ : BufTy).Contents (Elt F)) (i : S40x22016.Idx) :
    val_main_v71 (F := F) x0 x1 x2 x3 x4 x5 x6 i = FloatOps.truncf .bf16 bitsLt_bf16_f32 (val_main_v70 (F := F) x0 x1 x2 x3 x4 x5 x6 i) := rfl

-- %72 = stablehlo.transpose %49, dims = [1, 0] : (tensor<40x32xbf16>) -> tensor<32x40xbf16>
def val_main_v72 (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) : (⟨S32x40, .bf16⟩ : BufTy).Contents (Elt F) :=
  transpose S32x40 [1, 0] (val_main_v49 (F := F) x0 x1 x4 x6) transposes_S40x32_S32x40_1_0
abbrev idx_main_v72 (i : S32x40.Idx) : S40x32.Idx := fun a => match a with
  | ⟨0, _⟩ => ⟨(i 1).val, (i 1).isLt⟩
  | ⟨1, _⟩ => ⟨(i 0).val, (i 0).isLt⟩
theorem val_main_v72_apply (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) (i : S32x40.Idx) :
    val_main_v72 (F := F) x0 x1 x4 x6 i = val_main_v49 (F := F) x0 x1 x4 x6 (idx_main_v72 i) := by
  unfold val_main_v72
  generalize val_main_v49 (F := F) x0 x1 x4 x6 = y
  exact transpose_apply [1, 0] y transposes_S40x32_S32x40_1_0 i (idx_main_v72 i) (fun b => match b with
    | ⟨0, _⟩ => rfl
    | ⟨1, _⟩ => rfl)

/-- The term the Run module names `res_main_v71` is the stage. -/
theorem val_main_v71_eq (m : (ℓ : Loc nD τ sig) → Buf (Elt F) ℓ) (c : Dev nD) :
    Cert.GateUpRefIdeal.Value.res_main_v71 m c = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.GateUpRefIdeal.Value.res_main_v71; rfl

/-- The term the Run module states for `main_v72` is the stage. -/
theorem val_main_v72_eq (x0 : (⟨S40x1x8192, .bf16⟩ : BufTy).Contents (Elt F)) (x1 : (⟨S40, .i32⟩ : BufTy).Contents (Elt F)) (x4 : (⟨S5x8192x32, .bf16⟩ : BufTy).Contents (Elt F)) (x6 : (⟨S5, .f32⟩ : BufTy).Contents (Elt F)) :
    transpose S32x40 [1, 0] (truncf .bf16 (mulf (Host.dotGeneral dot_S40x5_S40x5x32_S40x32_1_1_n_2_0_0 (some .fp32) (uitofp .f32 (cmpi .eq (broadcastInDim S40x5 ![0, 1] bcast_S40x1_S40x5_0_1 (broadcastInDim S40x1 ![0] bcast_S40_S40x1_0 (x1))) (broadcastInDim S40x5 ![0, 1] bcast_S1x5_S40x5_0_1 (iotaInDim S1x5 32 1)))) (Host.dotGeneral dot_S40x8192_S5x8192x32_S40x5x32_1_1_0_02_n_n none (shapeCast _ (x0) shapeCasts_S40x1x8192_S40x8192) (x4))) (broadcastInDim S40x32 ![0, 1] bcast_S40x1_S40x32_0_1 (broadcastInDim S40x1 ![0] bcast_S40_S40x1_0 (Host.gather gather_S5_S40x1_S40_n_0_n_n_0_1_1 (x6) (broadcastInDim S40x1 ![0] bcast_S40_S40x1_0 (select (cmpi .slt (x1) (broadcastInDim S40 ![] bcast_S_S40 (constantI S_ 32 0#32))) (addi (x1) (broadcastInDim S40 ![] bcast_S_S40 (constantI S_ 32 5#32))) (x1))))))) bitsLt_bf16_f32) transposes_S40x32_S32x40_1_0
      = val_main_v72 (F := F) x0 x1 x4 x6 := rfl

end Cert.GateUpRefIdeal.Read

end
-- ==== Proof.GateUpRef.lean ====
module

public import proofs.«01_k».proof.Proof.GateUpRead
public import proofs.«01_k».proof.Proof.GateUpSpec
public import Idealize.ShloMosaic.Lib.TwoAxisContraction

@[expose] public section

set_option maxRecDepth 16384

noncomputable section

/-!
# The gate/up reference is the specification

Each value of the reference, read at an index over the reals, up to the two results.
-/

namespace Cert.GateUpRefIdeal.Own

open Cert.GateUpRefIdeal Cert.GateUpRefIdeal.Gen Cert.GateUpRefIdeal.Read
open Idealize.ShloMosaic Idealize.ShloMosaic.TcCoe Idealize.ShloMosaic.ValueIdx Idealize.ShloMosaic.StableHlo
open Cert.Own
open scoped BigOperators

variable (x0 : (⟨S40x1x8192, .bf16⟩ : BufTy).Contents (Elt Ideal)) (x1 : (⟨S40, .i32⟩ : BufTy).Contents (Elt Ideal))
  (x2 : (⟨S4096x44032, .i8⟩ : BufTy).Contents (Elt Ideal)) (x3 : (⟨S64x44032, .bf16⟩ : BufTy).Contents (Elt Ideal))
  (x4 : (⟨S5x8192x32, .bf16⟩ : BufTy).Contents (Elt Ideal)) (x5 : (⟨S5x2x16x22016, .bf16⟩ : BufTy).Contents (Elt Ideal))
  (x6 : (⟨S5, .f32⟩ : BufTy).Contents (Elt Ideal))

/-- The one-hot row of a batch row's adapter. -/
theorem onehot_at (b n : ℕ) (hb : b < 40) (hn : n < 5) :
    val_main_v1 (F := Ideal) x1 (ix2 ⟨b, hb⟩ ⟨n, hn⟩) = if (at1 x1 b).toNat = n then (1 : EReal) else 0 := by
  rw [val_main_v1_apply, val_main_call0_v4_apply, val_main_call0_v2_apply, val_main_call0_v0_apply, val_main_call0_v3_apply, val_main_call0_v1_apply,
    cmpi_eq_ite, at1_of x1 _ b rfl]
  show (((if at1 x1 b = BitVec.ofNat 32 n then 1#1 else 0#1 : BitVec 1).toNat : ℝ) : EReal) = _
  have e : (at1 x1 b = BitVec.ofNat 32 n) ↔ (at1 x1 b).toNat = n := by
    constructor
    · intro h; rw [h, BitVec.toNat_ofNat, Nat.mod_eq_of_lt (by omega)]
    · intro h; exact BitVec.eq_of_toNat_eq (by rw [BitVec.toNat_ofNat, h, Nat.mod_eq_of_lt (by omega)])
  by_cases h : (at1 x1 b).toNat = n
  · rw [if_pos (e.mpr h), if_pos h]; simp
  · rw [if_neg (fun k => h (e.mp k)), if_neg h]; simp

/-- The activations as a matrix. -/
theorem x_at (b d : ℕ) (hb : b < 40) (hd : d < 8192) : val_main_v0 (F := Ideal) x0 (ix2 ⟨b, hb⟩ ⟨d, hd⟩) = at3 x0 b 0 d := by
  rw [val_main_v0_apply]
  exact at3_of x0 _ _ _ _ (by show (b * 8192 + d) / 8192 = b; omega) rfl (by show (b * 8192 + d) % 8192 = d; omega)

/-- A row's scale, gathered by its adapter's number, where that is in range. -/
theorem scale_at (b : ℕ) (hb : b < 40) (hn : (at1 x1 b).toNat < 5) :
    val_main_v9 (F := Ideal) x1 x6 (ix1 ⟨b, hb⟩) = at1 x6 (at1 x1 b).toNat := by
  have e8 : val_main_v8 (F := Ideal) x1 (ix2 (⟨b, hb⟩ : Fin 40) (0 : Fin 1)) = at1 x1 b := by
    rw [val_main_v8_apply, val_main_v7_apply, val_main_v4_apply, val_main_v3_apply, val_main_c_apply, at1_of x1 _ b rfl]
    generalize at1 x1 b = v at hn
    have : IntOp.cmpi .slt v 0#32 = 0#1 := by
      show BitVec.ofBool (v.slt 0#32) = 0#1
      have hs : v.slt 0#32 = false := by
        rw [Bool.eq_false_iff]; intro h
        have h' : v.toInt < (0#32 : BitVec 32).toInt := by simpa [BitVec.slt] using h
        rw [BitVec.toInt_eq_toNat_of_lt (by omega)] at h'
        simp at h'
        omega
      rw [hs]; rfl
    rw [this]; exact select_zero ..
  unfold val_main_v9 Host.gather
  refine at1_of x6 _ _ ?_
  show (gather_S5_S40x1_S40_n_0_n_n_0_1_1.start (ix1 ⟨b, hb⟩) (val_main_v8 (F := Ideal) x1) 0) + gather_S5_S40x1_S40_n_0_n_n_0_1_1.batchCoord (ix1 ⟨b, hb⟩) 0
    + gather_S5_S40x1_S40_n_0_n_n_0_1_1.offCoord (ix1 ⟨b, hb⟩) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S5_S40x1_S40_n_0_n_n_0_1_1.startIndexMap from List.mem_singleton.mpr rfl)]
  have hsi : gather_S5_S40x1_S40_n_0_n_n_0_1_1.siIdx (ix1 ⟨b, hb⟩) ⟨List.idxOf (0 : Fin 1) gather_S5_S40x1_S40_n_0_n_n_0_1_1.startIndexMap,
      List.idxOf_lt_length_iff.2 (List.mem_singleton.mpr rfl)⟩ = ix2 (⟨b, hb⟩ : Fin 40) (0 : Fin 1) := by
    funext a; refine Fin.ext ?_
    match a with
    | ⟨0, _⟩ => rfl
    | ⟨1, _⟩ => rfl
  rw [hsi, e8]
  show min (at1 x1 b).toInt.toNat 4 = _
  rw [BitVec.toInt_eq_toNat_of_lt (by omega)]
  simp only [Int.toNat_natCast]
  omega

/-- The weights: the low nibbles. -/
theorem wlo_at (i j : ℕ) (hi : i < 4096) (hj : j < 44032) :
    val_main_v32 (F := Ideal) x2 x3 (ix2 ⟨i, hi⟩ ⟨j, hj⟩) = ((nib (at2 x2 i j) 0 : ℝ) : EReal) * at2 x3 (i / 128) j := by
  rw [val_main_v32_apply, val_main_v31_apply, val_main_v28_apply, val_main_v30_apply, val_main_v29_apply, val_main_v27_apply, val_main_v20_apply,
    val_main_v19_apply, val_main_v18_apply, val_main_v16_apply, val_main_v12_apply, val_main_v10_apply, val_main_v11_apply, val_main_v15_apply, val_main_v17_apply,
    val_main_c_1_apply, val_main_c_3_apply, val_main_c_4_apply]
  rw [at2_of x2 _ i j
    (by show (((i * 44032 + j) / 5636096 * 128 + (i * 44032 + j) / 44032 % 128) * 44032 + (i * 44032 + j) % 44032) / 44032 = i; omega)
    (by show (((i * 44032 + j) / 5636096 * 128 + (i * 44032 + j) / 44032 % 128) * 44032 + (i * 44032 + j) % 44032) % 44032 = j; omega),
    at2_of x3 _ (i / 128) j (by show (i * 44032 + j) / 5636096 = i / 128; omega) (by show (i * 44032 + j) % 44032 = j; omega), ← plain_lo]
  rfl

/-- The weights: the high nibbles. -/
theorem whi_at (i j : ℕ) (hi : i < 4096) (hj : j < 44032) :
    val_main_v38 (F := Ideal) x2 x3 (ix2 ⟨i, hi⟩ ⟨j, hj⟩) = ((nib (at2 x2 i j) 1 : ℝ) : EReal) * at2 x3 (32 + i / 128) j := by
  rw [val_main_v38_apply, val_main_v37_apply, val_main_v34_apply, val_main_v36_apply, val_main_v35_apply, val_main_v33_apply, val_main_v26_apply,
    val_main_v25_apply, val_main_v24_apply, val_main_v22_apply, val_main_v14_apply, val_main_v10_apply, val_main_v13_apply, val_main_v21_apply, val_main_v23_apply,
    val_main_c_2_apply, val_main_c_5_apply, val_main_c_6_apply]
  rw [at2_of x2 _ i j
    (by show (((i * 44032 + j) / 5636096 * 128 + (i * 44032 + j) / 44032 % 128) * 44032 + (i * 44032 + j) % 44032) / 44032 = i; omega)
    (by show (((i * 44032 + j) / 5636096 * 128 + (i * 44032 + j) / 44032 % 128) * 44032 + (i * 44032 + j) % 44032) % 44032 = j; omega),
    at2_of x3 _ (32 + i / 128) j (by show 32 + (i * 44032 + j) / 5636096 = 32 + i / 128; omega) (by show (i * 44032 + j) % 44032 = j; omega), ← plain_hi]
  rfl

/-- The first half of the activations. -/
theorem xlo_at (b k : ℕ) (hb : b < 40) (hk : k < 4096) : val_main_v39 (F := Ideal) x0 (ix2 ⟨b, hb⟩ ⟨k, hk⟩) = at3 x0 b 0 k := by
  rw [val_main_v39_apply, val_main_v0_apply]
  refine at3_of x0 _ _ _ _ ?_ rfl ?_
  · show (b * 8192 + k) / 8192 = b; omega
  · show (b * 8192 + k) % 8192 = k; omega

/-- The second half of the activations. -/
theorem xhi_at (b k : ℕ) (hb : b < 40) (hk : k < 4096) : val_main_v41 (F := Ideal) x0 (ix2 ⟨b, hb⟩ ⟨k, hk⟩) = at3 x0 b 0 (4096 + k) := by
  rw [val_main_v41_apply, val_main_v0_apply]
  refine at3_of x0 _ _ _ _ ?_ rfl ?_
  · show (b * 8192 + (4096 + k)) / 8192 = b; omega
  · show (b * 8192 + (4096 + k)) % 8192 = 4096 + k; omega

/-- The linear layer. -/
theorem lin_at (b j : ℕ) (hb : b < 40) (hj : j < 44032) :
    val_main_v43 (F := Ideal) x0 x2 x3 (ix2 ⟨b, hb⟩ ⟨j, hj⟩) = GateUpSpec.lin x0 x2 x3 b j := by
  rw [val_main_v43_apply, val_main_v40_apply, val_main_v42_apply]
  unfold GateUpSpec.lin
  rw [Finset.sum_range, Finset.sum_range]
  refine congrArg₂ (fun p q : EReal => p + q) (Finset.sum_congr rfl fun k _ => ?_) (Finset.sum_congr rfl fun k _ => ?_)
  · exact congrArg₂ (fun p q : EReal => p * q)
      ((congrArg (val_main_v39 (F := Ideal) x0) (eq_ix2 _)).trans (xlo_at x0 b k.val hb k.isLt))
      ((congrArg (val_main_v32 (F := Ideal) x2 x3) (eq_ix2 _)).trans (wlo_at x2 x3 k.val j k.isLt hj))
  · exact congrArg₂ (fun p q : EReal => p * q)
      ((congrArg (val_main_v41 (F := Ideal) x0) (eq_ix2 _)).trans (xhi_at x0 b k.val hb k.isLt))
      ((congrArg (val_main_v38 (F := Ideal) x2 x3) (eq_ix2 _)).trans (whi_at x2 x3 k.val j k.isLt hj))

/-- The scaled first LoRA product. -/
theorem s_at (b r : ℕ) (hb : b < 40) (hr : r < 32) :
    val_main_v49 (F := Ideal) x0 x1 x4 x6 (ix2 ⟨b, hb⟩ ⟨r, hr⟩) = GateUpSpec.s x0 x1 x4 x6 b r := by
  rw [val_main_v49_apply, val_main_v48_apply, val_main_v45_apply, val_main_v47_apply, val_main_v46_apply]
  show (∑ k : Fin 5, _ * _ : EReal) * _ = _
  have e : ∀ k : Fin 5, val_main_v1 (F := Ideal) x1 (lidx_main_v45 (ix2 ⟨b, hb⟩ ⟨r, hr⟩) k) * val_main_v44 (F := Ideal) x0 x4 (ridx_main_v45 (ix2 ⟨b, hb⟩ ⟨r, hr⟩) k)
      = (fun n => (if (at1 x1 b).toNat = n then (1 : EReal) else 0) * ∑ d ∈ Finset.range 8192, at3 x0 b 0 d * at3 x4 n d r) k.val := by
    intro k
    refine congrArg₂ (fun p q : EReal => p * q)
      ((congrArg (val_main_v1 (F := Ideal) x1) (eq_ix2 _)).trans (onehot_at x1 b k.val hb k.isLt)) ?_
    rw [val_main_v44_apply, Finset.sum_range]
    refine Finset.sum_congr rfl fun d _ => congrArg₂ (fun p q : EReal => p * q) ?_ ?_
    · exact (congrArg (val_main_v0 (F := Ideal) x0) (eq_ix2 _)).trans (x_at x0 b d.val hb d.isLt)
    · exact at3_of x4 _ _ _ _ rfl rfl rfl
  rw [Finset.sum_congr rfl fun k _ => e k]
  rw [← Finset.sum_range (fun n => (if (at1 x1 b).toNat = n then (1 : EReal) else 0) * ∑ d ∈ Finset.range 8192, at3 x0 b 0 d * at3 x4 n d r)]
  unfold GateUpSpec.s
  by_cases h : (at1 x1 b).toNat < 5
  · rw [if_pos h, Finset.sum_eq_single (at1 x1 b).toNat]
    · rw [if_pos rfl, one_mul]
      congr 1
      · exact Finset.sum_congr rfl fun d _ => mul_comm _ _
      · exact (congrArg (val_main_v9 (F := Ideal) x1 x6) (eq_ix1 _)).trans (scale_at x1 x6 b hb h)
    · intro n _ hne; rw [if_neg (fun e => hne e.symm), zero_mul]
    · intro hh; exact absurd (Finset.mem_range.mpr h) hh
  · rw [if_neg h, Finset.sum_eq_zero, zero_mul]
    intro n hn
    rw [if_neg (fun e => h (by rw [e]; exact Finset.mem_range.mp hn)), zero_mul]

/-- The routed first product, every adapter's rows. -/
theorem m_at (b n t r : ℕ) (hb : b < 40) (hn : n < 5) (ht : t < 2) (hr : r < 16) :
    val_main_v54 (F := Ideal) x0 x1 x4 x6 (ix4 ⟨b, hb⟩ ⟨n, hn⟩ ⟨t, ht⟩ ⟨r, hr⟩)
      = (if (at1 x1 b).toNat = n then (1 : EReal) else 0) * GateUpSpec.s x0 x1 x4 x6 b (16 * t + r) := by
  rw [val_main_v54_apply, val_main_v52_apply, val_main_v53_apply, val_main_v50_apply, val_main_v51_apply, val_main_v2_apply]
  refine congrArg₂ (fun p q : EReal => p * q) ?_ ?_
  · exact (congrArg (val_main_v1 (F := Ideal) x1) (eq_ix2 _)).trans (onehot_at x1 b n hb hn)
  · refine (at2_of (val_main_v49 (F := Ideal) x0 x1 x4 x6) _ b (16 * t + r) ?_ ?_).trans ((at2_fin _ _ _ hb (by omega)).trans (s_at x0 x1 x4 x6 b (16 * t + r) hb (by omega)))
    · show (((b * 1 + 0) * 2 + t) * 16 + r) / 32 = b; omega
    · show (((b * 1 + 0) * 2 + t) * 16 + r) % 32 = 16 * t + r; omega

abbrev D55 : DotDims S5x2x16x22016 S40x5x2x16 S2x22016x40 := dot_S5x2x16x22016_S40x5x2x16_S2x22016x40_02_13_3_0_1_2

/-- The second LoRA product. -/
theorem delta_at (b t f : ℕ) (hb : b < 40) (ht : t < 2) (hf : f < 22016) :
    val_main_v55 (F := Ideal) x0 x1 x4 x5 x6 (ix3 ⟨t, ht⟩ ⟨f, hf⟩ ⟨b, hb⟩) = GateUpSpec.delta x0 x1 x4 x5 x6 t b f := by
  unfold val_main_v55
  simp only [Host.dotGeneral]
  rw [Ideal.dotGeneral_apply]
  show ∑ k : D55.contr.Idx, _ = _
  rw [sum_contr2 D55 5 16 rfl rfl rfl]
  have el : ∀ (n : Fin 5) (r : Fin 16), D55.lhsIdx (ix3 ⟨t, ht⟩ ⟨f, hf⟩ ⟨b, hb⟩) ((contrEquiv2 D55 5 16 rfl rfl rfl).symm (n, r)) = ix4 n ⟨t, ht⟩ r ⟨f, hf⟩ := by
    intro n r
    funext a; refine Fin.ext ?_
    match a with
    | ⟨0, _⟩ => exact contrEquiv2_symm_val0 D55 5 16 rfl rfl rfl (n, r)
    | ⟨1, _⟩ => rfl
    | ⟨2, _⟩ => exact contrEquiv2_symm_val1 D55 5 16 rfl rfl rfl (n, r)
    | ⟨3, _⟩ => rfl
  have er : ∀ (n : Fin 5) (r : Fin 16), D55.rhsIdx (ix3 ⟨t, ht⟩ ⟨f, hf⟩ ⟨b, hb⟩) ((contrEquiv2 D55 5 16 rfl rfl rfl).symm (n, r)) = ix4 ⟨b, hb⟩ n ⟨t, ht⟩ r := by
    intro n r
    funext a; refine Fin.ext ?_
    match a with
    | ⟨0, _⟩ => rfl
    | ⟨1, _⟩ => exact contrEquiv2_symm_val0 D55 5 16 rfl rfl rfl (n, r)
    | ⟨2, _⟩ => rfl
    | ⟨3, _⟩ => exact contrEquiv2_symm_val1 D55 5 16 rfl rfl rfl (n, r)
  have e : ∀ (n : Fin 5), (∑ r : Fin 16, x5 (D55.lhsIdx (ix3 ⟨t, ht⟩ ⟨f, hf⟩ ⟨b, hb⟩) ((contrEquiv2 D55 5 16 rfl rfl rfl).symm (n, r)))
        * val_main_v54 (F := Ideal) x0 x1 x4 x6 (D55.rhsIdx (ix3 ⟨t, ht⟩ ⟨f, hf⟩ ⟨b, hb⟩) ((contrEquiv2 D55 5 16 rfl rfl rfl).symm (n, r))) : EReal)
      = (fun n : ℕ => if (at1 x1 b).toNat = n then ∑ r ∈ Finset.range 16, GateUpSpec.s x0 x1 x4 x6 b (16 * t + r) * at4 x5 n t r f else 0) n.val := by
    intro n
    show _ = if (at1 x1 b).toNat = n.val then _ else _
    have hterm : ∀ r : Fin 16, (x5 (D55.lhsIdx (ix3 ⟨t, ht⟩ ⟨f, hf⟩ ⟨b, hb⟩) ((contrEquiv2 D55 5 16 rfl rfl rfl).symm (n, r)))
        * val_main_v54 (F := Ideal) x0 x1 x4 x6 (D55.rhsIdx (ix3 ⟨t, ht⟩ ⟨f, hf⟩ ⟨b, hb⟩) ((contrEquiv2 D55 5 16 rfl rfl rfl).symm (n, r))) : EReal)
        = at4 x5 n.val t r.val f * ((if (at1 x1 b).toNat = n.val then (1 : EReal) else 0) * GateUpSpec.s x0 x1 x4 x6 b (16 * t + r.val)) := by
      intro r
      rw [el, er, m_at x0 x1 x4 x6 b n.val t r.val hb n.isLt ht r.isLt]
      congr 1
      exact at4_of x5 _ _ _ _ _ rfl rfl rfl rfl
    refine (Finset.sum_congr rfl fun r _ => hterm r).trans ?_
    by_cases h : (at1 x1 b).toNat = n.val
    · simp only [if_pos h]
      rw [Finset.sum_range]
      refine Finset.sum_congr rfl fun r _ => ?_
      rw [one_mul]; exact mul_comm _ _
    · simp only [if_neg h]
      refine Finset.sum_eq_zero fun r _ => ?_
      rw [zero_mul]; exact mul_zero _
  refine (Finset.sum_congr rfl fun n _ => e n).trans ?_
  rw [← Finset.sum_range (fun n : ℕ => if (at1 x1 b).toNat = n then ∑ r ∈ Finset.range 16, GateUpSpec.s x0 x1 x4 x6 b (16 * t + r) * at4 x5 n t r f else 0)]
  unfold GateUpSpec.delta
  by_cases h : (at1 x1 b).toNat < 5
  · rw [if_pos h, Finset.sum_eq_single (at1 x1 b).toNat]
    · rw [if_pos rfl]
    · intro n _ hne; rw [if_neg (fun e => hne e.symm)]
    · intro hh; exact absurd (Finset.mem_range.mpr h) hh
  · rw [if_neg h]
    refine Finset.sum_eq_zero fun n hn => ?_
    rw [if_neg]; intro e; rw [e] at h; exact h (Finset.mem_range.mp hn)

/-- The gate and the up projection. -/
theorem pre_at (b t f : ℕ) (hb : b < 40) (ht : t < 2) (hf : f < 22016) :
    val_main_v58 (F := Ideal) x0 x1 x2 x3 x4 x5 x6 (ix3 ⟨b, hb⟩ ⟨t, ht⟩ ⟨f, hf⟩) = GateUpSpec.pre x0 x1 x2 x3 x4 x5 x6 t b f := by
  rw [val_main_v58_apply, val_main_v57_apply, val_main_v56_apply]
  unfold GateUpSpec.pre
  refine congrArg₂ (fun p q : EReal => p + q) ?_ ?_
  · refine (at2_of (val_main_v43 (F := Ideal) x0 x2 x3) _ b (22016 * t + f) ?_ ?_).trans ((at2_fin _ _ _ hb (by omega)).trans (lin_at x0 x2 x3 b _ hb (by omega)))
    · show ((b * 2 + t) * 22016 + f) / 44032 = b; omega
    · show ((b * 2 + t) * 22016 + f) % 44032 = 22016 * t + f; omega
  · exact (congrArg (val_main_v55 (F := Ideal) x0 x1 x4 x5 x6) (eq_ix3 _)).trans (delta_at x0 x1 x4 x5 x6 b t f hb ht hf)

/-- The first result: the gated product. -/
theorem h_at (b f : ℕ) (hb : b < 40) (hf : f < 22016) :
    val_main_v71 (F := Ideal) x0 x1 x2 x3 x4 x5 x6 (ix2 ⟨b, hb⟩ ⟨f, hf⟩) = GateUpSpec.h x0 x1 x2 x3 x4 x5 x6 b f := by
  have eg : val_main_v60 (F := Ideal) x0 x1 x2 x3 x4 x5 x6 (ix2 ⟨b, hb⟩ ⟨f, hf⟩) = GateUpSpec.pre x0 x1 x2 x3 x4 x5 x6 0 b f := by
    rw [val_main_v60_apply, val_main_v59_apply]
    refine (at3_of (val_main_v58 (F := Ideal) x0 x1 x2 x3 x4 x5 x6) _ b 0 f ?_ rfl ?_).trans ((at3_fin _ _ _ _ hb (by omega) hf).trans (pre_at x0 x1 x2 x3 x4 x5 x6 b 0 f hb (by omega) hf))
    · show (b * 22016 + f) / 22016 = b; omega
    · show (b * 22016 + f) % 22016 = f; omega
  have eu : val_main_v62 (F := Ideal) x0 x1 x2 x3 x4 x5 x6 (ix2 ⟨b, hb⟩ ⟨f, hf⟩) = GateUpSpec.pre x0 x1 x2 x3 x4 x5 x6 1 b f := by
    rw [val_main_v62_apply, val_main_v61_apply]
    refine (at3_of (val_main_v58 (F := Ideal) x0 x1 x2 x3 x4 x5 x6) _ b 1 f ?_ rfl ?_).trans ((at3_fin _ _ _ _ hb (by omega) hf).trans (pre_at x0 x1 x2 x3 x4 x5 x6 b 1 f hb (by omega) hf))
    · show (b * 22016 + f) / 22016 = b; omega
    · show (b * 22016 + f) % 22016 = f; omega
  rw [val_main_v71_apply, val_main_v70_apply, val_main_v69_apply, val_main_v68_apply, val_main_v67_apply, val_main_v66_apply, val_main_v65_apply, val_main_v64_apply,
    val_main_v63_apply, val_main_cst_apply, val_main_cst_7_apply, eg, eu]
  unfold GateUpSpec.h
  generalize GateUpSpec.pre x0 x1 x2 x3 x4 x5 x6 0 b f = g
  show g * Ideal.div (Ideal.ofBits .f32 0x3F800000#32) (Ideal.ofBits .f32 0x3F800000#32 + Ideal.exp (-g)) * _ = _
  rw [Ideal.ofBits_one_f32]
  rfl

/-- The second result: the scaled first LoRA product, transposed. -/
theorem st_at (b r : ℕ) (hb : b < 40) (hr : r < 32) :
    val_main_v72 (F := Ideal) x0 x1 x4 x6 (ix2 ⟨r, hr⟩ ⟨b, hb⟩) = GateUpSpec.s x0 x1 x4 x6 b r := by
  rw [val_main_v72_apply]
  exact (congrArg (val_main_v49 (F := Ideal) x0 x1 x4 x6) (eq_ix2 _)).trans (s_at x0 x1 x4 x6 b r hb hr)

end Cert.GateUpRefIdeal.Own

end
-- ==== Proof.GateUpAlgebra.lean ====
module

public import proofs.«01_k».proof.Proof.GateUpFrames
public import proofs.«01_k».proof.Proof.GateUpValue
public import proofs.«01_k».proof.Proof.GateUpRef

@[expose] public section

set_option maxRecDepth 65536

noncomputable section

/-!
# The gate/up call equals its reference

Both runs end with the specification's arrays of the same arguments.
-/

namespace Cert.Proof

open Idealize.ShloMosaic Idealize.SL.Sem Idealize.ShloMosaic.ValueIdx

/-- The gated product as an array. -/
def hArr (x0 : (⟨3, ![40, 1, 8192]⟩ : Shape).Idx → EReal) (x1 : (⟨1, ![40]⟩ : Shape).Idx → BitVec 32)
    (x2 : (⟨2, ![4096, 44032]⟩ : Shape).Idx → BitVec 8) (x3 : (⟨2, ![64, 44032]⟩ : Shape).Idx → EReal)
    (x4 : (⟨3, ![5, 8192, 32]⟩ : Shape).Idx → EReal) (x5 : (⟨4, ![5, 2, 16, 22016]⟩ : Shape).Idx → EReal)
    (x6 : (⟨1, ![5]⟩ : Shape).Idx → EReal) : (⟨2, ![40, 22016]⟩ : Shape).Idx → EReal :=
  fun i => GateUpSpec.h x0 x1 x2 x3 x4 x5 x6 (i 0).val (i 1).val

/-- The scaled first LoRA product as an array, transposed. -/
def sArr (x0 : (⟨3, ![40, 1, 8192]⟩ : Shape).Idx → EReal) (x1 : (⟨1, ![40]⟩ : Shape).Idx → BitVec 32)
    (x4 : (⟨3, ![5, 8192, 32]⟩ : Shape).Idx → EReal) (x6 : (⟨1, ![5]⟩ : Shape).Idx → EReal) : (⟨2, ![32, 40]⟩ : Shape).Idx → EReal :=
  fun i => GateUpSpec.s x0 x1 x4 x6 (i 1).val (i 0).val

/-- The kernel's run over the reals: the two results are the specification's arrays, the arguments unchanged. -/
def valueGateUp : Prop :=
  ∀ (m : (ℓ : Loc Cert.GateUp.nD Cert.GateUp.τ Cert.GateUp.sig) → Buf (Elt Ideal) ℓ) (g : Dev Cert.GateUp.nD → PrngReg),
    θ_run (Cert.GateUp.defs (F := Ideal)) (onTc (τ := Cert.GateUp.τ) (Cert.GateUp.main (F := Ideal))) ⟨m, fun _ => 0, g⟩ (fun r => ∀ c : Dev Cert.GateUp.nD,
      r.2.mem ((c.tc : Thread Cert.GateUp.nD Cert.GateUp.τ).loc Cert.GateUp.main_v5_0) = hArr (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5)) (m ((c.tc : Thread Cert.GateUp.nD Cert.GateUp.τ).loc Cert.GateUp.main_arg6))
      ∧ r.2.mem ((c.tc : Thread Cert.GateUp.nD Cert.GateUp.τ).loc Cert.GateUp.main_v5_1) = sArr (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg4)) (m ((c.tc : Thread Cert.GateUp.nD Cert.GateUp.τ).loc Cert.GateUp.main_arg6))
      ∧ r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))

theorem valueGateUp_holds : valueGateUp := fun m g => Cert.GateUp.Own.run m g

/-- The same of the program printed for the ideal reading. -/
def valueGateUpIdeal : Prop :=
  ∀ (m : (ℓ : Loc Cert.GateUpIdeal.nD Cert.GateUpIdeal.τ Cert.GateUpIdeal.sig) → Buf (Elt Ideal) ℓ) (g : Dev Cert.GateUpIdeal.nD → PrngReg),
    θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
      r.2.mem ((c.tc : Thread Cert.GateUpIdeal.nD Cert.GateUpIdeal.τ).loc Cert.GateUpIdeal.main_v5_0) = hArr (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6))
      ∧ r.2.mem ((c.tc : Thread Cert.GateUpIdeal.nD Cert.GateUpIdeal.τ).loc Cert.GateUpIdeal.main_v5_1) = sArr (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg6))
      ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))

/-- The two printed programs are one, definition by definition. -/
theorem valueGateUp_eq : valueGateUp = valueGateUpIdeal := by sl_kernel_rfl

theorem valueGateUpIdeal_holds : valueGateUpIdeal := valueGateUp_eq ▸ valueGateUp_holds

/-- The reference's first result is the specification's array. -/
theorem ref_h (m : (ℓ : Loc Cert.GateUpRefIdeal.nD Cert.GateUpRefIdeal.τ Cert.GateUpRefIdeal.sig) → Buf (Elt Ideal) ℓ) (c : Dev Cert.GateUpRefIdeal.nD) :
    Cert.GateUpRefIdeal.Value.res_main_v71 m c = hArr (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4)) (m ((c.tc : Thread Cert.GateUpRefIdeal.nD Cert.GateUpRefIdeal.τ).loc Cert.GateUpRefIdeal.main_arg5)) (m ((c.tc : Thread Cert.GateUpRefIdeal.nD Cert.GateUpRefIdeal.τ).loc Cert.GateUpRefIdeal.main_arg6)) := by
  rw [Cert.GateUpRefIdeal.Read.val_main_v71_eq]
  funext i
  exact (congrArg _ (eq_ix2 i)).trans (Cert.GateUpRefIdeal.Own.h_at _ _ _ _ _ _ _ _ _ (i 0).isLt (i 1).isLt)

/-- The reference's second result is the specification's array. -/
theorem ref_s (x0 : (⟨Cert.GateUpRefIdeal.S40x1x8192, .bf16⟩ : BufTy).Contents (Elt Ideal)) (x1 : (⟨Cert.GateUpRefIdeal.S40, .i32⟩ : BufTy).Contents (Elt Ideal))
    (x4 : (⟨Cert.GateUpRefIdeal.S5x8192x32, .bf16⟩ : BufTy).Contents (Elt Ideal)) (x6 : (⟨Cert.GateUpRefIdeal.S5, .f32⟩ : BufTy).Contents (Elt Ideal)) :
    Cert.GateUpRefIdeal.Read.val_main_v72 (F := Ideal) x0 x1 x4 x6 = sArr x0 x1 x4 x6 := by
  funext i
  exact (congrArg _ (eq_ix2 i)).trans (Cert.GateUpRefIdeal.Own.st_at x0 x1 x4 x6 (i 1).val (i 0).val (i 1).isLt (i 0).isLt)

/-- From memories agreeing on the arguments both programs end with the same two arrays. -/
theorem algebraicGateUp : algebraic_GateUpIdeal_GateUpRefIdeal (hGateUpIdeal := Cert.GateUpIdeal.Gen.facts) (hGateUpRefIdeal := Cert.GateUpRefIdeal.Gen.facts) := by
  intro m g m' g' _ hag
  refine ⟨fun c => hArr (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6)), fun c => sArr (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg6)), valueGateUpIdeal_holds m g, ?_⟩
  refine (θ_run _ _ _).mono (fun r h c => ⟨?_, ?_, (h c).2.2⟩) (Cert.GateUpRefIdeal.Value.run m' g')
  · obtain ⟨e0, e1, e2, e3, e4, e5, e6⟩ := hag c
    refine ((h c).1.trans (ref_h m' c)).trans ?_
    rw [e0, e1, e2, e3, e4, e5, e6]
  · obtain ⟨e0, e1, e2, e3, e4, e5, e6⟩ := hag c
    refine ((h c).2.1.trans (ref_s _ _ _ _)).trans ?_
    rw [e0, e1, e4, e6]

end Cert.Proof

end
-- ==== Proof.DownBody.lean ====
module

public import proofs.«01_k».proof.Proof.Gen.Down.Frame

@[expose] public section

set_option maxRecDepth 16384

noncomputable section

/-!
# The down call's body, with its unrolled loops written as loops

The printed body of the down call unrolls two loops of 86 trips. Here the same program is written with the loops as
recursions on the trip number, over named array functions; `body_eq` says that it is the printed body.
-/

namespace Cert.Down.Own

open Idealize.ShloMosaic Idealize.ShloMosaic.TcCoe Idealize.ShloMosaic.Tactic
open Idealize.SL Idealize.SL.Sem
open Cert.Down Facts₀ Facts

variable {F : FTy → Type} [FloatOps F]

/-! ## The tiles' rectangles -/

theorem inb128 (k : ℕ) (h : k < 86) : ∀ a, (![0, 128 * k] : Fin 2 → ℕ) a + S40x128.size a ≤ S40x22016.size a
  | 0 => by show 0 + 40 ≤ 40; omega
  | 1 => by show 128 * k + 128 ≤ 22016; omega
theorem inb128' (k : ℕ) (h : k < 86) : ∀ a, (![0, 11008 + 128 * k] : Fin 2 → ℕ) a + S40x128.size a ≤ S40x22016.size a
  | 0 => by show 0 + 40 ≤ 40; omega
  | 1 => by show 11008 + 128 * k + 128 ≤ 22016; omega
theorem inb256 (k : ℕ) (h : k < 86) : ∀ a, (![0, 256 * k] : Fin 2 → ℕ) a + S40x256.size a ≤ S40x22016.size a
  | 0 => by show 0 + 40 ≤ 40; omega
  | 1 => by show 256 * k + 256 ≤ 22016; omega
theorem inbRow (k : ℕ) (h : k < 86) : ∀ a, (![128 * k, 0] : Fin 2 → ℕ) a + S128x512.size a ≤ S11008x512.size a
  | 0 => by show 128 * k + 128 ≤ 11008; omega
  | 1 => by show 0 + 512 ≤ 512; omega
theorem packed256 (k : ℕ) (h : k < 86) :
    (Rect.unit (s := S40x22016) ![0, 256 * k] S40x256.size (inb256 k h)).PackedRows (EltTy.packing .bf16) :=
  Or.inr ⟨by decide, rfl, Or.inl ⟨Dvd.intro 0 rfl, ⟨20, rfl⟩⟩⟩
theorem slicesPair (k : ℕ) (h : k < 86) : S86x2x512.Slices ![k, 0, 0] S1x2x512 := by
  refine ⟨rfl, ?_⟩
  intro a; match a with
  | 0 => show k + 1 ≤ 86; omega
  | 1 => show 0 + 2 ≤ 2; omega
  | 2 => show 0 + 512 ≤ 512; omega

/-- The first half's columns `128 k …` of the activations. -/
abbrev rLo (k : ℕ) (h : k < 86) : Rect S40x22016 := Rect.unit (s := S40x22016) ![0, 128 * k] S40x128.size (inb128 k h)
/-- The second half's columns `11008 + 128 k …`. -/
abbrev rHi (k : ℕ) (h : k < 86) : Rect S40x22016 := Rect.unit (s := S40x22016) ![0, 11008 + 128 * k] S40x128.size (inb128' k h)
/-- Tile `k` of the interleaved activations. -/
abbrev rXp (k : ℕ) (h : k < 86) : Rect S40x22016 := Rect.unit (s := S40x22016) ![0, 256 * k] S40x256.size (inb256 k h)
/-- Tile `k` of the packed codes. -/
abbrev rCode (k : ℕ) (h : k < 86) : Rect S11008x512 := Rect.unit (s := S11008x512) ![128 * k, 0] S128x512.size (inbRow k h)

theorem inbQ (k : ℕ) (h : k < 4) : ∀ a, (![0, 128 * k] : Fin 2 → ℕ) a + S40x128.size a ≤ S40x512.size a
  | 0 => by show 0 + 40 ≤ 40; omega
  | 1 => by show 128 * k + 128 ≤ 512; omega
theorem inbQs (k : ℕ) (h : k < 4) : ∀ a, (![0, 0, k] : Fin 3 → ℕ) a + S1x40x1.size a ≤ S1x40x4.size a
  | 0 => by show 0 + 1 ≤ 1; omega
  | 1 => by show 0 + 40 ≤ 40; omega
  | 2 => by show k + 1 ≤ 4; omega
theorem packedQ (k : ℕ) (h : k < 4) :
    (Rect.unit (s := S40x512) ![0, 128 * k] S40x128.size (inbQ k h)).PackedRows (EltTy.packing .fp8e4m3) :=
  Or.inr ⟨by decide, rfl, Or.inl ⟨Dvd.intro 0 rfl, ⟨10, rfl⟩⟩⟩
theorem slicesQ (k : ℕ) (h : k < 4) : S40x512.Slices ![0, 128 * k] S40x128 := by
  refine ⟨rfl, ?_⟩
  intro a; match a with
  | 0 => show 0 + 40 ≤ 40; omega
  | 1 => show 128 * k + 128 ≤ 512; omega

/-- Block `k` of 128 columns of the result. -/
abbrev rQ (k : ℕ) (h : k < 4) : Rect S40x512 := Rect.unit (s := S40x512) ![0, 128 * k] S40x128.size (inbQ k h)
/-- Block `k`'s column of the scales. -/
abbrev rQs (k : ℕ) (h : k < 4) : Rect S1x40x4 := Rect.unit (s := S1x40x4) ![0, 0, k] S1x40x1.size (inbQs k h)

/-! ## What the pieces compute -/

/-- The 0/1 matrix which interleaves two halves of 128 columns. -/
def perm : FVec F S256x256 .bf16 :=
  truncf .bf16 (sitofp .f32 (extui 32 (cmpi .eq (iota .tc S256x256 32 [0] iota_S256x256_d0_w32)
    (addi (shrsi (iota .tc S256x256 32 [1] iota_S256x256_d1_w32) (broadcast S256x256 1#32))
      (muli (andi (iota .tc S256x256 32 [1] iota_S256x256_d1_w32) (broadcast S256x256 1#32)) (broadcast S256x256 128#32)))) natLt_1_32)) bitsLt_bf16_f32

/-- A tile of the interleaved activations, from its two halves. -/
def xpTile (lo hi : Vec F S40x128 .bf16) : FVec F S40x256 .bf16 :=
  shapeCast S40x256 (truncf .bf16 (matmul dot_S40x256_S256x256_S40x256_1_0_0_1_n_n none
    (concatenate S40x256 1 [⟨S40x128, lo⟩, ⟨S40x128, hi⟩] concatenates_S40x128_S40x128_S40x256_d1)
    perm (constant S40x256 .f32 0x00000000#32)) bitsLt_bf16_f32) shapeCasts_S40x256_S40x256

theorem inbScale (n : ℕ) (h : n < 5) : ∀ a, (![n] : Fin 1 → ℕ) a + S1.size a ≤ S5.size a
  | 0 => by show n + 1 ≤ 5; omega
/-- One adapter's LoRA scale. -/
abbrev rScale (n : ℕ) (h : n < 5) : Rect S5 := Rect.unit (s := S5) ![n] S1.size (inbScale n h)
/-- The one index of a vector of one element. -/
abbrev one : S1.Idx := Shape.Idx.first (numel1_S1.symm ▸ Nat.one_pos)

/-- Where a row's adapter is number `n`. -/
def isN (idx : IVec S1x40 32) (n : BitVec 32) : IVec S1x40 1 := cmpi .eq idx (broadcast S1x40 n)
/-- The same for each of 16 LoRA rows. -/
def isN16 (idx : IVec S1x40 32) (n : BitVec 32) : IVec S16x40 1 :=
  broadcastTo S16x40 (shapeCast S1x40 (isN idx n) shapeCasts_S1x40_S1x40) broadcasts_S1x40_S16x40

/-- Each row's LoRA scale, from the five adapters' scales. -/
def scaleOf (idx : IVec S1x40 32) (a0 a1 a2 a3 a4 : Elt F .f32) : FVec F S1x40 .f32 :=
  select (isN idx 4#32) (broadcast S1x40 a4) (select (isN idx 3#32) (broadcast S1x40 a3) (select (isN idx 2#32) (broadcast S1x40 a2)
    (select (isN idx 1#32) (broadcast S1x40 a1) (select (isN idx 0#32) (broadcast S1x40 a0) (broadcast S1x40 (Scalar.ofBits .f32 0x00000000#32))))))

/-- Every adapter's first LoRA product. -/
def loraA (a : Vec F S80x22016 .bf16) (x : Vec F S40x22016 .bf16) : FVec F S80x40 .f32 :=
  matmul dot_S80x22016_S40x22016_S80x40_1_1_0_0_n_n none (shapeCast S80x22016 a shapeCasts_S80x22016_S80x22016)
    x (constant S80x40 .f32 0x00000000#32)

/-- Each row's own adapter's product. -/
def pick (idx : IVec S1x40 32) (z : FVec F S80x40 .f32) : FVec F S16x40 .f32 :=
  select (isN16 idx 4#32) (extractStridedSlice S16x40 ![64, 0] z slices_S80x40_o64_0_S16x40)
  (select (isN16 idx 3#32) (extractStridedSlice S16x40 ![48, 0] z slices_S80x40_o48_0_S16x40)
  (select (isN16 idx 2#32) (extractStridedSlice S16x40 ![32, 0] z slices_S80x40_o32_0_S16x40)
  (select (isN16 idx 1#32) (extractStridedSlice S16x40 ![16, 0] z slices_S80x40_o16_0_S16x40)
  (select (isN16 idx 0#32) (extractStridedSlice S16x40 ![0, 0] z slices_S80x40_o0_0_S16x40)
    (broadcast S16x40 (Scalar.ofBits .f32 0x00000000#32))))))

/-- The scaled first LoRA product: what the call returns transposed. -/
def stRow (idx : IVec S1x40 32) (sc : FVec F S1x40 .f32) (z : FVec F S80x40 .f32) : FVec F S16x40 .bf16 :=
  truncf .bf16 (mulf (pick idx z) (broadcastTo S16x40 sc broadcasts_S1x40_S16x40)) bitsLt_bf16_f32

/-- The same from the arrays the body loads. -/
def stOf (ix : Vec F S1x40 .i32) (a0 a1 a2 a3 a4 : Elt F .f32) (a : Vec F S80x22016 .bf16) (x : Vec F S40x22016 .bf16) : FVec F S16x40 .bf16 :=
  stRow (shapeCast S1x40 ix shapeCasts_S1x40_S1x40) (scaleOf (shapeCast S1x40 ix shapeCasts_S1x40_S1x40) a0 a1 a2 a3 a4) (loraA a x)

/-- Adapter `n`'s rows of the routed product: the row's own where its adapter is `n`, zero elsewhere. -/
def routeN (idx : IVec S1x40 32) (st : FVec F S16x40 .bf16) (n : BitVec 32) : FVec F S16x40 .f32 :=
  select (isN16 idx n) (extf .f32 st bitsLt_bf16_f32) (broadcast S16x40 (Scalar.ofBits .f32 0x00000000#32))

/-- The routed product, every adapter's rows, a batch row per row. -/
def route (idx : IVec S1x40 32) (st : FVec F S16x40 .bf16) : FVec F S40x80 .bf16 :=
  truncf .bf16 (transpose S40x80 [1, 0] (concatenate S80x40 0 [⟨S16x40, routeN idx st 0#32⟩, ⟨S16x40, routeN idx st 1#32⟩, ⟨S16x40, routeN idx st 2#32⟩, ⟨S16x40, routeN idx st 3#32⟩, ⟨S16x40, routeN idx st 4#32⟩]
    concatenates_S16x40_S16x40_S16x40_S16x40_S16x40_S80x40_d0) transposes_S80x40_p1_0_S40x80) bitsLt_bf16_f32

/-- The scales of a block of columns, paired: group `k` beside group `86 + k`. -/
def pairs (s : Vec F S172x512 .bf16) : FVec F S86x2x512 .bf16 :=
  concatenate S86x2x512 1 [⟨S86x1x512, shapeCast S86x1x512 (extractStridedSlice S86x512 ![0, 0] s slices_S172x512_o0_0_S86x512) shapeCasts_S86x512_S86x1x512⟩,
    ⟨S86x1x512, shapeCast S86x1x512 (extractStridedSlice S86x512 ![86, 0] s slices_S172x512_o86_0_S86x512) shapeCasts_S86x512_S86x1x512⟩] concatenates_S86x1x512_S86x1x512_S86x2x512_d1

/-- How far a row's code is lifted before it is brought down with its sign. -/
def lift : IVec S256x512 32 :=
  subi (broadcast S256x512 28#32) (muli (broadcast S256x512 4#32) (andi (iota .tc S256x512 32 [0] iota_S256x512_d0_w32) (broadcast S256x512 1#32)))

/-- A tile of the dequantised weights: the packed codes, each byte's two nibbles in two rows, times the scales. -/
def wTile (p : FVec F S86x2x512 .bf16) (k : ℕ) (h : k < 86) (b : Vec F S128x512 .i8) : FVec F S256x512 .bf16 :=
  shapeCast S256x512 (mulf
    (shapeCast S16x16x512 (sitofp .bf16 (shrsi (shli (shapeCast S256x512 (broadcastTo S128x2x512
      (shapeCast S128x1x512 (shapeCast S128x1x512 (extui 32 b natLt_8_32) shapeCasts_S128x512_S128x1x512) shapeCasts_S128x1x512_S128x1x512)
      broadcasts_S128x1x512_S128x2x512) shapeCasts_S128x2x512_S256x512) lift) (broadcast S256x512 28#32)) : FVec F S256x512 .bf16) shapeCasts_S256x512_S16x16x512)
    (broadcastTo S16x16x512 (shapeCast S1x16x512 (shapeCast S16x512 (broadcastTo S8x2x512
      (shapeCast S1x2x512 (extractStridedSlice S1x2x512 ![k, 0, 0] p (slicesPair k h)) shapeCasts_S1x2x512_S1x2x512)
      broadcasts_S1x2x512_S8x2x512) shapeCasts_S8x2x512_S16x512) shapeCasts_S16x512_S1x16x512) broadcasts_S1x16x512_S16x16x512))
    shapeCasts_S16x16x512_S256x512

/-- A tile's product added to the running sum. -/
def addTile (acc : FVec F S40x512 .f32) (xt : Vec F S40x256 .bf16) (w : FVec F S256x512 .bf16) : FVec F S40x512 .f32 :=
  addf acc (matmul dot_S40x256_S256x512_S40x512_1_0_0_1_n_n none xt w (constant S40x512 .f32 0x00000000#32))

/-- The second LoRA product: what a sum starts from. -/
def loraB (r : Vec F S40x80 .bf16) (b : Vec F S80x512 .bf16) : FVec F S40x512 .f32 :=
  matmul dot_S40x80_S80x512_S40x512_1_0_0_1_n_n none r (shapeCast S80x512 b shapeCasts_S80x512_S80x512) (constant S40x512 .f32 0x00000000#32)

/-! ## The fp8 blocks -/

/-- The largest magnitude of each row of a block, over 448. -/
def amax (v : FVec F S40x128 .f32) : FVec F S40x1 .f32 :=
  mulf (shapeCast S40x1 (multiReduction .maximumf [1] S40 (absf v) 0xFF800000#32 reduces_S40x128_S40 (.inl rfl) rfl) shapeCasts_S40_S40x1)
    (broadcast S40x1 (Scalar.ofBits .f32 0x3B124925#32))

/-- One step of the search for the exponent: `f + k` where that exponent's power of two is not above `a`. -/
def expStep (a : FVec F S40x1 .f32) (k : BitVec 32) (f : IVec S40x1 32) : IVec S40x1 32 :=
  select (cmpf .olt a (bitcastToFloat .f32 (shli (addi f (broadcast S40x1 k)) (broadcast S40x1 23#32)))) f (addi f (broadcast S40x1 k))

/-- The exponent of a block's scale, a row at a time. -/
def expo (v : FVec F S40x128 .f32) : IVec S40x1 32 :=
  select (cmpf .oeq (amax v) (broadcast S40x1 (Scalar.ofBits .f32 0x00000000#32))) (broadcast S40x1 0#32)
    (subi (expStep (amax v) 1#32 (expStep (amax v) 2#32 (expStep (amax v) 4#32 (expStep (amax v) 8#32 (expStep (amax v) 16#32
      (expStep (amax v) 32#32 (expStep (amax v) 64#32 (expStep (amax v) 128#32 (broadcast S40x1 0#32))))))))) (broadcast S40x1 126#32))

/-- A block's scale. -/
def qScale (v : FVec F S40x128 .f32) : FVec F S1x40x1 .f32 :=
  shapeCast S1x40x1 (bitcastToFloat .f32 (shli (addi (expo v) (broadcast S40x1 127#32)) (broadcast S40x1 23#32)) : FVec F S40x1 .f32) shapeCasts_S40x1_S1x40x1

/-- A block's codes. -/
def qCodes (v : FVec F S40x128 .f32) : FVec F S40x128 .fp8e4m3 :=
  truncf .fp8e4m3 (minimumf (broadcast S40x128 (Scalar.ofBits .f32 0x43E00000#32)) (maximumf (broadcast S40x128 (Scalar.ofBits .f32 0xC3E00000#32))
    (mulf v (broadcastTo S40x128 (bitcastToFloat .f32 (shli (subi (broadcast S40x1 127#32) (expo v)) (broadcast S40x1 23#32)) : FVec F S40x1 .f32) broadcasts_S40x1_S40x128)))) bitsLt_fp8e4m3_f32

/-- The result block rounded. -/
def outOf (y : FVec F S40x512 .f32) : FVec F S40x512 .bf16 := truncf .bf16 y bitsLt_bf16_f32

/-- Block `k` of the rounded result. -/
def vBlk (o : FVec F S40x512 .bf16) (k : ℕ) (h : k < 4) : FVec F S40x128 .f32 :=
  extractStridedSlice S40x128 ![0, 128 * k] (extf .f32 o bitsLt_bf16_f32) (slicesQ k h)

/-! ## The program -/

/-- The program's type. -/
abbrev P (F : FTy → Type) [FloatOps F] (α : Type) : Type 1 := Prog (TpuEff nD τ sig (Elt F) Λ₀ .tc) α

/-- One trip of the interleaving, and then `fin`. -/
def xpStep (arg3 : Memref sig .tc .vmem S40x22016 .bf16) (arg12 : Memref sig .tc .vmem S40x22016 .bf16) (harg12 : arg12.IsWhole) (k : ℕ) (h : k < 86)
    (fin : P F PUnit) : P F PUnit :=
  .op (.load arg3 (rLo k h).toLoadRect (View.loadsAt_vmem h_S40x128)) fun (lo : Vec F S40x128 .bf16) =>
  .op (.load arg3 (rHi k h).toLoadRect (View.loadsAt_vmem h_S40x128)) fun (hi : Vec F S40x128 .bf16) =>
  .op (.load arg12 (rXp k h).toLoadRect (View.loadsAt_vmem h_S40x256)) fun (_o : Vec F S40x256 .bf16) =>
  .op (.store arg12 (rXp k h) (xpTile lo hi) Finset.univ (View.stores_vmem h_S40x256 (harg12.storeExact_slice rfl _ (packed256 k h)) (fun _ => rfl)) (.inl rfl)) fun _ => fin

/-- Trips `k, …, k + n - 1` of the interleaving, and then `fin`. -/
def xpLoop (arg3 : Memref sig .tc .vmem S40x22016 .bf16) (arg12 : Memref sig .tc .vmem S40x22016 .bf16) (harg12 : arg12.IsWhole) (fin : P F PUnit) :
    (n k : ℕ) → k + n ≤ 86 → P F PUnit
  | 0, _, _ => fin
  | n + 1, k, h => xpStep arg3 arg12 harg12 k (by omega) (xpLoop arg3 arg12 harg12 fin n (k + 1) (by omega))

/-- What the first grid point does besides: the LoRA part, and then `fin`. -/
def loraPart (arg1 : Memref sig .tc .smem S5 .f32) (arg2 : Memref sig .tc .vmem S1x40 .i32) (arg3 : Memref sig .tc .vmem S40x22016 .bf16)
    (arg6 : Memref sig .tc .vmem S80x22016 .bf16) (arg9 : Memref sig .tc .vmem S16x40 .bf16) (harg9 : arg9.IsWhole)
    (arg13 : Memref sig .tc .vmem S40x80 .bf16) (harg13 : arg13.IsWhole)
    (fin : P F PUnit) : P F PUnit :=
  .op (.load arg2 (Rect.unit (s := S1x40) ![0, 0] S1x40.size inb_S1x40_S1x40_0_0).toLoadRect (View.loadsAt_vmem h_S1x40)) fun (ix : Vec F S1x40 .i32) =>
  .op (.load arg1 (rScale 0 (by omega)).toLoadRect (View.loadsAt_rect (View.loads_smem_one rfl numel1_S1))) fun (f0 : Vec F S1 .f32) =>
  .op (.load arg1 (rScale 1 (by omega)).toLoadRect (View.loadsAt_rect (View.loads_smem_one rfl numel1_S1))) fun (f1 : Vec F S1 .f32) =>
  .op (.load arg1 (rScale 2 (by omega)).toLoadRect (View.loadsAt_rect (View.loads_smem_one rfl numel1_S1))) fun (f2 : Vec F S1 .f32) =>
  .op (.load arg1 (rScale 3 (by omega)).toLoadRect (View.loadsAt_rect (View.loads_smem_one rfl numel1_S1))) fun (f3 : Vec F S1 .f32) =>
  .op (.load arg1 (rScale 4 (by omega)).toLoadRect (View.loadsAt_rect (View.loads_smem_one rfl numel1_S1))) fun (f4 : Vec F S1 .f32) =>
  .op (.load arg6 (Rect.unit (s := S80x22016) ![0, 0] S80x22016.size inb_S80x22016_S80x22016_0_0).toLoadRect (View.loadsAt_vmem h_S80x22016)) fun (a : Vec F S80x22016 .bf16) =>
  .op (.load arg3 (Rect.unit (s := S40x22016) ![0, 0] S40x22016.size inb_S40x22016_S40x22016_0_0).toLoadRect (View.loadsAt_vmem h_S40x22016)) fun (x : Vec F S40x22016 .bf16) =>
  .op (.load arg9 (Rect.unit (s := S16x40) ![0, 0] S16x40.size inb_S16x40_S16x40_0_0).toLoadRect (View.loadsAt_vmem h_S16x40)) fun (_o : Vec F S16x40 .bf16) =>
  .op (.store arg9 (Rect.unit (s := S16x40) ![0, 0] S16x40.size inb_S16x40_S16x40_0_0) (stOf ix (f0 one) (f1 one) (f2 one) (f3 one) (f4 one) a x) Finset.univ (View.stores_vmem h_S16x40 (harg9.storeExact_slice rfl _ packedbf16_S16x40_S16x40_0_0) (fun _ => rfl)) (.inl rfl)) fun _ =>
  .op (.load arg13 (Rect.unit (s := S40x80) ![0, 0] S40x80.size inb_S40x80_S40x80_0_0).toLoadRect (View.loadsAt_vmem h_S40x80)) fun (_o : Vec F S40x80 .bf16) =>
  .op (.store arg13 (Rect.unit (s := S40x80) ![0, 0] S40x80.size inb_S40x80_S40x80_0_0) (shapeCast S40x80 (route (shapeCast S1x40 ix shapeCasts_S1x40_S1x40) (stOf ix (f0 one) (f1 one) (f2 one) (f3 one) (f4 one) a x)) shapeCasts_S40x80_S40x80) Finset.univ (View.stores_vmem h_S40x80 (harg13.storeExact_slice rfl _ packedbf16_S40x80_S40x80_0_0) (fun _ => rfl)) (.inl rfl)) fun _ =>
  fin

/-- Trips `k, …, k + n - 1` of the main loop, from a running sum, handing the last sum on. -/
def mainLoop (arg4 : Memref sig .tc .vmem S11008x512 .i8) (arg12 : Memref sig .tc .vmem S40x22016 .bf16)
    (p : FVec F S86x2x512 .bf16) (fin : FVec F S40x512 .f32 → P F PUnit) :
    (n k : ℕ) → k + n ≤ 86 → FVec F S40x512 .f32 → P F PUnit
  | 0, _, _, y => fin y
  | n + 1, k, h, y =>
    .op (.load arg12 (rXp k (by omega)).toLoadRect (View.loadsAt_vmem h_S40x256)) fun (xt : Vec F S40x256 .bf16) =>
    .op (.load arg4 (rCode k (by omega)).toLoadRect (View.loadsAt_vmem h_S128x512)) fun (b : Vec F S128x512 .i8) =>
    mainLoop arg4 arg12 p fin n (k + 1) (by omega) (addTile y xt (wTile p k (by omega) b))

/-- Blocks `k, …, k + n - 1` of the rounded result, quantised. -/
def quantLoop (arg10 : Memref sig .tc .vmem S40x512 .fp8e4m3) (harg10 : arg10.IsWhole) (arg11 : Memref sig .tc .vmem S1x40x4 .f32) (o : FVec F S40x512 .bf16) :
    (n k : ℕ) → k + n ≤ 4 → P F PUnit
  | 0, _, _ => .ret ⟨⟩
  | n + 1, k, h =>
    .op (.load arg10 (rQ k (by omega)).toLoadRect (View.loadsAt_vmem h_S40x128)) fun (_o : Vec F S40x128 .fp8e4m3) =>
    .op (.store arg10 (rQ k (by omega)) (qCodes (vBlk o k (by omega))) Finset.univ (View.stores_vmem h_S40x128 (harg10.storeExact_slice rfl _ (packedQ k (by omega))) (fun _ => rfl)) (.inl rfl)) fun _ =>
    .op (.load arg11 (rQs k (by omega)).toLoadRect (View.loadsAt_vmem h_S1x40x1)) fun (_o : Vec F S1x40x1 .f32) =>
    .op (.store arg11 (rQs k (by omega)) (qScale (vBlk o k (by omega))) Finset.univ (View.stores_vmem_bits_univ h_S1x40x1 rfl) (.inl rfl)) fun _ =>
    quantLoop arg10 harg10 arg11 o n (k + 1) (by omega)

/-- What every grid point does: one block of columns of the result, and its fp8 codes and scales. -/
def mainPart (arg4 : Memref sig .tc .vmem S11008x512 .i8) (arg5 : Memref sig .tc .vmem S172x512 .bf16) (arg7 : Memref sig .tc .vmem S80x512 .bf16)
    (arg8 : Memref sig .tc .vmem S40x512 .bf16) (harg8 : arg8.IsWhole) (arg10 : Memref sig .tc .vmem S40x512 .fp8e4m3) (harg10 : arg10.IsWhole)
    (arg11 : Memref sig .tc .vmem S1x40x4 .f32) (arg12 : Memref sig .tc .vmem S40x22016 .bf16) (arg13 : Memref sig .tc .vmem S40x80 .bf16) : P F PUnit :=
  .op (.load arg5 (Rect.unit (s := S172x512) ![0, 0] S172x512.size inb_S172x512_S172x512_0_0).toLoadRect (View.loadsAt_vmem h_S172x512)) fun (s : Vec F S172x512 .bf16) =>
  .op (.load arg13 (Rect.unit (s := S40x80) ![0, 0] S40x80.size inb_S40x80_S40x80_0_0).toLoadRect (View.loadsAt_vmem h_S40x80)) fun (r : Vec F S40x80 .bf16) =>
  .op (.load arg7 (Rect.unit (s := S80x512) ![0, 0] S80x512.size inb_S80x512_S80x512_0_0).toLoadRect (View.loadsAt_vmem h_S80x512)) fun (b : Vec F S80x512 .bf16) =>
  mainLoop arg4 arg12 (pairs s) (fun y =>
    .op (.load arg8 (Rect.unit (s := S40x512) ![0, 0] S40x512.size inb_S40x512_S40x512_0_0).toLoadRect (View.loadsAt_vmem h_S40x512)) fun (_o : Vec F S40x512 .bf16) =>
    .op (.store arg8 (Rect.unit (s := S40x512) ![0, 0] S40x512.size inb_S40x512_S40x512_0_0) (outOf y) Finset.univ (View.stores_vmem h_S40x512 (harg8.storeExact_slice rfl _ packedbf16_S40x512_S40x512_0_0) (fun _ => rfl)) (.inl rfl)) fun _ =>
    quantLoop arg10 harg10 arg11 (outOf y) 4 0 (by omega))
    86 0 (by omega) (loraB r b)

/-- The whole body. -/
def body (i : grid0.Coords) (arg1 : Memref sig .tc .smem S5 .f32) (arg2 : Memref sig .tc .vmem S1x40 .i32) (arg3 : Memref sig .tc .vmem S40x22016 .bf16) (arg4 : Memref sig .tc .vmem S11008x512 .i8) (arg5 : Memref sig .tc .vmem S172x512 .bf16) (arg6 : Memref sig .tc .vmem S80x22016 .bf16) (arg7 : Memref sig .tc .vmem S80x512 .bf16) (arg8 : Memref sig .tc .vmem S40x512 .bf16) (harg8 : arg8.IsWhole) (arg9 : Memref sig .tc .vmem S16x40 .bf16) (harg9 : arg9.IsWhole) (arg10 : Memref sig .tc .vmem S40x512 .fp8e4m3) (harg10 : arg10.IsWhole) (arg11 : Memref sig .tc .vmem S1x40x4 .f32) (arg12 : Memref sig .tc .vmem S40x22016 .bf16) (harg12 : arg12.IsWhole) (arg13 : Memref sig .tc .vmem S40x80 .bf16) (harg13 : arg13.IsWhole) : P F PUnit :=
  if h : k0_cond1 i = 1#1 then
    xpLoop arg3 arg12 harg12
      (loraPart arg1 arg2 arg3 arg6 arg9 harg9 arg13 harg13
        (mainPart arg4 arg5 arg7 arg8 harg8 arg10 harg10 arg11 arg12 arg13)) 86 0 (by omega)
  else mainPart arg4 arg5 arg7 arg8 harg8 arg10 harg10 arg11 arg12 arg13

/-- The printed body is this program. -/
theorem body_eq (i : grid0.Coords) (arg1 : Memref sig .tc .smem S5 .f32) (harg1 : arg1.IsWhole) (arg2 : Memref sig .tc .vmem S1x40 .i32) (harg2 : arg2.IsWhole) (arg3 : Memref sig .tc .vmem S40x22016 .bf16) (harg3 : arg3.IsWhole) (arg4 : Memref sig .tc .vmem S11008x512 .i8) (harg4 : arg4.IsWhole) (arg5 : Memref sig .tc .vmem S172x512 .bf16) (harg5 : arg5.IsWhole) (arg6 : Memref sig .tc .vmem S80x22016 .bf16) (harg6 : arg6.IsWhole) (arg7 : Memref sig .tc .vmem S80x512 .bf16) (harg7 : arg7.IsWhole) (arg8 : Memref sig .tc .vmem S40x512 .bf16) (harg8 : arg8.IsWhole) (arg9 : Memref sig .tc .vmem S16x40 .bf16) (harg9 : arg9.IsWhole) (arg10 : Memref sig .tc .vmem S40x512 .fp8e4m3) (harg10 : arg10.IsWhole) (arg11 : Memref sig .tc .vmem S1x40x4 .f32) (harg11 : arg11.IsWhole) (arg12 : Memref sig .tc .vmem S40x22016 .bf16) (harg12 : arg12.IsWhole) (arg13 : Memref sig .tc .vmem S40x80 .bf16) (harg13 : arg13.IsWhole) :
    cc0_down (F := F) i arg1 harg1 arg2 harg2 arg3 harg3 arg4 harg4 arg5 harg5 arg6 harg6 arg7 harg7 arg8 harg8 arg9 harg9 arg10 harg10 arg11 harg11 arg12 harg12 arg13 harg13
      = body i arg1 arg2 arg3 arg4 arg5 arg6 arg7 arg8 harg8 arg9 harg9 arg10 harg10 arg11 arg12 harg12 arg13 harg13 := by
  unfold body
  by_cases h : k0_cond1 i = 1#1
  · rw [dif_pos h]
    unfold cc0_down k0_part77 k0_part27
    rw [dif_pos h]
    sl_kernel_rfl
  · rw [dif_neg h]
    unfold cc0_down k0_part77 k0_part27
    rw [dif_neg h]
    sl_kernel_rfl

end Cert.Down.Own

end
-- ==== Proof.DownTriple.lean ====
module

public import proofs.«01_k».proof.Proof.DownBody
public import proofs.«01_k».proof.Proof.OwnsRules

@[expose] public section

set_option maxRecDepth 16384

noncomputable section

/-!
# What the body of the down call leaves, at one grid point

Pure functions of the blocks a grid point reads (`xpAll`, `stAll`, `rAll`, `outAll`, `qAll`, `qsAll`), and the triples saying that the
body leaves them: loop by loop and part by part.
-/

namespace Cert.Down.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Down Facts₀ Facts Cert.Own

variable {F : FTy → Type} [FloatOps F]

local notation "𝕄" => MT nD τ sig Unit (Elt F) ℕ (UR sig nD τ) ℕ

/-! ## The pure functions -/

/-- Tile `k` of the interleaved activations, from all of the activations. -/
def xpT (x : Vec F S40x22016 .bf16) (k : ℕ) (h : k < 86) : FVec F S40x256 .bf16 :=
  xpTile (fun i => x ((rLo k h).idx i)) (fun i => x ((rHi k h).idx i))

/-- The interleaved activations. -/
def xpAll (x : Vec F S40x22016 .bf16) : Vec F S40x22016 .bf16 := fun i =>
  xpT x ((i 1).val / 256) (by have := (i 1).isLt; have : (i 1).val < 22016 := this; omega)
    (fun a => match a with | 0 => ⟨(i 0).val, (i 0).isLt⟩ | 1 => ⟨(i 1).val % 256, Nat.mod_lt _ (by decide)⟩)

/-- The first `k` tiles interleaved, the rest as they were. -/
def xpUpto (x X : Vec F S40x22016 .bf16) (k : ℕ) : Vec F S40x22016 .bf16 := fun i => if (i 1).val < 256 * k then xpAll x i else X i

/-- One more tile interleaved. -/
theorem xpUpto_succ (x X : Vec F S40x22016 .bf16) (k : ℕ) (h : k < 86) :
    (rXp k h).overlay (xpUpto x X k) (xpT x k h) = xpUpto x X (k + 1) := by
  funext i
  by_cases hi : i ∈ (rXp k h).set
  · have hi' := hi
    rw [← Rect.map_emb_univ] at hi
    obtain ⟨j, -, rfl⟩ := Finset.mem_map.mp hi
    have h2 : (rXp k h).overlay (xpUpto x X k) (xpT x k h) ((rXp k h).emb j) = xpT x k h j :=
      Rect.overlay_emb (α := Elt F .bf16) (rXp k h) (xpUpto x X k) (xpT x k h) j
    rw [h2]
    have e1 : (((rXp k h).emb j) 1).val = 256 * k + (j 1).val := by
      show 256 * k + 1 * (j 1).val = _; omega
    have hj : (j 1).val < 256 := (j 1).isLt
    unfold xpUpto
    rw [if_pos (by rw [e1]; omega)]
    unfold xpAll
    have ek : (((rXp k h).emb j) 1).val / 256 = k := by rw [e1]; omega
    have key : ∀ k' (h' : k' < 86) (j' : S40x256.Idx), k' = k → j' = j → xpT x k h j = xpT x k' h' j' := by
      intro k' h' j' e e'; subst e; subst e'; rfl
    refine key _ _ _ ek ?_
    funext a
    apply Fin.ext
    match a with
    | 0 => show 0 + 1 * (j 0).val = (j 0).val; omega
    | 1 => show (((rXp k h).emb j) 1).val % 256 = (j 1).val; rw [e1]; omega
  · have h2 : (rXp k h).overlay (xpUpto x X k) (xpT x k h) i = xpUpto x X k i :=
      Rect.overlay_of_not_mem (α := Elt F .bf16) (rXp k h) (xpUpto x X k) (xpT x k h) hi
    rw [h2]
    have hn : ¬ (256 * k ≤ (i 1).val ∧ (i 1).val < 256 * k + 256) := by
      intro hh
      apply hi
      rw [← Rect.map_emb_univ]
      refine Finset.mem_map.mpr ⟨fun a => match a with | 0 => ⟨(i 0).val, (i 0).isLt⟩ | 1 => ⟨(i 1).val - 256 * k, by show _ < 256; omega⟩, Finset.mem_univ _, ?_⟩
      funext a; apply Fin.ext
      match a with
      | 0 => show 0 + 1 * (i 0).val = (i 0).val; omega
      | 1 => show 256 * k + 1 * ((i 1).val - 256 * k) = (i 1).val; omega
    unfold xpUpto
    by_cases h3 : (i 1).val < 256 * k
    · rw [if_pos h3, if_pos (by omega)]
    · rw [if_neg h3, if_neg (by omega)]

theorem xpUpto_zero (x X : Vec F S40x22016 .bf16) : xpUpto x X 0 = X := by
  funext i; unfold xpUpto; rw [if_neg (by omega)]

theorem xpUpto_all (x X : Vec F S40x22016 .bf16) : xpUpto x X 86 = xpAll x := by
  funext i; unfold xpUpto; rw [if_pos (by have : (i 1).val < 22016 := (i 1).isLt; omega)]

/-- The scaled first LoRA product, from the arrays as the call is given them. -/
def stAll (a1 : Vec F S5 .f32) (ix : Vec F S1x40 .i32) (x : Vec F S40x22016 .bf16) (a : Vec F S80x22016 .bf16) : FVec F S16x40 .bf16 :=
  stOf ix (a1 ((rScale 0 (by omega)).idx one)) (a1 ((rScale 1 (by omega)).idx one)) (a1 ((rScale 2 (by omega)).idx one))
    (a1 ((rScale 3 (by omega)).idx one)) (a1 ((rScale 4 (by omega)).idx one)) a x

/-- The routed LoRA rows. -/
def rAll (a1 : Vec F S5 .f32) (ix : Vec F S1x40 .i32) (x : Vec F S40x22016 .bf16) (a : Vec F S80x22016 .bf16) : FVec F S40x80 .bf16 :=
  shapeCast S40x80 (route (shapeCast S1x40 ix shapeCasts_S1x40_S1x40) (stAll a1 ix x a)) shapeCasts_S40x80_S40x80

/-- The running sum after `k` tiles. -/
def accAll (X : Vec F S40x22016 .bf16) (p : FVec F S86x2x512 .bf16) (B : Vec F S11008x512 .i8) (g0 : FVec F S40x512 .f32) : ℕ → FVec F S40x512 .f32
  | 0 => g0
  | k + 1 => if h : k < 86 then addTile (accAll X p B g0 k) (fun i => X ((rXp k h).idx i)) (wTile p k h (fun i => B ((rCode k h).idx i)))
    else accAll X p B g0 k

/-- One block of columns of the result. -/
def outAll (X : Vec F S40x22016 .bf16) (r : Vec F S40x80 .bf16) (C : Vec F S11008x512 .i8) (s : Vec F S172x512 .bf16) (b : Vec F S80x512 .bf16) :
    FVec F S40x512 .bf16 :=
  outOf (accAll X (pairs s) C (loraB r b) 86)

/-- The fp8 codes of a block of the result. -/
def qAll (o : FVec F S40x512 .bf16) : Vec F S40x512 .fp8e4m3 := fun i =>
  qCodes (vBlk o ((i 1).val / 128) (by have : (i 1).val < 512 := (i 1).isLt; omega))
    (fun a => match a with | 0 => ⟨(i 0).val, (i 0).isLt⟩ | 1 => ⟨(i 1).val % 128, Nat.mod_lt _ (by decide)⟩)

/-- The scales of a block of the result. -/
def qsAll (o : FVec F S40x512 .bf16) : Vec F S1x40x4 .f32 := fun i =>
  qScale (vBlk o (i 2).val (i 2).isLt) (fun a => match a with | 0 => ⟨(i 0).val, (i 0).isLt⟩ | 1 => ⟨(i 1).val, (i 1).isLt⟩ | 2 => ⟨0, by decide⟩)

/-- The first `k` blocks' codes, the rest as they were. -/
def qUpto (o : FVec F S40x512 .bf16) (Q : Vec F S40x512 .fp8e4m3) (k : ℕ) : Vec F S40x512 .fp8e4m3 := fun i => if (i 1).val < 128 * k then qAll o i else Q i

/-- The first `k` blocks' scales, the rest as they were. -/
def qsUpto (o : FVec F S40x512 .bf16) (Q : Vec F S1x40x4 .f32) (k : ℕ) : Vec F S1x40x4 .f32 := fun i => if (i 2).val < k then qsAll o i else Q i

/-- One more block's codes. -/
theorem qUpto_succ (o : FVec F S40x512 .bf16) (Q : Vec F S40x512 .fp8e4m3) (k : ℕ) (h : k < 4) :
    (rQ k h).overlay (qUpto o Q k) (qCodes (vBlk o k h)) = qUpto o Q (k + 1) := by
  funext i
  by_cases hi : i ∈ (rQ k h).set
  · have hi' := hi
    rw [← Rect.map_emb_univ] at hi
    obtain ⟨j, -, rfl⟩ := Finset.mem_map.mp hi
    have h2 : (rQ k h).overlay (qUpto o Q k) (qCodes (vBlk o k h)) ((rQ k h).emb j) = qCodes (vBlk o k h) j :=
      Rect.overlay_emb (α := Elt F .fp8e4m3) (rQ k h) (qUpto o Q k) (qCodes (vBlk o k h)) j
    rw [h2]
    have e1 : (((rQ k h).emb j) 1).val = 128 * k + (j 1).val := by
      show 128 * k + 1 * (j 1).val = _; omega
    have hj : (j 1).val < 128 := (j 1).isLt
    unfold qUpto
    rw [if_pos (by rw [e1]; omega)]
    unfold qAll
    have ek : (((rQ k h).emb j) 1).val / 128 = k := by rw [e1]; omega
    have key : ∀ k' (h' : k' < 4) (j' : S40x128.Idx), k' = k → j' = j → qCodes (vBlk o k h) j = qCodes (vBlk o k' h') j' := by
      intro k' h' j' e e'; subst e; subst e'; rfl
    refine key _ _ _ ek ?_
    funext a
    apply Fin.ext
    match a with
    | 0 => show 0 + 1 * (j 0).val = (j 0).val; omega
    | 1 => show (((rQ k h).emb j) 1).val % 128 = (j 1).val; rw [e1]; omega
  · have h2 : (rQ k h).overlay (qUpto o Q k) (qCodes (vBlk o k h)) i = qUpto o Q k i :=
      Rect.overlay_of_not_mem (α := Elt F .fp8e4m3) (rQ k h) (qUpto o Q k) (qCodes (vBlk o k h)) hi
    rw [h2]
    have hn : ¬ (128 * k ≤ (i 1).val ∧ (i 1).val < 128 * k + 128) := by
      intro hh
      apply hi
      rw [← Rect.map_emb_univ]
      refine Finset.mem_map.mpr ⟨fun a => match a with | 0 => ⟨(i 0).val, (i 0).isLt⟩ | 1 => ⟨(i 1).val - 128 * k, by show _ < 128; omega⟩, Finset.mem_univ _, ?_⟩
      funext a; apply Fin.ext
      match a with
      | 0 => show 0 + 1 * (i 0).val = (i 0).val; omega
      | 1 => show 128 * k + 1 * ((i 1).val - 128 * k) = (i 1).val; omega
    unfold qUpto
    by_cases h3 : (i 1).val < 128 * k
    · rw [if_pos h3, if_pos (by omega)]
    · rw [if_neg h3, if_neg (by omega)]

/-- One more block's scales. -/
theorem qsUpto_succ (o : FVec F S40x512 .bf16) (Q : Vec F S1x40x4 .f32) (k : ℕ) (h : k < 4) :
    (rQs k h).overlay (qsUpto o Q k) (qScale (vBlk o k h)) = qsUpto o Q (k + 1) := by
  funext i
  by_cases hi : i ∈ (rQs k h).set
  · have hi' := hi
    rw [← Rect.map_emb_univ] at hi
    obtain ⟨j, -, rfl⟩ := Finset.mem_map.mp hi
    have h2 : (rQs k h).overlay (qsUpto o Q k) (qScale (vBlk o k h)) ((rQs k h).emb j) = qScale (vBlk o k h) j :=
      Rect.overlay_emb (α := Elt F .f32) (rQs k h) (qsUpto o Q k) (qScale (vBlk o k h)) j
    rw [h2]
    have hj : (j 2).val < 1 := (j 2).isLt
    have e1 : (((rQs k h).emb j) 2).val = k := by
      show k + 1 * (j 2).val = _; omega
    unfold qsUpto
    rw [if_pos (by rw [e1]; omega)]
    unfold qsAll
    have key : ∀ k' (h' : k' < 4) (j' : S1x40x1.Idx), k' = k → j' = j → qScale (vBlk o k h) j = qScale (vBlk o k' h') j' := by
      intro k' h' j' e e'; subst e; subst e'; rfl
    refine key _ _ _ e1 ?_
    funext a
    apply Fin.ext
    match a with
    | 0 => show 0 + 1 * (j 0).val = (j 0).val; omega
    | 1 => show 0 + 1 * (j 1).val = (j 1).val; omega
    | 2 => show 0 = (j 2).val; omega
  · have h2 : (rQs k h).overlay (qsUpto o Q k) (qScale (vBlk o k h)) i = qsUpto o Q k i :=
      Rect.overlay_of_not_mem (α := Elt F .f32) (rQs k h) (qsUpto o Q k) (qScale (vBlk o k h)) hi
    rw [h2]
    have hn : ¬ ((i 2).val = k) := by
      intro hh
      apply hi
      rw [← Rect.map_emb_univ]
      refine Finset.mem_map.mpr ⟨fun a => match a with | 0 => ⟨(i 0).val, (i 0).isLt⟩ | 1 => ⟨(i 1).val, (i 1).isLt⟩ | 2 => ⟨0, by show 0 < 1; omega⟩, Finset.mem_univ _, ?_⟩
      funext a; apply Fin.ext
      match a with
      | 0 => show 0 + 1 * (i 0).val = (i 0).val; omega
      | 1 => show 0 + 1 * (i 1).val = (i 1).val; omega
      | 2 => show k + 1 * 0 = (i 2).val; omega
    unfold qsUpto
    by_cases h3 : (i 2).val < k
    · rw [if_pos h3, if_pos (by omega)]
    · rw [if_neg h3, if_neg (by omega)]

theorem qUpto_zero (o : FVec F S40x512 .bf16) (Q : Vec F S40x512 .fp8e4m3) : qUpto o Q 0 = Q := by
  funext i; unfold qUpto; rw [if_neg (by omega)]
theorem qsUpto_zero (o : FVec F S40x512 .bf16) (Q : Vec F S1x40x4 .f32) : qsUpto o Q 0 = Q := by
  funext i; unfold qsUpto; rw [if_neg (by omega)]
theorem qUpto_all (o : FVec F S40x512 .bf16) (Q : Vec F S40x512 .fp8e4m3) : qUpto o Q 4 = qAll o := by
  funext i; unfold qUpto; rw [if_pos (by have : (i 1).val < 512 := (i 1).isLt; omega)]
theorem qsUpto_all (o : FVec F S40x512 .bf16) (Q : Vec F S1x40x4 .f32) : qsUpto o Q 4 = qsAll o := by
  funext i; unfold qsUpto; rw [if_pos (by have : (i 2).val < 4 := (i 2).isLt; omega)]

/-! ## The triples -/

/-- The interleaving loop. -/
theorem xpLoop_wp (c : Dev nD) (Q : PUnit → sProp 𝕄) (arg3 : Memref sig .tc .vmem S40x22016 .bf16) (arg12 : Memref sig .tc .vmem S40x22016 .bf16) (harg12 : arg12.IsWhole)
    (fin : P F PUnit) (x X : Vec F S40x22016 .bf16) (n : ℕ) : ∀ (k : ℕ) (h : k + n ≤ 86),
    iprop(owns (c : Thread nD τ) arg3 fullShare x ∗ owns (c : Thread nD τ) arg12 fullShare (xpUpto x X k)
      ∗ (owns (c : Thread nD τ) arg3 fullShare x -∗ owns (c : Thread nD τ) arg12 fullShare (xpUpto x X (k + n))
          -∗ wp frame (wpE (defs₀ (F := F)) Variants.none (c : Thread nD τ) none) Set.univ fin Q))
      ⊢ wp frame (wpE (defs₀ (F := F)) Variants.none (c : Thread nD τ) none) Set.univ (xpLoop arg3 arg12 harg12 fin n k h) Q := by
  induction n with
  | zero =>
    intro k h
    iintro ⟨H3, H12, Hk⟩
    iapply Hk $$ H3
    iexact H12
  | succ n ih =>
    intro k h
    unfold xpLoop xpStep
    iintro ⟨H3, H12, Hk⟩
    iapply (wp_load_owns Variants.none (c : Thread nD τ) none Set.univ) $$ H3
    iintro H3
    iapply (wp_load_owns Variants.none (c : Thread nD τ) none Set.univ) $$ H3
    iintro H3
    iapply (wp_load_owns Variants.none (c : Thread nD τ) none Set.univ) $$ H12
    iintro H12
    iapply (wp_store_owns Variants.none (c : Thread nD τ) none Set.univ) $$ H12
    iintro H12
    have ih' := ih (k + 1) (by omega)
    iapply ih'
    isplitl [H3]; · iexact H3
    isplitl [H12]
    · rw [← xpUpto_succ x X k (by omega)]
      iexact H12
    · rw [show k + 1 + n = k + (n + 1) from by omega]
      iexact Hk

/-- The LoRA part. -/
theorem loraPart_wp (c : Dev nD) (Q : PUnit → sProp 𝕄) (arg1 : Memref sig .tc .smem S5 .f32) (arg2 : Memref sig .tc .vmem S1x40 .i32) (arg3 : Memref sig .tc .vmem S40x22016 .bf16) (arg6 : Memref sig .tc .vmem S80x22016 .bf16) (arg9 : Memref sig .tc .vmem S16x40 .bf16) (harg9 : arg9.IsWhole) (arg13 : Memref sig .tc .vmem S40x80 .bf16) (harg13 : arg13.IsWhole)
    (fin : P F PUnit) (a1 : Vec F S5 .f32) (ix : Vec F S1x40 .i32) (x : Vec F S40x22016 .bf16) (a : Vec F S80x22016 .bf16)
    (d9 : Vec F S16x40 .bf16) (d13 : Vec F S40x80 .bf16) :
    iprop(owns (c : Thread nD τ) arg1 fullShare a1 ∗ owns (c : Thread nD τ) arg2 fullShare ix ∗ owns (c : Thread nD τ) arg3 fullShare x ∗ owns (c : Thread nD τ) arg6 fullShare a
      ∗ owns (c : Thread nD τ) arg9 fullShare d9 ∗ owns (c : Thread nD τ) arg13 fullShare d13
      ∗ (owns (c : Thread nD τ) arg1 fullShare a1 -∗ owns (c : Thread nD τ) arg2 fullShare ix -∗ owns (c : Thread nD τ) arg3 fullShare x -∗ owns (c : Thread nD τ) arg6 fullShare a
        -∗ owns (c : Thread nD τ) arg9 fullShare (stAll a1 ix x a) -∗ owns (c : Thread nD τ) arg13 fullShare (rAll a1 ix x a)
          -∗ wp frame (wpE (defs₀ (F := F)) Variants.none (c : Thread nD τ) none) Set.univ fin Q))
      ⊢ wp frame (wpE (defs₀ (F := F)) Variants.none (c : Thread nD τ) none) Set.univ (loraPart arg1 arg2 arg3 arg6 arg9 harg9 arg13 harg13 fin) Q := by
  unfold loraPart
  iintro ⟨H1, H2, H3, H6, H9, H13, Hk⟩
  iapply (wp_load_all Variants.none (c : Thread nD τ) none Set.univ) $$ H2
  iintro H2
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_owns Variants.none (c : Thread nD τ) none Set.univ) $$ H1
  iintro H1
  iapply (wp_load_all Variants.none (c : Thread nD τ) none Set.univ) $$ H6
  iintro H6
  iapply (wp_load_all Variants.none (c : Thread nD τ) none Set.univ) $$ H3
  iintro H3
  iapply (wp_load_all Variants.none (c : Thread nD τ) none Set.univ) $$ H9
  iintro H9
  iapply (wp_store_all Variants.none (c : Thread nD τ) none Set.univ) $$ H9
  iintro H9
  iapply (wp_load_all Variants.none (c : Thread nD τ) none Set.univ) $$ H13
  iintro H13
  iapply (wp_store_all Variants.none (c : Thread nD τ) none Set.univ) $$ H13
  iintro H13
  iapply Hk $$ H1 H2 H3 H6 [H9]
  · iexact H9
  iexact H13

/-- The main loop. -/
theorem mainLoop_wp (c : Dev nD) (Q : PUnit → sProp 𝕄) (arg4 : Memref sig .tc .vmem S11008x512 .i8) (arg12 : Memref sig .tc .vmem S40x22016 .bf16) (p : FVec F S86x2x512 .bf16)
    (fin : FVec F S40x512 .f32 → P F PUnit) (C : Vec F S11008x512 .i8) (X : Vec F S40x22016 .bf16) (y0 : FVec F S40x512 .f32)
    (n : ℕ) : ∀ (k : ℕ) (h : k + n ≤ 86),
    iprop(owns (c : Thread nD τ) arg4 fullShare C ∗ owns (c : Thread nD τ) arg12 fullShare X
      ∗ (owns (c : Thread nD τ) arg4 fullShare C -∗ owns (c : Thread nD τ) arg12 fullShare X
          -∗ wp frame (wpE (defs₀ (F := F)) Variants.none (c : Thread nD τ) none) Set.univ (fin (accAll X p C y0 (k + n))) Q))
      ⊢ wp frame (wpE (defs₀ (F := F)) Variants.none (c : Thread nD τ) none) Set.univ (mainLoop arg4 arg12 p fin n k h (accAll X p C y0 k)) Q := by
  induction n with
  | zero =>
    intro k h
    iintro ⟨H4, H12, Hk⟩
    iapply Hk $$ H4
    iexact H12
  | succ n ih =>
    intro k h
    unfold mainLoop
    iintro ⟨H4, H12, Hk⟩
    iapply (wp_load_owns Variants.none (c : Thread nD τ) none Set.univ) $$ H12
    iintro H12
    iapply (wp_load_owns Variants.none (c : Thread nD τ) none Set.univ) $$ H4
    iintro H4
    have eg := accAll.eq_2 X p C y0 k
    rw [dif_pos (show k < 86 by omega)] at eg
    have ih' := ih (k + 1) (by omega)
    rw [show accAll X p C y0 (k + 1) = _ from eg] at ih'
    iapply ih'
    isplitl [H4]; · iexact H4
    isplitl [H12]; · iexact H12
    rw [show k + 1 + n = k + (n + 1) from by omega]
    iexact Hk

/-- The quantising loop. -/
theorem quantLoop_wp (c : Dev nD) (Q : PUnit → sProp 𝕄) (arg10 : Memref sig .tc .vmem S40x512 .fp8e4m3) (harg10 : arg10.IsWhole) (arg11 : Memref sig .tc .vmem S1x40x4 .f32)
    (o : FVec F S40x512 .bf16) (D : Vec F S40x512 .fp8e4m3) (E : Vec F S1x40x4 .f32) (n : ℕ) : ∀ (k : ℕ) (h : k + n ≤ 4),
    iprop(owns (c : Thread nD τ) arg10 fullShare (qUpto o D k) ∗ owns (c : Thread nD τ) arg11 fullShare (qsUpto o E k)
      ∗ (owns (c : Thread nD τ) arg10 fullShare (qUpto o D (k + n)) -∗ owns (c : Thread nD τ) arg11 fullShare (qsUpto o E (k + n)) -∗ Q ⟨⟩))
      ⊢ wp frame (wpE (defs₀ (F := F)) Variants.none (c : Thread nD τ) none) Set.univ (quantLoop arg10 harg10 arg11 o n k h) Q := by
  induction n with
  | zero =>
    intro k h
    iintro ⟨H10, H11, Hk⟩
    iapply le_wp_ret
    iapply Hk $$ H10
    iexact H11
  | succ n ih =>
    intro k h
    unfold quantLoop
    iintro ⟨H10, H11, Hk⟩
    iapply (wp_load_owns Variants.none (c : Thread nD τ) none Set.univ) $$ H10
    iintro H10
    iapply (wp_store_owns Variants.none (c : Thread nD τ) none Set.univ) $$ H10
    iintro H10
    iapply (wp_load_owns Variants.none (c : Thread nD τ) none Set.univ) $$ H11
    iintro H11
    iapply (wp_store_owns Variants.none (c : Thread nD τ) none Set.univ) $$ H11
    iintro H11
    have ih' := ih (k + 1) (by omega)
    iapply ih'
    isplitl [H10]
    · rw [← qUpto_succ o D k (by omega)]
      iexact H10
    isplitl [H11]
    · rw [← qsUpto_succ o E k (by omega)]
      iexact H11
    · rw [show k + 1 + n = k + (n + 1) from by omega]
      iexact Hk

/-- The main part. -/
theorem mainPart_wp (c : Dev nD) (Q : PUnit → sProp 𝕄) (arg4 : Memref sig .tc .vmem S11008x512 .i8) (arg5 : Memref sig .tc .vmem S172x512 .bf16) (arg7 : Memref sig .tc .vmem S80x512 .bf16)
    (arg8 : Memref sig .tc .vmem S40x512 .bf16) (harg8 : arg8.IsWhole) (arg10 : Memref sig .tc .vmem S40x512 .fp8e4m3) (harg10 : arg10.IsWhole)
    (arg11 : Memref sig .tc .vmem S1x40x4 .f32) (arg12 : Memref sig .tc .vmem S40x22016 .bf16) (arg13 : Memref sig .tc .vmem S40x80 .bf16)
    (C : Vec F S11008x512 .i8) (s : Vec F S172x512 .bf16) (b : Vec F S80x512 .bf16) (d8 : Vec F S40x512 .bf16) (d10 : Vec F S40x512 .fp8e4m3) (d11 : Vec F S1x40x4 .f32)
    (X : Vec F S40x22016 .bf16) (r : Vec F S40x80 .bf16) :
    iprop(owns (c : Thread nD τ) arg4 fullShare C ∗ owns (c : Thread nD τ) arg5 fullShare s ∗ owns (c : Thread nD τ) arg7 fullShare b ∗ owns (c : Thread nD τ) arg8 fullShare d8
      ∗ owns (c : Thread nD τ) arg10 fullShare d10 ∗ owns (c : Thread nD τ) arg11 fullShare d11 ∗ owns (c : Thread nD τ) arg12 fullShare X ∗ owns (c : Thread nD τ) arg13 fullShare r
      ∗ (owns (c : Thread nD τ) arg4 fullShare C -∗ owns (c : Thread nD τ) arg5 fullShare s -∗ owns (c : Thread nD τ) arg7 fullShare b -∗ owns (c : Thread nD τ) arg8 fullShare (outAll X r C s b)
        -∗ owns (c : Thread nD τ) arg10 fullShare (qAll (outAll X r C s b)) -∗ owns (c : Thread nD τ) arg11 fullShare (qsAll (outAll X r C s b)) -∗ owns (c : Thread nD τ) arg12 fullShare X -∗ owns (c : Thread nD τ) arg13 fullShare r -∗ Q ⟨⟩))
      ⊢ wp frame (wpE (defs₀ (F := F)) Variants.none (c : Thread nD τ) none) Set.univ (mainPart arg4 arg5 arg7 arg8 harg8 arg10 harg10 arg11 arg12 arg13) Q := by
  unfold mainPart
  iintro ⟨H4, H5, H7, H8, H10, H11, H12, H13, Hk⟩
  iapply (wp_load_all Variants.none (c : Thread nD τ) none Set.univ) $$ H5
  iintro H5
  iapply (wp_load_all Variants.none (c : Thread nD τ) none Set.univ) $$ H13
  iintro H13
  iapply (wp_load_all Variants.none (c : Thread nD τ) none Set.univ) $$ H7
  iintro H7
  iapply (mainLoop_wp c Q arg4 arg12 (pairs s) _ C X (loraB r b) 86 0 (by omega))
  isplitl [H4]; · iexact H4
  isplitl [H12]; · iexact H12
  iintro H4 H12
  iapply (wp_load_all Variants.none (c : Thread nD τ) none Set.univ) $$ H8
  iintro H8
  iapply (wp_store_all Variants.none (c : Thread nD τ) none Set.univ) $$ H8
  iintro H8
  have hq := quantLoop_wp c Q arg10 harg10 arg11 (outAll X r C s b) d10 d11 4 0 (by omega)
  simp only [qUpto_zero, qsUpto_zero, Nat.zero_add, qUpto_all, qsUpto_all] at hq
  rw [show outOf (accAll X (pairs s) C (loraB r b) (0 + 86)) = outAll X r C s b from rfl]
  iapply hq
  isplitl [H10]; · iexact H10
  isplitl [H11]; · iexact H11
  iintro H10 H11
  iapply Hk $$ H4 H5 H7 [H8] H10 H11 H12
  · iexact H8
  iexact H13

end Cert.Down.Own

end
-- ==== Proof.DownRun.lean ====
module

public import proofs.«01_k».proof.Proof.DownTriple
public import proofs.«01_k».proof.Proof.Gen.Down.Frame
public import Idealize.ShloMosaic.Lib.Pipeline.TableIdle
public import Idealize.ShloMosaic.Lib.Pipeline.FrameBody
public import Idealize.ShloMosaic.Lib.WordCmp
public import Idealize.ShloMosaic.Lib.Claim

@[expose] public section

set_option maxRecDepth 16384

noncomputable section

/-!
# The down call: the run

What the pipeline's buffers hold at every grid point (`dats`), that the body keeps it so (`sound_body`), and the run of the whole
call (`run_main_quiescent`) with the frame (`frame`).
-/

namespace Cert.Down.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Down Cert.Down.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 9 is never idle. -/
theorem liveAt0_9 : ∀ t : Fin cfg0.N, cfg0.idle 9 (grid0.coords t) = false := fun _ => rfl
/-- Window 10 is never idle. -/
theorem liveAt0_10 : ∀ t : Fin cfg0.N, cfg0.idle 10 (grid0.coords t) = false := fun _ => rfl
/-- Window 8 is idle at every point but the first. -/
theorem idle0_8 (t : Fin cfg0.N) : cfg0.idle 8 (grid0.coords t) = true ↔ ¬ t.val % 16 = 0 := by
  rw [← not_congr (hcond0_0 t)]
  show (!decide (k0_cond1 (grid0.coords t) = 1#1)) = true ↔ _
  simp

/-- Each window's current staging memref at point `t`, spelled as the pipeline passes it (`bodyAt0`). -/
abbrev ms0_0 (t : Fin cfg0.N) : Memref sig .tc .smem S5 .f32 := win0_0.stage (cfg0.slots t 0)
abbrev ms0_1 (t : Fin cfg0.N) : Memref sig .tc .vmem S1x40 .i32 := win0_1.stage (cfg0.slots t 1)
abbrev ms0_2 (t : Fin cfg0.N) : Memref sig .tc .vmem S40x22016 .bf16 := win0_2.stage (cfg0.slots t 2)
abbrev ms0_3 (t : Fin cfg0.N) : Memref sig .tc .vmem S11008x512 .i8 := win0_3.stage (cfg0.slots t 3)
abbrev ms0_4 (t : Fin cfg0.N) : Memref sig .tc .vmem S172x512 .bf16 := win0_4.stage (cfg0.slots t 4)
abbrev ms0_5 (t : Fin cfg0.N) : Memref sig .tc .vmem S80x22016 .bf16 := win0_5.stage (cfg0.slots t 5)
abbrev ms0_6 (t : Fin cfg0.N) : Memref sig .tc .vmem S80x512 .bf16 := win0_6.stage (cfg0.slots t 6)
abbrev ms0_7 (t : Fin cfg0.N) : Memref sig .tc .vmem S40x512 .bf16 := win0_7.stage (cfg0.slots t 7)
abbrev ms0_8 (t : Fin cfg0.N) : Memref sig .tc .vmem S16x40 .bf16 := win0_8.stage (cfg0.slots t 8)
abbrev ms0_9 (t : Fin cfg0.N) : Memref sig .tc .vmem S40x512 .fp8e4m3 := win0_9.stage (cfg0.slots t 9)
abbrev ms0_10 (t : Fin cfg0.N) : Memref sig .tc .vmem S1x40x4 .f32 := win0_10.stage (cfg0.slots t 10)
/-- The scratch operands: whole scoped buffers of the kernel's own, passed beside the windows. -/
abbrev scM0_0 : Memref sig .tc .vmem S40x22016 .bf16 := Memref.whole cc0_scratch0
abbrev scM0_1 : Memref sig .tc .vmem S40x80 .bf16 := Memref.whole cc0_scratch1

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The proof data -/

/-- The first grid point. -/
def t0 : Fin cfg0.N := ⟨0, by have : cfg0.N = 16 := N_0; omega⟩

/-- What the scratch holds after the first point: the interleaved activations, -/
def X0 (c : Dev nD) : Vec F S40x22016 .bf16 := xpAll (iblk m c 2 t0)
/-- the routed LoRA rows; -/
def R0 (c : Dev nD) : Vec F S40x80 .bf16 := rAll (iblk m c 0 t0) (iblk m c 1 t0) (iblk m c 2 t0) (iblk m c 5 t0)
/-- and what the first point leaves of the scaled first product. -/
def st0 (c : Dev nD) : Vec F S16x40 .bf16 := stAll (iblk m c 0 t0) (iblk m c 1 t0) (iblk m c 2 t0) (iblk m c 5 t0)

/-- What point `t` leaves of the result. -/
def out0 (c : Dev nD) (t : Fin cfg0.N) : Vec F S40x512 .bf16 :=
  outAll (X0 m c) (R0 m c) (iblk m c 3 t) (iblk m c 4 t) (iblk m c 6 t)

/-- The scratch as every point but the first finds it. -/
def PhiC (c : Dev nD) : sProp 𝕄 :=
  iprop(iprop(owns (c : Thread nD τ) scM0_0 fullShare (X0 m c) ∗ owns (c : Thread nD τ) scM0_1 fullShare (R0 m c)) ∗ (∃ r, prngReg c r))

/-- The region invariant: any scratch before the first point, afterwards what the first point left. -/
def PhiS (c : Dev nD) : ℕ → sProp 𝕄
  | 0 => Pipeline.ΦA spec0 c
  | _ + 1 => PhiC m c

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0 m c t
    | ⟨8, _⟩ => st0 m c
    | ⟨9, _⟩ => qAll (out0 m c t)
    | ⟨10, _⟩ => qsAll (out0 m c t)
  Φ t := PhiS m c t.val
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0 m c t := by dsimp only [dats]
theorem after0_8 (c : Dev nD) (t : Fin cfg0.N) : (dats m 0 c).after 8 t = st0 m c := by dsimp only [dats]
theorem after0_9 (c : Dev nD) (t : Fin cfg0.N) : (dats m 0 c).after 9 t = qAll (out0 m c t) := by dsimp only [dats]
theorem after0_10 (c : Dev nD) (t : Fin cfg0.N) : (dats m 0 c).after 10 t = qsAll (out0 m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Window 8's buffer is not fresh after the first point. -/
theorem fresh0_8 : ∀ n : ℕ, n ≠ 0 → n < cfg0.N → cfg0.fresh 8 n = false
  | 0, h, _ => absurd rfl h
  | n + 1, _, hn => by
    have hN : cfg0.N = 16 := N_0
    have hn' : n < cfg0.N := Nat.lt_of_succ_lt hn
    rw [Cfg.fresh_succ cfg0 8 n hn']
    have hf : (cfg0.win 8).flush ⟨n, hn'⟩ = false := by
      rw [Bool.eq_false_iff]; intro h; have h2 := (flush0_8 _).mp h; have h3 : n % 16 = 15 := h2; omega
    rw [hf, Bool.false_or]
    by_cases h0 : n = 0
    · subst h0
      have : cfg0.idle 8 (cfg0.grid.coords ⟨0, hn'⟩) = false := by
        rw [Bool.eq_false_iff]; intro h; exact (idle0_8 _).mp h (Nat.zero_mod _)
      rw [this, Bool.false_and]
    · rw [fresh0_8 n h0 hn', Bool.and_false]

/-- Every point but the first finds in window 8's buffer what the first left. -/
theorem before0_8 (c : Dev nD) (t : Fin cfg0.N) (ht : t.val ≠ 0) (d) : (dats m 0 c).before 8 t d = st0 m c := by
  rw [(dats m 0 c).before_out_traj 8 rfl (fun _ _ => rfl) (fun t _ _ _ => by rw [after0_8, after0_8]) t.val t rfl d,
    if_neg (by rw [fresh0_8 t.val ht t.isLt]; exact Bool.false_ne_true), after0_8]

/-- What the body leaves in window 8 is what the first point left. -/
theorem leaves0_8 (c : Dev nD) (t : Fin cfg0.N) :
    owns (c : Thread nD τ) (ms0_8 t) fullShare (st0 m c) ⊢ ((dats m 0 c).leavesExact 8 t : sProp 𝕄) := by
  by_cases hz : t.val % 16 = 0
  · have hi : cfg0.idle 8 (grid0.coords t) = false := by
      rw [Bool.eq_false_iff]; intro h; exact (idle0_8 _).mp h hz
    rw [show (dats m 0 c).leavesExact 8 t = owns (c : Thread nD τ) (ms0_8 t) fullShare ((dats m 0 c).after 8 t) from by
      unfold Dat.leavesExact; rw [hi], after0_8]
  · have hi : cfg0.idle 8 (grid0.coords t) = true := (idle0_8 t).mpr hz
    cases hf : (cfg0.win 8).flush t
    · rw [(dats m 0 c).leavesExact_idle 8 t hi hf]
      iintro H
      iexists (st0 m c)
      rw [before0_8 m c t (by intro h; rw [h] at hz; exact hz (Nat.zero_mod _))]
      iexact H
    · rw [show (dats m 0 c).leavesExact 8 t = owns (c : Thread nD τ) (ms0_8 t) fullShare ((dats m 0 c).after 8 t) from by
        unfold Dat.leavesExact; rw [hi, hf], after0_8]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0_0 (c : Dev nD) (t : Fin cfg0.N) : ((dats m 0 c).leavesExact 0 t : sProp 𝕄) = owns (c : Thread nD τ) (ms0_0 t) fullShare (iblk m c 0 t) := by
  rw [show (dats m 0 c).leavesExact 0 t = owns (c : Thread nD τ) (ms0_0 t) fullShare ((dats m 0 c).after 0 t) from by
      unfold Dat.leavesExact; rw [liveAt0_0 t], after0_0]
theorem leaves0_1 (c : Dev nD) (t : Fin cfg0.N) : ((dats m 0 c).leavesExact 1 t : sProp 𝕄) = owns (c : Thread nD τ) (ms0_1 t) fullShare (iblk m c 1 t) := by
  rw [show (dats m 0 c).leavesExact 1 t = owns (c : Thread nD τ) (ms0_1 t) fullShare ((dats m 0 c).after 1 t) from by
      unfold Dat.leavesExact; rw [liveAt0_1 t], after0_1]
theorem leaves0_2 (c : Dev nD) (t : Fin cfg0.N) : ((dats m 0 c).leavesExact 2 t : sProp 𝕄) = owns (c : Thread nD τ) (ms0_2 t) fullShare (iblk m c 2 t) := by
  rw [show (dats m 0 c).leavesExact 2 t = owns (c : Thread nD τ) (ms0_2 t) fullShare ((dats m 0 c).after 2 t) from by
      unfold Dat.leavesExact; rw [liveAt0_2 t], after0_2]
theorem leaves0_3 (c : Dev nD) (t : Fin cfg0.N) : ((dats m 0 c).leavesExact 3 t : sProp 𝕄) = owns (c : Thread nD τ) (ms0_3 t) fullShare (iblk m c 3 t) := by
  rw [show (dats m 0 c).leavesExact 3 t = owns (c : Thread nD τ) (ms0_3 t) fullShare ((dats m 0 c).after 3 t) from by
      unfold Dat.leavesExact; rw [liveAt0_3 t], after0_3]
theorem leaves0_4 (c : Dev nD) (t : Fin cfg0.N) : ((dats m 0 c).leavesExact 4 t : sProp 𝕄) = owns (c : Thread nD τ) (ms0_4 t) fullShare (iblk m c 4 t) := by
  rw [show (dats m 0 c).leavesExact 4 t = owns (c : Thread nD τ) (ms0_4 t) fullShare ((dats m 0 c).after 4 t) from by
      unfold Dat.leavesExact; rw [liveAt0_4 t], after0_4]
theorem leaves0_5 (c : Dev nD) (t : Fin cfg0.N) : ((dats m 0 c).leavesExact 5 t : sProp 𝕄) = owns (c : Thread nD τ) (ms0_5 t) fullShare (iblk m c 5 t) := by
  rw [show (dats m 0 c).leavesExact 5 t = owns (c : Thread nD τ) (ms0_5 t) fullShare ((dats m 0 c).after 5 t) from by
      unfold Dat.leavesExact; rw [liveAt0_5 t], after0_5]
theorem leaves0_6 (c : Dev nD) (t : Fin cfg0.N) : ((dats m 0 c).leavesExact 6 t : sProp 𝕄) = owns (c : Thread nD τ) (ms0_6 t) fullShare (iblk m c 6 t) := by
  rw [show (dats m 0 c).leavesExact 6 t = owns (c : Thread nD τ) (ms0_6 t) fullShare ((dats m 0 c).after 6 t) from by
      unfold Dat.leavesExact; rw [liveAt0_6 t], after0_6]
theorem leaves0_7 (c : Dev nD) (t : Fin cfg0.N) : ((dats m 0 c).leavesExact 7 t : sProp 𝕄) = owns (c : Thread nD τ) (ms0_7 t) fullShare (out0 m c t) := by
  rw [show (dats m 0 c).leavesExact 7 t = owns (c : Thread nD τ) (ms0_7 t) fullShare ((dats m 0 c).after 7 t) from by
      unfold Dat.leavesExact; rw [liveAt0_7 t], after0_7]
theorem leaves0_9 (c : Dev nD) (t : Fin cfg0.N) : ((dats m 0 c).leavesExact 9 t : sProp 𝕄) = owns (c : Thread nD τ) (ms0_9 t) fullShare (qAll (out0 m c t)) := by
  rw [show (dats m 0 c).leavesExact 9 t = owns (c : Thread nD τ) (ms0_9 t) fullShare ((dats m 0 c).after 9 t) from by
      unfold Dat.leavesExact; rw [liveAt0_9 t], after0_9]
theorem leaves0_10 (c : Dev nD) (t : Fin cfg0.N) : ((dats m 0 c).leavesExact 10 t : sProp 𝕄) = owns (c : Thread nD τ) (ms0_10 t) fullShare (qsAll (out0 m c t)) := by
  rw [show (dats m 0 c).leavesExact 10 t = owns (c : Thread nD τ) (ms0_10 t) fullShare ((dats m 0 c).after 10 t) from by
      unfold Dat.leavesExact; rw [liveAt0_10 t], after0_10]
set_option maxHeartbeats 2400000 in
/-- The body at the first point: it fills the scratch and stores the scaled first product. -/
theorem sound_first (c : Dev nD) (t : Fin cfg0.N) (hz : t.val % 16 = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have ht : t = t0 := Fin.ext (by show t.val = 0; omega)
  unfold bodyPre bodyPost bodyAt0
  rw [body_eq]
  unfold body
  rw [dif_pos ((hcond0_0 t).mpr hz)]
  simp only [before0_0, before0_1, before0_2, before0_3, before0_4, before0_5, before0_6]
  simp only [leaves0_0, leaves0_1, leaves0_2, leaves0_3, leaves0_4, leaves0_5, leaves0_6, leaves0_7, leaves0_9, leaves0_10]
  rw [show (dats m 0 c).owesAt () t.succ = (dats m 0 c).owesAt () t.castSucc from rfl]
  rw [show (dats m 0 c).Φ t.castSucc = Pipeline.ΦA spec0 c from by subst ht; rfl, PhiA0_eq]
  · iintro ⟨⟨⟨⟨%x0, HS0⟩, ⟨%x1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (xpLoop_wp c _ _ _ _ _ (iblk m c 2 t) x0 86 0 _)
    isplitl [H2]; · iexact H2
    isplitl [HS0]
    · rw [xpUpto_zero]; iexact HS0
    rw [show 0 + 86 = 86 from rfl, xpUpto_all]
    iintro H2 HS0
    iapply (loraPart_wp c _ _ _ _ _ _ _ _ _ _ (iblk m c 0 t) (iblk m c 1 t) (iblk m c 2 t) (iblk m c 5 t) _ x1)
    isplitl [H0]; · iexact H0
    isplitl [H1]; · iexact H1
    isplitl [H2]; · iexact H2
    isplitl [H5]; · iexact H5
    isplitl [H8]; · iexact H8
    isplitl [HS1]; · iexact HS1
    iintro H0 H1 H2 H5 H8 HS1
    rw [show xpAll (iblk m c 2 t) = X0 m c from by subst ht; rfl,
      show stAll (iblk m c 0 t) (iblk m c 1 t) (iblk m c 2 t) (iblk m c 5 t) = st0 m c from by subst ht; rfl,
      show rAll (iblk m c 0 t) (iblk m c 1 t) (iblk m c 2 t) (iblk m c 5 t) = R0 m c from by subst ht; rfl]
    iapply (mainPart_wp c _ _ _ _ _ _ _ _ _ _ _ (iblk m c 3 t) (iblk m c 4 t) (iblk m c 6 t) _ _ _ (X0 m c) (R0 m c))
    isplitl [H3]; · iexact H3
    isplitl [H4]; · iexact H4
    isplitl [H6]; · iexact H6
    isplitl [H7]; · iexact H7
    isplitl [H9]; · iexact H9
    isplitl [H10]; · iexact H10
    isplitl [HS0]; · iexact HS0
    isplitl [HS1]; · iexact HS1
    iintro H3 H4 H6 H7 H9 H10 HS0 HS1
    isplitl [HS0 HS1 Hg]
    · rw [show (dats m 0 c).Φ t.succ = PhiC m c from rfl]
      unfold PhiC
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves0_8 m c t) $$ H8
    isplitl [H9]; · iexact H9
    iexact H10

set_option maxHeartbeats 2400000 in
/-- The body at a later point: the scratch is as the first point left it. -/
theorem sound_later (c : Dev nD) (t : Fin cfg0.N) (hz : ¬ t.val % 16 = 0) :
    bodyPre m c t ⊢ wp frame (wpE (defs₀ (F := F)) Variants.none c none) Set.univ (bodyAt0 t) (fun _ => bodyPost m c t) := by
  have ht : t.val ≠ 0 := by intro h; rw [h] at hz; exact hz (Nat.zero_mod _)
  unfold bodyPre bodyPost bodyAt0
  rw [body_eq]
  unfold body
  rw [dif_neg (fun h => hz ((hcond0_0 t).mp h))]
  simp only [before0_0, before0_1, before0_2, before0_3, before0_4, before0_5, before0_6, before0_8 m c t ht]
  simp only [leaves0_0, leaves0_1, leaves0_2, leaves0_3, leaves0_4, leaves0_5, leaves0_6, leaves0_7, leaves0_9, leaves0_10]
  rw [show (dats m 0 c).owesAt () t.succ = (dats m 0 c).owesAt () t.castSucc from rfl]
  rw [show (dats m 0 c).Φ t.castSucc = PhiC m c from by
    obtain ⟨n, hn⟩ := t
    cases n with
    | zero => exact absurd rfl ht
    | succ n => rfl]
  rw [show (PhiC m c : sProp 𝕄) = iprop(iprop(owns (c : Thread nD τ) scM0_0 fullShare (X0 m c) ∗ owns (c : Thread nD τ) scM0_1 fullShare (R0 m c)) ∗ (∃ r, prngReg c r)) from rfl]
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (mainPart_wp c _ _ _ _ _ _ _ _ _ _ _ (iblk m c 3 t) (iblk m c 4 t) (iblk m c 6 t) _ _ _ (X0 m c) (R0 m c))
    isplitl [H3]; · iexact H3
    isplitl [H4]; · iexact H4
    isplitl [H6]; · iexact H6
    isplitl [H7]; · iexact H7
    isplitl [H9]; · iexact H9
    isplitl [H10]; · iexact H10
    isplitl [HS0]; · iexact HS0
    isplitl [HS1]; · iexact HS1
    iintro H3 H4 H6 H7 H9 H10 HS0 HS1
    isplitl [HS0 HS1 Hg]
    · rw [show (dats m 0 c).Φ t.succ = PhiC m c from rfl]
      unfold PhiC
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves0_8 m c t) $$ H8
    isplitl [H9]; · iexact H9
    iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val % 16 = 0
  · exact sound_first m c t hz
  · exact sound_later m c t hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ ((dats m 0 c).Φ 0 : sProp 𝕄) := Idealize.SL.BI.Entails.refl _

/-- After the last point the invariant gives the scratch back. -/
theorem hout (c : Dev nD) : (dats m 0 c).Φ (Fin.last cfg0.N) ⊢ (Pipeline.ΦA spec0 c : sProp 𝕄) := by
  rw [show (dats m 0 c).Φ (Fin.last cfg0.N) = PhiC m c from by
    show PhiS m c (Fin.last cfg0.N).val = _
    rw [Fin.val_last, show cfg0.N = 16 from N_0]; rfl, PhiA0_eq]
  unfold PhiC
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The run: every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Down.Own

end
-- ==== Proof.DownFrames.lean ====
module

public import proofs.«01_k».proof.Defs
public import proofs.«01_k».proof.Proof.DownRun
public import proofs.«01_k».proof.Proof.Gen.DownIdeal.Frame
public import proofs.«01_k».proof.Proof.Gen.DownRefIdeal.Frame

@[expose] public section

set_option maxRecDepth 65536

noncomputable section

/-!
# The down call: the frames

The kernel's own frame, the same at the ideal instance, taken over to the program printed for the ideal reading (the two printed
programs are one, definition by definition), and the reference's.
-/

namespace Cert.Proof

open Idealize.ShloMosaic Idealize.SL.Sem

instance factsDown : Cert.Down.Facts := Cert.Down.Gen.facts

/-- The frame of `Down` read at the ideal instance: it runs, its arguments end unchanged, the machine is quiescent. -/
def frameDown : Prop :=
  ∀ (m : (ℓ : Loc Cert.Down.nD Cert.Down.τ Cert.Down.sig) → Buf (Elt Ideal) ℓ) (g : Dev Cert.Down.nD → PrngReg), True →
    θ_run (Cert.Down.defs (F := Ideal)) (onTc (τ := Cert.Down.τ) (Cert.Down.main (F := Ideal))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

theorem frameDown_holds : frameDown := fun m g _ => Cert.Down.Own.frame (F := Ideal) m g

/-- The program printed for the ideal reading is, definition by definition, the program printed for the bits. -/
theorem frameDown_eq : frameDown = quiescent_DownIdeal (hDownIdeal := Cert.DownIdeal.Gen.facts) := by sl_kernel_rfl

/-- `DownIdeal` runs, its arguments end unchanged, the machine is quiescent. -/
theorem quiescentDownIdeal : quiescent_DownIdeal (hDownIdeal := Cert.DownIdeal.Gen.facts) := frameDown_eq ▸ frameDown_holds

/-- `DownRefIdeal` runs, its arguments end unchanged, the machine is quiescent. -/
theorem quiescentDownRefIdeal : quiescent_DownRefIdeal (hDownRefIdeal := Cert.DownRefIdeal.Gen.facts) := fun m g _ =>
  Cert.DownRefIdeal.Gen.frame (F := Ideal) m g

/-- `Down` runs, its arguments end unchanged, the machine is quiescent. -/
theorem quiescentDown : quiescent_Down (hDown := Cert.Down.Gen.facts) := fun m g _ => Cert.Down.Own.frame (F := Bits) m g

end Cert.Proof

end
-- ==== Proof.DownBlocks.lean ====
module

public import proofs.«01_k».proof.Proof.DownRun
public import proofs.«01_k».proof.Proof.At
public import Idealize.ShloMosaic.Lib.StableHlo.Run
public import Idealize.ShloMosaic.Lib.Pipeline.ValueKit.Geometry

@[expose] public section

set_option maxRecDepth 16384

noncomputable section

/-!
# The down call: what each block holds of the arguments

The arrays the host part prepares, and each window's block at a grid point, read at numbers off the arguments.
-/

namespace Cert.Down.Own

open Idealize.ShloMosaic Idealize.ShloMosaic.TcCoe Idealize.ShloMosaic.ValueIdx
open Idealize.ShloMosaic.StableHlo
open Cert.Down Cert.Down.Gen Cert.Own

variable {F : FTy → Type} [FloatOps F]
variable (m : (ℓ : Loc nD τ sig) → Buf (Elt F) ℓ) (c : Dev nD)

/-! ## The arguments, as arrays -/

/-- The activations. -/
abbrev A0 : (⟨2, ![40, 22016]⟩ : Shape).Idx → Elt F .bf16 := m ((c : Thread nD τ).loc main_arg0)
/-- The adapters' numbers. -/
abbrev A1 : (⟨1, ![40]⟩ : Shape).Idx → Elt F .i32 := m ((c : Thread nD τ).loc main_arg1)
/-- The codes, two to a byte. -/
abbrev A2 : (⟨2, ![11008, 8192]⟩ : Shape).Idx → Elt F .i8 := m ((c : Thread nD τ).loc main_arg2)
/-- The weights' scales. -/
abbrev A3 : (⟨2, ![172, 8192]⟩ : Shape).Idx → Elt F .bf16 := m ((c : Thread nD τ).loc main_arg3)
/-- The first LoRA factors. -/
abbrev A4 : (⟨3, ![5, 22016, 16]⟩ : Shape).Idx → Elt F .bf16 := m ((c : Thread nD τ).loc main_arg4)
/-- The second LoRA factors. -/
abbrev A5 : (⟨3, ![5, 16, 8192]⟩ : Shape).Idx → Elt F .bf16 := m ((c : Thread nD τ).loc main_arg5)
/-- The adapters' scales. -/
abbrev A6 : (⟨1, ![5]⟩ : Shape).Idx → Elt F .f32 := m ((c : Thread nD τ).loc main_arg6)

/-! ## What the host part prepares -/

theorem V_v0 : V m c main_v0 = shapeCast S1x40 (A1 m c) shapeCasts_S40_S1x40 := by
  show StableHlo.after hostOps0 _ (Proc.devRef .tc main_v0) = _
  after_results_simp <;> rfl
theorem V_v3 : V m c main_v3 = shapeCast S80x8192 (A5 m c) shapeCasts_S5x16x8192_S80x8192 := by
  show StableHlo.after hostOps0 _ (Proc.devRef .tc main_v3) = _
  after_results_simp <;> rfl
theorem V_v2 : V m c main_v2 = shapeCast S80x22016 (transpose S5x16x22016 [0, 2, 1] (A4 m c) transposes_S5x22016x16_S5x16x22016_0_2_1) shapeCasts_S5x16x22016_S80x22016 := by
  show StableHlo.after hostOps0 _ (Proc.devRef .tc main_v2) = _
  after_results_simp <;> rfl

/-! ## The reshaped arguments, read at numbers -/

theorem v0_at (b : ℕ) (hb : b < 40) :
    at2 (shapeCast S1x40 (A1 m c) shapeCasts_S40_S1x40) 0 b = at1 (A1 m c) b := by
  rw [at2_fin _ 0 b (by omega) hb]
  refine (shapeCast_apply (A1 m c) shapeCasts_S40_S1x40 _ (ix1 ⟨b, hb⟩) ?_).trans (at1_of (A1 m c) _ b rfl)
  refine (Shape.rowMajor_val_one _).trans (Eq.trans ?_ (Shape.rowMajor_val_two _).symm)
  show b = 0 * 40 + b; omega
theorem v3_at (n r f : ℕ) (hn : n < 5) (hr : r < 16) (hf : f < 8192) :
    at2 (shapeCast S80x8192 (A5 m c) shapeCasts_S5x16x8192_S80x8192) (16 * n + r) f = at3 (A5 m c) n r f := by
  rw [at2_fin _ (16 * n + r) f (by omega) hf]
  refine (shapeCast_apply (A5 m c) shapeCasts_S5x16x8192_S80x8192 _ (ix3 ⟨n, hn⟩ ⟨r, hr⟩ ⟨f, hf⟩) ?_).trans
    (at3_of (A5 m c) _ n r f rfl rfl rfl)
  refine (Shape.rowMajor_val_three _).trans (Eq.trans ?_ (Shape.rowMajor_val_two _).symm)
  show (n * 16 + r) * 8192 + f = (16 * n + r) * 8192 + f
  omega
theorem v2_at (n r d : ℕ) (hn : n < 5) (hr : r < 16) (hd : d < 22016) :
    at2 (shapeCast S80x22016 (transpose S5x16x22016 [0, 2, 1] (A4 m c) transposes_S5x22016x16_S5x16x22016_0_2_1) shapeCasts_S5x16x22016_S80x22016) (16 * n + r) d
      = at3 (A4 m c) n d r := by
  rw [at2_fin _ (16 * n + r) d (by omega) hd]
  refine (shapeCast_apply _ shapeCasts_S5x16x22016_S80x22016 _ (ix3 ⟨n, hn⟩ ⟨r, hr⟩ ⟨d, hd⟩) ?_).trans ?_
  · refine (Shape.rowMajor_val_three _).trans (Eq.trans ?_ (Shape.rowMajor_val_two _).symm)
    show (n * 16 + r) * 22016 + d = (16 * n + r) * 22016 + d; omega
  · exact (transpose_apply [0, 2, 1] (A4 m c) transposes_S5x22016x16_S5x16x22016_0_2_1 _ (ix3 ⟨n, hn⟩ ⟨d, hd⟩ ⟨r, hr⟩)
      (fun b => match b with | ⟨0, _⟩ => rfl | ⟨1, _⟩ => rfl | ⟨2, _⟩ => rfl)).trans (at3_of (A4 m c) _ n d r rfl rfl rfl)

/-! ## The blocks' places -/

theorem index0 : ∀ t : Fin cfg0.N, win0_0.index t = ![0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, t.val] := (by decide +kernel : ∀ t : Fin grid0.N, _)
theorem index7 : ∀ t : Fin cfg0.N, win0_7.index t = ![0, t.val] := (by decide +kernel : ∀ t : Fin grid0.N, _)

/-! ## The blocks, read at numbers -/

variable (t : Fin cfg0.N)

/-- The adapters' scales. -/
theorem blk0_at (n : ℕ) (hn : n < 5) : at1 (iblk m c 0 t : Vec F S5 .f32) n = at1 (A6 m c) n := by
  rw [at1_fin _ n hn]
  show V m c main_arg6 (((cfg0.win 0).blk t).view.emb (ix1 ⟨n, hn⟩)) = _
  rw [V_main_arg6]
  refine at1_of (A6 m c) _ n ?_
  show win0_0.index t (0 : Fin 1) * 5 + 1 * n = n
  rw [index0]; show 0 * 5 + 1 * n = n; omega

/-- The adapters' numbers. -/
theorem blk1_at (b : ℕ) (hb : b < 40) : at2 (iblk m c 1 t : Vec F S1x40 .i32) 0 b = at1 (A1 m c) b := by
  rw [at2_fin _ 0 b (by omega) hb]
  show V m c main_v0 (((cfg0.win 1).blk t).view.emb (ix2 ⟨0, by omega⟩ ⟨b, hb⟩)) = _
  rw [V_v0]
  refine (at2_of (shapeCast S1x40 (A1 m c) shapeCasts_S40_S1x40) _ (0) (b) ?_ ?_).trans (v0_at m c b hb)
  · show win0_1.index t (0 : Fin 2) * 1 + 1 * (0) = 0
    rw [index1]; show 0 * 1 + 1 * (0) = 0; omega
  · show win0_1.index t (1 : Fin 2) * 40 + 1 * (b) = b
    rw [index1]; show 0 * 40 + 1 * (b) = b; omega

/-- The activations. -/
theorem blk2_at (b d : ℕ) (hb : b < 40) (hd : d < 22016) : at2 (iblk m c 2 t : Vec F S40x22016 .bf16) b d = at2 (A0 m c) b (d) := by
  rw [at2_fin _ b d hb hd]
  show V m c main_arg0 (((cfg0.win 2).blk t).view.emb (ix2 ⟨b, hb⟩ ⟨d, hd⟩)) = _
  rw [V_main_arg0]
  refine at2_of (A0 m c) _ b (d) ?_ ?_
  · show win0_2.index t (0 : Fin 2) * 40 + 1 * b = b
    rw [index2]; show 0 * 40 + 1 * b = b; omega
  · show win0_2.index t (1 : Fin 2) * 22016 + 1 * d = d
    rw [index2]; show 0 * 22016 + 1 * d = d; omega

/-- The codes. -/
theorem blk3_at (i j : ℕ) (hi : i < 11008) (hj : j < 512) : at2 (iblk m c 3 t : Vec F S11008x512 .i8) i j = at2 (A2 m c) i (512 * t.val + j) := by
  rw [at2_fin _ i j hi hj]
  show V m c main_arg2 (((cfg0.win 3).blk t).view.emb (ix2 ⟨i, hi⟩ ⟨j, hj⟩)) = _
  rw [V_main_arg2]
  refine at2_of (A2 m c) _ i (512 * t.val + j) ?_ ?_
  · show win0_3.index t (0 : Fin 2) * 11008 + 1 * i = i
    rw [index3]; show 0 * 11008 + 1 * i = i; omega
  · show win0_3.index t (1 : Fin 2) * 512 + 1 * j = 512 * t.val + j
    rw [index3]; show t.val * 512 + 1 * j = 512 * t.val + j; omega

/-- The scales. -/
theorem blk4_at (i j : ℕ) (hi : i < 172) (hj : j < 512) : at2 (iblk m c 4 t : Vec F S172x512 .bf16) i j = at2 (A3 m c) i (512 * t.val + j) := by
  rw [at2_fin _ i j hi hj]
  show V m c main_arg3 (((cfg0.win 4).blk t).view.emb (ix2 ⟨i, hi⟩ ⟨j, hj⟩)) = _
  rw [V_main_arg3]
  refine at2_of (A3 m c) _ i (512 * t.val + j) ?_ ?_
  · show win0_4.index t (0 : Fin 2) * 172 + 1 * i = i
    rw [index4]; show 0 * 172 + 1 * i = i; omega
  · show win0_4.index t (1 : Fin 2) * 512 + 1 * j = 512 * t.val + j
    rw [index4]; show t.val * 512 + 1 * j = 512 * t.val + j; omega

/-- The first LoRA factors, each adapter's 16 rows together. -/
theorem blk5_at (n r d : ℕ) (hn : n < 5) (hr : r < 16) (hd : d < 22016) :
    at2 (iblk m c 5 t : Vec F S80x22016 .bf16) (16 * n + r) d = at3 (A4 m c) n d r := by
  rw [at2_fin _ (16 * n + r) d (by omega) hd]
  show V m c main_v2 (((cfg0.win 5).blk t).view.emb (ix2 ⟨16 * n + r, by omega⟩ ⟨d, hd⟩)) = _
  rw [V_v2]
  refine (at2_of (shapeCast S80x22016 (transpose S5x16x22016 [0, 2, 1] (A4 m c) transposes_S5x22016x16_S5x16x22016_0_2_1) shapeCasts_S5x16x22016_S80x22016) _ (16 * n + r) (d) ?_ ?_).trans (v2_at m c n r d hn hr hd)
  · show win0_5.index t (0 : Fin 2) * 80 + 1 * (16 * n + r) = 16 * n + r
    rw [index5]; show 0 * 80 + 1 * (16 * n + r) = 16 * n + r; omega
  · show win0_5.index t (1 : Fin 2) * 22016 + 1 * (d) = d
    rw [index5]; show 0 * 22016 + 1 * (d) = d; omega

/-- The second LoRA factors, each adapter's 16 rows together. -/
theorem blk6_at (n r j : ℕ) (hn : n < 5) (hr : r < 16) (hj : j < 512) :
    at2 (iblk m c 6 t : Vec F S80x512 .bf16) (16 * n + r) j = at3 (A5 m c) n r (512 * t.val + j) := by
  have ht : t.val < 16 := Nat.lt_of_lt_of_eq t.isLt N_0
  rw [at2_fin _ (16 * n + r) j (by omega) hj]
  show V m c main_v3 (((cfg0.win 6).blk t).view.emb (ix2 ⟨16 * n + r, by omega⟩ ⟨j, hj⟩)) = _
  rw [V_v3]
  refine (at2_of (shapeCast S80x8192 (A5 m c) shapeCasts_S5x16x8192_S80x8192) _ (16 * n + r) (512 * t.val + j) ?_ ?_).trans (v3_at m c n r (512 * t.val + j) hn hr (by omega))
  · show win0_6.index t (0 : Fin 2) * 80 + 1 * (16 * n + r) = 16 * n + r
    rw [index6]; show 0 * 80 + 1 * (16 * n + r) = 16 * n + r; omega
  · show win0_6.index t (1 : Fin 2) * 512 + 1 * (j) = 512 * t.val + j
    rw [index6]; show t.val * 512 + 1 * (j) = 512 * t.val + j; omega

end Cert.Down.Own

end
-- ==== Proof.DownTile.lean ====
module

public import proofs.«01_k».proof.Proof.DownTriple
public import proofs.«01_k».proof.Proof.At

@[expose] public section

set_option maxRecDepth 16384

noncomputable section

/-!
# The down call's tiles over the reals

What the interleaving, the weight tiles and the running sum compute, element by element, with floats read as extended reals.
-/

namespace Cert.Down.Own

open Idealize.ShloMosaic Idealize.ShloMosaic.TcCoe Idealize.ShloMosaic.ValueIdx
open Cert.Down Facts₀ Facts Cert.Own
open scoped BigOperators

variable [Facts]

/-- Column `c` of a tile comes from this row of the stacked halves. -/
theorem src_word : ∀ b : Fin 256, IntOp.addi (IntOp.shrsi .vector (BitVec.ofNat 32 b.val) 1#32)
    (IntOp.muli (IntOp.andi (BitVec.ofNat 32 b.val) 1#32) 128#32) = BitVec.ofNat 32 (b.val / 2 + 128 * (b.val % 2)) := by decide +kernel

/-- The interleaving matrix: one where the row is the column's source, zero elsewhere. -/
theorem perm_at (i : S256x256.Idx) :
    perm (F := Ideal) i = if (i 0).val = (i 1).val / 2 + 128 * ((i 1).val % 2) then (1 : EReal) else 0 := by
  have h0 : (i 0).val < 256 := (i 0).isLt
  have h1 : (i 1).val < 256 := (i 1).isLt
  have e : perm (F := Ideal) i = (((((IntOp.cmpi .eq (BitVec.ofNat 32 (i 0).val)
      (IntOp.addi (IntOp.shrsi .vector (BitVec.ofNat 32 (i 1).val) 1#32)
        (IntOp.muli (IntOp.andi (BitVec.ofNat 32 (i 1).val) 1#32) 128#32))).setWidth 32).toInt : ℝ)) : EReal) := by
    unfold perm
    simp only [truncf_apply, sitofp_apply, extui_apply, cmpi, addi, shrsi, muli, andi, broadcast_apply]
    rw [iota_single_apply .tc S256x256 32 0, iota_single_apply .tc S256x256 32 1]
    rfl
  rw [e, src_word ⟨(i 1).val, h1⟩, cmpi_eq_ite]
  by_cases h : (i 0).val = (i 1).val / 2 + 128 * ((i 1).val % 2)
  · rw [if_pos h, h, if_pos rfl]; norm_num
  · rw [if_neg h]
    have hne : ¬ BitVec.ofNat 32 (i 0).val = BitVec.ofNat 32 ((i 1).val / 2 + 128 * ((i 1).val % 2)) := by
      intro hh; have := congrArg BitVec.toNat hh; simp only [BitVec.toNat_ofNat] at this; omega
    rw [if_neg hne]; norm_num

/-- A tile's column of the interleaved activations. -/
theorem xpTile_at (lo hi : Vec Ideal S40x128 .bf16) (i : S40x256.Idx) :
    xpTile (F := Ideal) lo hi i = if (i 1).val % 2 = 0 then at2 lo (i 0).val ((i 1).val / 2) else at2 hi (i 0).val ((i 1).val / 2) := by
  have h1 : (i 1).val < 256 := (i 1).isLt
  unfold xpTile
  rw [shapeCast_self, truncf_apply]
  refine (matmul_at (M := 40) (K := 256) (N := 256) none _ (perm (F := Ideal)) i).trans ?_
  rw [Finset.sum_eq_single ((i 1).val / 2 + 128 * ((i 1).val % 2))]
  · rw [at2_fin (perm (F := Ideal)) _ _ (by omega) h1, perm_at, if_pos (by rfl), mul_one]
    rw [at2_fin (a := 40) (b := 256) _ _ _ (i 0).isLt (by omega)]
    by_cases hp : (i 1).val % 2 = 0
    · rw [if_pos hp]
      refine (concatenate_pair_apply_left (s₁ := S40x128) (s₂ := S40x128) (t := S40x256) 1 _ _ _
        (ix2 (⟨(i 0).val, (i 0).isLt⟩ : Fin 40) (⟨(i 1).val / 2 + 128 * ((i 1).val % 2), by omega⟩ : Fin 256)) rfl
        (ix2 (⟨(i 0).val, (i 0).isLt⟩ : Fin 40) (⟨(i 1).val / 2, by omega⟩ : Fin 128))
        (fun b => match b with | ⟨0, _⟩ => rfl | ⟨1, _⟩ => by show (i 1).val / 2 = (i 1).val / 2 + 128 * ((i 1).val % 2); omega)).trans ?_
      exact at2_of lo _ _ _ rfl rfl
    · rw [if_neg hp]
      refine (concatenate_pair_apply_right (s₁ := S40x128) (s₂ := S40x128) (t := S40x256) 1 _ _ _
        (ix2 (⟨(i 0).val, (i 0).isLt⟩ : Fin 40) (⟨(i 1).val / 2 + 128 * ((i 1).val % 2), by omega⟩ : Fin 256)) rfl rfl
        (ix2 (⟨(i 0).val, (i 0).isLt⟩ : Fin 40) (⟨(i 1).val / 2, by omega⟩ : Fin 128))
        (fun b => match b with | ⟨0, _⟩ => fun _ => rfl | ⟨1, _⟩ => fun h => absurd rfl h)
        (by show (i 1).val / 2 + 128 = (i 1).val / 2 + 128 * ((i 1).val % 2); omega)).trans ?_
      exact at2_of hi _ _ _ rfl rfl
  · intro r hr hne
    have hr' : r < 256 := Finset.mem_range.mp hr
    rw [at2_fin (perm (F := Ideal)) _ _ hr' h1, perm_at, if_neg (by exact hne), mul_zero]
  · intro h; exact absurd (Finset.mem_range.mpr (by omega)) h

/-- The interleaved activations: column `256 k + 2 i + p` is column `11008 p + 128 k + i` of the activations. -/
theorem xpAll_at (x : Vec Ideal S40x22016 .bf16) (b c : ℕ) (hb : b < 40) (hc : c < 22016) :
    at2 (xpAll (F := Ideal) x) b c = at2 x b (11008 * (c % 2) + 128 * (c / 256) + c % 256 / 2) := by
  rw [at2_fin _ _ _ hb hc]
  unfold xpAll xpT
  rw [xpTile_at]
  show (if c % 256 % 2 = 0 then _ else _) = _
  by_cases hp : c % 2 = 0
  · rw [if_pos (by omega), at2_fin _ _ _ hb (by show c % 256 / 2 < 128; omega)]
    refine at2_of x _ _ _ ?_ ?_
    · show 0 + 1 * b = b; omega
    · show 128 * (c / 256) + 1 * (c % 256 / 2) = _; omega
  · rw [if_neg (by omega), at2_fin _ _ _ hb (by show c % 256 / 2 < 128; omega)]
    refine at2_of x _ _ _ ?_ ?_
    · show 0 + 1 * b = b; omega
    · show 11008 + 128 * (c / 256) + 1 * (c % 256 / 2) = _; omega

/-- The paired scales. -/
theorem pairs_at (s : Vec Ideal S172x512 .bf16) (k p j : ℕ) (hk : k < 86) (hp : p < 2) (hj : j < 512) :
    at3 (pairs (F := Ideal) s) k p j = at2 s (86 * p + k) j := by
  rw [at3_fin _ _ _ _ hk hp hj]
  unfold pairs
  obtain rfl | rfl : p = 0 ∨ p = 1 := by omega
  · refine (concatenate_pair_apply_left (s₁ := S86x1x512) (s₂ := S86x1x512) (t := S86x2x512) 1 _ _ _ _ rfl
      (ix3 (⟨k, hk⟩ : Fin 86) (⟨0, by omega⟩ : Fin 1) (⟨j, hj⟩ : Fin 512))
      (fun b => match b with | ⟨0, _⟩ => rfl | ⟨1, _⟩ => rfl | ⟨2, _⟩ => rfl)).trans ?_
    rw [shapeCast_apply _ _ _ (ix2 ⟨k, hk⟩ ⟨j, hj⟩) (by
        rw [Shape.rowMajor_val_three, Shape.rowMajor_val_two]; show k * 512 + j = (k * 1 + 0) * 512 + j; omega),
      extractStridedSlice_apply _ _ _ _ (ix2 ⟨k, by omega⟩ ⟨j, hj⟩) (fun a => match a with | ⟨0, _⟩ => by show k = 0 + k; omega | ⟨1, _⟩ => by show j = 0 + j; omega)]
    exact at2_of s _ _ _ (by show k = _; omega) rfl
  · refine (concatenate_pair_apply_right (s₁ := S86x1x512) (s₂ := S86x1x512) (t := S86x2x512) 1 _ _ _ _ rfl rfl
      (ix3 (⟨k, hk⟩ : Fin 86) (⟨0, by omega⟩ : Fin 1) (⟨j, hj⟩ : Fin 512))
      (fun b => match b with | ⟨0, _⟩ => fun _ => rfl | ⟨1, _⟩ => fun h => absurd rfl h | ⟨2, _⟩ => fun _ => rfl) rfl).trans ?_
    rw [shapeCast_apply _ _ _ (ix2 ⟨k, hk⟩ ⟨j, hj⟩) (by
        rw [Shape.rowMajor_val_three, Shape.rowMajor_val_two]; show k * 512 + j = (k * 1 + 0) * 512 + j; omega),
      extractStridedSlice_apply _ _ _ _ (ix2 ⟨86 + k, by omega⟩ ⟨j, hj⟩) (fun a => match a with | ⟨0, _⟩ => rfl | ⟨1, _⟩ => by show j = 0 + j; omega)]
    exact at2_of s _ _ _ (by show 86 + k = _; omega) rfl

/-- The lift of a row's code. -/
theorem lift_word : ∀ r : Fin 256, IntOp.subi 28#32 (IntOp.muli 4#32 (IntOp.andi (BitVec.ofNat 32 r.val) 1#32)) = if r.val % 2 = 0 then 28#32 else 24#32 := by
  decide +kernel

/-- A weight tile: row `r` is nibble `r % 2` of packed row `r / 2`, times its scale. -/
theorem wTile_at (p : FVec Ideal S86x2x512 .bf16) (k : ℕ) (h : k < 86) (b : Vec Ideal S128x512 .i8) (r j : ℕ) (hr : r < 256) (hj : j < 512) :
    at2 (wTile (F := Ideal) p k h b) r j = ((nib (at2 b (r / 2) j) (r % 2) : ℝ) : EReal) * at3 p k (r % 2) j := by
  rw [at2_fin _ _ _ hr hj]
  unfold wTile
  have hq : r / 16 < 16 := by omega
  have hm : r % 16 < 16 := by omega
  rw [shapeCast_apply _ _ _ (ix3 ⟨r / 16, hq⟩ ⟨r % 16, hm⟩ ⟨j, hj⟩) (by
    rw [Shape.rowMajor_val_three, Shape.rowMajor_val_two]; show (r / 16 * 16 + r % 16) * 512 + j = r * 512 + j; omega), mulf_apply]
  congr 1
  · rw [shapeCast_apply _ _ _ (ix2 ⟨r, hr⟩ ⟨j, hj⟩) (by
      rw [Shape.rowMajor_val_three, Shape.rowMajor_val_two]; show r * 512 + j = (r / 16 * 16 + r % 16) * 512 + j; omega), sitofp_apply]
    have e1 : shapeCast S256x512 (broadcastTo S128x2x512 (shapeCast S128x1x512 (shapeCast S128x1x512 (extui 32 b natLt_8_32) shapeCasts_S128x512_S128x1x512) shapeCasts_S128x1x512_S128x1x512)
        broadcasts_S128x1x512_S128x2x512) shapeCasts_S128x2x512_S256x512 (ix2 ⟨r, hr⟩ ⟨j, hj⟩) = (at2 b (r / 2) j).setWidth 32 := by
      rw [shapeCast_apply _ _ _ (ix3 ⟨r / 2, by omega⟩ ⟨r % 2, by omega⟩ ⟨j, hj⟩) (by
          rw [Shape.rowMajor_val_three, Shape.rowMajor_val_two]; show (r / 2 * 2 + r % 2) * 512 + j = r * 512 + j; omega),
        broadcastTo_apply _ _ _ (ix3 ⟨r / 2, by omega⟩ ⟨0, by omega⟩ ⟨j, hj⟩) (fun a => match a with | ⟨0, _⟩ => rfl | ⟨1, _⟩ => rfl | ⟨2, _⟩ => rfl),
        shapeCast_self, shapeCast_apply _ _ _ (ix2 ⟨r / 2, by omega⟩ ⟨j, hj⟩) (by
          rw [Shape.rowMajor_val_three, Shape.rowMajor_val_two]; show r / 2 * 512 + j = (r / 2 * 1 + 0) * 512 + j; omega), extui_apply,
        at2_of b _ (r / 2) j rfl rfl]
    have e2 : lift (ix2 ⟨r, hr⟩ ⟨j, hj⟩) = if r % 2 = 0 then 28#32 else 24#32 := by
      rw [← lift_word ⟨r, hr⟩]
      unfold lift
      simp only [subi, muli, andi, broadcast_apply]
      rw [iota_single_apply .tc S256x512 32 0]
    have e3 : shrsi (shli (shapeCast S256x512 (broadcastTo S128x2x512 (shapeCast S128x1x512 (shapeCast S128x1x512 (extui 32 b natLt_8_32) shapeCasts_S128x512_S128x1x512) shapeCasts_S128x1x512_S128x1x512)
        broadcasts_S128x1x512_S128x2x512) shapeCasts_S128x2x512_S256x512) lift) (broadcast S256x512 28#32) (ix2 ⟨r, hr⟩ ⟨j, hj⟩)
        = IntOp.shrsi .vector (IntOp.shli .vector ((at2 b (r / 2) j).setWidth 32) (if r % 2 = 0 then 28#32 else 24#32)) 28#32 := by
      rw [← e1, ← e2]; rfl
    rw [e3]
    show ((BitVec.toInt _ : ℝ) : EReal) = _
    by_cases hp : r % 2 = 0
    · rw [if_pos hp, lift_lo, hp]
    · rw [if_neg hp, lift_hi, show r % 2 = 1 from by omega]
  · rw [broadcastTo_apply _ _ _ (ix3 ⟨0, by omega⟩ ⟨r % 16, hm⟩ ⟨j, hj⟩) (fun a => match a with | ⟨0, _⟩ => rfl | ⟨1, _⟩ => rfl | ⟨2, _⟩ => rfl),
      shapeCast_apply _ _ _ (ix2 ⟨r % 16, hm⟩ ⟨j, hj⟩) (by
        rw [Shape.rowMajor_val_three, Shape.rowMajor_val_two]; show r % 16 * 512 + j = (0 * 16 + r % 16) * 512 + j; omega),
      shapeCast_apply _ _ _ (ix3 ⟨r % 16 / 2, by omega⟩ ⟨r % 2, by omega⟩ ⟨j, hj⟩) (by
        rw [Shape.rowMajor_val_three, Shape.rowMajor_val_two]; show (r % 16 / 2 * 2 + r % 2) * 512 + j = r % 16 * 512 + j; omega),
      broadcastTo_apply _ _ _ (ix3 ⟨0, by omega⟩ ⟨r % 2, by omega⟩ ⟨j, hj⟩) (fun a => match a with | ⟨0, _⟩ => rfl | ⟨1, _⟩ => rfl | ⟨2, _⟩ => rfl),
      shapeCast_self,
      extractStridedSlice_apply _ _ _ _ (ix3 ⟨k, h⟩ ⟨r % 2, by omega⟩ ⟨j, hj⟩) (fun a => match a with | ⟨0, _⟩ => rfl | ⟨1, _⟩ => by show r % 2 = 0 + r % 2; omega | ⟨2, _⟩ => by show j = 0 + j; omega)]
    exact at3_of p _ _ _ _ rfl rfl rfl

end Cert.Down.Own

end
-- ==== Proof.DownLin.lean ====
module

public import proofs.«01_k».proof.Proof.DownTile

@[expose] public section

set_option maxRecDepth 16384

noncomputable section

/-!
# The down call's running sum over the reals

The sum over the interleaved tiles is the sum over the low nibbles' rows plus the sum over the high nibbles' rows.
-/

namespace Cert.Down.Own

open Idealize.ShloMosaic Idealize.ShloMosaic.TcCoe Idealize.ShloMosaic.ValueIdx
open Cert.Down Facts₀ Facts Cert.Own
open scoped BigOperators

variable [Facts]

/-- The running sum after `n` tiles. -/
theorem accAll_at (X : Vec Ideal S40x22016 .bf16) (p : FVec Ideal S86x2x512 .bf16) (B : Vec Ideal S11008x512 .i8) (g0 : FVec Ideal S40x512 .f32)
    (b j : ℕ) (hb : b < 40) (hj : j < 512) (n : ℕ) (hn : n ≤ 86) :
    at2 (accAll (F := Ideal) X p B g0 n) b j = at2 g0 b j
      + ∑ k ∈ Finset.range n, ∑ c ∈ Finset.range 256, at2 X b (256 * k + c) * (((nib (at2 B (128 * k + c / 2) j) (c % 2) : ℝ) : EReal) * at3 p k (c % 2) j) := by
  induction n with
  | zero => simp [accAll]
  | succ n ih =>
    have h : n < 86 := hn
    rw [Finset.sum_range_succ, ← add_assoc, ← ih (by omega)]
    rw [at2_fin _ _ _ hb hj, at2_fin _ _ _ hb hj]
    show accAll (F := Ideal) X p B g0 (n + 1) _ = _
    rw [accAll, dif_pos h]
    unfold addTile
    rw [addf_apply]
    congr 1
    refine (matmul_at (M := 40) (K := 256) (N := 512) none _ _ _).trans ?_
    refine Finset.sum_congr rfl fun c hc => ?_
    have hc' : c < 256 := Finset.mem_range.mp hc
    show at2 (fun i => X ((rXp n h).idx i)) b c * at2 (wTile (F := Ideal) p n h (fun i => B ((rCode n h).idx i))) c j = _
    rw [wTile_at _ _ _ _ _ _ hc' hj, at2_fin _ _ _ hb hc', at2_fin _ _ _ (by omega : c / 2 < 128) hj]
    congr 1
    · exact at2_of X _ _ _ (by show 0 + 1 * b = b; omega) (by show 256 * n + 1 * c = _; omega)
    · congr 4
      exact at2_of B _ _ _ (by show 128 * n + 1 * (c / 2) = _; omega) (by show 0 + 1 * j = j; omega)

/-- One element of the dequantised product: the low nibbles with the first half of the activations, the high nibbles with the second. -/
def linOf (x : Vec Ideal S40x22016 .bf16) (B : Vec Ideal S11008x512 .i8) (s : Vec Ideal S172x512 .bf16) (b j : ℕ) : EReal :=
  ∑ i ∈ Finset.range 11008, at2 x b i * (((nib (at2 B i j) 0 : ℝ) : EReal) * at2 s (i / 128) j)
    + ∑ i ∈ Finset.range 11008, at2 x b (11008 + i) * (((nib (at2 B i j) 1 : ℝ) : EReal) * at2 s (86 + i / 128) j)

/-- The whole running sum. -/
theorem acc_lin (x : Vec Ideal S40x22016 .bf16) (s : Vec Ideal S172x512 .bf16) (B : Vec Ideal S11008x512 .i8) (g0 : FVec Ideal S40x512 .f32)
    (b j : ℕ) (hb : b < 40) (hj : j < 512) :
    at2 (accAll (F := Ideal) (xpAll (F := Ideal) x) (pairs (F := Ideal) s) B g0 86) b j = at2 g0 b j + linOf x B s b j := by
  rw [accAll_at _ _ _ _ b j hb hj 86 le_rfl]
  congr 1
  have e : ∀ k ∈ Finset.range 86, ∀ c ∈ Finset.range 256,
      at2 (xpAll (F := Ideal) x) b (256 * k + c) * (((nib (at2 B (128 * k + c / 2) j) (c % 2) : ℝ) : EReal) * at3 (pairs (F := Ideal) s) k (c % 2) j)
      = (fun p i => at2 x b (11008 * p + i) * (((nib (at2 B i j) p : ℝ) : EReal) * at2 s (86 * p + i / 128) j)) (c % 2) (128 * k + c / 2) := by
    intro k hk c hc
    have hk' : k < 86 := Finset.mem_range.mp hk
    have hc' : c < 256 := Finset.mem_range.mp hc
    rw [xpAll_at x b _ hb (by omega), pairs_at s k _ j hk' (by omega) hj]
    show _ = at2 x b (11008 * (c % 2) + (128 * k + c / 2)) * (_ * at2 s (86 * (c % 2) + (128 * k + c / 2) / 128) j)
    rw [show 11008 * ((256 * k + c) % 2) + 128 * ((256 * k + c) / 256) + (256 * k + c) % 256 / 2 = 11008 * (c % 2) + (128 * k + c / 2) from by omega,
      show 86 * (c % 2) + (128 * k + c / 2) / 128 = 86 * (c % 2) + k from by omega]
  refine ((Finset.sum_congr rfl fun k hk => Finset.sum_congr rfl fun c hc => e k hk c hc).trans
    (sum_tiles (fun p i => at2 x b (11008 * p + i) * (((nib (at2 B i j) p : ℝ) : EReal) * at2 s (86 * p + i / 128) j)) 86)).trans ?_
  unfold linOf
  simp only [Nat.mul_zero, Nat.zero_add, Nat.mul_one]

end Cert.Down.Own

end
-- ==== Proof.DownLora.lean ====
module

public import proofs.«01_k».proof.Proof.DownTriple
public import proofs.«01_k».proof.Proof.At

@[expose] public section

set_option maxRecDepth 16384

noncomputable section

/-!
# The down call's LoRA part over the reals

Each row's own adapter is picked, its product scaled, and the second product sums that adapter's rows alone.
-/

namespace Cert.Down.Own

open Idealize.ShloMosaic Idealize.ShloMosaic.TcCoe Idealize.ShloMosaic.ValueIdx
open Cert.Down Facts₀ Facts Cert.Own
open scoped BigOperators

variable [Facts]

/-- Five nested tests pick by number. -/
theorem pick5 {α : Type} (v : BitVec 32) (f : ℕ → α) (z : α) :
    (if v = 4#32 then f 4 else if v = 3#32 then f 3 else if v = 2#32 then f 2 else if v = 1#32 then f 1 else if v = 0#32 then f 0 else z)
      = if v.toNat < 5 then f v.toNat else z := by
  by_cases h4 : v = 4#32
  · subst h4; rfl
  by_cases h3 : v = 3#32
  · subst h3; rfl
  by_cases h2 : v = 2#32
  · subst h2; rfl
  by_cases h1 : v = 1#32
  · subst h1; rfl
  by_cases h0 : v = 0#32
  · subst h0; rfl
  rw [if_neg h4, if_neg h3, if_neg h2, if_neg h1, if_neg h0, if_neg]
  intro h
  have k : ∀ n : ℕ, n < 5 → v ≠ BitVec.ofNat 32 n → v.toNat ≠ n := by
    intro n hn hv e
    exact hv (BitVec.eq_of_toNat_eq (by rw [BitVec.toNat_ofNat, e, Nat.mod_eq_of_lt (by omega)]))
  have := k 4 (by omega) h4; have := k 3 (by omega) h3; have := k 2 (by omega) h2; have := k 1 (by omega) h1; have := k 0 (by omega) h0
  omega

/-- The test on every LoRA row is the batch row's. -/
theorem isN16_at (idx : IVec S1x40 32) (n : BitVec 32) (i : S16x40.Idx) :
    isN16 idx n i = IntOp.cmpi .eq (at2 idx 0 (i 1).val) n := by
  unfold isN16
  rw [broadcastTo_apply _ _ _ (ix2 (0 : Fin 1) (⟨(i 1).val, (i 1).isLt⟩ : Fin 40)) (fun a => match a with | ⟨0, _⟩ => rfl | ⟨1, _⟩ => rfl), shapeCast_self]
  show IntOp.cmpi .eq (idx _) n = _
  rw [at2_of idx _ 0 (i 1).val rfl rfl]

theorem zero_f32 : (Scalar.ofBits (F := Ideal) .f32 0x00000000#32 : EReal) = 0 := Ideal.ofBits_zero_f32

/-- A row's LoRA scale: its adapter's, zero where there is none. -/
theorem scaleOf_at (idx : IVec S1x40 32) (f : ℕ → EReal) (b : ℕ) (hb : b < 40) :
    scaleOf (F := Ideal) idx (f 0) (f 1) (f 2) (f 3) (f 4) (ix2 (0 : Fin 1) (⟨b, hb⟩ : Fin 40))
      = if (at2 idx 0 b).toNat < 5 then f (at2 idx 0 b).toNat else 0 := by
  rw [← pick5]
  unfold scaleOf isN
  simp only [select_apply, broadcast_apply, cmpi]
  rw [select_eq_ite, select_eq_ite, select_eq_ite, select_eq_ite, select_eq_ite, at2_of idx _ 0 b rfl rfl, zero_f32]

/-- The first product. -/
theorem loraA_at (a : Vec Ideal S80x22016 .bf16) (x : Vec Ideal S40x22016 .bf16) (q b : ℕ) (hq : q < 80) (hb : b < 40) :
    loraA (F := Ideal) a x (ix2 ⟨q, hq⟩ ⟨b, hb⟩) = ∑ d ∈ Finset.range 22016, at2 a q d * at2 x b d := by
  unfold loraA
  rw [shapeCast_self]
  exact matmulT_at (φ₁ := .bf16) (φ₂ := .bf16) (M := 80) (K := 22016) (N := 40) none _ _ _

/-- A row's own adapter's rows. -/
theorem pick_at (idx : IVec S1x40 32) (z : FVec Ideal S80x40 .f32) (r b : ℕ) (hr : r < 16) (hb : b < 40) :
    pick (F := Ideal) idx z (ix2 ⟨r, hr⟩ ⟨b, hb⟩) = if (at2 idx 0 b).toNat < 5 then at2 z (16 * (at2 idx 0 b).toNat + r) b else 0 := by
  refine Eq.trans ?_ (pick5 (at2 idx 0 b) (fun n => at2 z (16 * n + r) b) 0)
  unfold pick
  simp only [select_apply, broadcast_apply, isN16_at]
  rw [select_eq_ite, select_eq_ite, select_eq_ite, select_eq_ite, select_eq_ite, zero_f32]
  have e : ∀ (n : ℕ) (hn : n < 5) (h : S80x40.Slices ![16 * n, 0] S16x40),
      extractStridedSlice S16x40 ![16 * n, 0] z h (ix2 ⟨r, hr⟩ ⟨b, hb⟩) = at2 z (16 * n + r) b := by
    intro n hn h
    rw [extractStridedSlice_apply _ _ _ _ (ix2 (⟨16 * n + r, by omega⟩ : Fin 80) (⟨b, hb⟩ : Fin 40)) (fun a => match a with | ⟨0, _⟩ => rfl | ⟨1, _⟩ => by show b = 0 + b; omega)]
    exact at2_of z _ _ _ rfl rfl
  rw [e 4 (by omega) slices_S80x40_o64_0_S16x40, e 3 (by omega) slices_S80x40_o48_0_S16x40, e 2 (by omega) slices_S80x40_o32_0_S16x40,
    e 1 (by omega) slices_S80x40_o16_0_S16x40, e 0 (by omega) slices_S80x40_o0_0_S16x40]

/-- The scaled first product of batch row `b`, LoRA row `r`. -/
def sOf (a1 : Vec Ideal S5 .f32) (ix : Vec Ideal S1x40 .i32) (x : Vec Ideal S40x22016 .bf16) (a : Vec Ideal S80x22016 .bf16) (b r : ℕ) : EReal :=
  if (at2 ix 0 b).toNat < 5 then
    (∑ d ∈ Finset.range 22016, at2 a (16 * (at2 ix 0 b).toNat + r) d * at2 x b d) * at1 a1 (at2 ix 0 b).toNat
  else 0

/-- What the call returns transposed. -/
theorem stAll_at (a1 : Vec Ideal S5 .f32) (ix : Vec Ideal S1x40 .i32) (x : Vec Ideal S40x22016 .bf16) (a : Vec Ideal S80x22016 .bf16)
    (r b : ℕ) (hr : r < 16) (hb : b < 40) : at2 (stAll (F := Ideal) a1 ix x a) r b = sOf a1 ix x a b r := by
  rw [at2_fin _ _ _ hr hb]
  unfold stAll stOf stRow
  rw [truncf_apply, mulf_apply, shapeCast_self, pick_at,
    broadcastTo_apply _ _ _ (ix2 (0 : Fin 1) (⟨b, hb⟩ : Fin 40)) (fun a => match a with | ⟨0, _⟩ => rfl | ⟨1, _⟩ => rfl)]
  have es : ∀ n (h : n < 5), a1 ((rScale n h).idx one) = at1 a1 n := fun n h => at1_of a1 _ _ (by show n + 1 * 0 = n; omega)
  rw [es 0, es 1, es 2, es 3, es 4, scaleOf_at ix (fun n => at1 a1 n)]
  unfold sOf
  by_cases h : (at2 ix 0 b).toNat < 5
  · rw [if_pos h, if_pos h, if_pos h, at2_fin _ _ _ (by omega) hb, loraA_at]
  · rw [if_neg h, if_neg h, if_neg h, mul_zero]

/-- Adapter `n`'s rows of the routed product. -/
theorem routeN_at (idx : IVec S1x40 32) (st : FVec Ideal S16x40 .bf16) (n : BitVec 32) (r b : ℕ) (hr : r < 16) (hb : b < 40) :
    routeN (F := Ideal) idx st n (ix2 ⟨r, hr⟩ ⟨b, hb⟩) = if at2 idx 0 b = n then at2 st r b else 0 := by
  unfold routeN
  rw [select_apply, isN16_at, select_eq_ite, broadcast_apply, zero_f32, extf_apply, at2_of st _ r b rfl rfl]

/-- The five adapters' rows. -/
def pieces (idx : IVec S1x40 32) (st : FVec Ideal S16x40 .bf16) : List ((s : Shape) × (s.Idx → EReal)) :=
  [⟨S16x40, routeN (F := Ideal) idx st 0#32⟩, ⟨S16x40, routeN (F := Ideal) idx st 1#32⟩, ⟨S16x40, routeN (F := Ideal) idx st 2#32⟩, ⟨S16x40, routeN (F := Ideal) idx st 3#32⟩, ⟨S16x40, routeN (F := Ideal) idx st 4#32⟩]

/-- The routed product: the row's own where its adapter's rows are, zero elsewhere. -/
theorem route_at (idx : IVec S1x40 32) (st : FVec Ideal S16x40 .bf16) (b q : ℕ) (hb : b < 40) (hq : q < 80) :
    at2 (route (F := Ideal) idx st) b q = if (at2 idx 0 b).toNat = q / 16 then at2 st (q % 16) b else 0 := by
  rw [at2_fin _ _ _ hb hq]
  unfold route
  rw [truncf_apply, transpose_apply _ _ _ _ (ix2 (⟨q, hq⟩ : Fin 80) (⟨b, hb⟩ : Fin 40)) (fun a => match a with | ⟨0, _⟩ => rfl | ⟨1, _⟩ => rfl)]
  have key : ∀ (n : ℕ), n < 5 → (if at2 idx 0 b = BitVec.ofNat 32 n then at2 st (q % 16) b else 0)
      = if (at2 idx 0 b).toNat = n then at2 st (q % 16) b else (0 : EReal) := by
    intro n hn
    have : (at2 idx 0 b = BitVec.ofNat 32 n) ↔ (at2 idx 0 b).toNat = n := by
      constructor
      · intro h; rw [h, BitVec.toNat_ofNat, Nat.mod_eq_of_lt (by omega)]
      · intro h; exact BitVec.eq_of_toNat_eq (by rw [BitVec.toNat_ofNat, h, Nat.mod_eq_of_lt (by omega)])
    simp only [this]
  have hm : q % 16 < 16 := Nat.mod_lt _ (by decide)
  have piece : ∀ (n : ℕ) (hn : n < 5) (e : q / 16 = n) (hk : n < (pieces idx st).length)
      (hxk : (pieces idx st)[n]
        = ⟨S16x40, routeN (F := Ideal) idx st (BitVec.ofNat 32 n)⟩)
      (hpre : ((((pieces idx st).take n).map (·.1)).map fun s => if h : s.rank = S80x40.rank then s.size ((0 : Fin 2).cast h.symm) else 0).sum = 16 * n),
      concatenate S80x40 0 (pieces idx st)
        concatenates_S16x40_S16x40_S16x40_S16x40_S16x40_S80x40_d0 (ix2 (⟨q, hq⟩ : Fin 80) (⟨b, hb⟩ : Fin 40)) = if (at2 idx 0 b).toNat = n then at2 st (q % 16) b else (0 : EReal) := by
    intro n hn e hk hxk hpre
    rw [← key n hn, ← routeN_at idx st _ (q % 16) b hm hb]
    exact concatenate_apply_piece (t := S80x40) 0 (pieces idx st) _ _ n hk S16x40 _ hxk rfl (16 * n) hpre (ix2 (⟨q % 16, hm⟩ : Fin 16) (⟨b, hb⟩ : Fin 40))
      (fun a => match a with | ⟨0, _⟩ => fun h => absurd rfl h | ⟨1, _⟩ => fun _ => rfl) (by show 16 * n + q % 16 = q; omega)
  obtain e | e | e | e | e : q / 16 = 0 ∨ q / 16 = 1 ∨ q / 16 = 2 ∨ q / 16 = 3 ∨ q / 16 = 4 := by omega
  all_goals rw [e]; exact piece _ (by decide) e (by simp [pieces]) rfl rfl

/-- A sum over all adapters' rows which one adapter's alone enters. -/
theorem sum_route (n : ℕ) (f B : ℕ → EReal) :
    ∑ q ∈ Finset.range 80, (if n = q / 16 then f (q % 16) else 0) * B q
      = if n < 5 then ∑ r ∈ Finset.range 16, f r * B (16 * n + r) else 0 := by
  rw [show 80 = 5 * 16 from rfl, sum_blocks _ 5 16]
  have inner : ∀ a ∈ Finset.range 5, ∑ r ∈ Finset.range 16, (if n = (a * 16 + r) / 16 then f ((a * 16 + r) % 16) else 0) * B (a * 16 + r)
      = if a = n then ∑ r ∈ Finset.range 16, f r * B (16 * n + r) else 0 := by
    intro a ha
    by_cases e : a = n
    · subst e
      rw [if_pos rfl]
      refine Finset.sum_congr rfl fun r hr => ?_
      have hr' : r < 16 := Finset.mem_range.mp hr
      rw [if_pos (by omega), show (a * 16 + r) % 16 = r from by omega, show a * 16 + r = 16 * a + r from by omega]
    · rw [if_neg e]
      refine Finset.sum_eq_zero fun r hr => ?_
      have hr' : r < 16 := Finset.mem_range.mp hr
      rw [if_neg (by omega : ¬ n = (a * 16 + r) / 16), zero_mul]
  rw [Finset.sum_congr rfl inner]
  by_cases h : n < 5
  · rw [if_pos h, Finset.sum_eq_single n]
    · rw [if_pos rfl]
    · intro a _ hne; rw [if_neg hne]
    · intro hh; exact absurd (Finset.mem_range.mpr h) hh
  · rw [if_neg h]
    refine Finset.sum_eq_zero fun a ha => ?_
    rw [if_neg]; intro e; subst e; exact h (Finset.mem_range.mp ha)

/-- The second product of batch row `b`, at a column of a block of `B`. -/
def deltaOf (ix : Vec Ideal S1x40 .i32) (s : ℕ → EReal) (B : Vec Ideal S80x512 .bf16) (b j : ℕ) : EReal :=
  if (at2 ix 0 b).toNat < 5 then ∑ r ∈ Finset.range 16, s r * at2 B (16 * (at2 ix 0 b).toNat + r) j else 0

/-- What the sum starts from. -/
theorem lora_at (a1 : Vec Ideal S5 .f32) (ix : Vec Ideal S1x40 .i32) (x : Vec Ideal S40x22016 .bf16) (a : Vec Ideal S80x22016 .bf16) (B : Vec Ideal S80x512 .bf16)
    (b j : ℕ) (hb : b < 40) (hj : j < 512) :
    at2 (loraB (F := Ideal) (rAll (F := Ideal) a1 ix x a) B) b j = deltaOf ix (sOf a1 ix x a b) B b j := by
  rw [at2_fin _ _ _ hb hj]
  unfold loraB rAll
  rw [shapeCast_self, shapeCast_self, shapeCast_self]
  refine (matmul_at (φ₁ := .bf16) (φ₂ := .bf16) (M := 40) (K := 80) (N := 512) none _ _ _).trans (Eq.trans ?_ (sum_route (at2 ix 0 b).toNat (sOf a1 ix x a b) (fun q => at2 B q j)))
  refine Finset.sum_congr rfl fun q hq => ?_
  have hq' : q < 80 := Finset.mem_range.mp hq
  show at2 (route (F := Ideal) _ _) b q * at2 B q j = _
  rw [route_at _ _ _ _ hb hq', stAll_at _ _ _ _ _ _ (by omega) hb]

end Cert.Down.Own

end
-- ==== Proof.DownSpec.lean ====
module

public import proofs.«01_k».proof.Proof.At

@[expose] public section

noncomputable section

/-!
# What the down call computes, over the reals

The mathematics both programs are brought to: an int4 linear layer with a scale per 128 rows and a routed LoRA correction.
-/

namespace Cert.DownSpec

open Idealize.ShloMosaic Cert.Own
open scoped BigOperators

variable (x0 : (⟨2, ![40, 22016]⟩ : Shape).Idx → EReal) (x1 : (⟨1, ![40]⟩ : Shape).Idx → BitVec 32)
  (x2 : (⟨2, ![11008, 8192]⟩ : Shape).Idx → BitVec 8) (x3 : (⟨2, ![172, 8192]⟩ : Shape).Idx → EReal)
  (x4 : (⟨3, ![5, 22016, 16]⟩ : Shape).Idx → EReal) (x5 : (⟨3, ![5, 16, 8192]⟩ : Shape).Idx → EReal)
  (x6 : (⟨1, ![5]⟩ : Shape).Idx → EReal)

/-- The linear layer: the low nibbles with the first half of the activations, the high nibbles with the second half. -/
def lin (b j : ℕ) : EReal :=
  ∑ i ∈ Finset.range 11008, at2 x0 b i * (((nib (at2 x2 i j) 0 : ℝ) : EReal) * at2 x3 (i / 128) j)
    + ∑ i ∈ Finset.range 11008, at2 x0 b (11008 + i) * (((nib (at2 x2 i j) 1 : ℝ) : EReal) * at2 x3 (86 + i / 128) j)

/-- The first LoRA product of row `b` with its own adapter, scaled; zero where the adapter's number is out of range. -/
def s (b r : ℕ) : EReal :=
  if (at1 x1 b).toNat < 5 then
    (∑ d ∈ Finset.range 22016, at3 x4 (at1 x1 b).toNat d r * at2 x0 b d) * at1 x6 (at1 x1 b).toNat
  else 0

/-- The second LoRA product. -/
def delta (b f : ℕ) : EReal :=
  if (at1 x1 b).toNat < 5 then
    ∑ r ∈ Finset.range 16, s x0 x1 x4 x6 b r * at3 x5 (at1 x1 b).toNat r f
  else 0

/-- The call's first result. -/
def out (b f : ℕ) : EReal := lin x0 x2 x3 b f + delta x0 x1 x4 x5 x6 b f

end Cert.DownSpec

end
-- ==== Proof.DownValue.lean ====
module

public import proofs.«01_k».proof.Proof.DownBlocks
public import proofs.«01_k».proof.Proof.DownLin
public import proofs.«01_k».proof.Proof.DownLora
public import proofs.«01_k».proof.Proof.DownSpec

@[expose] public section

set_option maxRecDepth 131072

noncomputable section

/-!
# The down call: its two arrays are the specification

What a grid point leaves of each result, in terms of the arguments, then the arrays after the run, then the run itself.
-/

namespace Cert.Down.Own

open Idealize.ShloMosaic Idealize.ShloMosaic.TcCoe Idealize.ShloMosaic.ValueIdx
open Idealize.SL.Sem
open Idealize.ShloMosaic.Pipeline (Dat)
open Cert.Down Cert.Down.Gen Cert.Own
open scoped BigOperators

variable (m : (ℓ : Loc nD τ sig) → Buf (Elt Ideal) ℓ) (ρ : Dev nD → PrngReg) (c : Dev nD)

/-! ## One block -/

/-- A block of the result from the block's own operands. -/
theorem outAll_at (a1 : Vec Ideal S5 .f32) (ix : Vec Ideal S1x40 .i32) (x : Vec Ideal S40x22016 .bf16) (a : Vec Ideal S80x22016 .bf16)
    (C : Vec Ideal S11008x512 .i8) (s : Vec Ideal S172x512 .bf16) (B : Vec Ideal S80x512 .bf16) (b j : ℕ) (hb : b < 40) (hj : j < 512) :
    at2 (outAll (F := Ideal) (xpAll (F := Ideal) x) (rAll (F := Ideal) a1 ix x a) C s B) b j
      = linOf x C s b j + deltaOf ix (sOf a1 ix x a b) B b j := by
  have e : at2 (accAll (F := Ideal) (xpAll (F := Ideal) x) (pairs (F := Ideal) s) C (loraB (F := Ideal) (rAll (F := Ideal) a1 ix x a) B) 86) b j
      = linOf x C s b j + deltaOf ix (sOf a1 ix x a b) B b j := by
    rw [acc_lin _ _ _ _ b j hb hj, lora_at _ _ _ _ _ b j hb hj, add_comm]
  rw [← e]
  rfl

variable (t : Fin cfg0.N)

/-- The linear layer from the blocks. -/
theorem lin_blk (b j : ℕ) (hb : b < 40) (hj : j < 512) :
    linOf (iblk m c 2 t0) (iblk m c 3 t) (iblk m c 4 t) b j = DownSpec.lin (A0 m c) (A2 m c) (A3 m c) b (512 * t.val + j) := by
  unfold linOf DownSpec.lin
  refine congrArg₂ (fun p q : EReal => p + q) (Finset.sum_congr rfl fun i hi => ?_) (Finset.sum_congr rfl fun i hi => ?_)
  · have hi := Finset.mem_range.mp hi
    rw [blk2_at m c t0 b i hb (by omega), blk3_at m c t i j hi hj, blk4_at m c t (i / 128) j (by omega) hj]
  · have hi := Finset.mem_range.mp hi
    rw [blk2_at m c t0 b (11008 + i) hb (by omega), blk3_at m c t i j hi hj, blk4_at m c t (86 + i / 128) j (by omega) hj]

/-- The scaled first product from the blocks. -/
theorem s_blk (b r : ℕ) (hb : b < 40) (hr : r < 16) :
    sOf (iblk m c 0 t0) (iblk m c 1 t0) (iblk m c 2 t0) (iblk m c 5 t0) b r = DownSpec.s (A0 m c) (A1 m c) (A4 m c) (A6 m c) b r := by
  unfold sOf DownSpec.s
  rw [blk1_at m c t0 b hb]
  by_cases h : (at1 (A1 m c) b).toNat < 5
  · rw [if_pos h, if_pos h, blk0_at m c t0 _ h]
    refine congrArg (fun p : EReal => p * _) (Finset.sum_congr rfl fun d hd => ?_)
    have hd := Finset.mem_range.mp hd
    rw [blk5_at m c t0 _ r d h hr hd, blk2_at m c t0 b d hb hd]
  · rw [if_neg h, if_neg h]

/-- The second product from the blocks. -/
theorem delta_blk (b j : ℕ) (hb : b < 40) (hj : j < 512) :
    deltaOf (iblk m c 1 t0) (sOf (iblk m c 0 t0) (iblk m c 1 t0) (iblk m c 2 t0) (iblk m c 5 t0) b) (iblk m c 6 t) b j
      = DownSpec.delta (A0 m c) (A1 m c) (A4 m c) (A5 m c) (A6 m c) b (512 * t.val + j) := by
  unfold deltaOf DownSpec.delta
  rw [blk1_at m c t0 b hb]
  by_cases h : (at1 (A1 m c) b).toNat < 5
  · rw [if_pos h, if_pos h]
    refine Finset.sum_congr rfl fun r hr => ?_
    have hr := Finset.mem_range.mp hr
    rw [s_blk m c b r hb hr, blk6_at m c t _ r j h hr hj]
  · rw [if_neg h, if_neg h]

/-- What point `t` leaves of the result. -/
theorem out0_at (b j : ℕ) (hb : b < 40) (hj : j < 512) :
    at2 (out0 m c t) b j = DownSpec.out (A0 m c) (A1 m c) (A2 m c) (A3 m c) (A4 m c) (A5 m c) (A6 m c) b (512 * t.val + j) := by
  unfold out0 X0 R0
  rw [outAll_at _ _ _ _ _ _ _ b j hb hj, lin_blk m c t b j hb hj, delta_blk m c t b j hb hj]
  rfl

/-- What the first point leaves of the scaled first product. -/
theorem st0_at (r b : ℕ) (hr : r < 16) (hb : b < 40) :
    at2 (st0 m c) r b = DownSpec.s (A0 m c) (A1 m c) (A4 m c) (A6 m c) b r := by
  unfold st0
  rw [stAll_at _ _ _ _ r b hr hb, s_blk m c b r hb hr]

/-! ## The arrays after the run -/

/-- The result. -/
def O : S40x8192.Idx → EReal := fun i =>
  DownSpec.out (A0 m c) (A1 m c) (A2 m c) (A3 m c) (A4 m c) (A5 m c) (A6 m c) (i 0).val (i 1).val
/-- The scaled first product, transposed. -/
def S : S16x40.Idx → EReal := fun i => DownSpec.s (A0 m c) (A1 m c) (A4 m c) (A6 m c) (i 1).val (i 0).val

/-- The first array ends holding the result. -/
theorem final7 : (dats m 0 c).arrAt 7 cfg0.N = O m c := by
  refine (dats m 0 c).arrAt_eq_of_covers 7 _ (by decide +kernel) fun t hf y => ?_
  have hy0 : (y 0).val < 40 := (y 0).isLt
  have hy1 : (y 1).val < 512 := (y 1).isLt
  show (dats m 0 c).after 7 t y = O m c (((cfg0.win 7).blk t).view.emb y)
  rw [after0_7]
  refine (at2_of (out0 m c t) y (y 0).val (y 1).val rfl rfl).trans ((out0_at m c t _ _ hy0 hy1).trans ?_)
  have e0 : ((((cfg0.win 7).blk t).view.emb y) 0).val = (y 0).val := by
    show win0_7.index t (0 : Fin 2) * 40 + 1 * (y 0).val = _
    rw [index7]; show 0 * 40 + 1 * (y 0).val = _; omega
  have e1 : ((((cfg0.win 7).blk t).view.emb y) 1).val = 512 * t.val + (y 1).val := by
    show win0_7.index t (1 : Fin 2) * 512 + 1 * (y 1).val = _
    rw [index7]; show t.val * 512 + 1 * (y 1).val = _; omega
  unfold O
  rw [e0, e1]

/-- The second array ends holding the scaled first product, transposed. -/
theorem final8 : (dats m 0 c).arrAt 8 cfg0.N = S m c := by
  refine (dats m 0 c).arrAt_eq_of_after_last 8 ⟨15, by have : cfg0.N = 16 := N_0; omega⟩ (by decide +kernel) _ fun j => ?_
  have hj0 : (j 0).val < 16 := (j 0).isLt
  have hj1 : (j 1).val < 40 := (j 1).isLt
  show (dats m 0 c).after 8 _ j = S m c j
  rw [after0_8]
  exact (at2_of (st0 m c) j (j 0).val (j 1).val rfl rfl).trans (st0_at m c _ _ hj0 hj1)

/-! ## The run -/

/-- The run: each result is what the specification says of the arguments, the arguments unchanged. -/
theorem run : θ_run defs (onTc (τ := τ) (main (F := Ideal))) ⟨m, fun _ => 0, ρ⟩ fun r => ∀ c : Dev nD,
      r.2.mem ((c : Thread nD τ).loc main_v4_0) = O m c
      ∧ r.2.mem ((c : Thread nD τ).loc main_v4_1) = S m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 7).trans (final7 m c), ((h.2 c).1 8).trans (final8 m c), h.1.1 c⟩)
    (θ_run_and (frame m ρ) (run_main m ρ))

end Cert.Down.Own

end
-- ==== Proof.Quant.lean ====
module

public import proofs.«01_k».proof.Proof.At
public import Mathlib.Data.EReal.Operations

@[expose] public section

noncomputable section

/-!
# The quantiser's arithmetic

The words whose value is a power of two, the search that finds a number's binade by eight comparisons, and the smallest power of
two above a number.
-/

namespace Cert.Quant

open Idealize.ShloMosaic Idealize.ShloMosaic.TcCoe Idealize.ShloMosaic.ValueIdx
open scoped BigOperators

/-- The value of the word with exponent field `n` and nothing else. -/
def pw (n : ℕ) : EReal := if n = 0 then 0 else if n = 255 then ⊤ else (((2 : ℝ) ^ ((n : ℤ) - 127) : ℝ) : EReal)

theorem fields : ∀ n : Fin 256, ((BitVec.ofNat 32 n.val <<< (23#32)).extractLsb' 31 1 == 1#1) = false
    ∧ ((BitVec.ofNat 32 n.val <<< (23#32)).extractLsb' 23 8).toNat = n.val
    ∧ ((BitVec.ofNat 32 n.val <<< (23#32)).extractLsb' 0 23).toNat = 0 := by decide +kernel

theorem pw_word (n : ℕ) (h : n < 256) : Ideal.ofBits .f32 (IntOp.shli .vector (BitVec.ofNat 32 n) 23#32) = pw n := by
  obtain ⟨h1, h2, h3⟩ := fields ⟨n, h⟩
  have e : IntOp.shli .vector (BitVec.ofNat 32 n) 23#32 = BitVec.ofNat 32 n <<< (23#32) := by
    unfold IntOp.shli; rw [if_pos (by decide)]
  rw [e]
  unfold Ideal.ofBits Ideal.ieee
  simp only [show 8 + 23 = 31 from rfl, h1, h2, h3]
  unfold pw
  by_cases h0 : n = 0
  · subst h0; norm_num
  · by_cases hm : n = 255
    · subst hm; norm_num
    · rw [if_neg (by omega : ¬ n = 2 ^ 8 - 1), if_neg h0, if_neg h0, if_neg hm]
      refine congrArg (fun r : ℝ => (r : EReal)) ?_
      have e2 : (2 : ℝ) ^ ((n : ℤ) - 127) = (2 : ℝ) ^ (23 : ℤ) * (2 : ℝ) ^ ((n : ℤ) - 127 - 23) := by
        rw [← zpow_add₀ (by norm_num : (2 : ℝ) ≠ 0)]
        exact congrArg (fun z : ℤ => (2 : ℝ) ^ z) (by ring)
      rw [e2]
      norm_num

theorem pw_mid (n : ℕ) (h0 : 0 < n) (h1 : n < 255) : pw n = (((2 : ℝ) ^ ((n : ℤ) - 127) : ℝ) : EReal) := by
  unfold pw; rw [if_neg (by omega), if_neg (by omega)]

theorem pw_lt {i j : ℕ} (h : i < j) (hj : j < 256) : pw i < pw j := by
  by_cases hi : i = 0
  · subst hi
    by_cases h5 : j = 255
    · subst h5; unfold pw; simp
    · rw [pw_mid j h (by omega)]
      show (0 : EReal) < _
      exact_mod_cast zpow_pos (by norm_num : (0 : ℝ) < 2) _
  · by_cases h5 : j = 255
    · subst h5; rw [pw_mid i (by omega) h]; exact EReal.coe_lt_top _
    · rw [pw_mid i (by omega) (by omega), pw_mid j (by omega) (by omega)]
      exact_mod_cast zpow_lt_zpow_right₀ (by norm_num : (1 : ℝ) < 2) (sub_lt_sub_right (Int.ofNat_lt.mpr h) 127)

theorem pw_le {i j : ℕ} (h : i ≤ j) (hj : j < 256) : pw i ≤ pw j := by
  rcases Nat.lt_or_eq_of_le h with h | h
  · exact (pw_lt h hj).le
  · subst h; exact le_rfl

/-- One step of the search. -/
def stp (a : EReal) (k f : ℕ) : ℕ := if a < pw (f + k) then f else f + k

/-- The search. -/
def field (a : EReal) : ℕ :=
  stp a 1 (stp a 2 (stp a 4 (stp a 8 (stp a 16 (stp a 32 (stp a 64 (stp a 128 0)))))))

/-- What is known of the search with `w` fields left. -/
def Inv (a : EReal) (w f : ℕ) : Prop := f + w ≤ 256 ∧ pw f ≤ a ∧ (f + w < 256 → a < pw (f + w))

theorem inv_stp {a : EReal} {k f : ℕ} (hk : 0 < k) (h : Inv a (k + k) f) : Inv a k (stp a k f) := by
  obtain ⟨h1, h2, h3⟩ := h
  unfold stp
  by_cases hc : a < pw (f + k)
  · rw [if_pos hc]; exact ⟨by omega, h2, fun _ => hc⟩
  · rw [if_neg hc]; exact ⟨by omega, not_lt.mp hc, fun hh => by rw [Nat.add_assoc]; exact h3 (by omega)⟩

theorem inv_field {a : EReal} (ha : 0 ≤ a) : Inv a 1 (field a) :=
  inv_stp (by decide) (inv_stp (by decide) (inv_stp (by decide) (inv_stp (by decide) (inv_stp (by decide) (inv_stp (by decide) (inv_stp (by decide)
    (inv_stp (k := 128) (f := 0) (by decide) ⟨by decide, ha, fun h => absurd h (by decide)⟩)))))))

/-- Below 2 ^ 126 the field is below 253, and the number lies in its binade. -/
theorem field_spec {a : EReal} (ha : 0 ≤ a) (hb : a < pw 253) : field a < 253 ∧ pw (field a) ≤ a ∧ a < pw (field a + 1) := by
  obtain ⟨h1, h2, h3⟩ := inv_field ha
  have : field a < 253 := by
    by_contra hc
    have := pw_le (i := 253) (j := field a) (by omega) (by omega)
    exact absurd (lt_of_lt_of_le hb (this.trans h2)) (lt_irrefl _)
  exact ⟨this, h2, h3 (by omega)⟩

/-- The smallest power of two above a number, of the exponents from -126 on. -/
def least (a : EReal) : EReal :=
  (Finset.univ : Finset (Fin 254)).fold min (⊤ : EReal) fun k => if a < pw (k.val + 1) then pw (k.val + 1) else ⊤

/-- Below infinity the field is below 255, and the number lies in its binade. -/
theorem field_fin {a : EReal} (ha : 0 ≤ a) (hb : a < ⊤) : field a < 255 ∧ pw (field a) ≤ a ∧ a < pw (field a + 1) := by
  obtain ⟨h1, h2, h3⟩ := inv_field ha
  have : field a < 255 := by
    by_contra hc
    have he : field a = 255 := by omega
    rw [he] at h2
    exact absurd (lt_of_lt_of_le hb h2) (lt_irrefl _)
  exact ⟨this, h2, h3 (by omega)⟩

theorem least_of {a : EReal} {f : ℕ} (h1 : f < 255) (h2 : pw f ≤ a) (h3 : a < pw (f + 1)) : least a = pw (f + 1) := by
  unfold least
  refine le_antisymm ?_ ?_
  · by_cases hf : f < 254
    · rw [Finset.fold_min_le]
      refine Or.inr ⟨⟨f, hf⟩, Finset.mem_univ _, ?_⟩
      simp only [if_pos h3, le_refl]
    · have he : f = 254 := by omega
      subst he; exact le_top
  · rw [Finset.le_fold_min]
    refine ⟨le_top, fun k _ => ?_⟩
    by_cases hc : a < pw (k.val + 1)
    · rw [if_pos hc]
      have hk : k.val < 254 := k.isLt
      refine pw_le ?_ (by omega)
      by_contra hlt
      have := pw_le (i := k.val + 1) (j := f) (by omega) (by omega)
      exact absurd (lt_of_lt_of_le hc (this.trans h2)) (lt_irrefl _)
    · rw [if_neg hc]; exact le_top

theorem least_eq {a : EReal} (ha : 0 ≤ a) (hb : a < ⊤) : least a = pw (field a + 1) := by
  obtain ⟨h1, h2, h3⟩ := field_fin ha hb
  exact least_of h1 h2 h3

/-- The two scales' product is one. -/
theorem inv_pw {f : ℕ} (h : f < 253) (x : EReal) : Ideal.div x (pw (f + 1)) = x * pw (253 - f) := by
  rw [pw_mid (f + 1) (by omega) (by omega), pw_mid (253 - f) (by omega) (by omega)]
  unfold Ideal.div
  have hp : (0 : ℝ) < (2 : ℝ) ^ (((f + 1 : ℕ) : ℤ) - 127) := zpow_pos (by norm_num) _
  rw [if_neg (by exact_mod_cast hp.ne')]
  congr 1
  rw [← EReal.coe_inv, ← zpow_neg]
  congr 2
  push_cast [Nat.cast_sub (show f ≤ 253 by omega)]
  ring

end Cert.Quant

end
-- ==== Proof.QuantSpec.lean ====
module

public import proofs.«01_k».proof.Proof.Quant

@[expose] public section

noncomputable section

/-!
# The quantiser, of one block

A block's largest magnitude, its scale and its codes as the reference states them, and that the kernel's words compute them.
-/

namespace Cert.Quant

open Idealize.ShloMosaic

/-- The constant the largest magnitude is multiplied by: the f32 next to 1/448. -/
def C : EReal := Ideal.ofBits .f32 0x3B124925#32

theorem C_val : C = ((9586981 * (2 : ℝ) ^ (-32 : ℤ) : ℝ) : EReal) := by
  unfold C; simp [Ideal.ofBits, Ideal.ieee]

/-- A block's largest magnitude. -/
def big (v : ℕ → EReal) : EReal :=
  (Finset.univ : Finset (Fin 128)).fold max (Ideal.ofBits .f32 0xFF800000#32) (fun k => max (v k.val) (-(v k.val)))
/-- A block's scale, of its largest magnitude: the smallest power of two above it over 448. -/
def scale (a : EReal) : EReal := if a = 0 then Ideal.ofBits .f32 0x3F800000#32 else least (a * C)
/-- A block's code, of its largest magnitude and the number coded. -/
def code (a x : EReal) : EReal := min (Ideal.ofBits .f32 0x43E00000#32) (max (Ideal.ofBits .f32 0xC3E00000#32) (Ideal.div x (scale a)))

theorem big_nonneg (v : ℕ → EReal) : 0 ≤ big v := by
  unfold big
  rw [Finset.le_fold_max]
  refine Or.inr ⟨0, Finset.mem_univ _, ?_⟩
  rcases le_total 0 (v (0 : Fin 128).val) with h | h
  · exact le_max_of_le_left h
  · refine le_max_of_le_right ?_
    rw [EReal.le_neg, neg_zero]; exact h

theorem mulC {a : EReal} (h0 : 0 ≤ a) : 0 ≤ a * C ∧ (a * C = 0 ↔ a = 0) ∧ (a < ⊤ → a * C < ⊤) := by
  have hc : (0 : ℝ) < 9586981 * (2 : ℝ) ^ (-32 : ℤ) := by positivity
  rw [C_val]
  induction a with
  | bot => simp at h0
  | top => rw [EReal.top_mul_coe_of_pos hc]; simp
  | coe r =>
    have hr : 0 ≤ r := EReal.coe_nonneg.mp h0
    rw [← EReal.coe_mul]
    refine ⟨EReal.coe_nonneg.mpr (mul_nonneg hr hc.le), ?_, fun _ => EReal.coe_lt_top _⟩
    rw [EReal.coe_eq_zero, EReal.coe_eq_zero, mul_eq_zero]
    exact ⟨fun h => h.resolve_right hc.ne', Or.inl⟩

theorem lt_top_of {a : EReal} (h : a < pw 253) : a < ⊤ := lt_of_lt_of_le h le_top

/-- The kernel's scale. -/
def kscale (a : EReal) : EReal := if a = 0 then pw 127 else pw (field a + 1)
/-- The reciprocal the kernel multiplies by. -/
def kinv (a : EReal) : EReal := if a = 0 then pw 127 else pw (253 - field a)

theorem pw127 : pw 127 = 1 := by rw [pw_mid 127 (by omega) (by omega)]; norm_num

theorem one32 : Ideal.ofBits .f32 0x3F800000#32 = 1 := by
  have h := pw_word 127 (by omega)
  rw [show IntOp.shli .vector (BitVec.ofNat 32 127) 23#32 = 0x3F800000#32 by decide, pw127] at h
  exact h

theorem kscale_eq {a : EReal} (h0 : 0 ≤ a) (h1 : a < ⊤) : kscale (a * C) = scale a := by
  obtain ⟨p, r, q⟩ := mulC h0
  unfold kscale scale
  by_cases h : a = 0
  · rw [if_pos (r.mpr h), if_pos h, one32, pw127]
  · rw [if_neg (fun e => h (r.mp e)), if_neg h, least_eq p (q h1)]

theorem kinv_eq {a : EReal} (h0 : 0 ≤ a) (h1 : a * C < pw 253) (x : EReal) : x * kinv (a * C) = Ideal.div x (scale a) := by
  obtain ⟨p, r, _⟩ := mulC h0
  unfold kinv scale
  by_cases h : a = 0
  · rw [if_pos (r.mpr h), if_pos h, one32, pw127]
    simp [Ideal.div]
  · rw [if_neg (fun e => h (r.mp e)), if_neg h, least_eq p (lt_top_of h1), inv_pw (field_spec p h1).1]

/-! ## The kernel's words -/

theorem stp_le (a : EReal) (k f : ℕ) : stp a k f ≤ f + k := by unfold stp; split <;> omega

/-- A step of the search, on words. -/
theorem step_word (a : EReal) (k n : ℕ) (h : n + k < 256) :
    Scalar.select (Ideal.cmp .olt a (Ideal.ofBits .f32 (IntOp.shli .vector (BitVec.ofNat 32 n + BitVec.ofNat 32 k) 23#32)))
        (BitVec.ofNat 32 n) (BitVec.ofNat 32 n + BitVec.ofNat 32 k) = BitVec.ofNat 32 (stp a k n) := by
  rw [← BitVec.ofNat_add, pw_word (n + k) h]
  unfold stp Ideal.cmp Scalar.select
  by_cases hh : a < pw (n + k)
  · simp [hh]
  · simp [hh]

/-- The exponent's word. -/
def ex (a : EReal) : BitVec 32 := Scalar.select (Ideal.cmp .oeq a (Ideal.ofBits .f32 0x00000000#32)) 0#32 (BitVec.ofNat 32 (field a) - 126#32)

theorem zero32 : Ideal.ofBits .f32 0x00000000#32 = 0 := by simp [Ideal.ofBits, Ideal.ieee]

theorem ex_eq (a : EReal) : ex a = if a = 0 then 0#32 else BitVec.ofNat 32 (field a) - 126#32 := by
  unfold ex Ideal.cmp Scalar.select
  rw [zero32]
  by_cases h : a = 0
  · simp [h]
  · simp [h]

theorem up_word {f : ℕ} (h : f < 255) : BitVec.ofNat 32 f - 126#32 + 127#32 = BitVec.ofNat 32 (f + 1) := by
  apply BitVec.eq_of_toNat_eq; simp; omega
theorem down_word {f : ℕ} (h : f < 253) : 127#32 - (BitVec.ofNat 32 f - 126#32) = BitVec.ofNat 32 (253 - f) := by
  apply BitVec.eq_of_toNat_eq; simp; omega

theorem scale_word {a : EReal} (h0 : 0 ≤ a) (h1 : a < ⊤) :
    Ideal.ofBits .f32 (IntOp.shli .vector (ex a + 127#32) 23#32) = kscale a := by
  rw [ex_eq]; unfold kscale
  have hf := (field_fin h0 h1).1
  by_cases h : a = 0
  · rw [if_pos h, if_pos h, show (0#32 + 127#32 : BitVec 32) = BitVec.ofNat 32 127 from rfl, pw_word 127 (by omega)]
  · rw [if_neg h, if_neg h, up_word hf, pw_word _ (by omega)]

theorem inv_word {a : EReal} (h0 : 0 ≤ a) (h1 : a < pw 253) :
    Ideal.ofBits .f32 (IntOp.shli .vector (127#32 - ex a) 23#32) = kinv a := by
  rw [ex_eq]; unfold kinv
  have hf := (field_spec h0 h1).1
  by_cases h : a = 0
  · rw [if_pos h, if_pos h, show (127#32 - 0#32 : BitVec 32) = BitVec.ofNat 32 127 from rfl, pw_word 127 (by omega)]
  · rw [if_neg h, if_neg h, down_word hf, pw_word _ (by omega)]

end Cert.Quant

end
-- ==== Proof.DownQuant.lean ====
module

public import proofs.«01_k».proof.Proof.DownTriple
public import proofs.«01_k».proof.Proof.QuantSpec

@[expose] public section

set_option maxRecDepth 16384

noncomputable section

/-!
# The down call's quantiser over the reals

The kernel's scales and codes at an index are those of the row's block of 128 columns.
-/

namespace Cert.Down.Own

open Idealize.ShloMosaic Idealize.ShloMosaic.TcCoe Idealize.ShloMosaic.ValueIdx
open Cert.Down Facts₀ Facts Cert.Own Cert.Quant
open scoped BigOperators

variable [Facts]

theorem amax_at (v : FVec Ideal S40x128 .f32) (i : S40x1.Idx) :
    amax v i = big (fun k => at2 v (i 0).val k) * C := by
  unfold amax
  show shapeCast S40x1 _ shapeCasts_S40_S40x1 i * C = _
  refine congrArg (· * C) ?_
  rw [shapeCast_apply _ shapeCasts_S40_S40x1 i (ix1 (i 0)) (by
    refine (Shape.rowMajor_val_one _).trans (Eq.trans ?_ (Shape.rowMajor_val_two _).symm)
    have h1 : (i 1).val < 1 := (i 1).isLt
    show (i 0).val = (i 0).val * 1 + (i 1).val; omega)]
  refine (Ideal.multiReduction_maximumf_single (absf v) 0xFF800000#32 reduces_S40x128_S40 (.inl rfl) rfl (ix1 (i 0))).trans ?_
  unfold big
  refine congrArg (fun g => Finset.fold max _ g Finset.univ) (funext fun k => ?_)
  show max (v (reduces_S40x128_S40.lift _ k)) (-(v (reduces_S40x128_S40.lift _ k))) = _
  rw [at2_of v (reduces_S40x128_S40.lift (ix1 (i 0)) k) (i 0).val k.val rfl rfl]

theorem step_at (a : FVec Ideal S40x1 .f32) (k n : ℕ) (f : IVec S40x1 32) (i : S40x1.Idx) (hf : f i = BitVec.ofNat 32 n) (h : n + k < 256) :
    expStep a (BitVec.ofNat 32 k) f i = BitVec.ofNat 32 (stp (a i) k n) := by
  rw [← step_word (a i) k n h, ← hf]; rfl

theorem expo_at (v : FVec Ideal S40x128 .f32) (i : S40x1.Idx) : expo v i = ex (amax v i) := by
  have s8 := step_at (amax v) 128 0 (broadcast S40x1 0#32) i rfl (by omega)
  have l8 := stp_le (amax v i) 128 0
  have s7 := step_at (amax v) 64 _ _ i s8 (by omega)
  have l7 := stp_le (amax v i) 64 (stp (amax v i) 128 0)
  have s6 := step_at (amax v) 32 _ _ i s7 (by omega)
  have l6 := stp_le (amax v i) 32 (stp (amax v i) 64 (stp (amax v i) 128 0))
  have s5 := step_at (amax v) 16 _ _ i s6 (by omega)
  have l5 := stp_le (amax v i) 16 (stp (amax v i) 32 (stp (amax v i) 64 (stp (amax v i) 128 0)))
  have s4 := step_at (amax v) 8 _ _ i s5 (by omega)
  have l4 := stp_le (amax v i) 8 (stp (amax v i) 16 (stp (amax v i) 32 (stp (amax v i) 64 (stp (amax v i) 128 0))))
  have s3 := step_at (amax v) 4 _ _ i s4 (by omega)
  have l3 := stp_le (amax v i) 4 (stp (amax v i) 8 (stp (amax v i) 16 (stp (amax v i) 32 (stp (amax v i) 64 (stp (amax v i) 128 0)))))
  have s2 := step_at (amax v) 2 _ _ i s3 (by omega)
  have l2 := stp_le (amax v i) 2 (stp (amax v i) 4 (stp (amax v i) 8 (stp (amax v i) 16 (stp (amax v i) 32 (stp (amax v i) 64 (stp (amax v i) 128 0))))))
  have s1 := step_at (amax v) 1 _ _ i s2 (by omega)
  unfold expo ex field
  rw [← s1]; rfl

/-- A block's scale, where its largest magnitude is finite. -/
theorem qScale_at (v : FVec Ideal S40x128 .f32) (i : S1x40x1.Idx) (h : big (fun k => at2 v (i 1).val k) < ⊤) :
    qScale v i = scale (big (fun k => at2 v (i 1).val k)) := by
  have h0 := big_nonneg (fun k => at2 v (i 1).val k)
  unfold qScale
  rw [shapeCast_apply _ shapeCasts_S40x1_S1x40x1 i (ix2 (i 1) (0 : Fin 1)) (by
    refine (Shape.rowMajor_val_two _).trans (Eq.trans ?_ (Shape.rowMajor_val_three _).symm)
    have h0 : (i 0).val < 1 := (i 0).isLt
    have h1 : (i 2).val < 1 := (i 2).isLt
    show (i 1).val * 1 + 0 = ((i 0).val * 40 + (i 1).val) * 1 + (i 2).val; omega)]
  show Ideal.ofBits .f32 (IntOp.shli .vector (expo v (ix2 (i 1) (0 : Fin 1)) + 127#32) 23#32) = _
  rw [expo_at, amax_at]
  exact (scale_word (mulC h0).1 ((mulC h0).2.2 h)).trans (kscale_eq h0 h)

/-- A block's codes, where its row's largest magnitude is below 448 times 2 ^ 126. -/
theorem qCodes_at (v : FVec Ideal S40x128 .f32) (i : S40x128.Idx) (h : big (fun k => at2 v (i 0).val k) * C < pw 253) :
    qCodes v i = code (big (fun k => at2 v (i 0).val k)) (v i) := by
  have h0 := big_nonneg (fun k => at2 v (i 0).val k)
  unfold qCodes code
  show min _ (max _ (v i * broadcastTo S40x128 _ broadcasts_S40x1_S40x128 i)) = _
  refine congrArg (fun z => min _ (max _ z)) ?_
  refine (congrArg (v i * ·) (broadcastTo_apply _ broadcasts_S40x1_S40x128 i (ix2 (i 0) (0 : Fin 1)) (fun a => match a with | ⟨0, _⟩ => rfl | ⟨1, _⟩ => rfl))).trans ?_
  show v i * Ideal.ofBits .f32 (IntOp.shli .vector (127#32 - expo v (ix2 (i 0) (0 : Fin 1))) 23#32) = _
  rw [expo_at, amax_at]
  exact (congrArg (v i * ·) (inv_word (mulC h0).1 h)).trans (kinv_eq h0 h (v i))

/-- A block of the rounded result, at an index. -/
theorem vBlk_at (o : FVec Ideal S40x512 .bf16) (k : ℕ) (h : k < 4) (b j : ℕ) (hb : b < 40) (hj : j < 128) :
    at2 (vBlk o k h) b j = at2 o b (128 * k + j) := by
  rw [at2_fin _ b j hb hj]
  unfold vBlk
  rw [extractStridedSlice_apply _ _ _ _ (ix2 (⟨b, hb⟩ : Fin 40) (⟨128 * k + j, by omega⟩ : Fin 512))
    (fun a => match a with | ⟨0, _⟩ => by show b = 0 + b; omega | ⟨1, _⟩ => rfl)]
  exact at2_of o _ _ _ rfl rfl

/-- The magnitude of a block of the rounded result. -/
theorem big_vBlk (o : FVec Ideal S40x512 .bf16) (k : ℕ) (h : k < 4) (b : ℕ) (hb : b < 40) :
    big (fun j => at2 (vBlk o k h) b j) = big (fun j => at2 o b (128 * k + j)) := by
  unfold big
  refine congrArg (fun g => Finset.fold max _ g Finset.univ) (funext fun j => ?_)
  simp only [vBlk_at o k h b j.val hb j.isLt]

/-- The kernel's scales of an output block. -/
theorem qsAll_at (o : FVec Ideal S40x512 .bf16) (i : S1x40x4.Idx)
    (h : big (fun j => at2 o (i 1).val (128 * (i 2).val + j)) < ⊤) :
    qsAll o i = scale (big (fun j => at2 o (i 1).val (128 * (i 2).val + j))) := by
  have e := big_vBlk o (i 2).val (i 2).isLt (i 1).val (i 1).isLt
  unfold qsAll
  refine (qScale_at _ _ ?_).trans ?_
  · exact e.trans_lt h
  · exact congrArg scale e

/-- The kernel's codes of an output block. -/
theorem qAll_at (o : FVec Ideal S40x512 .bf16) (i : S40x512.Idx)
    (h : big (fun j => at2 o (i 0).val (128 * ((i 1).val / 128) + j)) * C < pw 253) :
    qAll o i = code (big (fun j => at2 o (i 0).val (128 * ((i 1).val / 128) + j))) (at2 o (i 0).val (i 1).val) := by
  have h1 : (i 1).val < 512 := (i 1).isLt
  have e := big_vBlk o ((i 1).val / 128) (by omega) (i 0).val (i 0).isLt
  unfold qAll
  refine (qCodes_at _ _ ?_).trans ?_
  · exact (congrArg (· * C) e).trans_lt h
  · refine congrArg₂ code e ?_
    refine ((at2_of (vBlk o ((i 1).val / 128) (by omega)) _ (i 0).val ((i 1).val % 128) rfl rfl).trans
      (vBlk_at o _ (by omega) (i 0).val ((i 1).val % 128) (i 0).isLt (by omega))).trans ?_
    exact congrArg (at2 o (i 0).val) (by omega)

end Cert.Down.Own

end
-- ==== Proof.DownQuantValue.lean ====
module

public import proofs.«01_k».proof.Proof.DownValue
public import proofs.«01_k».proof.Proof.DownQuant

@[expose] public section

set_option maxRecDepth 131072

noncomputable section

/-!
# The down call: its codes and its scales are the specification

The two arrays of the quantiser after the run, in the blocks whose largest magnitude is in range, and the run with all four results.
-/

namespace Cert.DownSpec

open Idealize.ShloMosaic Cert.Own

variable (x0 : (⟨2, ![40, 22016]⟩ : Shape).Idx → EReal) (x1 : (⟨1, ![40]⟩ : Shape).Idx → BitVec 32)
  (x2 : (⟨2, ![11008, 8192]⟩ : Shape).Idx → BitVec 8) (x3 : (⟨2, ![172, 8192]⟩ : Shape).Idx → EReal)
  (x4 : (⟨3, ![5, 22016, 16]⟩ : Shape).Idx → EReal) (x5 : (⟨3, ![5, 16, 8192]⟩ : Shape).Idx → EReal)
  (x6 : (⟨1, ![5]⟩ : Shape).Idx → EReal)

/-- The largest magnitude of block `k` of row `b` of the result. -/
def mag (b k : ℕ) : EReal := Quant.big (fun j => out x0 x1 x2 x3 x4 x5 x6 b (128 * k + j))

end Cert.DownSpec

namespace Cert.Down.Own

open Idealize.ShloMosaic Idealize.ShloMosaic.TcCoe Idealize.ShloMosaic.ValueIdx
open Idealize.SL.Sem
open Idealize.ShloMosaic.Pipeline (Dat)
open Cert.Down Cert.Down.Gen Cert.Own Cert.Quant

variable (m : (ℓ : Loc nD τ sig) → Buf (Elt Ideal) ℓ) (ρ : Dev nD → PrngReg) (c : Dev nD)

theorem index9 : ∀ t : Fin cfg0.N, win0_9.index t = ![0, t.val] := (by decide +kernel : ∀ t : Fin grid0.N, _)
theorem index10 : ∀ t : Fin cfg0.N, win0_10.index t = ![t.val, 0, 0] := (by decide +kernel : ∀ t : Fin grid0.N, _)

/-- The magnitude of block `k` of row `b` of the result. -/
abbrev M (b k : ℕ) : EReal := DownSpec.mag (A0 m c) (A1 m c) (A2 m c) (A3 m c) (A4 m c) (A5 m c) (A6 m c) b k

/-- A block's magnitude at a grid point. -/
theorem big_out0 (t : Fin cfg0.N) (b k q : ℕ) (hb : b < 40) (hk : k < 4) (hq : q = 4 * t.val + k) :
    big (fun j => at2 (out0 m c t) b (128 * k + j)) = M m c b q := by
  unfold M DownSpec.mag big
  refine congrArg (fun g => Finset.fold max _ g Finset.univ) (funext fun j => ?_)
  have hj := j.isLt
  have e := out0_at m c t b (128 * k + j.val) hb (by omega)
  have e2 : 512 * t.val + (128 * k + j.val) = 128 * q + j.val := by omega
  rw [e2] at e
  simp only [e]

/-- The codes' array. -/
def Q : S40x8192.Idx → EReal := fun i =>
  qAll (out0 m c ⟨(i 1).val / 512, by have : cfg0.N = 16 := N_0; have : (i 1).val < 8192 := (i 1).isLt; omega⟩)
    (ix2 (⟨(i 0).val, (i 0).isLt⟩ : Fin 40) (⟨(i 1).val % 512, Nat.mod_lt _ (by decide)⟩ : Fin 512))
/-- The scales' array. -/
def QS : S16x40x4.Idx → EReal := fun i =>
  qsAll (out0 m c ⟨(i 0).val, by have : cfg0.N = 16 := N_0; have : (i 0).val < 16 := (i 0).isLt; omega⟩)
    (ix3 (0 : Fin 1) (⟨(i 1).val, (i 1).isLt⟩ : Fin 40) (⟨(i 2).val, (i 2).isLt⟩ : Fin 4))

/-- The third array ends holding the codes. -/
theorem final9 : (dats m 0 c).arrAt 9 cfg0.N = Q m c := by
  refine (dats m 0 c).arrAt_eq_of_covers 9 _ (by decide +kernel) fun t hf y => ?_
  have hy0 : (y 0).val < 40 := (y 0).isLt
  have hy1 : (y 1).val < 512 := (y 1).isLt
  show (dats m 0 c).after 9 t y = Q m c (((cfg0.win 9).blk t).view.emb y)
  rw [after0_9]
  have e0 : ((((cfg0.win 9).blk t).view.emb y) 0).val = (y 0).val := by
    show win0_9.index t (0 : Fin 2) * 40 + 1 * (y 0).val = _
    rw [index9]; show 0 * 40 + 1 * (y 0).val = _; omega
  have e1 : ((((cfg0.win 9).blk t).view.emb y) 1).val = 512 * t.val + (y 1).val := by
    show win0_9.index t (1 : Fin 2) * 512 + 1 * (y 1).val = _
    rw [index9]; show t.val * 512 + 1 * (y 1).val = _; omega
  unfold Q
  refine congrArg₂ (fun (u : Fin cfg0.N) (z : S40x512.Idx) => qAll (out0 m c u) z) (Fin.ext ?_) (funext fun a => Fin.ext ?_)
  · show t.val = ((((cfg0.win 9).blk t).view.emb y) 1).val / 512
    rw [e1]; omega
  · match a with
    | ⟨0, _⟩ => exact e0.symm
    | ⟨1, _⟩ =>
      show (y 1).val = ((((cfg0.win 9).blk t).view.emb y) 1).val % 512
      rw [e1]; omega

/-- The fourth array ends holding the scales. -/
theorem final10 : (dats m 0 c).arrAt 10 cfg0.N = QS m c := by
  refine (dats m 0 c).arrAt_eq_of_covers 10 _ (by decide +kernel) fun t hf y => ?_
  have hy0 : (y 0).val < 1 := (y 0).isLt
  have hy1 : (y 1).val < 40 := (y 1).isLt
  have hy2 : (y 2).val < 4 := (y 2).isLt
  show (dats m 0 c).after 10 t y = QS m c (((cfg0.win 10).blk t).view.emb y)
  rw [after0_10]
  have e0 : ((((cfg0.win 10).blk t).view.emb y) 0).val = t.val := by
    show win0_10.index t (0 : Fin 3) * 1 + 1 * (y 0).val = _
    rw [index10]; show t.val * 1 + 1 * (y 0).val = _; omega
  have e1 : ((((cfg0.win 10).blk t).view.emb y) 1).val = (y 1).val := by
    show win0_10.index t (1 : Fin 3) * 40 + 1 * (y 1).val = _
    rw [index10]; show 0 * 40 + 1 * (y 1).val = _; omega
  have e2 : ((((cfg0.win 10).blk t).view.emb y) 2).val = (y 2).val := by
    show win0_10.index t (2 : Fin 3) * 4 + 1 * (y 2).val = _
    rw [index10]; show 0 * 4 + 1 * (y 2).val = _; omega
  unfold QS
  refine congrArg₂ (fun (u : Fin cfg0.N) (z : S1x40x4.Idx) => qsAll (out0 m c u) z) (Fin.ext e0.symm) (funext fun a => Fin.ext ?_)
  match a with
  | ⟨0, _⟩ => show (y 0).val = 0; omega
  | ⟨1, _⟩ => exact e1.symm
  | ⟨2, _⟩ => exact e2.symm

/-- The codes, in a block in range. -/
theorem Q_at (i : S40x8192.Idx) (h : M m c (i 0).val ((i 1).val / 128) * C < pw 253) :
    Q m c i = code (M m c (i 0).val ((i 1).val / 128)) (O m c i) := by
  have h0 : (i 0).val < 40 := (i 0).isLt
  have h1 : (i 1).val < 8192 := (i 1).isLt
  have hN : cfg0.N = 16 := N_0
  have e := big_out0 m c ⟨(i 1).val / 512, by omega⟩ (i 0).val ((i 1).val % 512 / 128) ((i 1).val / 128) h0 (by omega)
    (by show (i 1).val / 128 = 4 * ((i 1).val / 512) + (i 1).val % 512 / 128; omega)
  unfold Q
  refine (qAll_at _ _ ?_).trans ?_
  · exact (congrArg (· * C) e).trans_lt h
  · refine congrArg₂ code e ?_
    refine (out0_at m c _ (i 0).val ((i 1).val % 512) h0 (by omega)).trans ?_
    unfold O
    refine congrArg (DownSpec.out _ _ _ _ _ _ _ (i 0).val) ?_
    show 512 * ((i 1).val / 512) + (i 1).val % 512 = (i 1).val; omega

/-- The scales, in a block in range. -/
theorem QS_at (i : S16x40x4.Idx) (h : M m c (i 1).val (4 * (i 0).val + (i 2).val) < ⊤) :
    QS m c i = scale (M m c (i 1).val (4 * (i 0).val + (i 2).val)) := by
  have h0 : (i 0).val < 16 := (i 0).isLt
  have h1 : (i 1).val < 40 := (i 1).isLt
  have h2 : (i 2).val < 4 := (i 2).isLt
  have hN : cfg0.N = 16 := N_0
  have e := big_out0 m c ⟨(i 0).val, by omega⟩ (i 1).val (i 2).val (4 * (i 0).val + (i 2).val) h1 h2 rfl
  unfold QS
  refine (qsAll_at _ _ ?_).trans ?_
  · exact e.trans_lt h
  · exact congrArg scale e

/-- The run: each result is what the specification says of the arguments, the quantiser's where the block is in range, the arguments
    unchanged. -/
theorem runAll : θ_run defs (onTc (τ := τ) (main (F := Ideal))) ⟨m, fun _ => 0, ρ⟩ fun r => ∀ c : Dev nD,
      r.2.mem ((c : Thread nD τ).loc main_v4_0) = O m c
      ∧ r.2.mem ((c : Thread nD τ).loc main_v4_1) = S m c
      ∧ (∀ i : S40x8192.Idx, M m c (i 0).val ((i 1).val / 128) * C < pw 253 →
        r.2.mem ((c : Thread nD τ).loc main_v4_2) i = code (M m c (i 0).val ((i 1).val / 128)) (O m c i))
      ∧ (∀ i : S16x40x4.Idx, M m c (i 1).val (4 * (i 0).val + (i 2).val) < ⊤ →
        r.2.mem ((c : Thread nD τ).loc main_v4_3) i = scale (M m c (i 1).val (4 * (i 0).val + (i 2).val)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 7).trans (final7 m c), ((h.2 c).1 8).trans (final8 m c),
    fun i hi => (congrFun (((h.2 c).1 9).trans (final9 m c)) i).trans (Q_at m c i hi),
    fun i hi => (congrFun (((h.2 c).1 10).trans (final10 m c)) i).trans (QS_at m c i hi), h.1.1 c⟩)
    (θ_run_and (frame m ρ) (run_main m ρ))

end Cert.Down.Own

end
-- ==== Proof.DownRead.lean ====
/-
  The down reference read one operation at a time: `val_<buffer>` is what an operation writes, as a function of the arguments
  it depends on, and `val_<buffer>_apply` reads it at an index from its operands at an index. The text is the reading of a
  reference program which is printed for a proof that has no modules of its own. The gather and the product over two axes are
  read in DownRef.lean.
-/
module

public import proofs.«01_k».proof.Proof.Gen.DownRefIdeal.Frame
public import Idealize.ShloMosaic.Lib.Pipeline.Value
public import Idealize.ShloMosaic.Lib.ValueIdx
public import Idealize.ShloMosaic.PureOps.Ideal.Laws

@[expose] public section

noncomputable section

namespace Cert.DownRefIdeal.Read

open Cert.DownRefIdeal Cert.DownRefIdeal.Gen Idealize.ShloMosaic Idealize.ShloMosaic.TcCoe Idealize.SL.Sem Idealize.ShloMosaic.StableHlo

variable {F : FTy → Type} [FloatOps F]

-- @_one_hot's %0 = stablehlo.broadcast_in_dim %arg0, dims = [0] : (tensor<40xi32>) -> tensor<40x1xi32>, in %0 = func.call @_one_hot(…) (record main_call0)
def val_main_call0_v0 (x1 : (⟨S40, .i32⟩ : BufTy).Contents (Elt F)) : (⟨S40x1, .i32⟩ : BufTy).Contents (Elt F) :=
  broadcastInDim S40x1 ![0] bcast_S40_S40x1_0 (x1)
abbrev idx_main_call0_v0 (i : S40x1.Idx) : S40.Idx := fun a => match a with
  | ⟨0, _⟩ => ⟨(i 0).val, (i 0).isLt⟩
theorem val_main_call0_v0_apply (x1 : (⟨S40, .i32⟩ : BufTy).Contents (Elt F)) (i : S40x1.Idx) :
    val_main_call0_v0 (F := F) x1 i = x1 (idx_main_call0_v0 i) := by
  unfold val_main_call0_v0
  exact broadcastInDim_apply _ bcast_S40_S40x1_0 x1 i (idx_main_call0_v0 i) (fun a => match a with
    | ⟨0, _⟩ => by show (i 0).val = if (40 : Nat) = 1 then 0 else (i 0).val; rw [if_neg (by decide)])

-- @_one_hot's %1 = stablehlo.iota dim = 1 : tensor<1x5xi32>, in %0 = func.call @_one_hot(…) (record main_call0)
def val_main_call0_v1 : (⟨S1x5, .i32⟩ : BufTy).Contents (Elt F) :=
  iotaInDim S1x5 32 1
theorem val_main_call0_v1_apply (i : S1x5.Idx) :
    val_main_call0_v1 (F := F) i = BitVec.ofNat 32 (i 1).val := rfl

-- @_one_hot's %2 = stablehlo.broadcast_in_dim %0, dims = [0, 1] : (tensor<40x1xi32>) -> tensor<40x5xi32>, in %0 = func.call @_one_hot(…) (record main_call0)
def val_main_call0_v2 (x1 : (⟨S40, .i32⟩ : BufTy).Contents (Elt F)) : (⟨S40x5, .i32⟩ : BufTy).Contents (Elt F) :=
  broadcastInDim S40x5 ![0, 1] bcast_S40x1_S40x5_0_1 (val_main_call0_v0 (F := F) x1)
abbrev idx_main_call0_v2 (i : S40x5.Idx) : S40x1.Idx := fun a => match a with
  | ⟨0, _⟩ => ⟨(i 0).val, (i 0).isLt⟩
  | ⟨1, _⟩ => ⟨0, Nat.one_pos⟩
theorem val_main_call0_v2_apply (x1 : (⟨S40, .i32⟩ : BufTy).Contents (Elt F)) (i : S40x5.Idx) :
    val_main_call0_v2 (F := F) x1 i = val_main_call0_v0 (F := F) x1 (idx_main_call0_v2 i) := by
  unfold val_main_call0_v2
  generalize val_main_call0_v0 (F := F) x1 = y
  exact broadcastInDim_apply _ bcast_S40x1_S40x5_0_1 y i (idx_main_call0_v2 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x5xi32>) -> tensor<40x5xi32>, in %0 = func.call @_one_hot(…) (record main_call0)
def val_main_call0_v3 : (⟨S40x5, .i32⟩ : BufTy).Contents (Elt F) :=
  broadcastInDim S40x5 ![0, 1] bcast_S1x5_S40x5_0_1 (val_main_call0_v1 (F := F))
abbrev idx_main_call0_v3 (i : S40x5.Idx) : S1x5.Idx := fun a => match a with
  | ⟨0, _⟩ => ⟨0, Nat.one_pos⟩
  | ⟨1, _⟩ => ⟨(i 1).val, (i 1).isLt⟩
theorem val_main_call0_v3_apply (i : S40x5.Idx) :
    val_main_call0_v3 (F := F) i = val_main_call0_v1 (F := F) (idx_main_call0_v3 i) := by
  unfold val_main_call0_v3
  generalize val_main_call0_v1 (F := F) = y
  exact broadcastInDim_apply _ bcast_S1x5_S40x5_0_1 y i (idx_main_call0_v3 i) (fun a => match a with
    | ⟨0, _⟩ => by show 0 = if (1 : Nat) = 1 then 0 else (i 0).val; rw [if_pos rfl]
    | ⟨1, _⟩ => by show (i 1).val = if (5 : Nat) = 1 then 0 else (i 1).val; rw [if_neg (by decide)])

-- @_one_hot's %4 = stablehlo.compare EQ, %2, %3, SIGNED : (tensor<40x5xi32>, tensor<40x5xi32>) -> tensor<40x5xi1>, in %0 = func.call @_one_hot(…) (record main_call0)
def val_main_call0_v4 (x1 : (⟨S40, .i32⟩ : BufTy).Contents (Elt F)) : (⟨S40x5, .i1⟩ : BufTy).Contents (Elt F) :=
  cmpi .eq (val_main_call0_v2 (F := F) x1) (val_main_call0_v3 (F := F))
theorem val_main_call0_v4_apply (x1 : (⟨S40, .i32⟩ : BufTy).Contents (Elt F)) (i : S40x5.Idx) :
    val_main_call0_v4 (F := F) x1 i = IntOp.cmpi .eq (val_main_call0_v2 (F := F) x1 i) (val_main_call0_v3 (F := F) i) := rfl

-- %0 = func.call @_one_hot(…) (record main_call0) result 0: @_one_hot's %5 = stablehlo.convert %4 : (tensor<40x5xi1>) -> tensor<40x5xf32>
def val_main_v0 (x1 : (⟨S40, .i32⟩ : BufTy).Contents (Elt F)) : (⟨S40x5, .f32⟩ : BufTy).Contents (Elt F) :=
  uitofp .f32 (val_main_call0_v4 (F := F) x1)
theorem val_main_v0_apply (x1 : (⟨S40, .i32⟩ : BufTy).Contents (Elt F)) (i : S40x5.Idx) :
    val_main_v0 (F := F) x1 i = FloatOps.uitofp .f32 (val_main_call0_v4 (F := F) x1 i) := rfl

-- %1 = stablehlo.convert %0 : (tensor<40x5xf32>) -> tensor<40x5xbf16>
def val_main_v1 (x1 : (⟨S40, .i32⟩ : BufTy).Contents (Elt F)) : (⟨S40x5, .bf16⟩ : BufTy).Contents (Elt F) :=
  truncf .bf16 (val_main_v0 (F := F) x1) bitsLt_bf16_f32
theorem val_main_v1_apply (x1 : (⟨S40, .i32⟩ : BufTy).Contents (Elt F)) (i : S40x5.Idx) :
    val_main_v1 (F := F) x1 i = FloatOps.truncf .bf16 bitsLt_bf16_f32 (val_main_v0 (F := F) x1 i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %2 = stablehlo.broadcast_in_dim %c, dims = [] : (tensor<i32>) -> tensor<40xi32>
def val_main_v2 : (⟨S40, .i32⟩ : BufTy).Contents (Elt F) :=
  broadcastInDim S40 ![] bcast_S_S40 (val_main_c (F := F))
abbrev idx_main_v2 (i : S40.Idx) : S_.Idx := fun a => a.elim0
theorem val_main_v2_apply (i : S40.Idx) :
    val_main_v2 (F := F) i = val_main_c (F := F) (idx_main_v2 i) := by
  unfold val_main_v2
  generalize val_main_c (F := F) = y
  exact broadcastInDim_apply _ bcast_S_S40 y i (idx_main_v2 i) (fun a => a.elim0)

-- %3 = stablehlo.compare LT, %arg1, %2, SIGNED : (tensor<40xi32>, tensor<40xi32>) -> tensor<40xi1>
def val_main_v3 (x1 : (⟨S40, .i32⟩ : BufTy).Contents (Elt F)) : (⟨S40, .i1⟩ : BufTy).Contents (Elt F) :=
  cmpi .slt (x1) (val_main_v2 (F := F))
theorem val_main_v3_apply (x1 : (⟨S40, .i32⟩ : BufTy).Contents (Elt F)) (i : S40.Idx) :
    val_main_v3 (F := F) x1 i = IntOp.cmpi .slt (x1 i) (val_main_v2 (F := F) i) := rfl

-- %c_0 = stablehlo.constant dense<5> : tensor<i32>
def val_main_c_0 : (⟨S_, .i32⟩ : BufTy).Contents (Elt F) :=
  constantI S_ 32 5#32
theorem val_main_c_0_apply (i : S_.Idx) :
    val_main_c_0 (F := F) i = 5#32 := rfl

-- %4 = stablehlo.broadcast_in_dim %c_0, dims = [] : (tensor<i32>) -> tensor<40xi32>
def val_main_v4 : (⟨S40, .i32⟩ : BufTy).Contents (Elt F) :=
  broadcastInDim S40 ![] bcast_S_S40 (val_main_c_0 (F := F))
abbrev idx_main_v4 (i : S40.Idx) : S_.Idx := fun a => a.elim0
theorem val_main_v4_apply (i : S40.Idx) :
    val_main_v4 (F := F) i = val_main_c_0 (F := F) (idx_main_v4 i) := by
  unfold val_main_v4
  generalize val_main_c_0 (F := F) = y
  exact broadcastInDim_apply _ bcast_S_S40 y i (idx_main_v4 i) (fun a => a.elim0)

-- %5 = stablehlo.add %arg1, %4 : tensor<40xi32>
def val_main_v5 (x1 : (⟨S40, .i32⟩ : BufTy).Contents (Elt F)) : (⟨S40, .i32⟩ : BufTy).Contents (Elt F) :=
  addi (x1) (val_main_v4 (F := F))
theorem val_main_v5_apply (x1 : (⟨S40, .i32⟩ : BufTy).Contents (Elt F)) (i : S40.Idx) :
    val_main_v5 (F := F) x1 i = IntOp.addi (x1 i) (val_main_v4 (F := F) i) := rfl

-- %6 = stablehlo.select %3, %5, %arg1 : tensor<40xi1>, tensor<40xi32>
def val_main_v6 (x1 : (⟨S40, .i32⟩ : BufTy).Contents (Elt F)) : (⟨S40, .i32⟩ : BufTy).Contents (Elt F) :=
  select (val_main_v3 (F := F) x1) (val_main_v5 (F := F) x1) (x1)
theorem val_main_v6_apply (x1 : (⟨S40, .i32⟩ : BufTy).Contents (Elt F)) (i : S40.Idx) :
    val_main_v6 (F := F) x1 i = Scalar.select (val_main_v3 (F := F) x1 i) (val_main_v5 (F := F) x1 i) (x1 i) := rfl

-- %7 = stablehlo.broadcast_in_dim %6, dims = [0] : (tensor<40xi32>) -> tensor<40x1xi32>
def val_main_v7 (x1 : (⟨S40, .i32⟩ : BufTy).Contents (Elt F)) : (⟨S40x1, .i32⟩ : BufTy).Contents (Elt F) :=
  broadcastInDim S40x1 ![0] bcast_S40_S40x1_0 (val_main_v6 (F := F) x1)
abbrev idx_main_v7 (i : S40x1.Idx) : S40.Idx := fun a => match a with
  | ⟨0, _⟩ => ⟨(i 0).val, (i 0).isLt⟩
theorem val_main_v7_apply (x1 : (⟨S40, .i32⟩ : BufTy).Contents (Elt F)) (i : S40x1.Idx) :
    val_main_v7 (F := F) x1 i = val_main_v6 (F := F) x1 (idx_main_v7 i) := by
  unfold val_main_v7
  generalize val_main_v6 (F := F) x1 = y
  exact broadcastInDim_apply _ bcast_S40_S40x1_0 y i (idx_main_v7 i) (fun a => match a with
    | ⟨0, _⟩ => by show (i 0).val = if (40 : Nat) = 1 then 0 else (i 0).val; rw [if_neg (by decide)])

-- %8 = "stablehlo.gather"(%arg6, %7) <{dimension_numbers = #stablehlo.gather<collapsed_slice_dims = [0], start_index_map = [0], index_vector_dim = 1>, indices_are_sorted = false, slice_sizes = array<i64: 1>}> : (tensor<5xf32>, tensor<40x1xi32>) -> tensor<40xf32>
def val_main_v8 (x1 : (⟨S40, .i32⟩ : BufTy).Contents (Elt F)) (x6 : (⟨S5, .f32⟩ : BufTy).Contents (Elt F)) : (⟨S40, .f32⟩ : BufTy).Contents (Elt F) :=
  Host.gather gather_S5_S40x1_S40_n_0_n_n_0_1_1 (x6) (val_main_v7 (F := F) x1)

-- %9 = stablehlo.convert %arg2 : (tensor<11008x8192xui8>) -> tensor<11008x8192xi32>
def val_main_v9 (x2 : (⟨S11008x8192, .i8⟩ : BufTy).Contents (Elt F)) : (⟨S11008x8192, .i32⟩ : BufTy).Contents (Elt F) :=
  extui 32 (x2) natLt_8_32
theorem val_main_v9_apply (x2 : (⟨S11008x8192, .i8⟩ : BufTy).Contents (Elt F)) (i : S11008x8192.Idx) :
    val_main_v9 (F := F) x2 i = (x2 i).setWidth 32 := rfl

-- %c_1 = stablehlo.constant dense<15> : tensor<i32>
def val_main_c_1 : (⟨S_, .i32⟩ : BufTy).Contents (Elt F) :=
  constantI S_ 32 15#32
theorem val_main_c_1_apply (i : S_.Idx) :
    val_main_c_1 (F := F) i = 15#32 := rfl

-- %10 = stablehlo.broadcast_in_dim %c_1, dims = [] : (tensor<i32>) -> tensor<11008x8192xi32>
def val_main_v10 : (⟨S11008x8192, .i32⟩ : BufTy).Contents (Elt F) :=
  broadcastInDim S11008x8192 ![] bcast_S_S11008x8192 (val_main_c_1 (F := F))
abbrev idx_main_v10 (i : S11008x8192.Idx) : S_.Idx := fun a => a.elim0
theorem val_main_v10_apply (i : S11008x8192.Idx) :
    val_main_v10 (F := F) i = val_main_c_1 (F := F) (idx_main_v10 i) := by
  unfold val_main_v10
  generalize val_main_c_1 (F := F) = y
  exact broadcastInDim_apply _ bcast_S_S11008x8192 y i (idx_main_v10 i) (fun a => a.elim0)

-- %11 = stablehlo.and %9, %10 : tensor<11008x8192xi32>
def val_main_v11 (x2 : (⟨S11008x8192, .i8⟩ : BufTy).Contents (Elt F)) : (⟨S11008x8192, .i32⟩ : BufTy).Contents (Elt F) :=
  andi (val_main_v9 (F := F) x2) (val_main_v10 (F := F))
theorem val_main_v11_apply (x2 : (⟨S11008x8192, .i8⟩ : BufTy).Contents (Elt F)) (i : S11008x8192.Idx) :
    val_main_v11 (F := F) x2 i = IntOp.andi (val_main_v9 (F := F) x2 i) (val_main_v10 (F := F) i) := rfl

-- %c_2 = stablehlo.constant dense<4> : tensor<i32>
def val_main_c_2 : (⟨S_, .i32⟩ : BufTy).Contents (Elt F) :=
  constantI S_ 32 4#32
theorem val_main_c_2_apply (i : S_.Idx) :
    val_main_c_2 (F := F) i = 4#32 := rfl

-- %12 = stablehlo.broadcast_in_dim %c_2, dims = [] : (tensor<i32>) -> tensor<11008x8192xi32>
def val_main_v12 : (⟨S11008x8192, .i32⟩ : BufTy).Contents (Elt F) :=
  broadcastInDim S11008x8192 ![] bcast_S_S11008x8192 (val_main_c_2 (F := F))
abbrev idx_main_v12 (i : S11008x8192.Idx) : S_.Idx := fun a => a.elim0
theorem val_main_v12_apply (i : S11008x8192.Idx) :
    val_main_v12 (F := F) i = val_main_c_2 (F := F) (idx_main_v12 i) := by
  unfold val_main_v12
  generalize val_main_c_2 (F := F) = y
  exact broadcastInDim_apply _ bcast_S_S11008x8192 y i (idx_main_v12 i) (fun a => a.elim0)

-- %13 = stablehlo.shift_right_arithmetic %9, %12 : tensor<11008x8192xi32>
def val_main_v13 (x2 : (⟨S11008x8192, .i8⟩ : BufTy).Contents (Elt F)) : (⟨S11008x8192, .i32⟩ : BufTy).Contents (Elt F) :=
  Host.shrsi (val_main_v9 (F := F) x2) (val_main_v12 (F := F))
theorem val_main_v13_apply (x2 : (⟨S11008x8192, .i8⟩ : BufTy).Contents (Elt F)) (i : S11008x8192.Idx) :
    val_main_v13 (F := F) x2 i = IntOp.shrsi .host (val_main_v9 (F := F) x2 i) (val_main_v12 (F := F) i) := rfl

-- %c_3 = stablehlo.constant dense<8> : tensor<i32>
def val_main_c_3 : (⟨S_, .i32⟩ : BufTy).Contents (Elt F) :=
  constantI S_ 32 8#32
theorem val_main_c_3_apply (i : S_.Idx) :
    val_main_c_3 (F := F) i = 8#32 := rfl

-- %14 = stablehlo.broadcast_in_dim %c_3, dims = [] : (tensor<i32>) -> tensor<11008x8192xi32>
def val_main_v14 : (⟨S11008x8192, .i32⟩ : BufTy).Contents (Elt F) :=
  broadcastInDim S11008x8192 ![] bcast_S_S11008x8192 (val_main_c_3 (F := F))
abbrev idx_main_v14 (i : S11008x8192.Idx) : S_.Idx := fun a => a.elim0
theorem val_main_v14_apply (i : S11008x8192.Idx) :
    val_main_v14 (F := F) i = val_main_c_3 (F := F) (idx_main_v14 i) := by
  unfold val_main_v14
  generalize val_main_c_3 (F := F) = y
  exact broadcastInDim_apply _ bcast_S_S11008x8192 y i (idx_main_v14 i) (fun a => a.elim0)

-- %15 = stablehlo.compare GE, %11, %14, SIGNED : (tensor<11008x8192xi32>, tensor<11008x8192xi32>) -> tensor<11008x8192xi1>
def val_main_v15 (x2 : (⟨S11008x8192, .i8⟩ : BufTy).Contents (Elt F)) : (⟨S11008x8192, .i1⟩ : BufTy).Contents (Elt F) :=
  cmpi .sge (val_main_v11 (F := F) x2) (val_main_v14 (F := F))
theorem val_main_v15_apply (x2 : (⟨S11008x8192, .i8⟩ : BufTy).Contents (Elt F)) (i : S11008x8192.Idx) :
    val_main_v15 (F := F) x2 i = IntOp.cmpi .sge (val_main_v11 (F := F) x2 i) (val_main_v14 (F := F) i) := rfl

-- %c_4 = stablehlo.constant dense<16> : tensor<i32>
def val_main_c_4 : (⟨S_, .i32⟩ : BufTy).Contents (Elt F) :=
  constantI S_ 32 16#32
theorem val_main_c_4_apply (i : S_.Idx) :
    val_main_c_4 (F := F) i = 16#32 := rfl

-- %16 = stablehlo.broadcast_in_dim %c_4, dims = [] : (tensor<i32>) -> tensor<11008x8192xi32>
def val_main_v16 : (⟨S11008x8192, .i32⟩ : BufTy).Contents (Elt F) :=
  broadcastInDim S11008x8192 ![] bcast_S_S11008x8192 (val_main_c_4 (F := F))
abbrev idx_main_v16 (i : S11008x8192.Idx) : S_.Idx := fun a => a.elim0
theorem val_main_v16_apply (i : S11008x8192.Idx) :
    val_main_v16 (F := F) i = val_main_c_4 (F := F) (idx_main_v16 i) := by
  unfold val_main_v16
  generalize val_main_c_4 (F := F) = y
  exact broadcastInDim_apply _ bcast_S_S11008x8192 y i (idx_main_v16 i) (fun a => a.elim0)

-- %17 = stablehlo.subtract %11, %16 : tensor<11008x8192xi32>
def val_main_v17 (x2 : (⟨S11008x8192, .i8⟩ : BufTy).Contents (Elt F)) : (⟨S11008x8192, .i32⟩ : BufTy).Contents (Elt F) :=
  subi (val_main_v11 (F := F) x2) (val_main_v16 (F := F))
theorem val_main_v17_apply (x2 : (⟨S11008x8192, .i8⟩ : BufTy).Contents (Elt F)) (i : S11008x8192.Idx) :
    val_main_v17 (F := F) x2 i = IntOp.subi (val_main_v11 (F := F) x2 i) (val_main_v16 (F := F) i) := rfl

-- %18 = func.call @_where(…) (record main_call1) result 0: @_where's %0 = stablehlo.select %arg0, %arg1, %arg2 : tensor<11008x8192xi1>, tensor<11008x8192xi32>
def val_main_v18 (x2 : (⟨S11008x8192, .i8⟩ : BufTy).Contents (Elt F)) : (⟨S11008x8192, .i32⟩ : BufTy).Contents (Elt F) :=
  select (val_main_v15 (F := F) x2) (val_main_v17 (F := F) x2) (val_main_v11 (F := F) x2)
theorem val_main_v18_apply (x2 : (⟨S11008x8192, .i8⟩ : BufTy).Contents (Elt F)) (i : S11008x8192.Idx) :
    val_main_v18 (F := F) x2 i = Scalar.select (val_main_v15 (F := F) x2 i) (val_main_v17 (F := F) x2 i) (val_main_v11 (F := F) x2 i) := rfl

-- %19 = stablehlo.convert %18 : (tensor<11008x8192xi32>) -> tensor<11008x8192xbf16>
def val_main_v19 (x2 : (⟨S11008x8192, .i8⟩ : BufTy).Contents (Elt F)) : (⟨S11008x8192, .bf16⟩ : BufTy).Contents (Elt F) :=
  sitofp .bf16 (val_main_v18 (F := F) x2)
theorem val_main_v19_apply (x2 : (⟨S11008x8192, .i8⟩ : BufTy).Contents (Elt F)) (i : S11008x8192.Idx) :
    val_main_v19 (F := F) x2 i = FloatOps.sitofp .bf16 (val_main_v18 (F := F) x2 i) := rfl

-- %c_5 = stablehlo.constant dense<8> : tensor<i32>
def val_main_c_5 : (⟨S_, .i32⟩ : BufTy).Contents (Elt F) :=
  constantI S_ 32 8#32
theorem val_main_c_5_apply (i : S_.Idx) :
    val_main_c_5 (F := F) i = 8#32 := rfl

-- %20 = stablehlo.broadcast_in_dim %c_5, dims = [] : (tensor<i32>) -> tensor<11008x8192xi32>
def val_main_v20 : (⟨S11008x8192, .i32⟩ : BufTy).Contents (Elt F) :=
  broadcastInDim S11008x8192 ![] bcast_S_S11008x8192 (val_main_c_5 (F := F))
abbrev idx_main_v20 (i : S11008x8192.Idx) : S_.Idx := fun a => a.elim0
theorem val_main_v20_apply (i : S11008x8192.Idx) :
    val_main_v20 (F := F) i = val_main_c_5 (F := F) (idx_main_v20 i) := by
  unfold val_main_v20
  generalize val_main_c_5 (F := F) = y
  exact broadcastInDim_apply _ bcast_S_S11008x8192 y i (idx_main_v20 i) (fun a => a.elim0)

-- %21 = stablehlo.compare GE, %13, %20, SIGNED : (tensor<11008x8192xi32>, tensor<11008x8192xi32>) -> tensor<11008x8192xi1>
def val_main_v21 (x2 : (⟨S11008x8192, .i8⟩ : BufTy).Contents (Elt F)) : (⟨S11008x8192, .i1⟩ : BufTy).Contents (Elt F) :=
  cmpi .sge (val_main_v13 (F := F) x2) (val_main_v20 (F := F))
theorem val_main_v21_apply (x2 : (⟨S11008x8192, .i8⟩ : BufTy).Contents (Elt F)) (i : S11008x8192.Idx) :
    val_main_v21 (F := F) x2 i = IntOp.cmpi .sge (val_main_v13 (F := F) x2 i) (val_main_v20 (F := F) i) := rfl

-- %c_6 = stablehlo.constant dense<16> : tensor<i32>
def val_main_c_6 : (⟨S_, .i32⟩ : BufTy).Contents (Elt F) :=
  constantI S_ 32 16#32
theorem val_main_c_6_apply (i : S_.Idx) :
    val_main_c_6 (F := F) i = 16#32 := rfl

-- %22 = stablehlo.broadcast_in_dim %c_6, dims = [] : (tensor<i32>) -> tensor<11008x8192xi32>
def val_main_v22 : (⟨S11008x8192, .i32⟩ : BufTy).Contents (Elt F) :=
  broadcastInDim S11008x8192 ![] bcast_S_S11008x8192 (val_main_c_6 (F := F))
abbrev idx_main_v22 (i : S11008x8192.Idx) : S_.Idx := fun a => a.elim0
theorem val_main_v22_apply (i : S11008x8192.Idx) :
    val_main_v22 (F := F) i = val_main_c_6 (F := F) (idx_main_v22 i) := by
  unfold val_main_v22
  generalize val_main_c_6 (F := F) = y
  exact broadcastInDim_apply _ bcast_S_S11008x8192 y i (idx_main_v22 i) (fun a => a.elim0)

-- %23 = stablehlo.subtract %13, %22 : tensor<11008x8192xi32>
def val_main_v23 (x2 : (⟨S11008x8192, .i8⟩ : BufTy).Contents (Elt F)) : (⟨S11008x8192, .i32⟩ : BufTy).Contents (Elt F) :=
  subi (val_main_v13 (F := F) x2) (val_main_v22 (F := F))
theorem val_main_v23_apply (x2 : (⟨S11008x8192, .i8⟩ : BufTy).Contents (Elt F)) (i : S11008x8192.Idx) :
    val_main_v23 (F := F) x2 i = IntOp.subi (val_main_v13 (F := F) x2 i) (val_main_v22 (F := F) i) := rfl

-- %24 = func.call @_where(…) (record main_call2) result 0: @_where's %0 = stablehlo.select %arg0, %arg1, %arg2 : tensor<11008x8192xi1>, tensor<11008x8192xi32>
def val_main_v24 (x2 : (⟨S11008x8192, .i8⟩ : BufTy).Contents (Elt F)) : (⟨S11008x8192, .i32⟩ : BufTy).Contents (Elt F) :=
  select (val_main_v21 (F := F) x2) (val_main_v23 (F := F) x2) (val_main_v13 (F := F) x2)
theorem val_main_v24_apply (x2 : (⟨S11008x8192, .i8⟩ : BufTy).Contents (Elt F)) (i : S11008x8192.Idx) :
    val_main_v24 (F := F) x2 i = Scalar.select (val_main_v21 (F := F) x2 i) (val_main_v23 (F := F) x2 i) (val_main_v13 (F := F) x2 i) := rfl

-- %25 = stablehlo.convert %24 : (tensor<11008x8192xi32>) -> tensor<11008x8192xbf16>
def val_main_v25 (x2 : (⟨S11008x8192, .i8⟩ : BufTy).Contents (Elt F)) : (⟨S11008x8192, .bf16⟩ : BufTy).Contents (Elt F) :=
  sitofp .bf16 (val_main_v24 (F := F) x2)
theorem val_main_v25_apply (x2 : (⟨S11008x8192, .i8⟩ : BufTy).Contents (Elt F)) (i : S11008x8192.Idx) :
    val_main_v25 (F := F) x2 i = FloatOps.sitofp .bf16 (val_main_v24 (F := F) x2 i) := rfl

-- %26 = stablehlo.slice %arg3 [0:86, 0:8192] : (tensor<172x8192xbf16>) -> tensor<86x8192xbf16>
def val_main_v26 (x3 : (⟨S172x8192, .bf16⟩ : BufTy).Contents (Elt F)) : (⟨S86x8192, .bf16⟩ : BufTy).Contents (Elt F) :=
  extractStridedSlice S86x8192 ![0, 0] (x3) slices_S172x8192_S86x8192_0_0
set_option backward.proofsInPublic true in
abbrev idx_main_v26 (i : S86x8192.Idx) : S172x8192.Idx := fun a => match a with
  | ⟨0, _⟩ => ⟨(i 0).val, by have h0 : (i 0).val < 86 := (i 0).isLt; show (i 0).val < 172; omega⟩
  | ⟨1, _⟩ => ⟨(i 1).val, (i 1).isLt⟩
theorem val_main_v26_apply (x3 : (⟨S172x8192, .bf16⟩ : BufTy).Contents (Elt F)) (i : S86x8192.Idx) :
    val_main_v26 (F := F) x3 i = x3 (idx_main_v26 i) := by
  unfold val_main_v26
  exact extractStridedSlice_apply ![0, 0] x3 slices_S172x8192_S86x8192_0_0 i (idx_main_v26 i) (fun a => match a with
    | ⟨0, _⟩ => by show (i 0).val = 0 + (i 0).val; omega
    | ⟨1, _⟩ => by show (i 1).val = 0 + (i 1).val; omega)

-- %27 = stablehlo.reshape %19 : (tensor<11008x8192xbf16>) -> tensor<86x128x8192xbf16>
def val_main_v27 (x2 : (⟨S11008x8192, .i8⟩ : BufTy).Contents (Elt F)) : (⟨S86x128x8192, .bf16⟩ : BufTy).Contents (Elt F) :=
  shapeCast _ (val_main_v19 (F := F) x2) shapeCasts_S11008x8192_S86x128x8192
set_option backward.proofsInPublic true in
abbrev idx_main_v27 (i : S86x128x8192.Idx) : S11008x8192.Idx := fun a => match a with
  | ⟨0, _⟩ => ⟨(((i 0).val * 128 + (i 1).val) * 8192 + (i 2).val) / 8192, by have h0 : (i 0).val < 86 := (i 0).isLt; have h1 : (i 1).val < 128 := (i 1).isLt; have h2 : (i 2).val < 8192 := (i 2).isLt; show (((i 0).val * 128 + (i 1).val) * 8192 + (i 2).val) / 8192 < 11008; omega⟩
  | ⟨1, _⟩ => ⟨(((i 0).val * 128 + (i 1).val) * 8192 + (i 2).val) % 8192, by have h0 : (i 0).val < 86 := (i 0).isLt; have h1 : (i 1).val < 128 := (i 1).isLt; have h2 : (i 2).val < 8192 := (i 2).isLt; show (((i 0).val * 128 + (i 1).val) * 8192 + (i 2).val) % 8192 < 8192; omega⟩
theorem val_main_v27_apply (x2 : (⟨S11008x8192, .i8⟩ : BufTy).Contents (Elt F)) (i : S86x128x8192.Idx) :
    val_main_v27 (F := F) x2 i = val_main_v19 (F := F) x2 (idx_main_v27 i) := by
  unfold val_main_v27
  generalize val_main_v19 (F := F) x2 = y
  exact shapeCast_apply y shapeCasts_S11008x8192_S86x128x8192 i (idx_main_v27 i)
    (by rewrite [Shape.rowMajor_val_two, Shape.rowMajor_val_three]; have h0 : (i 0).val < 86 := (i 0).isLt; have h1 : (i 1).val < 128 := (i 1).isLt; have h2 : (i 2).val < 8192 := (i 2).isLt; show (((i 0).val * 128 + (i 1).val) * 8192 + (i 2).val) / 8192 * 8192 + (((i 0).val * 128 + (i 1).val) * 8192 + (i 2).val) % 8192 = ((i 0).val * 128 + (i 1).val) * 8192 + (i 2).val; omega)

-- %28 = stablehlo.broadcast_in_dim %26, dims = [0, 2] : (tensor<86x8192xbf16>) -> tensor<86x1x8192xbf16>
def val_main_v28 (x3 : (⟨S172x8192, .bf16⟩ : BufTy).Contents (Elt F)) : (⟨S86x1x8192, .bf16⟩ : BufTy).Contents (Elt F) :=
  broadcastInDim S86x1x8192 ![0, 2] bcast_S86x8192_S86x1x8192_0_2 (val_main_v26 (F := F) x3)
abbrev idx_main_v28 (i : S86x1x8192.Idx) : S86x8192.Idx := fun a => match a with
  | ⟨0, _⟩ => ⟨(i 0).val, (i 0).isLt⟩
  | ⟨1, _⟩ => ⟨(i 2).val, (i 2).isLt⟩
theorem val_main_v28_apply (x3 : (⟨S172x8192, .bf16⟩ : BufTy).Contents (Elt F)) (i : S86x1x8192.Idx) :
    val_main_v28 (F := F) x3 i = val_main_v26 (F := F) x3 (idx_main_v28 i) := by
  unfold val_main_v28
  generalize val_main_v26 (F := F) x3 = y
  exact broadcastInDim_apply _ bcast_S86x8192_S86x1x8192_0_2 y i (idx_main_v28 i) (fun a => match a with
    | ⟨0, _⟩ => by show (i 0).val = if (86 : Nat) = 1 then 0 else (i 0).val; rw [if_neg (by decide)]
    | ⟨1, _⟩ => by show (i 2).val = if (8192 : Nat) = 1 then 0 else (i 2).val; rw [if_neg (by decide)])

-- %29 = stablehlo.broadcast_in_dim %28, dims = [0, 1, 2] : (tensor<86x1x8192xbf16>) -> tensor<86x128x8192xbf16>
def val_main_v29 (x3 : (⟨S172x8192, .bf16⟩ : BufTy).Contents (Elt F)) : (⟨S86x128x8192, .bf16⟩ : BufTy).Contents (Elt F) :=
  broadcastInDim S86x128x8192 ![0, 1, 2] bcast_S86x1x8192_S86x128x8192_0_1_2 (val_main_v28 (F := F) x3)
abbrev idx_main_v29 (i : S86x128x8192.Idx) : S86x1x8192.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v29_apply (x3 : (⟨S172x8192, .bf16⟩ : BufTy).Contents (Elt F)) (i : S86x128x8192.Idx) :
    val_main_v29 (F := F) x3 i = val_main_v28 (F := F) x3 (idx_main_v29 i) := by
  unfold val_main_v29
  generalize val_main_v28 (F := F) x3 = y
  exact broadcastInDim_apply _ bcast_S86x1x8192_S86x128x8192_0_1_2 y i (idx_main_v29 i) (fun a => match a with
    | ⟨0, _⟩ => by show (i 0).val = if (86 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %30 = stablehlo.multiply %27, %29 : tensor<86x128x8192xbf16>
def val_main_v30 (x2 : (⟨S11008x8192, .i8⟩ : BufTy).Contents (Elt F)) (x3 : (⟨S172x8192, .bf16⟩ : BufTy).Contents (Elt F)) : (⟨S86x128x8192, .bf16⟩ : BufTy).Contents (Elt F) :=
  mulf (val_main_v27 (F := F) x2) (val_main_v29 (F := F) x3)
theorem val_main_v30_apply (x2 : (⟨S11008x8192, .i8⟩ : BufTy).Contents (Elt F)) (x3 : (⟨S172x8192, .bf16⟩ : BufTy).Contents (Elt F)) (i : S86x128x8192.Idx) :
    val_main_v30 (F := F) x2 x3 i = FloatOps.mulf (val_main_v27 (F := F) x2 i) (val_main_v29 (F := F) x3 i) := rfl

-- %31 = stablehlo.reshape %30 : (tensor<86x128x8192xbf16>) -> tensor<11008x8192xbf16>
def val_main_v31 (x2 : (⟨S11008x8192, .i8⟩ : BufTy).Contents (Elt F)) (x3 : (⟨S172x8192, .bf16⟩ : BufTy).Contents (Elt F)) : (⟨S11008x8192, .bf16⟩ : BufTy).Contents (Elt F) :=
  shapeCast _ (val_main_v30 (F := F) x2 x3) shapeCasts_S86x128x8192_S11008x8192
set_option backward.proofsInPublic true in
abbrev idx_main_v31 (i : S11008x8192.Idx) : S86x128x8192.Idx := fun a => match a with
  | ⟨0, _⟩ => ⟨((i 0).val * 8192 + (i 1).val) / 1048576, by have h0 : (i 0).val < 11008 := (i 0).isLt; have h1 : (i 1).val < 8192 := (i 1).isLt; show ((i 0).val * 8192 + (i 1).val) / 1048576 < 86; omega⟩
  | ⟨1, _⟩ => ⟨((i 0).val * 8192 + (i 1).val) / 8192 % 128, by have h0 : (i 0).val < 11008 := (i 0).isLt; have h1 : (i 1).val < 8192 := (i 1).isLt; show ((i 0).val * 8192 + (i 1).val) / 8192 % 128 < 128; omega⟩
  | ⟨2, _⟩ => ⟨((i 0).val * 8192 + (i 1).val) % 8192, by have h0 : (i 0).val < 11008 := (i 0).isLt; have h1 : (i 1).val < 8192 := (i 1).isLt; show ((i 0).val * 8192 + (i 1).val) % 8192 < 8192; omega⟩
theorem val_main_v31_apply (x2 : (⟨S11008x8192, .i8⟩ : BufTy).Contents (Elt F)) (x3 : (⟨S172x8192, .bf16⟩ : BufTy).Contents (Elt F)) (i : S11008x8192.Idx) :
    val_main_v31 (F := F) x2 x3 i = val_main_v30 (F := F) x2 x3 (idx_main_v31 i) := by
  unfold val_main_v31
  generalize val_main_v30 (F := F) x2 x3 = y
  exact shapeCast_apply y shapeCasts_S86x128x8192_S11008x8192 i (idx_main_v31 i)
    (by rewrite [Shape.rowMajor_val_three, Shape.rowMajor_val_two]; have h0 : (i 0).val < 11008 := (i 0).isLt; have h1 : (i 1).val < 8192 := (i 1).isLt; show (((i 0).val * 8192 + (i 1).val) / 1048576 * 128 + ((i 0).val * 8192 + (i 1).val) / 8192 % 128) * 8192 + ((i 0).val * 8192 + (i 1).val) % 8192 = (i 0).val * 8192 + (i 1).val; omega)

-- %32 = stablehlo.slice %arg3 [86:172, 0:8192] : (tensor<172x8192xbf16>) -> tensor<86x8192xbf16>
def val_main_v32 (x3 : (⟨S172x8192, .bf16⟩ : BufTy).Contents (Elt F)) : (⟨S86x8192, .bf16⟩ : BufTy).Contents (Elt F) :=
  extractStridedSlice S86x8192 ![86, 0] (x3) slices_S172x8192_S86x8192_86_0
set_option backward.proofsInPublic true in
abbrev idx_main_v32 (i : S86x8192.Idx) : S172x8192.Idx := fun a => match a with
  | ⟨0, _⟩ => ⟨86 + (i 0).val, by have h0 : (i 0).val < 86 := (i 0).isLt; show 86 + (i 0).val < 172; omega⟩
  | ⟨1, _⟩ => ⟨(i 1).val, (i 1).isLt⟩
theorem val_main_v32_apply (x3 : (⟨S172x8192, .bf16⟩ : BufTy).Contents (Elt F)) (i : S86x8192.Idx) :
    val_main_v32 (F := F) x3 i = x3 (idx_main_v32 i) := by
  unfold val_main_v32
  exact extractStridedSlice_apply ![86, 0] x3 slices_S172x8192_S86x8192_86_0 i (idx_main_v32 i) (fun a => match a with
    | ⟨0, _⟩ => by show 86 + (i 0).val = 86 + (i 0).val; omega
    | ⟨1, _⟩ => by show (i 1).val = 0 + (i 1).val; omega)

-- %33 = stablehlo.reshape %25 : (tensor<11008x8192xbf16>) -> tensor<86x128x8192xbf16>
def val_main_v33 (x2 : (⟨S11008x8192, .i8⟩ : BufTy).Contents (Elt F)) : (⟨S86x128x8192, .bf16⟩ : BufTy).Contents (Elt F) :=
  shapeCast _ (val_main_v25 (F := F) x2) shapeCasts_S11008x8192_S86x128x8192
set_option backward.proofsInPublic true in
abbrev idx_main_v33 (i : S86x128x8192.Idx) : S11008x8192.Idx := fun a => match a with
  | ⟨0, _⟩ => ⟨(((i 0).val * 128 + (i 1).val) * 8192 + (i 2).val) / 8192, by have h0 : (i 0).val < 86 := (i 0).isLt; have h1 : (i 1).val < 128 := (i 1).isLt; have h2 : (i 2).val < 8192 := (i 2).isLt; show (((i 0).val * 128 + (i 1).val) * 8192 + (i 2).val) / 8192 < 11008; omega⟩
  | ⟨1, _⟩ => ⟨(((i 0).val * 128 + (i 1).val) * 8192 + (i 2).val) % 8192, by have h0 : (i 0).val < 86 := (i 0).isLt; have h1 : (i 1).val < 128 := (i 1).isLt; have h2 : (i 2).val < 8192 := (i 2).isLt; show (((i 0).val * 128 + (i 1).val) * 8192 + (i 2).val) % 8192 < 8192; omega⟩
theorem val_main_v33_apply (x2 : (⟨S11008x8192, .i8⟩ : BufTy).Contents (Elt F)) (i : S86x128x8192.Idx) :
    val_main_v33 (F := F) x2 i = val_main_v25 (F := F) x2 (idx_main_v33 i) := by
  unfold val_main_v33
  generalize val_main_v25 (F := F) x2 = y
  exact shapeCast_apply y shapeCasts_S11008x8192_S86x128x8192 i (idx_main_v33 i)
    (by rewrite [Shape.rowMajor_val_two, Shape.rowMajor_val_three]; have h0 : (i 0).val < 86 := (i 0).isLt; have h1 : (i 1).val < 128 := (i 1).isLt; have h2 : (i 2).val < 8192 := (i 2).isLt; show (((i 0).val * 128 + (i 1).val) * 8192 + (i 2).val) / 8192 * 8192 + (((i 0).val * 128 + (i 1).val) * 8192 + (i 2).val) % 8192 = ((i 0).val * 128 + (i 1).val) * 8192 + (i 2).val; omega)

-- %34 = stablehlo.broadcast_in_dim %32, dims = [0, 2] : (tensor<86x8192xbf16>) -> tensor<86x1x8192xbf16>
def val_main_v34 (x3 : (⟨S172x8192, .bf16⟩ : BufTy).Contents (Elt F)) : (⟨S86x1x8192, .bf16⟩ : BufTy).Contents (Elt F) :=
  broadcastInDim S86x1x8192 ![0, 2] bcast_S86x8192_S86x1x8192_0_2 (val_main_v32 (F := F) x3)
abbrev idx_main_v34 (i : S86x1x8192.Idx) : S86x8192.Idx := fun a => match a with
  | ⟨0, _⟩ => ⟨(i 0).val, (i 0).isLt⟩
  | ⟨1, _⟩ => ⟨(i 2).val, (i 2).isLt⟩
theorem val_main_v34_apply (x3 : (⟨S172x8192, .bf16⟩ : BufTy).Contents (Elt F)) (i : S86x1x8192.Idx) :
    val_main_v34 (F := F) x3 i = val_main_v32 (F := F) x3 (idx_main_v34 i) := by
  unfold val_main_v34
  generalize val_main_v32 (F := F) x3 = y
  exact broadcastInDim_apply _ bcast_S86x8192_S86x1x8192_0_2 y i (idx_main_v34 i) (fun a => match a with
    | ⟨0, _⟩ => by show (i 0).val = if (86 : Nat) = 1 then 0 else (i 0).val; rw [if_neg (by decide)]
    | ⟨1, _⟩ => by show (i 2).val = if (8192 : Nat) = 1 then 0 else (i 2).val; rw [if_neg (by decide)])

-- %35 = stablehlo.broadcast_in_dim %34, dims = [0, 1, 2] : (tensor<86x1x8192xbf16>) -> tensor<86x128x8192xbf16>
def val_main_v35 (x3 : (⟨S172x8192, .bf16⟩ : BufTy).Contents (Elt F)) : (⟨S86x128x8192, .bf16⟩ : BufTy).Contents (Elt F) :=
  broadcastInDim S86x128x8192 ![0, 1, 2] bcast_S86x1x8192_S86x128x8192_0_1_2 (val_main_v34 (F := F) x3)
abbrev idx_main_v35 (i : S86x128x8192.Idx) : S86x1x8192.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v35_apply (x3 : (⟨S172x8192, .bf16⟩ : BufTy).Contents (Elt F)) (i : S86x128x8192.Idx) :
    val_main_v35 (F := F) x3 i = val_main_v34 (F := F) x3 (idx_main_v35 i) := by
  unfold val_main_v35
  generalize val_main_v34 (F := F) x3 = y
  exact broadcastInDim_apply _ bcast_S86x1x8192_S86x128x8192_0_1_2 y i (idx_main_v35 i) (fun a => match a with
    | ⟨0, _⟩ => by show (i 0).val = if (86 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %36 = stablehlo.multiply %33, %35 : tensor<86x128x8192xbf16>
def val_main_v36 (x2 : (⟨S11008x8192, .i8⟩ : BufTy).Contents (Elt F)) (x3 : (⟨S172x8192, .bf16⟩ : BufTy).Contents (Elt F)) : (⟨S86x128x8192, .bf16⟩ : BufTy).Contents (Elt F) :=
  mulf (val_main_v33 (F := F) x2) (val_main_v35 (F := F) x3)
theorem val_main_v36_apply (x2 : (⟨S11008x8192, .i8⟩ : BufTy).Contents (Elt F)) (x3 : (⟨S172x8192, .bf16⟩ : BufTy).Contents (Elt F)) (i : S86x128x8192.Idx) :
    val_main_v36 (F := F) x2 x3 i = FloatOps.mulf (val_main_v33 (F := F) x2 i) (val_main_v35 (F := F) x3 i) := rfl

-- %37 = stablehlo.reshape %36 : (tensor<86x128x8192xbf16>) -> tensor<11008x8192xbf16>
def val_main_v37 (x2 : (⟨S11008x8192, .i8⟩ : BufTy).Contents (Elt F)) (x3 : (⟨S172x8192, .bf16⟩ : BufTy).Contents (Elt F)) : (⟨S11008x8192, .bf16⟩ : BufTy).Contents (Elt F) :=
  shapeCast _ (val_main_v36 (F := F) x2 x3) shapeCasts_S86x128x8192_S11008x8192
set_option backward.proofsInPublic true in
abbrev idx_main_v37 (i : S11008x8192.Idx) : S86x128x8192.Idx := fun a => match a with
  | ⟨0, _⟩ => ⟨((i 0).val * 8192 + (i 1).val) / 1048576, by have h0 : (i 0).val < 11008 := (i 0).isLt; have h1 : (i 1).val < 8192 := (i 1).isLt; show ((i 0).val * 8192 + (i 1).val) / 1048576 < 86; omega⟩
  | ⟨1, _⟩ => ⟨((i 0).val * 8192 + (i 1).val) / 8192 % 128, by have h0 : (i 0).val < 11008 := (i 0).isLt; have h1 : (i 1).val < 8192 := (i 1).isLt; show ((i 0).val * 8192 + (i 1).val) / 8192 % 128 < 128; omega⟩
  | ⟨2, _⟩ => ⟨((i 0).val * 8192 + (i 1).val) % 8192, by have h0 : (i 0).val < 11008 := (i 0).isLt; have h1 : (i 1).val < 8192 := (i 1).isLt; show ((i 0).val * 8192 + (i 1).val) % 8192 < 8192; omega⟩
theorem val_main_v37_apply (x2 : (⟨S11008x8192, .i8⟩ : BufTy).Contents (Elt F)) (x3 : (⟨S172x8192, .bf16⟩ : BufTy).Contents (Elt F)) (i : S11008x8192.Idx) :
    val_main_v37 (F := F) x2 x3 i = val_main_v36 (F := F) x2 x3 (idx_main_v37 i) := by
  unfold val_main_v37
  generalize val_main_v36 (F := F) x2 x3 = y
  exact shapeCast_apply y shapeCasts_S86x128x8192_S11008x8192 i (idx_main_v37 i)
    (by rewrite [Shape.rowMajor_val_three, Shape.rowMajor_val_two]; have h0 : (i 0).val < 11008 := (i 0).isLt; have h1 : (i 1).val < 8192 := (i 1).isLt; show (((i 0).val * 8192 + (i 1).val) / 1048576 * 128 + ((i 0).val * 8192 + (i 1).val) / 8192 % 128) * 8192 + ((i 0).val * 8192 + (i 1).val) % 8192 = (i 0).val * 8192 + (i 1).val; omega)

-- %38 = stablehlo.slice %arg0 [0:40, 0:11008] : (tensor<40x22016xbf16>) -> tensor<40x11008xbf16>
def val_main_v38 (x0 : (⟨S40x22016, .bf16⟩ : BufTy).Contents (Elt F)) : (⟨S40x11008, .bf16⟩ : BufTy).Contents (Elt F) :=
  extractStridedSlice S40x11008 ![0, 0] (x0) slices_S40x22016_S40x11008_0_0
set_option backward.proofsInPublic true in
abbrev idx_main_v38 (i : S40x11008.Idx) : S40x22016.Idx := fun a => match a with
  | ⟨0, _⟩ => ⟨(i 0).val, (i 0).isLt⟩
  | ⟨1, _⟩ => ⟨(i 1).val, by have h1 : (i 1).val < 11008 := (i 1).isLt; show (i 1).val < 22016; omega⟩
theorem val_main_v38_apply (x0 : (⟨S40x22016, .bf16⟩ : BufTy).Contents (Elt F)) (i : S40x11008.Idx) :
    val_main_v38 (F := F) x0 i = x0 (idx_main_v38 i) := by
  unfold val_main_v38
  exact extractStridedSlice_apply ![0, 0] x0 slices_S40x22016_S40x11008_0_0 i (idx_main_v38 i) (fun a => match a with
    | ⟨0, _⟩ => by show (i 0).val = 0 + (i 0).val; omega
    | ⟨1, _⟩ => by show (i 1).val = 0 + (i 1).val; omega)

-- %39 = stablehlo.dot_general %38, %31, contracting_dims = [1] x [0], precision = [DEFAULT, DEFAULT] : (tensor<40x11008xbf16>, tensor<11008x8192xbf16>) -> tensor<40x8192xf32>
def val_main_v39 (x0 : (⟨S40x22016, .bf16⟩ : BufTy).Contents (Elt F)) (x2 : (⟨S11008x8192, .i8⟩ : BufTy).Contents (Elt F)) (x3 : (⟨S172x8192, .bf16⟩ : BufTy).Contents (Elt F)) : (⟨S40x8192, .f32⟩ : BufTy).Contents (Elt F) :=
  Host.dotGeneral dot_S40x11008_S11008x8192_S40x8192_1_0_0_1_n_n none (val_main_v38 (F := F) x0) (val_main_v31 (F := F) x2 x3)
theorem lhs_main_v39_0 (i : S40x8192.Idx) (q : dot_S40x11008_S11008x8192_S40x8192_1_0_0_1_n_n.contr.Idx) :
    (dot_S40x11008_S11008x8192_S40x8192_1_0_0_1_n_n.lhsIdx i q 0).val = (i 0).val := by
  unfold DotDims.lhsIdx
  rw [dif_neg (show ¬(0 : Fin S40x11008.rank) ∈ dot_S40x11008_S11008x8192_S40x8192_1_0_0_1_n_n.lhsBatch by decide), dif_pos (show (0 : Fin S40x11008.rank) ∈ dot_S40x11008_S11008x8192_S40x8192_1_0_0_1_n_n.lhsNonContracting by decide)]
  rfl
theorem lhs_main_v39_1 (i : S40x8192.Idx) (q : dot_S40x11008_S11008x8192_S40x8192_1_0_0_1_n_n.contr.Idx) :
    (dot_S40x11008_S11008x8192_S40x8192_1_0_0_1_n_n.lhsIdx i q 1).val = (q ⟨0, by decide⟩).val :=
  dot_S40x11008_S11008x8192_S40x8192_1_0_0_1_n_n.lhsIdx_val_of_single rfl i q
theorem rhs_main_v39_0 (i : S40x8192.Idx) (q : dot_S40x11008_S11008x8192_S40x8192_1_0_0_1_n_n.contr.Idx) :
    (dot_S40x11008_S11008x8192_S40x8192_1_0_0_1_n_n.rhsIdx i q 0).val = (q ⟨0, by decide⟩).val :=
  dot_S40x11008_S11008x8192_S40x8192_1_0_0_1_n_n.rhsIdx_val_of_single rfl i q
theorem rhs_main_v39_1 (i : S40x8192.Idx) (q : dot_S40x11008_S11008x8192_S40x8192_1_0_0_1_n_n.contr.Idx) :
    (dot_S40x11008_S11008x8192_S40x8192_1_0_0_1_n_n.rhsIdx i q 1).val = (i 1).val := by
  unfold DotDims.rhsIdx
  rw [dif_neg (show ¬(1 : Fin S11008x8192.rank) ∈ dot_S40x11008_S11008x8192_S40x8192_1_0_0_1_n_n.rhsBatch by decide), dif_pos (show (1 : Fin S11008x8192.rank) ∈ dot_S40x11008_S11008x8192_S40x8192_1_0_0_1_n_n.rhsNonContracting by decide)]
  rfl
abbrev lidx_main_v39 (i : S40x8192.Idx) (k : Fin 11008) : S40x11008.Idx := fun a => match a with
  | ⟨0, _⟩ => ⟨(i 0).val, (i 0).isLt⟩
  | ⟨1, _⟩ => ⟨k.val, k.isLt⟩
abbrev ridx_main_v39 (i : S40x8192.Idx) (k : Fin 11008) : S11008x8192.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v39_apply (x0 : (⟨S40x22016, .bf16⟩ : BufTy).Contents (Elt Ideal)) (x2 : (⟨S11008x8192, .i8⟩ : BufTy).Contents (Elt Ideal)) (x3 : (⟨S172x8192, .bf16⟩ : BufTy).Contents (Elt Ideal)) (i : S40x8192.Idx) :
    val_main_v39 (F := Ideal) x0 x2 x3 i = ∑ k : Fin 11008, (val_main_v38 (F := Ideal) x0) (lidx_main_v39 i k) * (val_main_v31 (F := Ideal) x2 x3) (ridx_main_v39 i k) := by
  unfold val_main_v39
  generalize val_main_v38 (F := Ideal) x0 = y0
  generalize val_main_v31 (F := Ideal) x2 x3 = y1
  simp only [Host.dotGeneral]
  rw [Ideal.dotGeneral_apply, ← Equiv.sum_comp (ValueIdx.contrEquiv1 dot_S40x11008_S11008x8192_S40x8192_1_0_0_1_n_n 11008 rfl rfl).symm]
  refine Finset.sum_congr rfl fun k _ => ?_
  have hk := ValueIdx.contrEquiv1_symm_val dot_S40x11008_S11008x8192_S40x8192_1_0_0_1_n_n 11008 rfl rfl k
  have el : dot_S40x11008_S11008x8192_S40x8192_1_0_0_1_n_n.lhsIdx i ((ValueIdx.contrEquiv1 dot_S40x11008_S11008x8192_S40x8192_1_0_0_1_n_n 11008 rfl rfl).symm k) = lidx_main_v39 i k := funext fun a => Fin.ext (by
    match a with
    | ⟨0, _⟩ => exact lhs_main_v39_0 _ _
    | ⟨1, _⟩ => exact (lhs_main_v39_1 _ _).trans hk)
  have er : dot_S40x11008_S11008x8192_S40x8192_1_0_0_1_n_n.rhsIdx i ((ValueIdx.contrEquiv1 dot_S40x11008_S11008x8192_S40x8192_1_0_0_1_n_n 11008 rfl rfl).symm k) = ridx_main_v39 i k := funext fun a => Fin.ext (by
    match a with
    | ⟨0, _⟩ => exact (rhs_main_v39_0 _ _).trans hk
    | ⟨1, _⟩ => exact rhs_main_v39_1 _ _)
  rw [el, er]

-- %40 = stablehlo.slice %arg0 [0:40, 11008:22016] : (tensor<40x22016xbf16>) -> tensor<40x11008xbf16>
def val_main_v40 (x0 : (⟨S40x22016, .bf16⟩ : BufTy).Contents (Elt F)) : (⟨S40x11008, .bf16⟩ : BufTy).Contents (Elt F) :=
  extractStridedSlice S40x11008 ![0, 11008] (x0) slices_S40x22016_S40x11008_0_11008
set_option backward.proofsInPublic true in
abbrev idx_main_v40 (i : S40x11008.Idx) : S40x22016.Idx := fun a => match a with
  | ⟨0, _⟩ => ⟨(i 0).val, (i 0).isLt⟩
  | ⟨1, _⟩ => ⟨11008 + (i 1).val, by have h1 : (i 1).val < 11008 := (i 1).isLt; show 11008 + (i 1).val < 22016; omega⟩
theorem val_main_v40_apply (x0 : (⟨S40x22016, .bf16⟩ : BufTy).Contents (Elt F)) (i : S40x11008.Idx) :
    val_main_v40 (F := F) x0 i = x0 (idx_main_v40 i) := by
  unfold val_main_v40
  exact extractStridedSlice_apply ![0, 11008] x0 slices_S40x22016_S40x11008_0_11008 i (idx_main_v40 i) (fun a => match a with
    | ⟨0, _⟩ => by show (i 0).val = 0 + (i 0).val; omega
    | ⟨1, _⟩ => by show 11008 + (i 1).val = 11008 + (i 1).val; omega)

-- %41 = stablehlo.dot_general %40, %37, contracting_dims = [1] x [0], precision = [DEFAULT, DEFAULT] : (tensor<40x11008xbf16>, tensor<11008x8192xbf16>) -> tensor<40x8192xf32>
def val_main_v41 (x0 : (⟨S40x22016, .bf16⟩ : BufTy).Contents (Elt F)) (x2 : (⟨S11008x8192, .i8⟩ : BufTy).Contents (Elt F)) (x3 : (⟨S172x8192, .bf16⟩ : BufTy).Contents (Elt F)) : (⟨S40x8192, .f32⟩ : BufTy).Contents (Elt F) :=
  Host.dotGeneral dot_S40x11008_S11008x8192_S40x8192_1_0_0_1_n_n none (val_main_v40 (F := F) x0) (val_main_v37 (F := F) x2 x3)
theorem lhs_main_v41_0 (i : S40x8192.Idx) (q : dot_S40x11008_S11008x8192_S40x8192_1_0_0_1_n_n.contr.Idx) :
    (dot_S40x11008_S11008x8192_S40x8192_1_0_0_1_n_n.lhsIdx i q 0).val = (i 0).val := by
  unfold DotDims.lhsIdx
  rw [dif_neg (show ¬(0 : Fin S40x11008.rank) ∈ dot_S40x11008_S11008x8192_S40x8192_1_0_0_1_n_n.lhsBatch by decide), dif_pos (show (0 : Fin S40x11008.rank) ∈ dot_S40x11008_S11008x8192_S40x8192_1_0_0_1_n_n.lhsNonContracting by decide)]
  rfl
theorem lhs_main_v41_1 (i : S40x8192.Idx) (q : dot_S40x11008_S11008x8192_S40x8192_1_0_0_1_n_n.contr.Idx) :
    (dot_S40x11008_S11008x8192_S40x8192_1_0_0_1_n_n.lhsIdx i q 1).val = (q ⟨0, by decide⟩).val :=
  dot_S40x11008_S11008x8192_S40x8192_1_0_0_1_n_n.lhsIdx_val_of_single rfl i q
theorem rhs_main_v41_0 (i : S40x8192.Idx) (q : dot_S40x11008_S11008x8192_S40x8192_1_0_0_1_n_n.contr.Idx) :
    (dot_S40x11008_S11008x8192_S40x8192_1_0_0_1_n_n.rhsIdx i q 0).val = (q ⟨0, by decide⟩).val :=
  dot_S40x11008_S11008x8192_S40x8192_1_0_0_1_n_n.rhsIdx_val_of_single rfl i q
theorem rhs_main_v41_1 (i : S40x8192.Idx) (q : dot_S40x11008_S11008x8192_S40x8192_1_0_0_1_n_n.contr.Idx) :
    (dot_S40x11008_S11008x8192_S40x8192_1_0_0_1_n_n.rhsIdx i q 1).val = (i 1).val := by
  unfold DotDims.rhsIdx
  rw [dif_neg (show ¬(1 : Fin S11008x8192.rank) ∈ dot_S40x11008_S11008x8192_S40x8192_1_0_0_1_n_n.rhsBatch by decide), dif_pos (show (1 : Fin S11008x8192.rank) ∈ dot_S40x11008_S11008x8192_S40x8192_1_0_0_1_n_n.rhsNonContracting by decide)]
  rfl
abbrev lidx_main_v41 (i : S40x8192.Idx) (k : Fin 11008) : S40x11008.Idx := fun a => match a with
  | ⟨0, _⟩ => ⟨(i 0).val, (i 0).isLt⟩
  | ⟨1, _⟩ => ⟨k.val, k.isLt⟩
abbrev ridx_main_v41 (i : S40x8192.Idx) (k : Fin 11008) : S11008x8192.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v41_apply (x0 : (⟨S40x22016, .bf16⟩ : BufTy).Contents (Elt Ideal)) (x2 : (⟨S11008x8192, .i8⟩ : BufTy).Contents (Elt Ideal)) (x3 : (⟨S172x8192, .bf16⟩ : BufTy).Contents (Elt Ideal)) (i : S40x8192.Idx) :
    val_main_v41 (F := Ideal) x0 x2 x3 i = ∑ k : Fin 11008, (val_main_v40 (F := Ideal) x0) (lidx_main_v41 i k) * (val_main_v37 (F := Ideal) x2 x3) (ridx_main_v41 i k) := by
  unfold val_main_v41
  generalize val_main_v40 (F := Ideal) x0 = y0
  generalize val_main_v37 (F := Ideal) x2 x3 = y1
  simp only [Host.dotGeneral]
  rw [Ideal.dotGeneral_apply, ← Equiv.sum_comp (ValueIdx.contrEquiv1 dot_S40x11008_S11008x8192_S40x8192_1_0_0_1_n_n 11008 rfl rfl).symm]
  refine Finset.sum_congr rfl fun k _ => ?_
  have hk := ValueIdx.contrEquiv1_symm_val dot_S40x11008_S11008x8192_S40x8192_1_0_0_1_n_n 11008 rfl rfl k
  have el : dot_S40x11008_S11008x8192_S40x8192_1_0_0_1_n_n.lhsIdx i ((ValueIdx.contrEquiv1 dot_S40x11008_S11008x8192_S40x8192_1_0_0_1_n_n 11008 rfl rfl).symm k) = lidx_main_v41 i k := funext fun a => Fin.ext (by
    match a with
    | ⟨0, _⟩ => exact lhs_main_v41_0 _ _
    | ⟨1, _⟩ => exact (lhs_main_v41_1 _ _).trans hk)
  have er : dot_S40x11008_S11008x8192_S40x8192_1_0_0_1_n_n.rhsIdx i ((ValueIdx.contrEquiv1 dot_S40x11008_S11008x8192_S40x8192_1_0_0_1_n_n 11008 rfl rfl).symm k) = ridx_main_v41 i k := funext fun a => Fin.ext (by
    match a with
    | ⟨0, _⟩ => exact (rhs_main_v41_0 _ _).trans hk
    | ⟨1, _⟩ => exact rhs_main_v41_1 _ _)
  rw [el, er]

-- %42 = stablehlo.add %39, %41 : tensor<40x8192xf32>
def val_main_v42 (x0 : (⟨S40x22016, .bf16⟩ : BufTy).Contents (Elt F)) (x2 : (⟨S11008x8192, .i8⟩ : BufTy).Contents (Elt F)) (x3 : (⟨S172x8192, .bf16⟩ : BufTy).Contents (Elt F)) : (⟨S40x8192, .f32⟩ : BufTy).Contents (Elt F) :=
  addf (val_main_v39 (F := F) x0 x2 x3) (val_main_v41 (F := F) x0 x2 x3)
theorem val_main_v42_apply (x0 : (⟨S40x22016, .bf16⟩ : BufTy).Contents (Elt F)) (x2 : (⟨S11008x8192, .i8⟩ : BufTy).Contents (Elt F)) (x3 : (⟨S172x8192, .bf16⟩ : BufTy).Contents (Elt F)) (i : S40x8192.Idx) :
    val_main_v42 (F := F) x0 x2 x3 i = FloatOps.addf (val_main_v39 (F := F) x0 x2 x3 i) (val_main_v41 (F := F) x0 x2 x3 i) := rfl

-- %43 = stablehlo.dot_general %arg0, %arg4, contracting_dims = [1] x [1], precision = [DEFAULT, DEFAULT] : (tensor<40x22016xbf16>, tensor<5x22016x16xbf16>) -> tensor<40x5x16xf32>
def val_main_v43 (x0 : (⟨S40x22016, .bf16⟩ : BufTy).Contents (Elt F)) (x4 : (⟨S5x22016x16, .bf16⟩ : BufTy).Contents (Elt F)) : (⟨S40x5x16, .f32⟩ : BufTy).Contents (Elt F) :=
  Host.dotGeneral dot_S40x22016_S5x22016x16_S40x5x16_1_1_0_02_n_n none (x0) (x4)
theorem lhs_main_v43_0 (i : S40x5x16.Idx) (q : dot_S40x22016_S5x22016x16_S40x5x16_1_1_0_02_n_n.contr.Idx) :
    (dot_S40x22016_S5x22016x16_S40x5x16_1_1_0_02_n_n.lhsIdx i q 0).val = (i 0).val := by
  unfold DotDims.lhsIdx
  rw [dif_neg (show ¬(0 : Fin S40x22016.rank) ∈ dot_S40x22016_S5x22016x16_S40x5x16_1_1_0_02_n_n.lhsBatch by decide), dif_pos (show (0 : Fin S40x22016.rank) ∈ dot_S40x22016_S5x22016x16_S40x5x16_1_1_0_02_n_n.lhsNonContracting by decide)]
  rfl
theorem lhs_main_v43_1 (i : S40x5x16.Idx) (q : dot_S40x22016_S5x22016x16_S40x5x16_1_1_0_02_n_n.contr.Idx) :
    (dot_S40x22016_S5x22016x16_S40x5x16_1_1_0_02_n_n.lhsIdx i q 1).val = (q ⟨0, by decide⟩).val :=
  dot_S40x22016_S5x22016x16_S40x5x16_1_1_0_02_n_n.lhsIdx_val_of_single rfl i q
theorem rhs_main_v43_0 (i : S40x5x16.Idx) (q : dot_S40x22016_S5x22016x16_S40x5x16_1_1_0_02_n_n.contr.Idx) :
    (dot_S40x22016_S5x22016x16_S40x5x16_1_1_0_02_n_n.rhsIdx i q 0).val = (i 1).val := by
  unfold DotDims.rhsIdx
  rw [dif_neg (show ¬(0 : Fin S5x22016x16.rank) ∈ dot_S40x22016_S5x22016x16_S40x5x16_1_1_0_02_n_n.rhsBatch by decide), dif_pos (show (0 : Fin S5x22016x16.rank) ∈ dot_S40x22016_S5x22016x16_S40x5x16_1_1_0_02_n_n.rhsNonContracting by decide)]
  rfl
theorem rhs_main_v43_1 (i : S40x5x16.Idx) (q : dot_S40x22016_S5x22016x16_S40x5x16_1_1_0_02_n_n.contr.Idx) :
    (dot_S40x22016_S5x22016x16_S40x5x16_1_1_0_02_n_n.rhsIdx i q 1).val = (q ⟨0, by decide⟩).val :=
  dot_S40x22016_S5x22016x16_S40x5x16_1_1_0_02_n_n.rhsIdx_val_of_single rfl i q
theorem rhs_main_v43_2 (i : S40x5x16.Idx) (q : dot_S40x22016_S5x22016x16_S40x5x16_1_1_0_02_n_n.contr.Idx) :
    (dot_S40x22016_S5x22016x16_S40x5x16_1_1_0_02_n_n.rhsIdx i q 2).val = (i 2).val := by
  unfold DotDims.rhsIdx
  rw [dif_neg (show ¬(2 : Fin S5x22016x16.rank) ∈ dot_S40x22016_S5x22016x16_S40x5x16_1_1_0_02_n_n.rhsBatch by decide), dif_pos (show (2 : Fin S5x22016x16.rank) ∈ dot_S40x22016_S5x22016x16_S40x5x16_1_1_0_02_n_n.rhsNonContracting by decide)]
  rfl
abbrev lidx_main_v43 (i : S40x5x16.Idx) (k : Fin 22016) : S40x22016.Idx := fun a => match a with
  | ⟨0, _⟩ => ⟨(i 0).val, (i 0).isLt⟩
  | ⟨1, _⟩ => ⟨k.val, k.isLt⟩
abbrev ridx_main_v43 (i : S40x5x16.Idx) (k : Fin 22016) : S5x22016x16.Idx := fun a => match a with
  | ⟨0, _⟩ => ⟨(i 1).val, (i 1).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v43_apply (x0 : (⟨S40x22016, .bf16⟩ : BufTy).Contents (Elt Ideal)) (x4 : (⟨S5x22016x16, .bf16⟩ : BufTy).Contents (Elt Ideal)) (i : S40x5x16.Idx) :
    val_main_v43 (F := Ideal) x0 x4 i = ∑ k : Fin 22016, x0 (lidx_main_v43 i k) * x4 (ridx_main_v43 i k) := by
  unfold val_main_v43
  simp only [Host.dotGeneral]
  rw [Ideal.dotGeneral_apply, ← Equiv.sum_comp (ValueIdx.contrEquiv1 dot_S40x22016_S5x22016x16_S40x5x16_1_1_0_02_n_n 22016 rfl rfl).symm]
  refine Finset.sum_congr rfl fun k _ => ?_
  have hk := ValueIdx.contrEquiv1_symm_val dot_S40x22016_S5x22016x16_S40x5x16_1_1_0_02_n_n 22016 rfl rfl k
  have el : dot_S40x22016_S5x22016x16_S40x5x16_1_1_0_02_n_n.lhsIdx i ((ValueIdx.contrEquiv1 dot_S40x22016_S5x22016x16_S40x5x16_1_1_0_02_n_n 22016 rfl rfl).symm k) = lidx_main_v43 i k := funext fun a => Fin.ext (by
    match a with
    | ⟨0, _⟩ => exact lhs_main_v43_0 _ _
    | ⟨1, _⟩ => exact (lhs_main_v43_1 _ _).trans hk)
  have er : dot_S40x22016_S5x22016x16_S40x5x16_1_1_0_02_n_n.rhsIdx i ((ValueIdx.contrEquiv1 dot_S40x22016_S5x22016x16_S40x5x16_1_1_0_02_n_n 22016 rfl rfl).symm k) = ridx_main_v43 i k := funext fun a => Fin.ext (by
    match a with
    | ⟨0, _⟩ => exact rhs_main_v43_0 _ _
    | ⟨1, _⟩ => exact (rhs_main_v43_1 _ _).trans hk
    | ⟨2, _⟩ => exact rhs_main_v43_2 _ _)
  rw [el, er]

-- %44 = stablehlo.dot_general %0, %43, batching_dims = [0] x [0], contracting_dims = [1] x [1], precision = [HIGHEST, HIGHEST] : (tensor<40x5xf32>, tensor<40x5x16xf32>) -> tensor<40x16xf32>
def val_main_v44 (x0 : (⟨S40x22016, .bf16⟩ : BufTy).Contents (Elt F)) (x1 : (⟨S40, .i32⟩ : BufTy).Contents (Elt F)) (x4 : (⟨S5x22016x16, .bf16⟩ : BufTy).Contents (Elt F)) : (⟨S40x16, .f32⟩ : BufTy).Contents (Elt F) :=
  Host.dotGeneral dot_S40x5_S40x5x16_S40x16_1_1_n_2_0_0 (some .fp32) (val_main_v0 (F := F) x1) (val_main_v43 (F := F) x0 x4)
theorem lhs_main_v44_0 (i : S40x16.Idx) (q : dot_S40x5_S40x5x16_S40x16_1_1_n_2_0_0.contr.Idx) :
    (dot_S40x5_S40x5x16_S40x16_1_1_n_2_0_0.lhsIdx i q 0).val = (i 0).val := by
  unfold DotDims.lhsIdx
  rw [dif_pos (show (0 : Fin S40x5.rank) ∈ dot_S40x5_S40x5x16_S40x16_1_1_n_2_0_0.lhsBatch by decide)]
  rfl
theorem lhs_main_v44_1 (i : S40x16.Idx) (q : dot_S40x5_S40x5x16_S40x16_1_1_n_2_0_0.contr.Idx) :
    (dot_S40x5_S40x5x16_S40x16_1_1_n_2_0_0.lhsIdx i q 1).val = (q ⟨0, by decide⟩).val :=
  dot_S40x5_S40x5x16_S40x16_1_1_n_2_0_0.lhsIdx_val_of_single rfl i q
theorem rhs_main_v44_0 (i : S40x16.Idx) (q : dot_S40x5_S40x5x16_S40x16_1_1_n_2_0_0.contr.Idx) :
    (dot_S40x5_S40x5x16_S40x16_1_1_n_2_0_0.rhsIdx i q 0).val = (i 0).val := by
  unfold DotDims.rhsIdx
  rw [dif_pos (show (0 : Fin S40x5x16.rank) ∈ dot_S40x5_S40x5x16_S40x16_1_1_n_2_0_0.rhsBatch by decide)]
  rfl
theorem rhs_main_v44_1 (i : S40x16.Idx) (q : dot_S40x5_S40x5x16_S40x16_1_1_n_2_0_0.contr.Idx) :
    (dot_S40x5_S40x5x16_S40x16_1_1_n_2_0_0.rhsIdx i q 1).val = (q ⟨0, by decide⟩).val :=
  dot_S40x5_S40x5x16_S40x16_1_1_n_2_0_0.rhsIdx_val_of_single rfl i q
theorem rhs_main_v44_2 (i : S40x16.Idx) (q : dot_S40x5_S40x5x16_S40x16_1_1_n_2_0_0.contr.Idx) :
    (dot_S40x5_S40x5x16_S40x16_1_1_n_2_0_0.rhsIdx i q 2).val = (i 1).val := by
  unfold DotDims.rhsIdx
  rw [dif_neg (show ¬(2 : Fin S40x5x16.rank) ∈ dot_S40x5_S40x5x16_S40x16_1_1_n_2_0_0.rhsBatch by decide), dif_pos (show (2 : Fin S40x5x16.rank) ∈ dot_S40x5_S40x5x16_S40x16_1_1_n_2_0_0.rhsNonContracting by decide)]
  rfl
abbrev lidx_main_v44 (i : S40x16.Idx) (k : Fin 5) : S40x5.Idx := fun a => match a with
  | ⟨0, _⟩ => ⟨(i 0).val, (i 0).isLt⟩
  | ⟨1, _⟩ => ⟨k.val, k.isLt⟩
abbrev ridx_main_v44 (i : S40x16.Idx) (k : Fin 5) : S40x5x16.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's `dot_general` is this sum; at a bit-exact instance it is an opaque function of its operands. -/
theorem val_main_v44_apply (x0 : (⟨S40x22016, .bf16⟩ : BufTy).Contents (Elt Ideal)) (x1 : (⟨S40, .i32⟩ : BufTy).Contents (Elt Ideal)) (x4 : (⟨S5x22016x16, .bf16⟩ : BufTy).Contents (Elt Ideal)) (i : S40x16.Idx) :
    val_main_v44 (F := Ideal) x0 x1 x4 i = ∑ k : Fin 5, (val_main_v0 (F := Ideal) x1) (lidx_main_v44 i k) * (val_main_v43 (F := Ideal) x0 x4) (ridx_main_v44 i k) := by
  unfold val_main_v44
  generalize val_main_v0 (F := Ideal) x1 = y0
  generalize val_main_v43 (F := Ideal) x0 x4 = y1
  simp only [Host.dotGeneral]
  rw [Ideal.dotGeneral_apply, ← Equiv.sum_comp (ValueIdx.contrEquiv1 dot_S40x5_S40x5x16_S40x16_1_1_n_2_0_0 5 rfl rfl).symm]
  refine Finset.sum_congr rfl fun k _ => ?_
  have hk := ValueIdx.contrEquiv1_symm_val dot_S40x5_S40x5x16_S40x16_1_1_n_2_0_0 5 rfl rfl k
  have el : dot_S40x5_S40x5x16_S40x16_1_1_n_2_0_0.lhsIdx i ((ValueIdx.contrEquiv1 dot_S40x5_S40x5x16_S40x16_1_1_n_2_0_0 5 rfl rfl).symm k) = lidx_main_v44 i k := funext fun a => Fin.ext (by
    match a with
    | ⟨0, _⟩ => exact lhs_main_v44_0 _ _
    | ⟨1, _⟩ => exact (lhs_main_v44_1 _ _).trans hk)
  have er : dot_S40x5_S40x5x16_S40x16_1_1_n_2_0_0.rhsIdx i ((ValueIdx.contrEquiv1 dot_S40x5_S40x5x16_S40x16_1_1_n_2_0_0 5 rfl rfl).symm k) = ridx_main_v44 i k := funext fun a => Fin.ext (by
    match a with
    | ⟨0, _⟩ => exact rhs_main_v44_0 _ _
    | ⟨1, _⟩ => exact (rhs_main_v44_1 _ _).trans hk
    | ⟨2, _⟩ => exact rhs_main_v44_2 _ _)
  rw [el, er]

-- %45 = stablehlo.broadcast_in_dim %8, dims = [0] : (tensor<40xf32>) -> tensor<40x1xf32>
def val_main_v45 (x1 : (⟨S40, .i32⟩ : BufTy).Contents (Elt F)) (x6 : (⟨S5, .f32⟩ : BufTy).Contents (Elt F)) : (⟨S40x1, .f32⟩ : BufTy).Contents (Elt F) :=
  broadcastInDim S40x1 ![0] bcast_S40_S40x1_0 (val_main_v8 (F := F) x1 x6)
abbrev idx_main_v45 (i : S40x1.Idx) : S40.Idx := fun a => match a with
  | ⟨0, _⟩ => ⟨(i 0).val, (i 0).isLt⟩
theorem val_main_v45_apply (x1 : (⟨S40, .i32⟩ : BufTy).Contents (Elt F)) (x6 : (⟨S5, .f32⟩ : BufTy).Contents (Elt F)) (i : S40x1.Idx) :
    val_main_v45 (F := F) x1 x6 i = val_main_v8 (F := F) x1 x6 (idx_main_v45 i) := by
  unfold val_main_v45
  generalize val_main_v8 (F := F) x1 x6 = y
  exact broadcastInDim_apply _ bcast_S40_S40x1_0 y i (idx_main_v45 i) (fun a => match a with
    | ⟨0, _⟩ => by show (i 0).val = if (40 : Nat) = 1 then 0 else (i 0).val; rw [if_neg (by decide)])

-- %46 = stablehlo.broadcast_in_dim %45, dims = [0, 1] : (tensor<40x1xf32>) -> tensor<40x16xf32>
def val_main_v46 (x1 : (⟨S40, .i32⟩ : BufTy).Contents (Elt F)) (x6 : (⟨S5, .f32⟩ : BufTy).Contents (Elt F)) : (⟨S40x16, .f32⟩ : BufTy).Contents (Elt F) :=
  broadcastInDim S40x16 ![0, 1] bcast_S40x1_S40x16_0_1 (val_main_v45 (F := F) x1 x6)
abbrev idx_main_v46 (i : S40x16.Idx) : S40x1.Idx := fun a => match a with
  | ⟨0, _⟩ => ⟨(i 0).val, (i 0).isLt⟩
  | ⟨1, _⟩ => ⟨0, Nat.one_pos⟩
theorem val_main_v46_apply (x1 : (⟨S40, .i32⟩ : BufTy).Contents (Elt F)) (x6 : (⟨S5, .f32⟩ : BufTy).Contents (Elt F)) (i : S40x16.Idx) :
    val_main_v46 (F := F) x1 x6 i = val_main_v45 (F := F) x1 x6 (idx_main_v46 i) := by
  unfold val_main_v46
  generalize val_main_v45 (F := F) x1 x6 = y
  exact broadcastInDim_apply _ bcast_S40x1_S40x16_0_1 y i (idx_main_v46 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl])

-- %47 = stablehlo.multiply %44, %46 : tensor<40x16xf32>
def val_main_v47 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S40x16, .f32⟩ : BufTy).Contents (Elt F) :=
  mulf (val_main_v44 (F := F) x0 x1 x4) (val_main_v46 (F := F) x1 x6)
theorem val_main_v47_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S40x16.Idx) :
    val_main_v47 (F := F) x0 x1 x4 x6 i = FloatOps.mulf (val_main_v44 (F := F) x0 x1 x4 i) (val_main_v46 (F := F) x1 x6 i) := rfl

-- %48 = stablehlo.convert %47 : (tensor<40x16xf32>) -> tensor<40x16xbf16>
def val_main_v48 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S40x16, .bf16⟩ : BufTy).Contents (Elt F) :=
  truncf .bf16 (val_main_v47 (F := F) x0 x1 x4 x6) bitsLt_bf16_f32
theorem val_main_v48_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S40x16.Idx) :
    val_main_v48 (F := F) x0 x1 x4 x6 i = FloatOps.truncf .bf16 bitsLt_bf16_f32 (val_main_v47 (F := F) x0 x1 x4 x6 i) := rfl

-- %49 = stablehlo.broadcast_in_dim %1, dims = [0, 1] : (tensor<40x5xbf16>) -> tensor<40x5x1xbf16>
def val_main_v49 (x1 : (⟨S40, .i32⟩ : BufTy).Contents (Elt F)) : (⟨S40x5x1, .bf16⟩ : BufTy).Contents (Elt F) :=
  broadcastInDim S40x5x1 ![0, 1] bcast_S40x5_S40x5x1_0_1 (val_main_v1 (F := F) x1)
abbrev idx_main_v49 (i : S40x5x1.Idx) : S40x5.Idx := fun a => match a with
  | ⟨0, _⟩ => ⟨(i 0).val, (i 0).isLt⟩
  | ⟨1, _⟩ => ⟨(i 1).val, (i 1).isLt⟩
theorem val_main_v49_apply (x1 : (⟨S40, .i32⟩ : BufTy).Contents (Elt F)) (i : S40x5x1.Idx) :
    val_main_v49 (F := F) x1 i = val_main_v1 (F := F) x1 (idx_main_v49 i) := by
  unfold val_main_v49
  generalize val_main_v1 (F := F) x1 = y
  exact broadcastInDim_apply _ bcast_S40x5_S40x5x1_0_1 y i (idx_main_v49 i) (fun a => match a with
    | ⟨0, _⟩ => by show (i 0).val = if (40 : Nat) = 1 then 0 else (i 0).val; rw [if_neg (by decide)]
    | ⟨1, _⟩ => by show (i 1).val = if (5 : Nat) = 1 then 0 else (i 1).val; rw [if_neg (by decide)])

-- %50 = stablehlo.broadcast_in_dim %48, dims = [0, 2] : (tensor<40x16xbf16>) -> tensor<40x1x16xbf16>
def val_main_v50 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S40x1x16, .bf16⟩ : BufTy).Contents (Elt F) :=
  broadcastInDim S40x1x16 ![0, 2] bcast_S40x16_S40x1x16_0_2 (val_main_v48 (F := F) x0 x1 x4 x6)
abbrev idx_main_v50 (i : S40x1x16.Idx) : S40x16.Idx := fun a => match a with
  | ⟨0, _⟩ => ⟨(i 0).val, (i 0).isLt⟩
  | ⟨1, _⟩ => ⟨(i 2).val, (i 2).isLt⟩
theorem val_main_v50_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S40x1x16.Idx) :
    val_main_v50 (F := F) x0 x1 x4 x6 i = val_main_v48 (F := F) x0 x1 x4 x6 (idx_main_v50 i) := by
  unfold val_main_v50
  generalize val_main_v48 (F := F) x0 x1 x4 x6 = y
  exact broadcastInDim_apply _ bcast_S40x16_S40x1x16_0_2 y i (idx_main_v50 i) (fun a => match a with
    | ⟨0, _⟩ => by show (i 0).val = if (40 : Nat) = 1 then 0 else (i 0).val; rw [if_neg (by decide)]
    | ⟨1, _⟩ => by show (i 2).val = if (16 : Nat) = 1 then 0 else (i 2).val; rw [if_neg (by decide)])

-- %51 = stablehlo.broadcast_in_dim %49, dims = [0, 1, 2] : (tensor<40x5x1xbf16>) -> tensor<40x5x16xbf16>
def val_main_v51 (x1 : (⟨S40, .i32⟩ : BufTy).Contents (Elt F)) : (⟨S40x5x16, .bf16⟩ : BufTy).Contents (Elt F) :=
  broadcastInDim S40x5x16 ![0, 1, 2] bcast_S40x5x1_S40x5x16_0_1_2 (val_main_v49 (F := F) x1)
abbrev idx_main_v51 (i : S40x5x16.Idx) : S40x5x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v51_apply (x1 : (⟨S40, .i32⟩ : BufTy).Contents (Elt F)) (i : S40x5x16.Idx) :
    val_main_v51 (F := F) x1 i = val_main_v49 (F := F) x1 (idx_main_v51 i) := by
  unfold val_main_v51
  generalize val_main_v49 (F := F) x1 = y
  exact broadcastInDim_apply _ bcast_S40x5x1_S40x5x16_0_1_2 y i (idx_main_v51 i) (fun a => match a with
    | ⟨0, _⟩ => by show (i 0).val = if (40 : Nat) = 1 then 0 else (i 0).val; rw [if_neg (by decide)]
    | ⟨1, _⟩ => by show (i 1).val = if (5 : Nat) = 1 then 0 else (i 1).val; rw [if_neg (by decide)]
    | ⟨2, _⟩ => by show 0 = if (1 : Nat) = 1 then 0 else (i 2).val; rw [if_pos rfl])

-- %52 = stablehlo.broadcast_in_dim %50, dims = [0, 1, 2] : (tensor<40x1x16xbf16>) -> tensor<40x5x16xbf16>
def val_main_v52 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S40x5x16, .bf16⟩ : BufTy).Contents (Elt F) :=
  broadcastInDim S40x5x16 ![0, 1, 2] bcast_S40x1x16_S40x5x16_0_1_2 (val_main_v50 (F := F) x0 x1 x4 x6)
abbrev idx_main_v52 (i : S40x5x16.Idx) : S40x1x16.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v52_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S40x5x16.Idx) :
    val_main_v52 (F := F) x0 x1 x4 x6 i = val_main_v50 (F := F) x0 x1 x4 x6 (idx_main_v52 i) := by
  unfold val_main_v52
  generalize val_main_v50 (F := F) x0 x1 x4 x6 = y
  exact broadcastInDim_apply _ bcast_S40x1x16_S40x5x16_0_1_2 y i (idx_main_v52 i) (fun a => match a with
    | ⟨0, _⟩ => by show (i 0).val = if (40 : Nat) = 1 then 0 else (i 0).val; rw [if_neg (by decide)]
    | ⟨1, _⟩ => by show 0 = if (1 : Nat) = 1 then 0 else (i 1).val; rw [if_pos rfl]
    | ⟨2, _⟩ => by show (i 2).val = if (16 : Nat) = 1 then 0 else (i 2).val; rw [if_neg (by decide)])

-- %53 = stablehlo.multiply %51, %52 : tensor<40x5x16xbf16>
def val_main_v53 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S40x5x16, .bf16⟩ : BufTy).Contents (Elt F) :=
  mulf (val_main_v51 (F := F) x1) (val_main_v52 (F := F) x0 x1 x4 x6)
theorem val_main_v53_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S40x5x16.Idx) :
    val_main_v53 (F := F) x0 x1 x4 x6 i = FloatOps.mulf (val_main_v51 (F := F) x1 i) (val_main_v52 (F := F) x0 x1 x4 x6 i) := rfl

-- %54 = stablehlo.dot_general %53, %arg5, contracting_dims = [1, 2] x [0, 1], precision = [DEFAULT, DEFAULT] : (tensor<40x5x16xbf16>, tensor<5x16x8192xbf16>) -> tensor<40x8192xf32>
def val_main_v54 (x0 : (⟨S40x22016, .bf16⟩ : BufTy).Contents (Elt F)) (x1 : (⟨S40, .i32⟩ : BufTy).Contents (Elt F)) (x4 : (⟨S5x22016x16, .bf16⟩ : BufTy).Contents (Elt F)) (x5 : (⟨S5x16x8192, .bf16⟩ : BufTy).Contents (Elt F)) (x6 : (⟨S5, .f32⟩ : BufTy).Contents (Elt F)) : (⟨S40x8192, .f32⟩ : BufTy).Contents (Elt F) :=
  Host.dotGeneral dot_S40x5x16_S5x16x8192_S40x8192_12_01_0_2_n_n none (val_main_v53 (F := F) x0 x1 x4 x6) (x5)

-- %55 = stablehlo.add %42, %54 : tensor<40x8192xf32>
def val_main_v55 (x0 : (⟨S40x22016, .bf16⟩ : BufTy).Contents (Elt F)) (x1 : (⟨S40, .i32⟩ : BufTy).Contents (Elt F)) (x2 : (⟨S11008x8192, .i8⟩ : BufTy).Contents (Elt F)) (x3 : (⟨S172x8192, .bf16⟩ : BufTy).Contents (Elt F)) (x4 : (⟨S5x22016x16, .bf16⟩ : BufTy).Contents (Elt F)) (x5 : (⟨S5x16x8192, .bf16⟩ : BufTy).Contents (Elt F)) (x6 : (⟨S5, .f32⟩ : BufTy).Contents (Elt F)) : (⟨S40x8192, .f32⟩ : BufTy).Contents (Elt F) :=
  addf (val_main_v42 (F := F) x0 x2 x3) (val_main_v54 (F := F) x0 x1 x4 x5 x6)
theorem val_main_v55_apply (x0 : (⟨S40x22016, .bf16⟩ : BufTy).Contents (Elt F)) (x1 : (⟨S40, .i32⟩ : BufTy).Contents (Elt F)) (x2 : (⟨S11008x8192, .i8⟩ : BufTy).Contents (Elt F)) (x3 : (⟨S172x8192, .bf16⟩ : BufTy).Contents (Elt F)) (x4 : (⟨S5x22016x16, .bf16⟩ : BufTy).Contents (Elt F)) (x5 : (⟨S5x16x8192, .bf16⟩ : BufTy).Contents (Elt F)) (x6 : (⟨S5, .f32⟩ : BufTy).Contents (Elt F)) (i : S40x8192.Idx) :
    val_main_v55 (F := F) x0 x1 x2 x3 x4 x5 x6 i = FloatOps.addf (val_main_v42 (F := F) x0 x2 x3 i) (val_main_v54 (F := F) x0 x1 x4 x5 x6 i) := rfl

-- %56 = stablehlo.convert %55 : (tensor<40x8192xf32>) -> tensor<40x8192xbf16>
def val_main_v56 (x0 : (⟨S40x22016, .bf16⟩ : BufTy).Contents (Elt F)) (x1 : (⟨S40, .i32⟩ : BufTy).Contents (Elt F)) (x2 : (⟨S11008x8192, .i8⟩ : BufTy).Contents (Elt F)) (x3 : (⟨S172x8192, .bf16⟩ : BufTy).Contents (Elt F)) (x4 : (⟨S5x22016x16, .bf16⟩ : BufTy).Contents (Elt F)) (x5 : (⟨S5x16x8192, .bf16⟩ : BufTy).Contents (Elt F)) (x6 : (⟨S5, .f32⟩ : BufTy).Contents (Elt F)) : (⟨S40x8192, .bf16⟩ : BufTy).Contents (Elt F) :=
  truncf .bf16 (val_main_v55 (F := F) x0 x1 x2 x3 x4 x5 x6) bitsLt_bf16_f32
theorem val_main_v56_apply (x0 : (⟨S40x22016, .bf16⟩ : BufTy).Contents (Elt F)) (x1 : (⟨S40, .i32⟩ : BufTy).Contents (Elt F)) (x2 : (⟨S11008x8192, .i8⟩ : BufTy).Contents (Elt F)) (x3 : (⟨S172x8192, .bf16⟩ : BufTy).Contents (Elt F)) (x4 : (⟨S5x22016x16, .bf16⟩ : BufTy).Contents (Elt F)) (x5 : (⟨S5x16x8192, .bf16⟩ : BufTy).Contents (Elt F)) (x6 : (⟨S5, .f32⟩ : BufTy).Contents (Elt F)) (i : S40x8192.Idx) :
    val_main_v56 (F := F) x0 x1 x2 x3 x4 x5 x6 i = FloatOps.truncf .bf16 bitsLt_bf16_f32 (val_main_v55 (F := F) x0 x1 x2 x3 x4 x5 x6 i) := rfl

-- %57 = stablehlo.transpose %48, dims = [1, 0] : (tensor<40x16xbf16>) -> tensor<16x40xbf16>
def val_main_v57 (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) : (⟨S16x40, .bf16⟩ : BufTy).Contents (Elt F) :=
  transpose S16x40 [1, 0] (val_main_v48 (F := F) x0 x1 x4 x6) transposes_S40x16_S16x40_1_0
abbrev idx_main_v57 (i : S16x40.Idx) : S40x16.Idx := fun a => match a with
  | ⟨0, _⟩ => ⟨(i 1).val, (i 1).isLt⟩
  | ⟨1, _⟩ => ⟨(i 0).val, (i 0).isLt⟩
theorem val_main_v57_apply (x0 : (⟨S40x22016, .bf16⟩ : BufTy).Contents (Elt F)) (x1 : (⟨S40, .i32⟩ : BufTy).Contents (Elt F)) (x4 : (⟨S5x22016x16, .bf16⟩ : BufTy).Contents (Elt F)) (x6 : (⟨S5, .f32⟩ : BufTy).Contents (Elt F)) (i : S16x40.Idx) :
    val_main_v57 (F := F) x0 x1 x4 x6 i = val_main_v48 (F := F) x0 x1 x4 x6 (idx_main_v57 i) := by
  unfold val_main_v57
  generalize val_main_v48 (F := F) x0 x1 x4 x6 = y
  exact transpose_apply [1, 0] y transposes_S40x16_S16x40_1_0 i (idx_main_v57 i) (fun b => match b with
    | ⟨0, _⟩ => rfl
    | ⟨1, _⟩ => rfl)

end Cert.DownRefIdeal.Read

end
-- ==== Proof.DownRef.lean ====
module

public import proofs.«01_k».proof.Proof.DownRead
public import proofs.«01_k».proof.Proof.DownSpec
public import Idealize.ShloMosaic.Lib.TwoAxisContraction

@[expose] public section

set_option maxRecDepth 131072

noncomputable section

/-!
# The down reference is the specification

Each value of the reference, read at an index over the reals, up to the two results.
-/

namespace Cert.DownRefIdeal.Own

open Cert.DownRefIdeal Cert.DownRefIdeal.Gen Cert.DownRefIdeal.Read
open Idealize.ShloMosaic Idealize.ShloMosaic.TcCoe Idealize.ShloMosaic.ValueIdx Idealize.ShloMosaic.StableHlo
open Cert.Own
open scoped BigOperators

variable (x0 : (⟨S40x22016, .bf16⟩ : BufTy).Contents (Elt Ideal)) (x1 : (⟨S40, .i32⟩ : BufTy).Contents (Elt Ideal))
  (x2 : (⟨S11008x8192, .i8⟩ : BufTy).Contents (Elt Ideal)) (x3 : (⟨S172x8192, .bf16⟩ : BufTy).Contents (Elt Ideal))
  (x4 : (⟨S5x22016x16, .bf16⟩ : BufTy).Contents (Elt Ideal)) (x5 : (⟨S5x16x8192, .bf16⟩ : BufTy).Contents (Elt Ideal))
  (x6 : (⟨S5, .f32⟩ : BufTy).Contents (Elt Ideal))

/-- The one-hot row of a batch row's adapter. -/
theorem onehot_at (b n : ℕ) (hb : b < 40) (hn : n < 5) :
    val_main_v0 (F := Ideal) x1 (ix2 ⟨b, hb⟩ ⟨n, hn⟩) = if (at1 x1 b).toNat = n then (1 : EReal) else 0 := by
  rw [val_main_v0_apply, val_main_call0_v4_apply, val_main_call0_v2_apply, val_main_call0_v0_apply, val_main_call0_v3_apply, val_main_call0_v1_apply,
    cmpi_eq_ite, at1_of x1 _ b rfl]
  show (((if at1 x1 b = BitVec.ofNat 32 n then 1#1 else 0#1 : BitVec 1).toNat : ℝ) : EReal) = _
  have e : (at1 x1 b = BitVec.ofNat 32 n) ↔ (at1 x1 b).toNat = n := by
    constructor
    · intro h; rw [h, BitVec.toNat_ofNat, Nat.mod_eq_of_lt (by omega)]
    · intro h; exact BitVec.eq_of_toNat_eq (by rw [BitVec.toNat_ofNat, h, Nat.mod_eq_of_lt (by omega)])
  by_cases h : (at1 x1 b).toNat = n
  · rw [if_pos (e.mpr h), if_pos h]; simp
  · rw [if_neg (fun k => h (e.mp k)), if_neg h]; simp

/-- A row's scale, gathered by its adapter's number, where that is in range. -/
theorem scale_at (b : ℕ) (hb : b < 40) (hn : (at1 x1 b).toNat < 5) :
    val_main_v8 (F := Ideal) x1 x6 (ix1 ⟨b, hb⟩) = at1 x6 (at1 x1 b).toNat := by
  have e8 : val_main_v7 (F := Ideal) x1 (ix2 (⟨b, hb⟩ : Fin 40) (0 : Fin 1)) = at1 x1 b := by
    rw [val_main_v7_apply, val_main_v6_apply, val_main_v3_apply, val_main_v2_apply, val_main_c_apply, at1_of x1 _ b rfl]
    generalize at1 x1 b = v at hn
    have : IntOp.cmpi .slt v 0#32 = 0#1 := by
      show BitVec.ofBool (v.slt 0#32) = 0#1
      have hs : v.slt 0#32 = false := by
        rw [Bool.eq_false_iff]; intro h
        have h' : v.toInt < (0#32 : BitVec 32).toInt := by simpa [BitVec.slt] using h
        rw [BitVec.toInt_eq_toNat_of_lt (by omega)] at h'
        simp at h'
        omega
      rw [hs]; rfl
    rw [this]; exact select_zero ..
  unfold val_main_v8 Host.gather
  refine at1_of x6 _ _ ?_
  show (gather_S5_S40x1_S40_n_0_n_n_0_1_1.start (ix1 ⟨b, hb⟩) (val_main_v7 (F := Ideal) x1) 0) + gather_S5_S40x1_S40_n_0_n_n_0_1_1.batchCoord (ix1 ⟨b, hb⟩) 0
    + gather_S5_S40x1_S40_n_0_n_n_0_1_1.offCoord (ix1 ⟨b, hb⟩) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S5_S40x1_S40_n_0_n_n_0_1_1.startIndexMap from List.mem_singleton.mpr rfl)]
  have hsi : gather_S5_S40x1_S40_n_0_n_n_0_1_1.siIdx (ix1 ⟨b, hb⟩) ⟨List.idxOf (0 : Fin 1) gather_S5_S40x1_S40_n_0_n_n_0_1_1.startIndexMap,
      List.idxOf_lt_length_iff.2 (List.mem_singleton.mpr rfl)⟩ = ix2 (⟨b, hb⟩ : Fin 40) (0 : Fin 1) := by
    funext a; refine Fin.ext ?_
    match a with
    | ⟨0, _⟩ => rfl
    | ⟨1, _⟩ => rfl
  rw [hsi, e8]
  show min (at1 x1 b).toInt.toNat 4 = _
  rw [BitVec.toInt_eq_toNat_of_lt (by omega)]
  simp only [Int.toNat_natCast]
  omega

/-- The weights: the low nibbles. -/
theorem wlo_at (i j : ℕ) (hi : i < 11008) (hj : j < 8192) :
    val_main_v31 (F := Ideal) x2 x3 (ix2 ⟨i, hi⟩ ⟨j, hj⟩) = ((nib (at2 x2 i j) 0 : ℝ) : EReal) * at2 x3 (i / 128) j := by
  rw [val_main_v31_apply, val_main_v30_apply, val_main_v27_apply, val_main_v29_apply, val_main_v28_apply, val_main_v26_apply, val_main_v19_apply,
    val_main_v18_apply, val_main_v17_apply, val_main_v15_apply, val_main_v11_apply, val_main_v9_apply, val_main_v10_apply, val_main_v14_apply, val_main_v16_apply,
    val_main_c_1_apply, val_main_c_3_apply, val_main_c_4_apply]
  rw [at2_of x2 _ i j
    (by show (((i * 8192 + j) / 1048576 * 128 + (i * 8192 + j) / 8192 % 128) * 8192 + (i * 8192 + j) % 8192) / 8192 = i; omega)
    (by show (((i * 8192 + j) / 1048576 * 128 + (i * 8192 + j) / 8192 % 128) * 8192 + (i * 8192 + j) % 8192) % 8192 = j; omega),
    at2_of x3 _ (i / 128) j (by show (i * 8192 + j) / 1048576 = i / 128; omega) (by show (i * 8192 + j) % 8192 = j; omega), ← plain_lo]
  rfl

/-- The weights: the high nibbles. -/
theorem whi_at (i j : ℕ) (hi : i < 11008) (hj : j < 8192) :
    val_main_v37 (F := Ideal) x2 x3 (ix2 ⟨i, hi⟩ ⟨j, hj⟩) = ((nib (at2 x2 i j) 1 : ℝ) : EReal) * at2 x3 (86 + i / 128) j := by
  rw [val_main_v37_apply, val_main_v36_apply, val_main_v33_apply, val_main_v35_apply, val_main_v34_apply, val_main_v32_apply, val_main_v25_apply,
    val_main_v24_apply, val_main_v23_apply, val_main_v21_apply, val_main_v13_apply, val_main_v9_apply, val_main_v12_apply, val_main_v20_apply, val_main_v22_apply,
    val_main_c_2_apply, val_main_c_5_apply, val_main_c_6_apply]
  rw [at2_of x2 _ i j
    (by show (((i * 8192 + j) / 1048576 * 128 + (i * 8192 + j) / 8192 % 128) * 8192 + (i * 8192 + j) % 8192) / 8192 = i; omega)
    (by show (((i * 8192 + j) / 1048576 * 128 + (i * 8192 + j) / 8192 % 128) * 8192 + (i * 8192 + j) % 8192) % 8192 = j; omega),
    at2_of x3 _ (86 + i / 128) j (by show 86 + (i * 8192 + j) / 1048576 = 86 + i / 128; omega) (by show (i * 8192 + j) % 8192 = j; omega), ← plain_hi]
  rfl

/-- The first half of the activations. -/
theorem xlo_at (b k : ℕ) (hb : b < 40) (hk : k < 11008) : val_main_v38 (F := Ideal) x0 (ix2 ⟨b, hb⟩ ⟨k, hk⟩) = at2 x0 b k := by
  rw [val_main_v38_apply]
  exact at2_of x0 _ _ _ rfl rfl

/-- The second half of the activations. -/
theorem xhi_at (b k : ℕ) (hb : b < 40) (hk : k < 11008) : val_main_v40 (F := Ideal) x0 (ix2 ⟨b, hb⟩ ⟨k, hk⟩) = at2 x0 b (11008 + k) := by
  rw [val_main_v40_apply]
  exact at2_of x0 _ _ _ rfl rfl

/-- The linear layer. -/
theorem lin_at (b j : ℕ) (hb : b < 40) (hj : j < 8192) :
    val_main_v42 (F := Ideal) x0 x2 x3 (ix2 ⟨b, hb⟩ ⟨j, hj⟩) = DownSpec.lin x0 x2 x3 b j := by
  rw [val_main_v42_apply, val_main_v39_apply, val_main_v41_apply]
  unfold DownSpec.lin
  rw [Finset.sum_range, Finset.sum_range]
  refine congrArg₂ (fun p q : EReal => p + q) (Finset.sum_congr rfl fun k _ => ?_) (Finset.sum_congr rfl fun k _ => ?_)
  · exact congrArg₂ (fun p q : EReal => p * q)
      ((congrArg (val_main_v38 (F := Ideal) x0) (eq_ix2 _)).trans (xlo_at x0 b k.val hb k.isLt))
      ((congrArg (val_main_v31 (F := Ideal) x2 x3) (eq_ix2 _)).trans (wlo_at x2 x3 k.val j k.isLt hj))
  · exact congrArg₂ (fun p q : EReal => p * q)
      ((congrArg (val_main_v40 (F := Ideal) x0) (eq_ix2 _)).trans (xhi_at x0 b k.val hb k.isLt))
      ((congrArg (val_main_v37 (F := Ideal) x2 x3) (eq_ix2 _)).trans (whi_at x2 x3 k.val j k.isLt hj))

/-- The scaled first LoRA product. -/
theorem s_at (b r : ℕ) (hb : b < 40) (hr : r < 16) :
    val_main_v48 (F := Ideal) x0 x1 x4 x6 (ix2 ⟨b, hb⟩ ⟨r, hr⟩) = DownSpec.s x0 x1 x4 x6 b r := by
  rw [val_main_v48_apply, val_main_v47_apply, val_main_v44_apply, val_main_v46_apply, val_main_v45_apply]
  show (∑ k : Fin 5, _ * _ : EReal) * _ = _
  have e : ∀ k : Fin 5, val_main_v0 (F := Ideal) x1 (lidx_main_v44 (ix2 ⟨b, hb⟩ ⟨r, hr⟩) k) * val_main_v43 (F := Ideal) x0 x4 (ridx_main_v44 (ix2 ⟨b, hb⟩ ⟨r, hr⟩) k)
      = (fun n => (if (at1 x1 b).toNat = n then (1 : EReal) else 0) * ∑ d ∈ Finset.range 22016, at2 x0 b d * at3 x4 n d r) k.val := by
    intro k
    refine congrArg₂ (fun p q : EReal => p * q)
      ((congrArg (val_main_v0 (F := Ideal) x1) (eq_ix2 _)).trans (onehot_at x1 b k.val hb k.isLt)) ?_
    rw [val_main_v43_apply, Finset.sum_range]
    refine Finset.sum_congr rfl fun d _ => congrArg₂ (fun p q : EReal => p * q) ?_ ?_
    · exact at2_of x0 _ _ _ rfl rfl
    · exact at3_of x4 _ _ _ _ rfl rfl rfl
  rw [Finset.sum_congr rfl fun k _ => e k]
  rw [← Finset.sum_range (fun n => (if (at1 x1 b).toNat = n then (1 : EReal) else 0) * ∑ d ∈ Finset.range 22016, at2 x0 b d * at3 x4 n d r)]
  unfold DownSpec.s
  by_cases h : (at1 x1 b).toNat < 5
  · rw [if_pos h, Finset.sum_eq_single (at1 x1 b).toNat]
    · rw [if_pos rfl, one_mul]
      congr 1
      · exact Finset.sum_congr rfl fun d _ => mul_comm _ _
      · exact (congrArg (val_main_v8 (F := Ideal) x1 x6) (eq_ix1 _)).trans (scale_at x1 x6 b hb h)
    · intro n _ hne; rw [if_neg (fun e => hne e.symm), zero_mul]
    · intro hh; exact absurd (Finset.mem_range.mpr h) hh
  · rw [if_neg h, Finset.sum_eq_zero, zero_mul]
    intro n hn
    rw [if_neg (fun e => h (by rw [e]; exact Finset.mem_range.mp hn)), zero_mul]

/-- The routed first product, every adapter's rows. -/
theorem m_at (b n r : ℕ) (hb : b < 40) (hn : n < 5) (hr : r < 16) :
    val_main_v53 (F := Ideal) x0 x1 x4 x6 (ix3 ⟨b, hb⟩ ⟨n, hn⟩ ⟨r, hr⟩)
      = (if (at1 x1 b).toNat = n then (1 : EReal) else 0) * DownSpec.s x0 x1 x4 x6 b r := by
  rw [val_main_v53_apply, val_main_v51_apply, val_main_v52_apply, val_main_v49_apply, val_main_v50_apply, val_main_v1_apply]
  refine congrArg₂ (fun p q : EReal => p * q) ?_ ?_
  · exact (congrArg (val_main_v0 (F := Ideal) x1) (eq_ix2 _)).trans (onehot_at x1 b n hb hn)
  · exact (congrArg (val_main_v48 (F := Ideal) x0 x1 x4 x6) (eq_ix2 _)).trans (s_at x0 x1 x4 x6 b r hb hr)

abbrev D54 : DotDims S40x5x16 S5x16x8192 S40x8192 := dot_S40x5x16_S5x16x8192_S40x8192_12_01_0_2_n_n

/-- The second LoRA product. -/
theorem delta_at (b f : ℕ) (hb : b < 40) (hf : f < 8192) :
    val_main_v54 (F := Ideal) x0 x1 x4 x5 x6 (ix2 ⟨b, hb⟩ ⟨f, hf⟩) = DownSpec.delta x0 x1 x4 x5 x6 b f := by
  unfold val_main_v54
  simp only [Host.dotGeneral]
  rw [Ideal.dotGeneral_apply]
  show ∑ k : D54.contr.Idx, _ = _
  rw [sum_contr2 D54 5 16 rfl rfl rfl]
  have el : ∀ (n : Fin 5) (r : Fin 16), D54.lhsIdx (ix2 ⟨b, hb⟩ ⟨f, hf⟩) ((contrEquiv2 D54 5 16 rfl rfl rfl).symm (n, r)) = ix3 ⟨b, hb⟩ n r := by
    intro n r
    funext a; refine Fin.ext ?_
    match a with
    | ⟨0, _⟩ => rfl
    | ⟨1, _⟩ => exact contrEquiv2_symm_val0 D54 5 16 rfl rfl rfl (n, r)
    | ⟨2, _⟩ => exact contrEquiv2_symm_val1 D54 5 16 rfl rfl rfl (n, r)
  have er : ∀ (n : Fin 5) (r : Fin 16), D54.rhsIdx (ix2 ⟨b, hb⟩ ⟨f, hf⟩) ((contrEquiv2 D54 5 16 rfl rfl rfl).symm (n, r)) = ix3 n r ⟨f, hf⟩ := by
    intro n r
    funext a; refine Fin.ext ?_
    match a with
    | ⟨0, _⟩ => exact contrEquiv2_symm_val0 D54 5 16 rfl rfl rfl (n, r)
    | ⟨1, _⟩ => exact contrEquiv2_symm_val1 D54 5 16 rfl rfl rfl (n, r)
    | ⟨2, _⟩ => rfl
  have e : ∀ (n : Fin 5), (∑ r : Fin 16, val_main_v53 (F := Ideal) x0 x1 x4 x6 (D54.lhsIdx (ix2 ⟨b, hb⟩ ⟨f, hf⟩) ((contrEquiv2 D54 5 16 rfl rfl rfl).symm (n, r)))
        * x5 (D54.rhsIdx (ix2 ⟨b, hb⟩ ⟨f, hf⟩) ((contrEquiv2 D54 5 16 rfl rfl rfl).symm (n, r))) : EReal)
      = (fun n : ℕ => if (at1 x1 b).toNat = n then ∑ r ∈ Finset.range 16, DownSpec.s x0 x1 x4 x6 b r * at3 x5 n r f else 0) n.val := by
    intro n
    show _ = if (at1 x1 b).toNat = n.val then _ else _
    have hterm : ∀ r : Fin 16, (val_main_v53 (F := Ideal) x0 x1 x4 x6 (D54.lhsIdx (ix2 ⟨b, hb⟩ ⟨f, hf⟩) ((contrEquiv2 D54 5 16 rfl rfl rfl).symm (n, r)))
        * x5 (D54.rhsIdx (ix2 ⟨b, hb⟩ ⟨f, hf⟩) ((contrEquiv2 D54 5 16 rfl rfl rfl).symm (n, r))) : EReal)
        = ((if (at1 x1 b).toNat = n.val then (1 : EReal) else 0) * DownSpec.s x0 x1 x4 x6 b r.val) * at3 x5 n.val r.val f := by
      intro r
      rw [el, er, m_at x0 x1 x4 x6 b n.val r.val hb n.isLt r.isLt]
      congr 1
      exact at3_of x5 _ _ _ _ rfl rfl rfl
    refine (Finset.sum_congr rfl fun r _ => hterm r).trans ?_
    by_cases h : (at1 x1 b).toNat = n.val
    · simp only [if_pos h]
      rw [Finset.sum_range]
      refine Finset.sum_congr rfl fun r _ => ?_
      rw [one_mul]
    · simp only [if_neg h]
      refine Finset.sum_eq_zero fun r _ => ?_
      rw [zero_mul]; exact zero_mul _
  refine (Finset.sum_congr rfl fun n _ => e n).trans ?_
  rw [← Finset.sum_range (fun n : ℕ => if (at1 x1 b).toNat = n then ∑ r ∈ Finset.range 16, DownSpec.s x0 x1 x4 x6 b r * at3 x5 n r f else 0)]
  unfold DownSpec.delta
  by_cases h : (at1 x1 b).toNat < 5
  · rw [if_pos h, Finset.sum_eq_single (at1 x1 b).toNat]
    · rw [if_pos rfl]
    · intro n _ hne; rw [if_neg (fun e => hne e.symm)]
    · intro hh; exact absurd (Finset.mem_range.mpr h) hh
  · rw [if_neg h]
    refine Finset.sum_eq_zero fun n hn => ?_
    rw [if_neg]; intro e; rw [e] at h; exact h (Finset.mem_range.mp hn)

/-- The first result. -/
theorem out_at (b f : ℕ) (hb : b < 40) (hf : f < 8192) :
    val_main_v56 (F := Ideal) x0 x1 x2 x3 x4 x5 x6 (ix2 ⟨b, hb⟩ ⟨f, hf⟩) = DownSpec.out x0 x1 x2 x3 x4 x5 x6 b f := by
  rw [val_main_v56_apply, val_main_v55_apply]
  unfold DownSpec.out
  exact congrArg₂ (fun p q : EReal => p + q) (lin_at x0 x2 x3 b f hb hf) (delta_at x0 x1 x4 x5 x6 b f hb hf)

/-- The second result: the scaled first LoRA product, transposed. -/
theorem st_at (b r : ℕ) (hb : b < 40) (hr : r < 16) :
    val_main_v57 (F := Ideal) x0 x1 x4 x6 (ix2 ⟨r, hr⟩ ⟨b, hb⟩) = DownSpec.s x0 x1 x4 x6 b r := by
  rw [val_main_v57_apply]
  exact (congrArg (val_main_v48 (F := Ideal) x0 x1 x4 x6) (eq_ix2 _)).trans (s_at x0 x1 x4 x6 b r hb hr)

end Cert.DownRefIdeal.Own

end
-- ==== Proof.DownTail.lean ====
module

public import proofs.«01_k».proof.Proof.DownRead

@[expose] public section

noncomputable section

/-!
# What the down reference's call finds

The reference's quantiser as functions of the rounded result, and the buffers the host operations leave before the call.
-/

namespace Cert.DownRefIdeal.Own

open Cert.DownRefIdeal Cert.DownRefIdeal.Gen Cert.DownRefIdeal.Read
open Idealize.ShloMosaic Idealize.ShloMosaic.TcCoe Idealize.SL.Sem Idealize.ShloMosaic.StableHlo

variable {F : FTy → Type} [FloatOps F]

/-- The result in blocks of 128 columns. -/
def blocksR (o : FVec F S40x8192 .bf16) : FVec F S40x64x128 .f32 := shapeCast _ (extf .f32 o bitsLt_bf16_f32) shapeCasts_S40x8192_S40x64x128

/-- The largest magnitude of each block. -/
def amaxR (o : FVec F S40x8192 .bf16) : FVec F S40x64 .f32 :=
  Host.reduce FloatOps.maximumf (Host.absf (blocksR o)) (constant S_ .f32 0xFF800000#32) reducesTo_S40x64x128_S40x64_d2 h_S_

/-- The powers of two. -/
def powersR : FVec F S254 .f32 :=
  Host.powf (broadcastInDim S254 ![] bcast_S_S254 (constant S_ .f32 0x40000000#32))
    (addf (broadcastInDim S254 ![] bcast_S_S254 (constant S_ .f32 0xC2FC0000#32)) (sitofp .f32 (iotaInDim S254 32 0)))

/-- The powers of two above a block's largest magnitude over 448, the others infinite. -/
def aboveR (o : FVec F S40x8192 .bf16) : FVec F S40x64x254 .f32 :=
  select (cmpf .olt
      (broadcastInDim S40x64x254 ![0, 1, 2] bcast_S40x64x1_S40x64x254_0_1_2 (broadcastInDim S40x64x1 ![0, 1] bcast_S40x64_S40x64x1_0_1
        (mulf (amaxR o) (broadcastInDim S40x64 ![] bcast_S_S40x64 (constant S_ .f32 0x3B124925#32)))))
      (broadcastInDim S40x64x254 ![0, 1, 2] bcast_S1x1x254_S40x64x254_0_1_2 (broadcastInDim S1x1x254 ![2] bcast_S254_S1x1x254_2 powersR)))
    (broadcastInDim S40x64x254 ![2] bcast_S254_S40x64x254_2 powersR)
    (broadcastInDim S40x64x254 ![] bcast_S_S40x64x254 (id (constant S_ .f32 0x7F800000#32)))

/-- Each block's scale. -/
def scaleR (o : FVec F S40x8192 .bf16) : FVec F S40x64 .f32 :=
  select (cmpf .oeq (amaxR o) (broadcastInDim S40x64 ![] bcast_S_S40x64 (constant S_ .f32 0x00000000#32)))
    (broadcastInDim S40x64 ![] bcast_S_S40x64 (id (constant S_ .f32 0x3F800000#32)))
    (Host.reduce FloatOps.minimumf (aboveR o) (constant S_ .f32 0x7F800000#32) reducesTo_S40x64x254_S40x64_d2 h_S_)

/-- The scaled and clipped result, in blocks. -/
def clipR (o : FVec F S40x8192 .bf16) : FVec F S40x64x128 .f32 :=
  minimumf (broadcastInDim S40x64x128 ![] bcast_S_S40x64x128 (id (constant S_ .f32 0x43E00000#32)))
    (maximumf (broadcastInDim S40x64x128 ![] bcast_S_S40x64x128 (id (constant S_ .f32 0xC3E00000#32)))
      (Host.divf (blocksR o) (broadcastInDim S40x64x128 ![0, 1, 2] bcast_S40x64x1_S40x64x128_0_1_2 (broadcastInDim S40x64x1 ![0, 1] bcast_S40x64_S40x64x1_0_1 (scaleR o)))))

/-- The scaled and clipped result. -/
def codesR (o : FVec F S40x8192 .bf16) : FVec F S40x8192 .f32 := shapeCast _ (clipR o) shapeCasts_S40x64x128_S40x8192

/-- The scales, as the kernel lays them out. -/
def scalesR (o : FVec F S40x8192 .bf16) : FVec F S16x40x4 .f32 :=
  transpose S16x40x4 [1, 0, 2] (shapeCast _ (scaleR o) shapeCasts_S40x64_S40x16x4) transposes_S40x16x4_S16x40x4_1_0_2

variable (m : (ℓ : Loc nD τ sig) → Buf (Elt F) ℓ) (c : Dev nD)

/-- The rounded result, of the arguments. -/
abbrev outV : FVec F S40x8192 .bf16 :=
  val_main_v56 (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

set_option maxRecDepth 8192 in
set_option maxHeartbeats 47600000 in
theorem V_v57 : V m c main_v57 = val_main_v57 (F := F) (m ((c.tc : Thread nD τ).loc main_arg0)) (m ((c.tc : Thread nD τ).loc main_arg1))
    (m ((c.tc : Thread nD τ).loc main_arg4)) (m ((c.tc : Thread nD τ).loc main_arg6)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 47600000 in
theorem V_v56 : V m c main_v56 = outV m c := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 47600000 in
theorem V_v84 : V m c main_v84 = scalesR (outV m c) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append,
    TRef.binary, TRef.nullary, TRef.ternary, TRef.unary, TRef.toBuf, TRef.ofBuf, cast_eq]
  after_results_simp <;> rfl

set_option maxRecDepth 8192 in
set_option maxHeartbeats 47600000 in
theorem V_v85 : V m c main_v85 = codesR (outV m c) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append,
    TRef.binary, TRef.nullary, TRef.ternary, TRef.unary, TRef.toBuf, TRef.ofBuf, cast_eq]
  after_results_simp <;> rfl

end Cert.DownRefIdeal.Own

end
-- ==== Proof.DownRefRun.lean ====
module

public import proofs.«01_k».proof.Proof.DownTail
public import Idealize.ShloMosaic.Lib.Pipeline.ValueKit.Geometry

@[expose] public section

set_option maxRecDepth 131072

noncomputable section

/-!
# The down reference's run

Its host operations leave the rounded result, the scaled first product, the scales and the clipped quotients; its call narrows the
quotients, which over the reals changes nothing.
-/

namespace Cert.DownRefIdeal.Own

open Cert.DownRefIdeal Cert.DownRefIdeal.Gen Cert.DownRefIdeal.Read
open Idealize.ShloMosaic Idealize.ShloMosaic.TcCoe Idealize.SL.Sem

variable (m : (ℓ : Loc nD τ sig) → Buf (Elt Ideal) ℓ) (ρ : Dev nD → PrngReg) (c : Dev nD)

/-- The call's block is the whole array. -/
theorem iblk0 (t : Fin cfg0.N) : (iblk m c 0 t : Vec Ideal S40x8192 .f32) = V m c main_v85 := by
  funext y
  show V m c main_v85 (((cfg0.win 0).blk t).view.emb y) = _
  refine congrArg (V m c main_v85) (funext fun a => Fin.ext ?_)
  match a with
  | ⟨0, _⟩ => show 0 * 40 + 1 * (y 0).val = (y 0).val; omega
  | ⟨1, _⟩ => show 0 * 8192 + 1 * (y 1).val = (y 1).val; omega

/-- What the call's body leaves of a block. -/
theorem out0_eq (x : Vec Ideal S40x8192 .f32) : out0_1 x = x := by
  unfold out0_1
  rw [View.canon_cons_unit_lit _ _ _ (by decide), View.ld_unit_lit _ _ (by decide)]
  unfold k0_pay1
  show shapeCast S40x8192 x shapeCasts_S40x8192_S40x8192 = x
  exact shapeCast_self _ _

/-- The call's result. -/
theorem final1 : (dats m 0 c).arrAt 1 cfg0.N = codesR (outV m c) := by
  refine (dats m 0 c).arrAt_eq_of_covers 1 _ (by decide +kernel) fun t hf y => ?_
  show (dats m 0 c).after 1 t y = codesR (outV m c) (((cfg0.win 1).blk t).view.emb y)
  rw [after0_1, out0_eq, iblk0, V_v85]
  refine congrArg (codesR (outV m c)) (funext fun a => Fin.ext ?_)
  match a with
  | ⟨0, _⟩ => show (y 0).val = 0 * 40 + 1 * (y 0).val; omega
  | ⟨1, _⟩ => show (y 1).val = 0 * 8192 + 1 * (y 1).val; omega

/-- The run: the four results, the arguments unchanged. -/
theorem run : θ_run defs (onTc (τ := τ) (main (F := Ideal))) ⟨m, fun _ => 0, ρ⟩ fun r => ∀ c : Dev nD,
      r.2.mem ((c : Thread nD τ).loc main_v56) = outV m c
      ∧ r.2.mem ((c : Thread nD τ).loc main_v57) = val_main_v57 (F := Ideal) (m ((c.tc : Thread nD τ).loc main_arg0)) (m ((c.tc : Thread nD τ).loc main_arg1))
        (m ((c.tc : Thread nD τ).loc main_arg4)) (m ((c.tc : Thread nD τ).loc main_arg6))
      ∧ r.2.mem ((c : Thread nD τ).loc main_v86) = codesR (outV m c)
      ∧ r.2.mem ((c : Thread nD τ).loc main_v84) = scalesR (outV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨
    ((h.2 c).2 main_v56 (Pipeline.mem_restRefs_of main_v56 (by decide) (by decide))).trans (V_v56 m c),
    ((h.2 c).2 main_v57 (Pipeline.mem_restRefs_of main_v57 (by decide) (by decide))).trans (V_v57 m c),
    ((h.2 c).1 1).trans (final1 m c),
    ((h.2 c).2 main_v84 (Pipeline.mem_restRefs_of main_v84 (by decide) (by decide))).trans (V_v84 m c), h.1.1 c⟩)
    (θ_run_and (frame m ρ) (run_main m ρ))

end Cert.DownRefIdeal.Own

end
-- ==== Proof.DownRefQuant.lean ====
module

public import proofs.«01_k».proof.Proof.DownTail
public import proofs.«01_k».proof.Proof.QuantSpec

@[expose] public section

set_option maxRecDepth 16384

noncomputable section

/-!
# The down reference's quantiser over the reals

The reference's scales and codes at an index are those of the row's block of 128 columns.
-/

namespace Cert.DownRefIdeal.Own

open Cert.DownRefIdeal Cert.DownRefIdeal.Gen Cert.Own Cert.Quant
open Idealize.ShloMosaic Idealize.ShloMosaic.TcCoe Idealize.ShloMosaic.ValueIdx

theorem two32 : Ideal.ofBits .f32 0x40000000#32 = ((2 : ℝ) : EReal) := by
  have h := pw_word 128 (by omega)
  rw [show IntOp.shli .vector (BitVec.ofNat 32 128) 23#32 = 0x40000000#32 by decide, pw_mid 128 (by omega) (by omega)] at h
  rw [h]; refine congrArg (fun r : ℝ => (r : EReal)) ?_; norm_num
theorem low32 : Ideal.ofBits .f32 0xC2FC0000#32 = ((-126 : ℝ) : EReal) := by
  simp [Ideal.ofBits, Ideal.ieee]
  rw [← EReal.coe_mul]
  norm_num
theorem inf32 : Ideal.ofBits .f32 0x7F800000#32 = ⊤ := by
  simp [Ideal.ofBits, Ideal.ieee]

theorem sel_lt {s : Shape} (A B X Y : FVec Ideal s .f32) (i : s.Idx) : select (cmpf .olt A B) X Y i = if A i < B i then X i else Y i := by
  show Scalar.select (Ideal.cmp .olt (A i) (B i)) (X i) (Y i) = _
  unfold Ideal.cmp Scalar.select
  by_cases h : A i < B i
  · simp [h]
  · simp [h]
theorem sel_eq {s : Shape} (A B X Y : FVec Ideal s .f32) (i : s.Idx) : select (cmpf .oeq A B) X Y i = if A i = B i then X i else Y i := by
  show Scalar.select (Ideal.cmp .oeq (A i) (B i)) (X i) (Y i) = _
  unfold Ideal.cmp Scalar.select
  by_cases h : A i = B i
  · simp [h]
  · simp [h]
theorem sel_eq_of {s : Shape} (A B X Y : FVec Ideal s .f32) (i : s.Idx) {a b x y : EReal} (ha : A i = a) (hb : B i = b) (hx : X i = x) (hy : Y i = y) :
    select (cmpf .oeq A B) X Y i = if a = b then x else y := by
  rw [sel_eq, ha, hb, hx, hy]
theorem clip_at {s : Shape} (A B X Y : FVec Ideal s .f32) (i : s.Idx) :
    minimumf A (maximumf B (Host.divf X Y)) i = min (A i) (max (B i) (Ideal.div (X i) (Y i))) := rfl

theorem powersR_at (i : S254.Idx) : powersR (F := Ideal) i = pw ((i 0).val + 1) := by
  have hk : (i 0).val < 254 := (i 0).isLt
  show Ideal.pow (Ideal.ofBits .f32 0x40000000#32) (Ideal.ofBits .f32 0xC2FC0000#32 + (((BitVec.ofNat 32 (i 0).val).toInt : ℝ) : EReal)) = _
  rw [two32, low32, ← EReal.coe_add, Ideal.pow_coe_coe, pw_mid _ (by omega) (by omega)]
  refine congrArg (fun r : ℝ => (r : EReal)) ?_
  have e : (BitVec.ofNat 32 (i 0).val).toInt = ((i 0).val : ℤ) := by
    rw [BitVec.toInt_eq_toNat_of_lt (by rw [BitVec.toNat_ofNat]; omega), BitVec.toNat_ofNat, Nat.mod_eq_of_lt (by omega)]
  rw [e, Real.rpow_eq_pow, ← Real.rpow_intCast]
  refine congrArg (fun r : ℝ => (2 : ℝ) ^ r) ?_
  push_cast; ring

theorem blocksR_at (o : FVec Ideal S40x8192 .bf16) (i : S40x64x128.Idx) :
    blocksR o i = at2 o (i 0).val (128 * (i 1).val + (i 2).val) := by
  have h0 : (i 0).val < 40 := (i 0).isLt
  have h1 : (i 1).val < 64 := (i 1).isLt
  have h2 : (i 2).val < 128 := (i 2).isLt
  unfold blocksR
  refine (shapeCast_apply _ shapeCasts_S40x8192_S40x64x128 i (ix2 (⟨(i 0).val, h0⟩ : Fin 40) (⟨128 * (i 1).val + (i 2).val, by omega⟩ : Fin 8192)) ?_).trans
    (at2_of o _ _ _ rfl rfl)
  refine (Shape.rowMajor_val_two _).trans (Eq.trans ?_ (Shape.rowMajor_val_three _).symm)
  show (i 0).val * 8192 + (128 * (i 1).val + (i 2).val) = ((i 0).val * 64 + (i 1).val) * 128 + (i 2).val; omega

theorem red128 : S40x64x128.Reduces [2] S40x64 := by decide
theorem red254 : S40x64x254.Reduces [2] S40x64 := by decide

/-- The magnitude of a row's block. -/
def bigR (o : FVec Ideal S40x8192 .bf16) (b k : ℕ) : EReal := big (fun j => at2 o b (128 * k + j))

theorem amaxR_at (o : FVec Ideal S40x8192 .bf16) (i : S40x64.Idx) : amaxR o i = bigR o (i 0).val (i 1).val := by
  unfold amaxR
  refine (Host.reduce_eq_fold_single _ _ _ reducesTo_S40x64x128_S40x64_d2 red128 h_S_ i).trans ?_
  unfold bigR big
  refine congrArg (fun g => Finset.fold max _ g Finset.univ) (funext fun k => ?_)
  have e := blocksR_at o (red128.lift i k)
  show max (blocksR o (red128.lift i k)) (-(blocksR o (red128.lift i k))) = _
  rw [e]; rfl

theorem aboveR_at (o : FVec Ideal S40x8192 .bf16) (i : S40x64x254.Idx) :
    aboveR o i = if bigR o (i 0).val (i 1).val * C < pw ((i 2).val + 1) then pw ((i 2).val + 1) else ⊤ := by
  have ep : broadcastInDim S40x64x254 ![2] bcast_S254_S40x64x254_2 (powersR (F := Ideal)) i = pw ((i 2).val + 1) :=
    (broadcastInDim_apply _ bcast_S254_S40x64x254_2 _ i (ix1 (i 2)) (fun a => match a with | ⟨0, _⟩ => rfl)).trans (powersR_at _)
  have eq : broadcastInDim S40x64x254 ![0, 1, 2] bcast_S1x1x254_S40x64x254_0_1_2
      (broadcastInDim S1x1x254 ![2] bcast_S254_S1x1x254_2 (powersR (F := Ideal))) i = pw ((i 2).val + 1) :=
    (broadcastInDim_apply _ bcast_S1x1x254_S40x64x254_0_1_2 _ i (ix3 (0 : Fin 1) (0 : Fin 1) (i 2))
      (fun a => match a with | ⟨0, _⟩ => rfl | ⟨1, _⟩ => rfl | ⟨2, _⟩ => rfl)).trans
      ((broadcastInDim_apply _ bcast_S254_S1x1x254_2 _ _ (ix1 (i 2)) (fun a => match a with | ⟨0, _⟩ => rfl)).trans (powersR_at _))
  have ea : broadcastInDim S40x64x254 ![0, 1, 2] bcast_S40x64x1_S40x64x254_0_1_2 (broadcastInDim S40x64x1 ![0, 1] bcast_S40x64_S40x64x1_0_1
        (mulf (amaxR o) (broadcastInDim S40x64 ![] bcast_S_S40x64 (constant (F := Ideal) S_ .f32 0x3B124925#32)))) i = bigR o (i 0).val (i 1).val * C := by
    refine (broadcastInDim_apply _ bcast_S40x64x1_S40x64x254_0_1_2 _ i (ix3 (i 0) (i 1) (0 : Fin 1))
      (fun a => match a with | ⟨0, _⟩ => rfl | ⟨1, _⟩ => rfl | ⟨2, _⟩ => rfl)).trans
      ((broadcastInDim_apply _ bcast_S40x64_S40x64x1_0_1 _ _ (ix2 (i 0) (i 1)) (fun a => match a with | ⟨0, _⟩ => rfl | ⟨1, _⟩ => rfl)).trans ?_)
    show amaxR o (ix2 (i 0) (i 1)) * C = _
    rw [amaxR_at]
  unfold aboveR
  refine (sel_lt _ _ _ _ i).trans ?_
  rw [ep, eq, ea]
  exact congrArg (fun z => if bigR o (i 0).val (i 1).val * C < pw ((i 2).val + 1) then pw ((i 2).val + 1) else z) inf32

theorem scaleR_at (o : FVec Ideal S40x8192 .bf16) (i : S40x64.Idx) : scaleR o i = scale (bigR o (i 0).val (i 1).val) := by
  have em : Host.reduce FloatOps.minimumf (aboveR o) (constant (F := Ideal) S_ .f32 0x7F800000#32) reducesTo_S40x64x254_S40x64_d2 h_S_ i
      = least (bigR o (i 0).val (i 1).val * C) := by
    have hfun : (aboveR o ∘ red254.lift i) = (fun k : Fin (S40x64x254.size 2) =>
        if bigR o (i 0).val (i 1).val * C < pw (k.val + 1) then pw (k.val + 1) else ⊤) := by
      funext k
      rw [Function.comp_apply, aboveR_at]
      rfl
    refine (Host.reduce_eq_fold_single _ _ _ reducesTo_S40x64x254_S40x64_d2 red254 h_S_ i).trans ?_
    rw [hfun]
    unfold least
    exact congrArg (fun z => Finset.fold min z _ Finset.univ) inf32
  unfold scaleR
  exact sel_eq_of _ _ _ _ i (amaxR_at o i) zero32 rfl em

theorem clipR_at (o : FVec Ideal S40x8192 .bf16) (i : S40x64x128.Idx) :
    clipR o i = code (bigR o (i 0).val (i 1).val) (at2 o (i 0).val (128 * (i 1).val + (i 2).val)) := by
  unfold clipR code
  refine (clip_at _ _ _ _ i).trans ?_
  refine congrArg (fun z => min (Ideal.ofBits .f32 0x43E00000#32) (max (Ideal.ofBits .f32 0xC3E00000#32) z)) (congrArg₂ Ideal.div (blocksR_at o i) ?_)
  refine (broadcastInDim_apply _ bcast_S40x64x1_S40x64x128_0_1_2 _ i (ix3 (i 0) (i 1) (0 : Fin 1))
      (fun a => match a with | ⟨0, _⟩ => rfl | ⟨1, _⟩ => rfl | ⟨2, _⟩ => rfl)).trans
      ((broadcastInDim_apply _ bcast_S40x64_S40x64x1_0_1 _ _ (ix2 (i 0) (i 1)) (fun a => match a with | ⟨0, _⟩ => rfl | ⟨1, _⟩ => rfl)).trans ?_)
  exact scaleR_at o _

/-- The reference's codes. -/
theorem codesR_at (o : FVec Ideal S40x8192 .bf16) (i : S40x8192.Idx) :
    codesR o i = code (bigR o (i 0).val ((i 1).val / 128)) (at2 o (i 0).val (i 1).val) := by
  have h0 : (i 0).val < 40 := (i 0).isLt
  have h1 : (i 1).val < 8192 := (i 1).isLt
  unfold codesR
  refine (shapeCast_apply _ shapeCasts_S40x64x128_S40x8192 i (ix3 (⟨(i 0).val, h0⟩ : Fin 40) (⟨(i 1).val / 128, by omega⟩ : Fin 64) (⟨(i 1).val % 128, by omega⟩ : Fin 128)) ?_).trans
    ((clipR_at o _).trans ?_)
  · refine (Shape.rowMajor_val_three _).trans (Eq.trans ?_ (Shape.rowMajor_val_two _).symm)
    show ((i 0).val * 64 + (i 1).val / 128) * 128 + (i 1).val % 128 = (i 0).val * 8192 + (i 1).val; omega
  · show code (bigR o (i 0).val ((i 1).val / 128)) (at2 o (i 0).val (128 * ((i 1).val / 128) + (i 1).val % 128)) = _
    rw [Nat.div_add_mod]

/-- The reference's scales. -/
theorem scalesR_at (o : FVec Ideal S40x8192 .bf16) (i : S16x40x4.Idx) :
    scalesR o i = scale (bigR o (i 1).val (4 * (i 0).val + (i 2).val)) := by
  have h0 : (i 0).val < 16 := (i 0).isLt
  have h1 : (i 1).val < 40 := (i 1).isLt
  have h2 : (i 2).val < 4 := (i 2).isLt
  unfold scalesR
  refine (transpose_apply [1, 0, 2] _ transposes_S40x16x4_S16x40x4_1_0_2 i (ix3 (i 1) (i 0) (i 2))
    (fun b => match b with | ⟨0, _⟩ => rfl | ⟨1, _⟩ => rfl | ⟨2, _⟩ => rfl)).trans ?_
  refine (shapeCast_apply _ shapeCasts_S40x64_S40x16x4 _ (ix2 (⟨(i 1).val, h1⟩ : Fin 40) (⟨4 * (i 0).val + (i 2).val, by omega⟩ : Fin 64)) ?_).trans
    (scaleR_at o _)
  refine (Shape.rowMajor_val_two _).trans (Eq.trans ?_ (Shape.rowMajor_val_three _).symm)
  show (i 1).val * 64 + (4 * (i 0).val + (i 2).val) = ((i 1).val * 16 + (i 0).val) * 4 + (i 2).val; omega

end Cert.DownRefIdeal.Own

end
-- ==== Proof.DownMask.lean ====
module

public import proofs.«01_k».proof.On_in_range
public import proofs.«01_k».proof.Proof.DownRefQuant

@[expose] public section

set_option maxRecDepth 131072

noncomputable section

/-!
# Where the claim holds

The mask's facts, and what it says where it is set: for the codes that the block's largest magnitude over 448 is below 2 ^ 126, for
the scales that the magnitude is finite.
-/

namespace Cert.Proof

open Idealize.ShloMosaic Idealize.ShloMosaic.ValueIdx Cert.Own

/-- The mask's side conditions. -/
instance factsRange : Cert.On_in_range.Facts where
  bcast_S40_S40x1_0 := Cert.DownRefIdeal.Gen.bcast_S40_S40x1_0
  bcast_S40x1_S40x5_0_1 := Cert.DownRefIdeal.Gen.bcast_S40x1_S40x5_0_1
  bcast_S1x5_S40x5_0_1 := Cert.DownRefIdeal.Gen.bcast_S1x5_S40x5_0_1
  bitsLt_bf16_f32 := Cert.DownRefIdeal.Gen.bitsLt_bf16_f32
  bcast_S_S40 := Cert.DownRefIdeal.Gen.bcast_S_S40
  natLt_8_32 := Cert.DownRefIdeal.Gen.natLt_8_32
  bcast_S_S11008x8192 := Cert.DownRefIdeal.Gen.bcast_S_S11008x8192
  slices_S172x8192_S86x8192_0_0 := Cert.DownRefIdeal.Gen.slices_S172x8192_S86x8192_0_0
  shapeCasts_S11008x8192_S86x128x8192 := Cert.DownRefIdeal.Gen.shapeCasts_S11008x8192_S86x128x8192
  bcast_S86x8192_S86x1x8192_0_2 := Cert.DownRefIdeal.Gen.bcast_S86x8192_S86x1x8192_0_2
  bcast_S86x1x8192_S86x128x8192_0_1_2 := Cert.DownRefIdeal.Gen.bcast_S86x1x8192_S86x128x8192_0_1_2
  shapeCasts_S86x128x8192_S11008x8192 := Cert.DownRefIdeal.Gen.shapeCasts_S86x128x8192_S11008x8192
  slices_S172x8192_S86x8192_86_0 := Cert.DownRefIdeal.Gen.slices_S172x8192_S86x8192_86_0
  slices_S40x22016_S40x11008_0_0 := Cert.DownRefIdeal.Gen.slices_S40x22016_S40x11008_0_0
  slices_S40x22016_S40x11008_0_11008 := Cert.DownRefIdeal.Gen.slices_S40x22016_S40x11008_0_11008
  bcast_S40x1_S40x16_0_1 := Cert.DownRefIdeal.Gen.bcast_S40x1_S40x16_0_1
  bcast_S40x5_S40x5x1_0_1 := Cert.DownRefIdeal.Gen.bcast_S40x5_S40x5x1_0_1
  bcast_S40x16_S40x1x16_0_2 := Cert.DownRefIdeal.Gen.bcast_S40x16_S40x1x16_0_2
  bcast_S40x5x1_S40x5x16_0_1_2 := Cert.DownRefIdeal.Gen.bcast_S40x5x1_S40x5x16_0_1_2
  bcast_S40x1x16_S40x5x16_0_1_2 := Cert.DownRefIdeal.Gen.bcast_S40x1x16_S40x5x16_0_1_2
  transposes_S40x16_S16x40_1_0 := Cert.DownRefIdeal.Gen.transposes_S40x16_S16x40_1_0
  shapeCasts_S40x8192_S40x64x128 := Cert.DownRefIdeal.Gen.shapeCasts_S40x8192_S40x64x128
  reducesTo_S40x64x128_S40x64_d2 := Cert.DownRefIdeal.Gen.reducesTo_S40x64x128_S40x64_d2
  h_S_ := Cert.DownRefIdeal.Gen.h_S_
  bcast_S_S40x64 := Cert.DownRefIdeal.Gen.bcast_S_S40x64
  bcast_S_S40x8192 := by decide
  bcast_S_S16x40 := by decide
  bcast_S40x64_S40x64x128_0_1 := by decide
  shapeCasts_S40x64x128_S40x8192 := Cert.DownRefIdeal.Gen.shapeCasts_S40x64x128_S40x8192
  shapeCasts_S40x64_S40x16x4 := Cert.DownRefIdeal.Gen.shapeCasts_S40x64_S40x16x4
  transposes_S40x16x4_S16x40x4_1_0_2 := Cert.DownRefIdeal.Gen.transposes_S40x16x4_S16x40x4_1_0_2
  gather_S5_S40x1_S40_n_0_n_n_0_1_1_wf := Cert.DownRefIdeal.Gen.gather_S5_S40x1_S40_n_0_n_n_0_1_1_wf
  dot_S40x11008_S11008x8192_S40x8192_1_0_0_1_n_n_wf := Cert.DownRefIdeal.Gen.dot_S40x11008_S11008x8192_S40x8192_1_0_0_1_n_n_wf
  dot_S40x22016_S5x22016x16_S40x5x16_1_1_0_02_n_n_wf := Cert.DownRefIdeal.Gen.dot_S40x22016_S5x22016x16_S40x5x16_1_1_0_02_n_n_wf
  dot_S40x5_S40x5x16_S40x16_1_1_n_2_0_0_wf := Cert.DownRefIdeal.Gen.dot_S40x5_S40x5x16_S40x16_1_1_n_2_0_0_wf
  dot_S40x5x16_S5x16x8192_S40x8192_12_01_0_2_n_n_wf := Cert.DownRefIdeal.Gen.dot_S40x5x16_S5x16x8192_S40x8192_12_01_0_2_n_n_wf

variable (x0 : FVec Ideal Cert.On_in_range.S40x22016 .bf16) (x1 : IVec Cert.On_in_range.S40 32) (x2 : IVec Cert.On_in_range.S11008x8192 8)
  (x3 : FVec Ideal Cert.On_in_range.S172x8192 .bf16) (x4 : FVec Ideal Cert.On_in_range.S5x22016x16 .bf16)
  (x5 : FVec Ideal Cert.On_in_range.S5x16x8192 .bf16) (x6 : FVec Ideal Cert.On_in_range.S5 .f32)

/-- The mask is of the largest magnitudes of the reference's result. -/
theorem mask_eq : Cert.On_in_range.fn (F := Ideal) x0 x1 x2 x3 x4 x5 x6
    = Cert.On_in_range.fn_part3 (F := Ideal) (Cert.DownRefIdeal.Own.amaxR (Cert.DownRefIdeal.Read.val_main_v56 (F := Ideal) x0 x1 x2 x3 x4 x5 x6))
        (constant Cert.On_in_range.S_ .f32 0x3B124925#32) := rfl

/-- A comparison, set. -/
theorem lt_of_set {a b : EReal} (h : Ideal.cmp .olt a b = 1#1) : a < b := by
  unfold Ideal.cmp at h
  by_contra hn
  simp [hn] at h

/-- The codes' bound is 2 ^ 126. -/
theorem bound_codes : Ideal.ofBits .f32 0x7E800000#32 = Cert.Quant.pw 253 := by
  rw [← Cert.Quant.pw_word 253 (by omega)]
  exact congrArg _ (by decide)

/-- A comparison at a place. -/
theorem set_at {s : Shape} (u w : FVec Ideal s .f32) (i : s.Idx) {a b : EReal} (hu : u i = a) (hw : w i = b) :
    cmpf .olt u w i = Ideal.cmp .olt a b := by
  subst hu; subst hw; rfl

/-- The largest magnitude times the constant. -/
theorem amaxC_at (o : FVec Ideal Cert.On_in_range.S40x8192 .bf16) (i : Cert.On_in_range.S40x64.Idx) :
    mulf (Cert.DownRefIdeal.Own.amaxR o) (broadcastInDim Cert.On_in_range.S40x64 ![] Cert.On_in_range.Facts.bcast_S_S40x64
      (constant (F := Ideal) Cert.On_in_range.S_ .f32 0x3B124925#32)) i = Cert.DownRefIdeal.Own.bigR o (i 0).val (i 1).val * Cert.Quant.C :=
  congrArg (· * Cert.Quant.C) (Cert.DownRefIdeal.Own.amaxR_at o i)

/-- Where the codes' mask is set the block is in range. -/
theorem mask_codes (i : Cert.On_in_range.S40x8192.Idx) (h : (Cert.On_in_range.fn (F := Ideal) x0 x1 x2 x3 x4 x5 x6).2.2.1 i = 1#1) :
    Cert.DownRefIdeal.Own.bigR (Cert.DownRefIdeal.Read.val_main_v56 (F := Ideal) x0 x1 x2 x3 x4 x5 x6) (i 0).val ((i 1).val / 128) * Cert.Quant.C < Cert.Quant.pw 253 := by
  have h0 : (i 0).val < 40 := (i 0).isLt
  have h1 : (i 1).val < 8192 := (i 1).isLt
  rw [mask_eq] at h
  generalize Cert.DownRefIdeal.Read.val_main_v56 (F := Ideal) x0 x1 x2 x3 x4 x5 x6 = o at h ⊢
  unfold Cert.On_in_range.fn_part3 at h
  dsimp only at h
  refine lt_of_set (Eq.trans ?_ h)
  symm
  refine (shapeCast_apply _ Cert.On_in_range.Facts.shapeCasts_S40x64x128_S40x8192 i
    (ix3 (⟨(i 0).val, h0⟩ : Fin 40) (⟨(i 1).val / 128, by omega⟩ : Fin 64) (⟨(i 1).val % 128, by omega⟩ : Fin 128)) ?_).trans ?_
  · refine (Shape.rowMajor_val_three _).trans (Eq.trans ?_ (Shape.rowMajor_val_two _).symm)
    show ((i 0).val * 64 + (i 1).val / 128) * 128 + (i 1).val % 128 = (i 0).val * 8192 + (i 1).val; omega
  · refine (broadcastInDim_apply _ Cert.On_in_range.Facts.bcast_S40x64_S40x64x128_0_1 _ _
      (ix2 (⟨(i 0).val, h0⟩ : Fin 40) (⟨(i 1).val / 128, by omega⟩ : Fin 64)) (fun a => match a with | ⟨0, _⟩ => rfl | ⟨1, _⟩ => rfl)).trans ?_
    exact set_at _ _ _ (amaxC_at o _) bound_codes

/-- Where the scales' mask is set the block is in range. -/
theorem mask_scales (i : Cert.On_in_range.S16x40x4.Idx) (h : (Cert.On_in_range.fn (F := Ideal) x0 x1 x2 x3 x4 x5 x6).2.2.2 i = 1#1) :
    Cert.DownRefIdeal.Own.bigR (Cert.DownRefIdeal.Read.val_main_v56 (F := Ideal) x0 x1 x2 x3 x4 x5 x6) (i 1).val (4 * (i 0).val + (i 2).val)
      < ⊤ := by
  have h0 : (i 0).val < 16 := (i 0).isLt
  have h1 : (i 1).val < 40 := (i 1).isLt
  have h2 : (i 2).val < 4 := (i 2).isLt
  rw [mask_eq] at h
  generalize Cert.DownRefIdeal.Read.val_main_v56 (F := Ideal) x0 x1 x2 x3 x4 x5 x6 = o at h ⊢
  unfold Cert.On_in_range.fn_part3 at h
  dsimp only at h
  refine lt_of_set (Eq.trans ?_ h)
  symm
  refine (transpose_apply [1, 0, 2] _ Cert.On_in_range.Facts.transposes_S40x16x4_S16x40x4_1_0_2 i (ix3 (i 1) (i 0) (i 2))
    (fun b => match b with | ⟨0, _⟩ => rfl | ⟨1, _⟩ => rfl | ⟨2, _⟩ => rfl)).trans ?_
  refine (shapeCast_apply _ Cert.On_in_range.Facts.shapeCasts_S40x64_S40x16x4 _
    (ix2 (⟨(i 1).val, h1⟩ : Fin 40) (⟨4 * (i 0).val + (i 2).val, by omega⟩ : Fin 64)) ?_).trans ?_
  · refine (Shape.rowMajor_val_two _).trans (Eq.trans ?_ (Shape.rowMajor_val_three _).symm)
    show (i 1).val * 64 + (4 * (i 0).val + (i 2).val) = ((i 1).val * 16 + (i 0).val) * 4 + (i 2).val; omega
  · exact set_at _ _ _ (Cert.DownRefIdeal.Own.amaxR_at o _) Cert.DownRefIdeal.Own.inf32

end Cert.Proof

end
-- ==== Proof.DownAlgebra.lean ====
module

public import proofs.«01_k».proof.Proof.DownFrames
public import proofs.«01_k».proof.Proof.DownQuantValue
public import proofs.«01_k».proof.Proof.DownRef
public import proofs.«01_k».proof.Proof.DownRefRun
public import proofs.«01_k».proof.Proof.DownMask

@[expose] public section

set_option maxRecDepth 131072

noncomputable section

/-!
# The down call equals its reference

Both runs end with the specification's arrays of the same arguments, the quantiser's two where the mask is set.
-/

namespace Cert.Proof

open Idealize.ShloMosaic Idealize.SL.Sem Idealize.ShloMosaic.ValueIdx

/-- The result as an array. -/
def outArr (x0 : (⟨2, ![40, 22016]⟩ : Shape).Idx → EReal) (x1 : (⟨1, ![40]⟩ : Shape).Idx → BitVec 32)
    (x2 : (⟨2, ![11008, 8192]⟩ : Shape).Idx → BitVec 8) (x3 : (⟨2, ![172, 8192]⟩ : Shape).Idx → EReal)
    (x4 : (⟨3, ![5, 22016, 16]⟩ : Shape).Idx → EReal) (x5 : (⟨3, ![5, 16, 8192]⟩ : Shape).Idx → EReal)
    (x6 : (⟨1, ![5]⟩ : Shape).Idx → EReal) : (⟨2, ![40, 8192]⟩ : Shape).Idx → EReal :=
  fun i => DownSpec.out x0 x1 x2 x3 x4 x5 x6 (i 0).val (i 1).val

/-- The scaled first LoRA product as an array, transposed. -/
def tArr (x0 : (⟨2, ![40, 22016]⟩ : Shape).Idx → EReal) (x1 : (⟨1, ![40]⟩ : Shape).Idx → BitVec 32)
    (x4 : (⟨3, ![5, 22016, 16]⟩ : Shape).Idx → EReal) (x6 : (⟨1, ![5]⟩ : Shape).Idx → EReal) : (⟨2, ![16, 40]⟩ : Shape).Idx → EReal :=
  fun i => DownSpec.s x0 x1 x4 x6 (i 1).val (i 0).val

/-- The codes as an array. -/
def codeArr (x0 : (⟨2, ![40, 22016]⟩ : Shape).Idx → EReal) (x1 : (⟨1, ![40]⟩ : Shape).Idx → BitVec 32)
    (x2 : (⟨2, ![11008, 8192]⟩ : Shape).Idx → BitVec 8) (x3 : (⟨2, ![172, 8192]⟩ : Shape).Idx → EReal)
    (x4 : (⟨3, ![5, 22016, 16]⟩ : Shape).Idx → EReal) (x5 : (⟨3, ![5, 16, 8192]⟩ : Shape).Idx → EReal)
    (x6 : (⟨1, ![5]⟩ : Shape).Idx → EReal) : (⟨2, ![40, 8192]⟩ : Shape).Idx → EReal :=
  fun i => Quant.code (DownSpec.mag x0 x1 x2 x3 x4 x5 x6 (i 0).val ((i 1).val / 128)) (DownSpec.out x0 x1 x2 x3 x4 x5 x6 (i 0).val (i 1).val)

/-- The scales as an array. -/
def scaleArr (x0 : (⟨2, ![40, 22016]⟩ : Shape).Idx → EReal) (x1 : (⟨1, ![40]⟩ : Shape).Idx → BitVec 32)
    (x2 : (⟨2, ![11008, 8192]⟩ : Shape).Idx → BitVec 8) (x3 : (⟨2, ![172, 8192]⟩ : Shape).Idx → EReal)
    (x4 : (⟨3, ![5, 22016, 16]⟩ : Shape).Idx → EReal) (x5 : (⟨3, ![5, 16, 8192]⟩ : Shape).Idx → EReal)
    (x6 : (⟨1, ![5]⟩ : Shape).Idx → EReal) : (⟨3, ![16, 40, 4]⟩ : Shape).Idx → EReal :=
  fun i => Quant.scale (DownSpec.mag x0 x1 x2 x3 x4 x5 x6 (i 1).val (4 * (i 0).val + (i 2).val))

/-- The kernel's run over the reals: the first two results are the specification's arrays, the quantiser's two are so in the blocks in
    range, the arguments unchanged. -/
def valueDown : Prop :=
  ∀ (m : (ℓ : Loc Cert.Down.nD Cert.Down.τ Cert.Down.sig) → Buf (Elt Ideal) ℓ) (g : Dev Cert.Down.nD → PrngReg),
    θ_run (Cert.Down.defs (F := Ideal)) (onTc (τ := Cert.Down.τ) (Cert.Down.main (F := Ideal))) ⟨m, fun _ => 0, g⟩ (fun r => ∀ c : Dev Cert.Down.nD,
      r.2.mem ((c.tc : Thread Cert.Down.nD Cert.Down.τ).loc Cert.Down.main_v4_0) = outArr (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6))
      ∧ r.2.mem ((c.tc : Thread Cert.Down.nD Cert.Down.τ).loc Cert.Down.main_v4_1) = tArr (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg4)) (m ((c.tc : Thread Cert.Down.nD Cert.Down.τ).loc Cert.Down.main_arg6))
      ∧ (∀ i : (⟨2, ![40, 8192]⟩ : Shape).Idx, DownSpec.mag (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (i 0).val ((i 1).val / 128) * Quant.C < Quant.pw 253 →
        r.2.mem ((c.tc : Thread Cert.Down.nD Cert.Down.τ).loc Cert.Down.main_v4_2) i = codeArr (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) i)
      ∧ (∀ i : (⟨3, ![16, 40, 4]⟩ : Shape).Idx, DownSpec.mag (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (i 1).val (4 * (i 0).val + (i 2).val) < ⊤ →
        r.2.mem ((c.tc : Thread Cert.Down.nD Cert.Down.τ).loc Cert.Down.main_v4_3) i = scaleArr (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) i)
      ∧ r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))

theorem valueDown_holds : valueDown := fun m g => Cert.Down.Own.runAll m g

/-- The same of the program printed for the ideal reading. -/
def valueDownIdeal : Prop :=
  ∀ (m : (ℓ : Loc Cert.DownIdeal.nD Cert.DownIdeal.τ Cert.DownIdeal.sig) → Buf (Elt Ideal) ℓ) (g : Dev Cert.DownIdeal.nD → PrngReg),
    θ_run (Cert.DownIdeal.defs (F := Ideal)) (onTc (τ := Cert.DownIdeal.τ) (Cert.DownIdeal.main (F := Ideal))) ⟨m, fun _ => 0, g⟩ (fun r => ∀ c : Dev Cert.DownIdeal.nD,
      r.2.mem ((c.tc : Thread Cert.DownIdeal.nD Cert.DownIdeal.τ).loc Cert.DownIdeal.main_v4_0) = outArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))
      ∧ r.2.mem ((c.tc : Thread Cert.DownIdeal.nD Cert.DownIdeal.τ).loc Cert.DownIdeal.main_v4_1) = tArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg4)) (m ((c.tc : Thread Cert.DownIdeal.nD Cert.DownIdeal.τ).loc Cert.DownIdeal.main_arg6))
      ∧ (∀ i : (⟨2, ![40, 8192]⟩ : Shape).Idx, DownSpec.mag (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (i 0).val ((i 1).val / 128) * Quant.C < Quant.pw 253 →
        r.2.mem ((c.tc : Thread Cert.DownIdeal.nD Cert.DownIdeal.τ).loc Cert.DownIdeal.main_v4_2) i = codeArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) i)
      ∧ (∀ i : (⟨3, ![16, 40, 4]⟩ : Shape).Idx, DownSpec.mag (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (i 1).val (4 * (i 0).val + (i 2).val) < ⊤ →
        r.2.mem ((c.tc : Thread Cert.DownIdeal.nD Cert.DownIdeal.τ).loc Cert.DownIdeal.main_v4_3) i = scaleArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) i)
      ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))

/-- The two printed programs are one, definition by definition. -/
theorem valueDown_eq : valueDown = valueDownIdeal := by sl_kernel_rfl

theorem valueDownIdeal_holds : valueDownIdeal := valueDown_eq ▸ valueDown_holds

section Reference

variable (x0 : (⟨Cert.DownRefIdeal.S40x22016, .bf16⟩ : BufTy).Contents (Elt Ideal)) (x1 : (⟨Cert.DownRefIdeal.S40, .i32⟩ : BufTy).Contents (Elt Ideal))
  (x2 : (⟨Cert.DownRefIdeal.S11008x8192, .i8⟩ : BufTy).Contents (Elt Ideal)) (x3 : (⟨Cert.DownRefIdeal.S172x8192, .bf16⟩ : BufTy).Contents (Elt Ideal))
  (x4 : (⟨Cert.DownRefIdeal.S5x22016x16, .bf16⟩ : BufTy).Contents (Elt Ideal)) (x5 : (⟨Cert.DownRefIdeal.S5x16x8192, .bf16⟩ : BufTy).Contents (Elt Ideal))
  (x6 : (⟨Cert.DownRefIdeal.S5, .f32⟩ : BufTy).Contents (Elt Ideal))

/-- The reference's first result is the specification's array. -/
theorem refDown_out : Cert.DownRefIdeal.Read.val_main_v56 (F := Ideal) x0 x1 x2 x3 x4 x5 x6 = outArr x0 x1 x2 x3 x4 x5 x6 := by
  funext i
  exact (congrArg _ (eq_ix2 i)).trans (Cert.DownRefIdeal.Own.out_at _ _ _ _ _ _ _ _ _ (i 0).isLt (i 1).isLt)

/-- The reference's second result is the specification's array. -/
theorem refDown_t : Cert.DownRefIdeal.Read.val_main_v57 (F := Ideal) x0 x1 x4 x6 = tArr x0 x1 x4 x6 := by
  funext i
  exact (congrArg _ (eq_ix2 i)).trans (Cert.DownRefIdeal.Own.st_at x0 x1 x4 x6 (i 1).val (i 0).val (i 1).isLt (i 0).isLt)

/-- The first result at numbers in range. -/
theorem outArr_at2 (b f : ℕ) (hb : b < 40) (hf : f < 8192) : Cert.Own.at2 (outArr x0 x1 x2 x3 x4 x5 x6) b f = DownSpec.out x0 x1 x2 x3 x4 x5 x6 b f := by
  unfold Cert.Own.at2 outArr
  show DownSpec.out x0 x1 x2 x3 x4 x5 x6 (b % 40) (f % 8192) = _
  rw [Nat.mod_eq_of_lt hb, Nat.mod_eq_of_lt hf]

/-- The largest magnitude of a block of the reference's first result. -/
theorem refDown_big (b k : ℕ) (hb : b < 40) (hk : k < 64) :
    Cert.DownRefIdeal.Own.bigR (Cert.DownRefIdeal.Read.val_main_v56 (F := Ideal) x0 x1 x2 x3 x4 x5 x6) b k = DownSpec.mag x0 x1 x2 x3 x4 x5 x6 b k := by
  rw [refDown_out]
  unfold Cert.DownRefIdeal.Own.bigR DownSpec.mag Quant.big
  refine congrArg (fun g => Finset.fold max _ g Finset.univ) (funext fun j => ?_)
  have hj := j.isLt
  simp only [outArr_at2 x0 x1 x2 x3 x4 x5 x6 b (128 * k + j.val) hb (by omega)]

/-- The reference's third result is the specification's array. -/
theorem refDown_codes : Cert.DownRefIdeal.Own.codesR (F := Ideal) (Cert.DownRefIdeal.Read.val_main_v56 (F := Ideal) x0 x1 x2 x3 x4 x5 x6) = codeArr x0 x1 x2 x3 x4 x5 x6 := by
  funext i
  have h0 : (i 0).val < 40 := (i 0).isLt
  have h1 : (i 1).val < 8192 := (i 1).isLt
  refine (Cert.DownRefIdeal.Own.codesR_at _ i).trans ?_
  rw [refDown_big x0 x1 x2 x3 x4 x5 x6 _ _ h0 (by omega), refDown_out, outArr_at2 x0 x1 x2 x3 x4 x5 x6 _ _ h0 h1]; rfl

/-- The reference's fourth result is the specification's array. -/
theorem refDown_scales : Cert.DownRefIdeal.Own.scalesR (F := Ideal) (Cert.DownRefIdeal.Read.val_main_v56 (F := Ideal) x0 x1 x2 x3 x4 x5 x6) = scaleArr x0 x1 x2 x3 x4 x5 x6 := by
  funext i
  have h0 : (i 0).val < 16 := (i 0).isLt
  have h1 : (i 1).val < 40 := (i 1).isLt
  have h2 : (i 2).val < 4 := (i 2).isLt
  refine (Cert.DownRefIdeal.Own.scalesR_at _ i).trans ?_
  rw [refDown_big x0 x1 x2 x3 x4 x5 x6 _ _ h1 (by omega)]; rfl

/-- Where the codes' mask is set the specification's block is in range. -/
theorem range_codes (i : (⟨2, ![40, 8192]⟩ : Shape).Idx) (h : (Cert.On_in_range.fn (F := Ideal) x0 x1 x2 x3 x4 x5 x6).2.2.1 i = 1#1) :
    DownSpec.mag x0 x1 x2 x3 x4 x5 x6 (i 0).val ((i 1).val / 128) * Quant.C < Quant.pw 253 := by
  have h0 : (i 0).val < 40 := (i 0).isLt
  have h1 : (i 1).val < 8192 := (i 1).isLt
  exact (congrArg (· * Quant.C) (refDown_big x0 x1 x2 x3 x4 x5 x6 _ _ h0 (by omega))).symm.trans_lt (mask_codes x0 x1 x2 x3 x4 x5 x6 i h)

/-- Where the scales' mask is set the specification's block is in range. -/
theorem range_scales (i : (⟨3, ![16, 40, 4]⟩ : Shape).Idx) (h : (Cert.On_in_range.fn (F := Ideal) x0 x1 x2 x3 x4 x5 x6).2.2.2 i = 1#1) :
    DownSpec.mag x0 x1 x2 x3 x4 x5 x6 (i 1).val (4 * (i 0).val + (i 2).val) < ⊤ := by
  have h0 : (i 0).val < 16 := (i 0).isLt
  have h1 : (i 1).val < 40 := (i 1).isLt
  have h2 : (i 2).val < 4 := (i 2).isLt
  exact (refDown_big x0 x1 x2 x3 x4 x5 x6 _ _ h1 (by omega)).symm.trans_lt (mask_scales x0 x1 x2 x3 x4 x5 x6 i h)

end Reference

/-- From memories agreeing on the arguments both programs end with the same four arrays, the last two where the mask is set. -/
theorem algebraicDown : algebraic_DownIdeal_DownRefIdeal_on_in_range (hDownIdeal := Cert.DownIdeal.Gen.facts)
    (hDownRefIdeal := Cert.DownRefIdeal.Gen.facts) (hOn_in_range := factsRange) := by
  intro m g m' g' _ hag
  refine ⟨fun c => outArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)),
    fun c => tArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg4)) (m ((c.tc : Thread Cert.DownIdeal.nD Cert.DownIdeal.τ).loc Cert.DownIdeal.main_arg6)),
    fun c => codeArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)),
    fun c => scaleArr (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)), ?_, ?_⟩
  · refine (θ_run _ _ _).mono (fun r h c => ?_) (valueDownIdeal_holds m g)
    obtain ⟨r0, r1, r2, r3, hr⟩ := h c
    exact ⟨fun i _ => congrFun r0 i, fun i _ => congrFun r1 i, fun i hi => r2 i (range_codes _ _ _ _ _ _ _ i hi),
      fun i hi => r3 i (range_scales _ _ _ _ _ _ _ i hi), hr⟩
  · refine (θ_run _ _ _).mono (fun r h c => ?_) (Cert.DownRefIdeal.Own.run m' g')
    obtain ⟨e0, e1, e2, e3, e4, e5, e6⟩ := hag c
    have eo : Cert.DownRefIdeal.Own.outV m' c = Cert.DownRefIdeal.Read.val_main_v56 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) := by
      unfold Cert.DownRefIdeal.Own.outV
      rw [e0, e1, e2, e3, e4, e5, e6]
    obtain ⟨r0, r1, r2, r3, hr⟩ := h c
    rw [eo] at r0 r2 r3
    rw [e0, e1, e4, e6] at r1
    exact ⟨fun i _ => congrFun (r0.trans (refDown_out _ _ _ _ _ _ _)) i, fun i _ => congrFun (r1.trans (refDown_t _ _ _ _)) i,
      fun i _ => congrFun (r2.trans (refDown_codes _ _ _ _ _ _ _)) i, fun i _ => congrFun (r3.trans (refDown_scales _ _ _ _ _ _ _)) i, hr⟩

end Cert.Proof

end
-- ==== Proof.lean ====
module

public import proofs.«01_k».proof.Defs
public import proofs.«01_k».proof.Proof.GateUpFrames
public import proofs.«01_k».proof.Proof.GateUpAlgebra
public import proofs.«01_k».proof.Proof.DownFrames
public import proofs.«01_k».proof.Proof.DownAlgebra

@[expose] public section

noncomputable section

namespace Cert.Proof

open Idealize.ShloMosaic Idealize.SL.Sem

/-- The certificate. -/
theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts, factsRange,
  quiescentGateUp, quiescentGateUpIdeal, quiescentGateUpRefIdeal, quiescentDown, quiescentDownIdeal, quiescentDownRefIdeal,
  trivial, algebraicGateUp, trivial, algebraicDown⟩

end Cert.Proof

end
